-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)) (v2 : (c : Dev Cert.OutKernelIdeal.nD) → Buf (Elt Ideal) ((c.tc : Thread Cert.OutKernelIdeal.nD Cert.OutKernelIdeal.τ).loc Cert.OutKernelIdeal.main_v0_2)) (v3 : (c : Dev Cert.OutKernelIdeal.nD) → Buf (Elt Ideal) ((c.tc : Thread Cert.OutKernelIdeal.nD Cert.OutKernelIdeal.τ).loc Cert.OutKernelIdeal.main_v0_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_v0_2) = v2 c
          ∧ r.2.mem ((c.tc : Thread Cert.OutKernelIdeal.nD Cert.OutKernelIdeal.τ).loc Cert.OutKernelIdeal.main_v0_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0_0) = v0 c
          ∧ r.2.mem ((c.tc : Thread Cert.OutReferenceIdeal.nD Cert.OutReferenceIdeal.τ).loc Cert.OutReferenceIdeal.main_v0_1) = v1 c
          ∧ r.2.mem ((c.tc : Thread Cert.OutReferenceIdeal.nD Cert.OutReferenceIdeal.τ).loc Cert.OutReferenceIdeal.main_v0_2) = v2 c
          ∧ r.2.mem ((c.tc : Thread Cert.OutReferenceIdeal.nD Cert.OutReferenceIdeal.τ).loc Cert.OutReferenceIdeal.main_v0_3) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) →
    ∃ (v0 : (c : Dev Cert.QkvKernelIdeal.nD) → Buf (Elt Ideal) ((c.tc : Thread Cert.QkvKernelIdeal.nD Cert.QkvKernelIdeal.τ).loc Cert.QkvKernelIdeal.main_v0_0)) (v1 : (c : Dev Cert.QkvKernelIdeal.nD) → Buf (Elt Ideal) ((c.tc : Thread Cert.QkvKernelIdeal.nD Cert.QkvKernelIdeal.τ).loc Cert.QkvKernelIdeal.main_v0_1)) (v2 : (c : Dev Cert.QkvKernelIdeal.nD) → Buf (Elt Ideal) ((c.tc : Thread Cert.QkvKernelIdeal.nD Cert.QkvKernelIdeal.τ).loc Cert.QkvKernelIdeal.main_v0_2)) (v3 : (c : Dev Cert.QkvKernelIdeal.nD) → Buf (Elt Ideal) ((c.tc : Thread Cert.QkvKernelIdeal.nD Cert.QkvKernelIdeal.τ).loc Cert.QkvKernelIdeal.main_v0_3)) (v4 : (c : Dev Cert.QkvKernelIdeal.nD) → Buf (Elt Ideal) ((c.tc : Thread Cert.QkvKernelIdeal.nD Cert.QkvKernelIdeal.τ).loc Cert.QkvKernelIdeal.main_v0_4)) (v5 : (c : Dev Cert.QkvKernelIdeal.nD) → Buf (Elt Ideal) ((c.tc : Thread Cert.QkvKernelIdeal.nD Cert.QkvKernelIdeal.τ).loc Cert.QkvKernelIdeal.main_v0_5)) (v6 : (c : Dev Cert.QkvKernelIdeal.nD) → Buf (Elt Ideal) ((c.tc : Thread Cert.QkvKernelIdeal.nD Cert.QkvKernelIdeal.τ).loc Cert.QkvKernelIdeal.main_v0_6)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0_0) = v0 c
          ∧ r.2.mem ((c.tc : Thread Cert.QkvKernelIdeal.nD Cert.QkvKernelIdeal.τ).loc Cert.QkvKernelIdeal.main_v0_1) = v1 c
          ∧ r.2.mem ((c.tc : Thread Cert.QkvKernelIdeal.nD Cert.QkvKernelIdeal.τ).loc Cert.QkvKernelIdeal.main_v0_2) = v2 c
          ∧ r.2.mem ((c.tc : Thread Cert.QkvKernelIdeal.nD Cert.QkvKernelIdeal.τ).loc Cert.QkvKernelIdeal.main_v0_3) = v3 c
          ∧ r.2.mem ((c.tc : Thread Cert.QkvKernelIdeal.nD Cert.QkvKernelIdeal.τ).loc Cert.QkvKernelIdeal.main_v0_4) = v4 c
          ∧ r.2.mem ((c.tc : Thread Cert.QkvKernelIdeal.nD Cert.QkvKernelIdeal.τ).loc Cert.QkvKernelIdeal.main_v0_5) = v5 c
          ∧ r.2.mem ((c.tc : Thread Cert.QkvKernelIdeal.nD Cert.QkvKernelIdeal.τ).loc Cert.QkvKernelIdeal.main_v0_6) = v6 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_v0_4) = v4 c
          ∧ r.2.mem ((c.tc : Thread Cert.QkvReferenceIdeal.nD Cert.QkvReferenceIdeal.τ).loc Cert.QkvReferenceIdeal.main_v0_5) = v5 c
          ∧ r.2.mem ((c.tc : Thread Cert.QkvReferenceIdeal.nD Cert.QkvReferenceIdeal.τ).loc Cert.QkvReferenceIdeal.main_v0_6) = v6 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hQkvKernel : Cert.QkvKernel.Facts) (hQkvKernelIdeal : Cert.QkvKernelIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
    ∧ preserves_QkvKernel_QkvKernelIdeal
    ∧ algebraic_QkvKernelIdeal_QkvReferenceIdeal (hQkvKernelIdeal := hQkvKernelIdeal) (hQkvReferenceIdeal := hQkvReferenceIdeal)
-- ==== Kernel.lean ====
abbrev S12288x2048 : Shape := ⟨2, ![12288, 2048]⟩
abbrev S8192x2048 : Shape := ⟨2, ![8192, 2048]⟩
abbrev S2048x8192 : Shape := ⟨2, ![2048, 8192]⟩
abbrev S12288x8192 : Shape := ⟨2, ![12288, 8192]⟩
abbrev S8x12288x32 : Shape := ⟨3, ![8, 12288, 32]⟩
abbrev S512x2048 : Shape := ⟨2, ![512, 2048]⟩
abbrev S1024x2048 : Shape := ⟨2, ![1024, 2048]⟩
abbrev S2048x1024 : Shape := ⟨2, ![2048, 1024]⟩
abbrev S512x1024 : Shape := ⟨2, ![512, 1024]⟩
abbrev S1x512x32 : Shape := ⟨3, ![1, 512, 32]⟩
abbrev S32x128 : Shape := ⟨2, ![32, 128]⟩
abbrev S16x128 : Shape := ⟨2, ![16, 128]⟩
abbrev S16x128x1 : Shape := ⟨3, ![16, 128, 1]⟩
abbrev S32x32 : Shape := ⟨2, ![32, 32]⟩
abbrev S1x32x32 : Shape := ⟨3, ![1, 32, 32]⟩

abbrev nBuf : Space → Nat
  | .hbm => 8
  | .vmem => 20
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S8192x2048, .bf16⟩
  | .hbm, ⟨3, _⟩ => ⟨S8192x2048, .bf16⟩
  | .hbm, ⟨4, _⟩ => ⟨S2048x8192, .bf16⟩
  | .hbm, ⟨5, _⟩ => ⟨S12288x2048, .bf16⟩
  | .hbm, ⟨6, _⟩ => ⟨S12288x8192, .fp8e4m3⟩
  | .hbm, ⟨7, _⟩ => ⟨S8x12288x32, .i8⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .fp8e4m3⟩
  | .local _ .vmem, ⟨13, _⟩ => ⟨S512x1024, .fp8e4m3⟩
  | .local _ .vmem, ⟨14, _⟩ => ⟨S1x512x32, .i8⟩
  | .local _ .vmem, ⟨15, _⟩ => ⟨S1x512x32, .i8⟩
  | .local _ .vmem, ⟨16, _⟩ => ⟨S512x2048, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 8], ![false, false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  v26
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v28 : Index := Scalar.indexCast v27
  let c0_23 : Index := 0#32
  ![v28.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v35 : Index := Scalar.indexCast v27
  let c128 : Index := 128#32
  ![v35.toNat, 128]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v42 : Index := Scalar.indexCast v27
  let c256 : Index := 256#32
  ![v42.toNat, 256]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v49 : Index := Scalar.indexCast v27
  let c384 : Index := 384#32
  ![v49.toNat, 384]
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v56 : Index := Scalar.indexCast v27
  let c512 : Index := 512#32
  ![v56.toNat, 512]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v63 : Index := Scalar.indexCast v27
  let c640 : Index := 640#32
  ![v63.toNat, 640]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v70 : Index := Scalar.indexCast v27
  let c768 : Index := 768#32
  ![v70.toNat, 768]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v77 : Index := Scalar.indexCast v27
  let c896 : Index := 896#32
  ![v77.toNat, 896]
def k0_off9 (k0_t1 : Fin k0_t1_loop.trips) : Fin 3 → Nat :=
  let c0_275 : Index := 0#32
  let c0_i32 : BitVec 32 := 0#32
  let c1_i32 : BitVec 32 := 1#32
  let arg14 : BitVec 32 := Scf.iv c0_i32 c1_i32 k0_t1
  let c32_i32 : BitVec 32 := 32#32
  let v26 : BitVec 32 := Scalar.muli arg14 c32_i32
  let v27 : BitVec 32 := v26
  let v1012 : Index := Scalar.indexCast v27
  let c0_276 : Index := 0#32
  ![0, v1012.toNat, 0]
def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_22 : BitVec 32 := 0#32
  let v25 : BitVec 1 := Scalar.cmpi .ne v24 c0_i32_22
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x32 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S12288x2048 : Shape := ⟨2, ![12288, 2048]⟩
abbrev S8192x2048 : Shape := ⟨2, ![8192, 2048]⟩
abbrev S2048x8192 : Shape := ⟨2, ![2048, 8192]⟩
abbrev S12288x8192 : Shape := ⟨2, ![12288, 8192]⟩
abbrev S8x12288x32 : Shape := ⟨3, ![8, 12288, 32]⟩
abbrev S12288x256x32 : Shape := ⟨3, ![12288, 256, 32]⟩
abbrev S12288x256 : Shape := ⟨2, ![12288, 256]⟩
abbrev S12288x256x1 : Shape := ⟨3, ![12288, 256, 1]⟩
abbrev S12288x8x32 : Shape := ⟨3, ![12288, 8, 32]⟩

abbrev nBuf : Space → Nat
  | .hbm => 8
  | .vmem => 8
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S8192x2048, .bf16⟩
  | .hbm, ⟨3, _⟩ => ⟨S8192x2048, .bf16⟩
  | .hbm, ⟨4, _⟩ => ⟨S2048x8192, .bf16⟩
  | .hbm, ⟨5, _⟩ => ⟨S12288x2048, .bf16⟩
  | .hbm, ⟨6, _⟩ => ⟨S12288x8192, .fp8e4m3⟩
  | .hbm, ⟨7, _⟩ => ⟨S8x12288x32, .i8⟩
  | .local _ .vmem, ⟨0, _⟩ => ⟨S12288x2048, .bf16⟩
  | .local _ .vmem, ⟨1, _⟩ => ⟨S12288x2048, .f32⟩
  | .local _ .vmem, ⟨2, _⟩ => ⟨S8192x2048, .bf16⟩
  | .local _ .vmem, ⟨3, _⟩ => ⟨S8192x2048, .bf16⟩
  | .local _ .vmem, ⟨4, _⟩ => ⟨S2048x8192, .bf16⟩
  | .local _ .vmem, ⟨5, _⟩ => ⟨S12288x2048, .bf16⟩
  | .local _ .vmem, ⟨6, _⟩ => ⟨S12288x8192, .fp8e4m3⟩
  | .local _ .vmem, ⟨7, _⟩ => ⟨S8x12288x32, .i8⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x12288x32 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== OutKernel.lean ====
abbrev S12288x1920 : Shape := ⟨2, ![12288, 1920]⟩
abbrev S2048x1920 : Shape := ⟨2, ![2048, 1920]⟩
abbrev S12288x2048 : Shape := ⟨2, ![12288, 2048]⟩
abbrev S1x2048 : Shape := ⟨2, ![1, 2048]⟩
abbrev S12288x64 : Shape := ⟨2, ![12288, 64]⟩
abbrev S512x1920 : Shape := ⟨2, ![512, 1920]⟩
abbrev S512x2048 : Shape := ⟨2, ![512, 2048]⟩
abbrev S512x64 : Shape := ⟨2, ![512, 64]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S16x128 : Shape := ⟨2, ![16, 128]⟩
abbrev S16x128x1 : Shape := ⟨3, ![16, 128, 1]⟩
abbrev S32x64 : Shape := ⟨2, ![32, 64]⟩

abbrev nBuf : Space → Nat
  | .hbm => 8
  | .vmem => 14
  | .smem => 0
  | _ => 0

abbrev bufTy : (tb : Table) → Fin (tcTables nBuf tb) → BufTy
  | .hbm, ⟨0, _⟩ => ⟨S12288x1920, .bf16⟩
  | .hbm, ⟨1, _⟩ => ⟨S2048x1920, .bf16⟩
  | .hbm, ⟨2, _⟩ => ⟨S12288x2048, .bf16⟩
  | .hbm, ⟨3, _⟩ => ⟨S1x2048, .f32⟩
  | .hbm, ⟨4, _⟩ => ⟨S12288x2048, .f32⟩
  | .hbm, ⟨5, _⟩ => ⟨S12288x2048, .fp8e4m3⟩
  | .hbm, ⟨6, _⟩ => ⟨S12288x64, .i8⟩
  | .hbm, ⟨7, _⟩ => ⟨S12288x2048, .bf16⟩
  | .local _ .vmem, ⟨0, _⟩ => ⟨S512x1920, .bf16⟩
  | .local _ .vmem, ⟨1, _⟩ => ⟨S512x1920, .bf16⟩
  | .local _ .vmem, ⟨2, _⟩ => ⟨S2048x1920, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .fp8e4m3⟩
  | .local _ .vmem, ⟨9, _⟩ => ⟨S512x2048, .fp8e4m3⟩
  | .local _ .vmem, ⟨10, _⟩ => ⟨S512x64, .i8⟩
  | .local _ .vmem, ⟨11, _⟩ => ⟨S512x64, .i8⟩
  | .local _ .vmem, ⟨12, _⟩ => ⟨S512x2048, .bf16⟩
  | .local _ .vmem, ⟨13, _⟩ => ⟨S512x2048, .bf16⟩
  | _, _ => ⟨S12288x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  v8
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v10 : Index := Scalar.indexCast v9
  let c0_8 : Index := 0#32
  ![v10.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v13 : Index := Scalar.indexCast v9
  let c128 : Index := 128#32
  ![v13.toNat, 128]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v16 : Index := Scalar.indexCast v9
  let c256 : Index := 256#32
  ![v16.toNat, 256]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v19 : Index := Scalar.indexCast v9
  let c384 : Index := 384#32
  ![v19.toNat, 384]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v22 : Index := Scalar.indexCast v9
  let c512 : Index := 512#32
  ![v22.toNat, 512]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v25 : Index := Scalar.indexCast v9
  let c640 : Index := 640#32
  ![v25.toNat, 640]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v28 : Index := Scalar.indexCast v9
  let c768 : Index := 768#32
  ![v28.toNat, 768]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v31 : Index := Scalar.indexCast v9
  let c896 : Index := 896#32
  ![v31.toNat, 896]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v34 : Index := Scalar.indexCast v9
  let c1024 : Index := 1024#32
  ![v34.toNat, 1024]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v37 : Index := Scalar.indexCast v9
  let c1152 : Index := 1152#32
  ![v37.toNat, 1152]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v40 : Index := Scalar.indexCast v9
  let c1280 : Index := 1280#32
  ![v40.toNat, 1280]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v43 : Index := Scalar.indexCast v9
  let c1408 : Index := 1408#32
  ![v43.toNat, 1408]
def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v46 : Index := Scalar.indexCast v9
  let c1536 : Index := 1536#32
  ![v46.toNat, 1536]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v49 : Index := Scalar.indexCast v9
  let c1664 : Index := 1664#32
  ![v49.toNat, 1664]
def k0_off15 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v52 : Index := Scalar.indexCast v9
  let c1792 : Index := 1792#32
  ![v52.toNat, 1792]
def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v55 : Index := Scalar.indexCast v9
  let c1920 : Index := 1920#32
  ![v55.toNat, 1920]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v1754 : Index := Scalar.indexCast v9
  let c0_450 : Index := 0#32
  ![v1754.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S12288x1920 : Shape := ⟨2, ![12288, 1920]⟩
abbrev S2048x1920 : Shape := ⟨2, ![2048, 1920]⟩
abbrev S12288x2048 : Shape := ⟨2, ![12288, 2048]⟩
abbrev S1x2048 : Shape := ⟨2, ![1, 2048]⟩
abbrev S12288x64 : Shape := ⟨2, ![12288, 64]⟩
abbrev S12288 : Shape := ⟨1, ![12288]⟩
abbrev S12288x1 : Shape := ⟨2, ![12288, 1]⟩
abbrev S12288x64x32 : Shape := ⟨3, ![12288, 64, 32]⟩
abbrev S12288x64x1 : Shape := ⟨3, ![12288, 64, 1]⟩

abbrev nBuf : Space → Nat
  | .hbm => 8
  | .vmem => 8
  | .smem => 0
  | _ => 0

abbrev bufTy : (tb : Table) → Fin (tcTables nBuf tb) → BufTy
  | .hbm, ⟨0, _⟩ => ⟨S12288x1920, .bf16⟩
  | .hbm, ⟨1, _⟩ => ⟨S2048x1920, .bf16⟩
  | .hbm, ⟨2, _⟩ => ⟨S12288x2048, .bf16⟩
  | .hbm, ⟨3, _⟩ => ⟨S1x2048, .f32⟩
  | .hbm, ⟨4, _⟩ => ⟨S12288x2048, .f32⟩
  | .hbm, ⟨5, _⟩ => ⟨S12288x2048, .fp8e4m3⟩
  | .hbm, ⟨6, _⟩ => ⟨S12288x64, .i8⟩
  | .hbm, ⟨7, _⟩ => ⟨S12288x2048, .bf16⟩
  | .local _ .vmem, ⟨0, _⟩ => ⟨S12288x1920, .bf16⟩
  | .local _ .vmem, ⟨1, _⟩ => ⟨S2048x1920, .bf16⟩
  | .local _ .vmem, ⟨2, _⟩ => ⟨S12288x2048, .bf16⟩
  | .local _ .vmem, ⟨3, _⟩ => ⟨S1x2048, .f32⟩
  | .local _ .vmem, ⟨4, _⟩ => ⟨S12288x2048, .f32⟩
  | .local _ .vmem, ⟨5, _⟩ => ⟨S12288x2048, .fp8e4m3⟩
  | .local _ .vmem, ⟨6, _⟩ => ⟨S12288x64, .i8⟩
  | .local _ .vmem, ⟨7, _⟩ => ⟨S12288x2048, .bf16⟩
  | _, _ => ⟨S12288x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QkvKernel.lean ====
abbrev S12288x2048 : Shape := ⟨2, ![12288, 2048]⟩
abbrev S1x2048 : Shape := ⟨2, ![1, 2048]⟩
abbrev S48x12288 : Shape := ⟨2, ![48, 12288]⟩
abbrev S2880x2048 : Shape := ⟨2, ![2880, 2048]⟩
abbrev S12288x64 : Shape := ⟨2, ![12288, 64]⟩
abbrev S1920x12288 : Shape := ⟨2, ![1920, 12288]⟩
abbrev S5x12288x128 : Shape := ⟨3, ![5, 12288, 128]⟩
abbrev S480x12288 : Shape := ⟨2, ![480, 12288]⟩
abbrev S12288x960 : Shape := ⟨2, ![12288, 960]⟩
abbrev S12288x32 : Shape := ⟨2, ![12288, 32]⟩
abbrev S512x2048 : Shape := ⟨2, ![512, 2048]⟩
abbrev S48x512 : Shape := ⟨2, ![48, 512]⟩
abbrev S512x64 : Shape := ⟨2, ![512, 64]⟩
abbrev S1920x512 : Shape := ⟨2, ![1920, 512]⟩
abbrev S5x512x128 : Shape := ⟨3, ![5, 512, 128]⟩
abbrev S480x512 : Shape := ⟨2, ![480, 512]⟩
abbrev S512x960 : Shape := ⟨2, ![512, 960]⟩
abbrev S512x32 : Shape := ⟨2, ![512, 32]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S16x128 : Shape := ⟨2, ![16, 128]⟩
abbrev S16x128x1 : Shape := ⟨3, ![16, 128, 1]⟩
abbrev S32x64 : Shape := ⟨2, ![32, 64]⟩
abbrev S384x2048 : Shape := ⟨2, ![384, 2048]⟩
abbrev S384x512 : Shape := ⟨2, ![384, 512]⟩
abbrev S96x512 : Shape := ⟨2, ![96, 512]⟩
abbrev S480x2048 : Shape := ⟨2, ![480, 2048]⟩
abbrev S15x32x512 : Shape := ⟨3, ![15, 32, 512]⟩
abbrev S15x512 : Shape := ⟨2, ![15, 512]⟩
abbrev S15x1x512 : Shape := ⟨3, ![15, 1, 512]⟩
abbrev S32x512 : Shape := ⟨2, ![32, 512]⟩
abbrev S128x512 : Shape := ⟨2, ![128, 512]⟩
abbrev S512x128 : Shape := ⟨2, ![512, 128]⟩
abbrev S1x512x128 : Shape := ⟨3, ![1, 512, 128]⟩
abbrev S64x512 : Shape := ⟨2, ![64, 512]⟩
abbrev S1024x512 : Shape := ⟨2, ![1024, 512]⟩
abbrev S512x1024 : Shape := ⟨2, ![512, 1024]⟩
abbrev S98x512 : Shape := ⟨2, ![98, 512]⟩

abbrev nBuf : Space → Nat
  | .hbm => 12
  | .vmem => 23
  | .smem => 0
  | _ => 0

abbrev bufTy : (tb : Table) → Fin (tcTables nBuf tb) → BufTy
  | .hbm, ⟨0, _⟩ => ⟨S12288x2048, .bf16⟩
  | .hbm, ⟨1, _⟩ => ⟨S1x2048, .f32⟩
  | .hbm, ⟨2, _⟩ => ⟨S48x12288, .f32⟩
  | .hbm, ⟨3, _⟩ => ⟨S48x12288, .f32⟩
  | .hbm, ⟨4, _⟩ => ⟨S2880x2048, .bf16⟩
  | .hbm, ⟨5, _⟩ => ⟨S12288x2048, .fp8e4m3⟩
  | .hbm, ⟨6, _⟩ => ⟨S12288x64, .i8⟩
  | .hbm, ⟨7, _⟩ => ⟨S1920x12288, .bf16⟩
  | .hbm, ⟨8, _⟩ => ⟨S5x12288x128, .bf16⟩
  | .hbm, ⟨9, _⟩ => ⟨S480x12288, .bf16⟩
  | .hbm, ⟨10, _⟩ => ⟨S12288x960, .fp8e4m3⟩
  | .hbm, ⟨11, _⟩ => ⟨S12288x32, .i8⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S48x512, .f32⟩
  | .local _ .vmem, ⟨4, _⟩ => ⟨S48x512, .f32⟩
  | .local _ .vmem, ⟨5, _⟩ => ⟨S48x512, .f32⟩
  | .local _ .vmem, ⟨6, _⟩ => ⟨S48x512, .f32⟩
  | .local _ .vmem, ⟨7, _⟩ => ⟨S2880x2048, .bf16⟩
  | .local _ .vmem, ⟨8, _⟩ => ⟨S512x2048, .fp8e4m3⟩
  | .local _ .vmem, ⟨9, _⟩ => ⟨S512x2048, .fp8e4m3⟩
  | .local _ .vmem, ⟨10, _⟩ => ⟨S512x64, .i8⟩
  | .local _ .vmem, ⟨11, _⟩ => ⟨S512x64, .i8⟩
  | .local _ .vmem, ⟨12, _⟩ => ⟨S1920x512, .bf16⟩
  | .local _ .vmem, ⟨13, _⟩ => ⟨S1920x512, .bf16⟩
  | .local _ .vmem, ⟨14, _⟩ => ⟨S5x512x128, .bf16⟩
  | .local _ .vmem, ⟨15, _⟩ => ⟨S5x512x128, .bf16⟩
  | .local _ .vmem, ⟨16, _⟩ => ⟨S480x512, .bf16⟩
  | .local _ .vmem, ⟨17, _⟩ => ⟨S480x512, .bf16⟩
  | .local _ .vmem, ⟨18, _⟩ => ⟨S512x960, .fp8e4m3⟩
  | .local _ .vmem, ⟨19, _⟩ => ⟨S512x960, .fp8e4m3⟩
  | .local _ .vmem, ⟨20, _⟩ => ⟨S512x32, .i8⟩
  | .local _ .vmem, ⟨21, _⟩ => ⟨S512x32, .i8⟩
  | .local _ .vmem, ⟨22, _⟩ => ⟨S512x2048, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  v565
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v567 : Index := Scalar.indexCast v566
  let c0_125 : Index := 0#32
  ![v567.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v570 : Index := Scalar.indexCast v566
  let c128 : Index := 128#32
  ![v570.toNat, 128]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v573 : Index := Scalar.indexCast v566
  let c256 : Index := 256#32
  ![v573.toNat, 256]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v576 : Index := Scalar.indexCast v566
  let c384_126 : Index := 384#32
  ![v576.toNat, 384]
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v579 : Index := Scalar.indexCast v566
  let c512 : Index := 512#32
  ![v579.toNat, 512]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v582 : Index := Scalar.indexCast v566
  let c640 : Index := 640#32
  ![v582.toNat, 640]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v585 : Index := Scalar.indexCast v566
  let c768_127 : Index := 768#32
  ![v585.toNat, 768]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v588 : Index := Scalar.indexCast v566
  let c896 : Index := 896#32
  ![v588.toNat, 896]
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v591 : Index := Scalar.indexCast v566
  let c1024 : Index := 1024#32
  ![v591.toNat, 1024]
def k0_off10 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v594 : Index := Scalar.indexCast v566
  let c1152_128 : Index := 1152#32
  ![v594.toNat, 1152]
def k0_off11 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v597 : Index := Scalar.indexCast v566
  let c1280 : Index := 1280#32
  ![v597.toNat, 1280]
def k0_off12 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v600 : Index := Scalar.indexCast v566
  let c1408 : Index := 1408#32
  ![v600.toNat, 1408]
def k0_off13 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v603 : Index := Scalar.indexCast v566
  let c1536_129 : Index := 1536#32
  ![v603.toNat, 1536]
def k0_off14 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v606 : Index := Scalar.indexCast v566
  let c1664 : Index := 1664#32
  ![v606.toNat, 1664]
def k0_off15 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v609 : Index := Scalar.indexCast v566
  let c1792 : Index := 1792#32
  ![v609.toNat, 1792]
def k0_off16 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v612 : Index := Scalar.indexCast v566
  let c1920_130 : Index := 1920#32
  ![v612.toNat, 1920]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32_124 : BitVec 32 := 32#32
  let v565 : BitVec 32 := Scalar.muli arg14 c32_i32_124
  let v566 : BitVec 32 := v565
  let v2343 : Index := Scalar.indexCast v566
  let c0_580 : Index := 0#32
  ![v2343.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2880x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1920x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S480x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x960 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x32 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvReferenceIdeal.lean ====
abbrev S12288x2048 : Shape := ⟨2, ![12288, 2048]⟩
abbrev S1x2048 : Shape := ⟨2, ![1, 2048]⟩
abbrev S48x12288 : Shape := ⟨2, ![48, 12288]⟩
abbrev S2880x2048 : Shape := ⟨2, ![2880, 2048]⟩
abbrev S12288x64 : Shape := ⟨2, ![12288, 64]⟩
abbrev S1920x12288 : Shape := ⟨2, ![1920, 12288]⟩
abbrev S5x12288x128 : Shape := ⟨3, ![5, 12288, 128]⟩
abbrev S480x12288 : Shape := ⟨2, ![480, 12288]⟩
abbrev S12288x960 : Shape := ⟨2, ![12288, 960]⟩
abbrev S12288x32 : Shape := ⟨2, ![12288, 32]⟩
abbrev S12288 : Shape := ⟨1, ![12288]⟩
abbrev S12288x1 : Shape := ⟨2, ![12288, 1]⟩
abbrev S12288x64x32 : Shape := ⟨3, ![12288, 64, 32]⟩
abbrev S12288x64x1 : Shape := ⟨3, ![12288, 64, 1]⟩
abbrev S12288x2880 : Shape := ⟨2, ![12288, 2880]⟩
abbrev S12288x48 : Shape := ⟨2, ![12288, 48]⟩
abbrev S12288x1x48 : Shape := ⟨3, ![12288, 1, 48]⟩
abbrev S12288x1920 : Shape := ⟨2, ![12288, 1920]⟩
abbrev S12288x20x96 : Shape := ⟨3, ![12288, 20, 96]⟩
abbrev S12288x20x48 : Shape := ⟨3, ![12288, 20, 48]⟩
abbrev S12288x480 : Shape := ⟨2, ![12288, 480]⟩
abbrev S12288x5x96 : Shape := ⟨3, ![12288, 5, 96]⟩
abbrev S12288x5x48 : Shape := ⟨3, ![12288, 5, 48]⟩
abbrev S5x12288x96 : Shape := ⟨3, ![5, 12288, 96]⟩
abbrev S5x12288x32 : Shape := ⟨3, ![5, 12288, 32]⟩
abbrev S12288x15x32 : Shape := ⟨3, ![12288, 15, 32]⟩
abbrev S12288x15 : Shape := ⟨2, ![12288, 15]⟩
abbrev S12288x15x1 : Shape := ⟨3, ![12288, 15, 1]⟩
abbrev S12288x2 : Shape := ⟨2, ![12288, 2]⟩

abbrev nBuf : Space → Nat
  | .hbm => 12
  | .vmem => 12
  | .smem => 0
  | _ => 0

abbrev bufTy : (tb : Table) → Fin (tcTables nBuf tb) → BufTy
  | .hbm, ⟨0, _⟩ => ⟨S12288x2048, .bf16⟩
  | .hbm, ⟨1, _⟩ => ⟨S1x2048, .f32⟩
  | .hbm, ⟨2, _⟩ => ⟨S48x12288, .f32⟩
  | .hbm, ⟨3, _⟩ => ⟨S48x12288, .f32⟩
  | .hbm, ⟨4, _⟩ => ⟨S2880x2048, .bf16⟩
  | .hbm, ⟨5, _⟩ => ⟨S12288x2048, .fp8e4m3⟩
  | .hbm, ⟨6, _⟩ => ⟨S12288x64, .i8⟩
  | .hbm, ⟨7, _⟩ => ⟨S1920x12288, .bf16⟩
  | .hbm, ⟨8, _⟩ => ⟨S5x12288x128, .bf16⟩
  | .hbm, ⟨9, _⟩ => ⟨S480x12288, .bf16⟩
  | .hbm, ⟨10, _⟩ => ⟨S12288x960, .fp8e4m3⟩
  | .hbm, ⟨11, _⟩ => ⟨S12288x32, .i8⟩
  | .local _ .vmem, ⟨0, _⟩ => ⟨S12288x2048, .bf16⟩
  | .local _ .vmem, ⟨1, _⟩ => ⟨S1x2048, .f32⟩
  | .local _ .vmem, ⟨2, _⟩ => ⟨S48x12288, .f32⟩
  | .local _ .vmem, ⟨3, _⟩ => ⟨S48x12288, .f32⟩
  | .local _ .vmem, ⟨4, _⟩ => ⟨S2880x2048, .bf16⟩
  | .local _ .vmem, ⟨5, _⟩ => ⟨S12288x2048, .fp8e4m3⟩
  | .local _ .vmem, ⟨6, _⟩ => ⟨S12288x64, .i8⟩
  | .local _ .vmem, ⟨7, _⟩ => ⟨S1920x12288, .bf16⟩
  | .local _ .vmem, ⟨8, _⟩ => ⟨S5x12288x128, .bf16⟩
  | .local _ .vmem, ⟨9, _⟩ => ⟨S480x12288, .bf16⟩
  | .local _ .vmem, ⟨10, _⟩ => ⟨S12288x960, .fp8e4m3⟩
  | .local _ .vmem, ⟨11, _⟩ => ⟨S12288x32, .i8⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x12288 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x12288x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S480x12288 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x960 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x32 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Strip.lean ====
module

public import proofs.«01_k».proof.Proof.Gen.KernelIdeal.Value

@[expose] public section

noncomputable section

/-! The strip's quantiser as one vocabulary: every intermediate value of a strip of 32 token rows, over the
eight 32 x 128 tiles of its gated activations. A strip's upper 16 rows and lower 16 rows go through the lanes
as two halves. -/

namespace Cert.KernelIdeal.Gen.Strip

open Idealize.ShloMosaic Idealize.ShloMosaic.TcCoe

variable {F : FTy → Type} [FloatOps F]

/-- The lane number at every element. -/
def lane : IVec S16x128 32 := iota .tc S16x128 32 [1] iota_S16x128_d1_w32

/-- Lane numbers as the gather takes them: a negative one counted from the end. -/
def wrap (p : IVec S16x128 32) : IVec S16x128 32 :=
  shapeCast S16x128 (shapeCast S16x128x1 (select (cmpi .slt p (broadcast S16x128 0#32)) (addi p (broadcast S16x128 128#32)) p)
    shapeCasts_S16x128_S16x128x1) shapeCasts_S16x128x1_S16x128

/-- The lanes whose number has bit `s` clear. -/
def bit (s : BitVec 32) : IVec S16x128 1 := cmpi .eq (andi lane (broadcast S16x128 s)) (broadcast S16x128 0#32)

/-- The partner lane across bit `s`. -/
def perm (s : BitVec 32) : IVec S16x128 32 := wrap (xori lane (broadcast S16x128 s))

/-- Two tiles merged into one: maxima across bit `s`, of the first tile where the bit is clear, of the second where set. -/
def merge (s : BitVec 32) (a b : FVec F S16x128 .f32) : FVec F S16x128 .f32 :=
  maximumf (select (bit s) a b) (dynamicGather 1 (select (bit s) b a) (perm s))

/-- Maxima across bit `s` of one tile. -/
def fold (s : BitVec 32) (a : FVec F S16x128 .f32) : FVec F S16x128 .f32 := maximumf a (dynamicGather 1 a (perm s))

/-- The eight tiles' block maxima, all in one tile. -/
def maxOf (t0 t1 t2 t3 t4 t5 t6 t7 : FVec F S16x128 .f32) : FVec F S16x128 .f32 :=
  fold 1#32 (fold 2#32 (merge 4#32 (merge 8#32 (merge 16#32 t0 t1) (merge 16#32 t2 t3))
    (merge 8#32 (merge 16#32 t4 t5) (merge 16#32 t6 t7))))

/-- A tile's upper 16 rows. -/
def top (t : FVec F S32x128 .f32) : FVec F S16x128 .f32 := extractStridedSlice S16x128 ![0, 0] t slices_S32x128_o0_0_S16x128

/-- A tile's lower 16 rows. -/
def bot (t : FVec F S32x128 .f32) : FVec F S16x128 .f32 := extractStridedSlice S16x128 ![16, 0] t slices_S32x128_o16_0_S16x128

/-- One step of the exponent's search: add `n` where the magnitude reaches the power of two of the sum. -/
def step (a : FVec F S16x128 .f32) (n : BitVec 32) (e : IVec S16x128 32) : IVec S16x128 32 :=
  select (cmpf .oge a (bitcastToFloat .f32 (shli (addi e (broadcast S16x128 n)) (broadcast S16x128 23#32))))
    (addi e (broadcast S16x128 n)) e

/-- The biased exponents of magnitudes, found bit by bit. -/
def expo (a : FVec F S16x128 .f32) : IVec S16x128 32 :=
  step a 1#32 (step a 2#32 (step a 4#32 (step a 8#32 (step a 16#32 (step a 32#32 (step a 64#32 (step a 128#32
    (broadcast S16x128 0#32))))))))

/-- The scale bytes of block maxima. -/
def byte (a : FVec F S16x128 .f32) : IVec S16x128 32 :=
  select (cmpf .oeq a (broadcast S16x128 (Scalar.ofBits .f32 0x00000000#32))) (broadcast S16x128 127#32)
    (maxsi (subi (expo a) (broadcast S16x128 8#32)) (broadcast S16x128 0#32))

/-- Both halves' multipliers, as high bf16 patterns, in one word. -/
def packed (p q : IVec S16x128 32) : IVec S16x128 32 :=
  ori (shli (subi (broadcast S16x128 254#32) p) (broadcast S16x128 23#32)) (shli (subi (broadcast S16x128 254#32) q) (broadcast S16x128 7#32))

/-- The first lane of each lane's group of 32. -/
def group : IVec S16x128 32 := shli (shrsi lane (broadcast S16x128 5#32)) (broadcast S16x128 5#32)

/-- The packed words read at lane `o` of each group. -/
def gath (w : IVec S16x128 32) (o : BitVec 32) : IVec S16x128 32 := dynamicGather 1 w (wrap (addi group (broadcast S16x128 o)))

/-- The upper half's multiplier pattern. -/
def hiW (w : IVec S16x128 32) (o : BitVec 32) : IVec S16x128 32 := andi (gath w o) (broadcast S16x128 4294901760#32)

/-- The lower half's multiplier pattern. -/
def loW (w : IVec S16x128 32) (o : BitVec 32) : IVec S16x128 32 := shli (gath w o) (broadcast S16x128 16#32)

/-- A half tile's codes under multiplier patterns `k`. -/
def codesHalf (x : FVec F S16x128 .f32) (k : IVec S16x128 32) : FVec F S16x128 .fp8e4m3 :=
  truncf .fp8e4m3 (minimumf (broadcast S16x128 (Scalar.ofBits .f32 0x43E00000#32))
    (maximumf (broadcast S16x128 (Scalar.ofBits .f32 0xC3E00000#32)) (mulf x (bitcastToFloat .f32 k)))) bitsLt_fp8e4m3_f32

/-- A half tile's decoded values under multiplier patterns `k`. -/
def valsHalf (x : FVec F S16x128 .f32) (k : IVec S16x128 32) : FVec F S16x128 .bf16 :=
  truncf .bf16 (mulf (extf .f32 (codesHalf x k) bitsLt_fp8e4m3_f32) (bitcastToFloat .f32 (subi (broadcast S16x128 2130706432#32) k))) bitsLt_bf16_f32

/-- A tile's codes. -/
def codes (t : FVec F S32x128 .f32) (w : IVec S16x128 32) (o : BitVec 32) : FVec F S32x128 .fp8e4m3 :=
  concatenate S32x128 0 [⟨S16x128, codesHalf (top t) (hiW w o)⟩, ⟨S16x128, codesHalf (bot t) (loW w o)⟩] concatenates_S16x128_S16x128_S32x128_d0

/-- A tile's decoded values. -/
def vals (t : FVec F S32x128 .f32) (w : IVec S16x128 32) (o : BitVec 32) : FVec F S32x128 .bf16 :=
  shapeCast S32x128 (concatenate S32x128 0 [⟨S16x128, valsHalf (top t) (hiW w o)⟩, ⟨S16x128, valsHalf (bot t) (loW w o)⟩]
    concatenates_S16x128_S16x128_S32x128_d0) shapeCasts_S32x128_S32x128

/-- One tile's part of the map from block number to the lane that holds its scale. -/
def pick (q o : BitVec 32) (e : IVec S16x128 32) : IVec S16x128 32 :=
  select (cmpi .eq (shrsi lane (broadcast S16x128 2#32)) (broadcast S16x128 q))
    (addi (shli (andi lane (broadcast S16x128 3#32)) (broadcast S16x128 5#32)) (broadcast S16x128 o)) e

/-- The lane that holds block `l`'s scale byte. -/
def src : IVec S16x128 32 :=
  pick 7#32 28#32 (pick 6#32 12#32 (pick 5#32 20#32 (pick 4#32 4#32 (pick 3#32 24#32 (pick 2#32 8#32
    (pick 1#32 16#32 (pick 0#32 0#32 (broadcast S16x128 0#32))))))))

/-- The strip's 32 x 32 scale bytes. -/
def scales (p q : IVec S16x128 32) : IVec S1x32x32 8 :=
  shapeCast S1x32x32 (trunci 8 (extractStridedSlice S32x32 ![0, 0]
    (concatenate S32x128 0 [⟨S16x128, dynamicGather 1 p (wrap src)⟩, ⟨S16x128, dynamicGather 1 q (wrap src)⟩] concatenates_S16x128_S16x128_S32x128_d0)
    slices_S32x128_o0_0_S32x32) natLt_8_32) shapeCasts_S32x32_S1x32x32

/-- The upper rows' scale bytes of a strip of eight tiles. -/
def byteT (g : Fin 8 → FVec F S32x128 .f32) : IVec S16x128 32 :=
  byte (maxOf (absf (top (g 0))) (absf (top (g 1))) (absf (top (g 2))) (absf (top (g 3)))
    (absf (top (g 4))) (absf (top (g 5))) (absf (top (g 6))) (absf (top (g 7))))

/-- The lower rows' scale bytes of a strip of eight tiles. -/
def byteB (g : Fin 8 → FVec F S32x128 .f32) : IVec S16x128 32 :=
  byte (maxOf (absf (bot (g 0))) (absf (bot (g 1))) (absf (bot (g 2))) (absf (bot (g 3)))
    (absf (bot (g 4))) (absf (bot (g 5))) (absf (bot (g 6))) (absf (bot (g 7))))

/-- The strip's packed multipliers. -/
def word (g : Fin 8 → FVec F S32x128 .f32) : IVec S16x128 32 := packed (byteT g) (byteB g)

/-- The lane within a group at which tile `j`'s multipliers lie. -/
def offs : Fin 8 → BitVec 32 := ![0#32, 16#32, 8#32, 24#32, 4#32, 20#32, 12#32, 28#32]

/-- One tile's gated activations, of its gate and up tiles. -/
def gated (a b : FVec F S32x128 .f32) : FVec F S32x128 .f32 := mulf (mulf a (logistic a)) b

/-- The gated activations of strip `k`'s eight tiles, read from the gate and up scratch. -/
def tiles (arg11 : Memref sig .tc .vmem S512x1024 .f32) (arg12 : Memref sig .tc .vmem S512x1024 .f32) (X_arg11 : BufTy.Contents (Elt F) arg11.view.ty)
    (X_arg12 : BufTy.Contents (Elt F) arg12.view.ty) (k : Fin k0_t1_loop.trips) : Fin 8 → FVec F S32x128 .f32
  | 0 => gated (View.readAt (Elt F) arg11.view (Rect.unit (s := S512x1024) (k0_off1 k) S32x128.size (k0_off1_inb k)).toLoadRect X_arg11)
      (View.readAt (Elt F) arg12.view (Rect.unit (s := S512x1024) (k0_off1 k) S32x128.size (k0_off1_inb k)).toLoadRect X_arg12)
  | 1 => gated (View.readAt (Elt F) arg11.view (Rect.unit (s := S512x1024) (k0_off2 k) S32x128.size (k0_off2_inb k)).toLoadRect X_arg11)
      (View.readAt (Elt F) arg12.view (Rect.unit (s := S512x1024) (k0_off2 k) S32x128.size (k0_off2_inb k)).toLoadRect X_arg12)
  | 2 => gated (View.readAt (Elt F) arg11.view (Rect.unit (s := S512x1024) (k0_off3 k) S32x128.size (k0_off3_inb k)).toLoadRect X_arg11)
      (View.readAt (Elt F) arg12.view (Rect.unit (s := S512x1024) (k0_off3 k) S32x128.size (k0_off3_inb k)).toLoadRect X_arg12)
  | 3 => gated (View.readAt (Elt F) arg11.view (Rect.unit (s := S512x1024) (k0_off4 k) S32x128.size (k0_off4_inb k)).toLoadRect X_arg11)
      (View.readAt (Elt F) arg12.view (Rect.unit (s := S512x1024) (k0_off4 k) S32x128.size (k0_off4_inb k)).toLoadRect X_arg12)
  | 4 => gated (View.readAt (Elt F) arg11.view (Rect.unit (s := S512x1024) (k0_off5 k) S32x128.size (k0_off5_inb k)).toLoadRect X_arg11)
      (View.readAt (Elt F) arg12.view (Rect.unit (s := S512x1024) (k0_off5 k) S32x128.size (k0_off5_inb k)).toLoadRect X_arg12)
  | 5 => gated (View.readAt (Elt F) arg11.view (Rect.unit (s := S512x1024) (k0_off6 k) S32x128.size (k0_off6_inb k)).toLoadRect X_arg11)
      (View.readAt (Elt F) arg12.view (Rect.unit (s := S512x1024) (k0_off6 k) S32x128.size (k0_off6_inb k)).toLoadRect X_arg12)
  | 6 => gated (View.readAt (Elt F) arg11.view (Rect.unit (s := S512x1024) (k0_off7 k) S32x128.size (k0_off7_inb k)).toLoadRect X_arg11)
      (View.readAt (Elt F) arg12.view (Rect.unit (s := S512x1024) (k0_off7 k) S32x128.size (k0_off7_inb k)).toLoadRect X_arg12)
  | 7 => gated (View.readAt (Elt F) arg11.view (Rect.unit (s := S512x1024) (k0_off8 k) S32x128.size (k0_off8_inb k)).toLoadRect X_arg11)
      (View.readAt (Elt F) arg12.view (Rect.unit (s := S512x1024) (k0_off8 k) S32x128.size (k0_off8_inb k)).toLoadRect X_arg12)

end Cert.KernelIdeal.Gen.Strip

end
-- ==== Proof.Scalar.lean ====
module

public import proofs.«01_k».proof.Proof.Strip
public import Idealize.ShloMosaic.PureOps.Ideal.Laws
public import Mathlib.Tactic.IntervalCases

@[expose] public section

noncomputable section

/-! The block scale as one number: the scale byte of a block maximum, as the kernel finds it by a search over float
patterns and as the reference finds it by a logarithm. -/

namespace Cert.KernelIdeal.Gen.Strip

open Idealize.ShloMosaic

/-- The value of the f32 pattern with exponent field `m` and no other bit set. -/
def thr (m : ℕ) : EReal := if m = 255 then ⊤ else if m = 0 then 0 else (((2 : ℝ) ^ ((m : ℤ) - 127) : ℝ) : EReal)

/-- A pattern made of an exponent field alone denotes that field's power of two. -/
theorem ofBits_field (m : ℕ) (h : m < 256) : Ideal.ofBits .f32 (BitVec.ofNat 32 m <<< 23) = thr m := by
  have e0 : (BitVec.ofNat 32 m <<< 23).toNat = m * 8388608 := by
    rw [BitVec.toNat_shiftLeft, BitVec.toNat_ofNat, Nat.shiftLeft_eq]; norm_num; omega
  generalize BitVec.ofNat 32 m <<< 23 = w at e0
  have e1 : (BitVec.extractLsb' (8 + 23) 1 w == 1#1) = false := by
    rw [beq_eq_false_iff_ne]; intro hh
    have := congrArg BitVec.toNat hh
    rw [BitVec.extractLsb'_toNat, e0, Nat.shiftRight_eq_div_pow] at this
    norm_num at this; omega
  have e2 : (BitVec.extractLsb' 23 8 w).toNat = m := by
    rw [BitVec.extractLsb'_toNat, e0, Nat.shiftRight_eq_div_pow]; norm_num; omega
  have e3 : (BitVec.extractLsb' 0 23 w).toNat = 0 := by
    rw [BitVec.extractLsb'_toNat, e0, Nat.shiftRight_eq_div_pow]; norm_num
  have e4 : Ideal.ofBits .f32 w = Ideal.ieee 8 23 w := rfl
  rw [e4]
  unfold Ideal.ieee
  rw [e1, e2, e3]
  unfold thr
  by_cases h1 : m = 255
  · simp [h1]
  by_cases h2 : m = 0
  · simp [h2]
  have h3 : (2 : ℝ) ^ ((m : ℤ) - 127) = 2 ^ 23 * 2 ^ ((m : ℤ) - 127 - 23) := by
    rw [← zpow_natCast, ← zpow_add₀ (by norm_num)]; congr 1; push_cast; ring
  rw [h3]
  simp [h1, h2, -EReal.coe_mul]
  left; norm_num

theorem c_zero : Ideal.ofBits .f32 0x00000000#32 = 0 := by simp [Ideal.ofBits, Ideal.ieee]
theorem c_448 : Ideal.ofBits .f32 0x43E00000#32 = ((448 : ℝ) : EReal) := by simp [Ideal.ofBits, Ideal.ieee, -EReal.coe_mul]; norm_num
theorem c_neg448 : Ideal.ofBits .f32 0xC3E00000#32 = ((-448 : ℝ) : EReal) := by simp [Ideal.ofBits, Ideal.ieee, -EReal.coe_mul, -EReal.coe_neg]; norm_num
theorem c_127 : Ideal.ofBits .f32 0x42FE0000#32 = ((127 : ℝ) : EReal) := by simp [Ideal.ofBits, Ideal.ieee, -EReal.coe_mul]; norm_num
theorem c_neg127 : Ideal.ofBits .f32 0xC2FE0000#32 = ((-127 : ℝ) : EReal) := by simp [Ideal.ofBits, Ideal.ieee, -EReal.coe_mul, -EReal.coe_neg]; norm_num
theorem c_128 : Ideal.ofBits .f32 0x43000000#32 = ((128 : ℝ) : EReal) := by simp [Ideal.ofBits, Ideal.ieee, -EReal.coe_mul]; norm_num
theorem c_8 : Ideal.ofBits .f32 0x41000000#32 = ((8 : ℝ) : EReal) := by simp [Ideal.ofBits, Ideal.ieee, -EReal.coe_mul]; norm_num
theorem c_2 : Ideal.ofBits .f32 0x40000000#32 = ((2 : ℝ) : EReal) := by simp [Ideal.ofBits, Ideal.ieee, -EReal.coe_mul]; norm_num
theorem c_top : Ideal.ofBits .f32 0x7F800000#32 = ⊤ := by simp [Ideal.ofBits, Ideal.ieee]
theorem c_bot : Ideal.ofBits .f32 0xFF800000#32 = ⊥ := by simp [Ideal.ofBits, Ideal.ieee]

/-- A step of the search on numbers. -/
def stN (a : EReal) (n e : ℕ) : ℕ := if thr (e + n) ≤ a then e + n else e

/-- The search on numbers. -/
def expoN (a : EReal) : ℕ := stN a 1 (stN a 2 (stN a 4 (stN a 8 (stN a 16 (stN a 32 (stN a 64 (stN a 128 0)))))))

/-- The scale byte of a block maximum. -/
def sbyte (a : EReal) : ℕ := if a = 0 then 127 else expoN a - 8

/-- What the search knows with `n` fields left: its field is reached, the field `n` above is not. -/
def Inv (a : EReal) (n e : ℕ) : Prop := e + n ≤ 256 ∧ thr e ≤ a ∧ (e + n < 256 → ¬ thr (e + n) ≤ a)

theorem stN_inv (a : EReal) (n e : ℕ) (hn : 0 < n) (h : Inv a (2 * n) e) : Inv a n (stN a n e) := by
  obtain ⟨h1, h2, h3⟩ := h
  unfold stN
  split
  · rename_i hh
    exact ⟨by omega, hh, fun h4 => by rw [show e + n + n = e + 2 * n by omega] at h4 ⊢; exact h3 h4⟩
  · rename_i hh
    exact ⟨by omega, h2, fun _ => hh⟩

theorem inv0 (a : EReal) (ha : 0 ≤ a) : Inv a 256 0 := ⟨by omega, by simpa [thr] using ha, fun h => by omega⟩

theorem expoN_inv (a : EReal) (ha : 0 ≤ a) : Inv a 1 (expoN a) :=
  stN_inv a 1 _ (by omega) (stN_inv a 2 _ (by omega) (stN_inv a 4 _ (by omega) (stN_inv a 8 _ (by omega)
    (stN_inv a 16 _ (by omega) (stN_inv a 32 _ (by omega) (stN_inv a 64 _ (by omega) (stN_inv a 128 _ (by omega) (inv0 a ha))))))))

theorem ofBool_eq_one (p : Prop) [Decidable p] : (BitVec.ofBool (decide p) = 1) ↔ p := by
  by_cases h : p <;> simp [h]

/-- One step of the search on words is the step on numbers. -/
theorem stepS (a : EReal) (e n : ℕ) (h : e + n < 256) :
    Scalar.select (Ideal.cmp .oge a (Ideal.ofBits .f32 (IntOp.shli .vector (BitVec.ofNat 32 e + BitVec.ofNat 32 n) 23#32)))
      (BitVec.ofNat 32 e + BitVec.ofNat 32 n) (BitVec.ofNat 32 e) = BitVec.ofNat 32 (stN a n e) := by
  have h0 : IntOp.shli .vector (BitVec.ofNat 32 e + BitVec.ofNat 32 n) 23#32 = BitVec.ofNat 32 (e + n) <<< 23 := by
    rw [← BitVec.ofNat_add]; rfl
  rw [h0, ofBits_field _ h, ← BitVec.ofNat_add]
  unfold Scalar.select Ideal.cmp stN
  simp only [ofBool_eq_one]
  split <;> rfl

/-- The search's field on words. -/
theorem expo_apply (a : FVec Ideal S16x128 .f32) (j : S16x128.Idx) (ha : 0 ≤ a j) : expo a j = BitVec.ofNat 32 (expoN (a j)) := by
  have i0 := inv0 _ ha
  have i1 := stN_inv (a j) 128 _ (by omega) i0
  have i2 := stN_inv (a j) 64 _ (by omega) i1
  have i3 := stN_inv (a j) 32 _ (by omega) i2
  have i4 := stN_inv (a j) 16 _ (by omega) i3
  have i5 := stN_inv (a j) 8 _ (by omega) i4
  have i6 := stN_inv (a j) 4 _ (by omega) i5
  have i7 := stN_inv (a j) 2 _ (by omega) i6
  have st : ∀ (n e : ℕ) (w : IVec S16x128 32), Inv (a j) (2 * n) e → 0 < n → w j = BitVec.ofNat 32 e →
      step a (BitVec.ofNat 32 n) w j = BitVec.ofNat 32 (stN (a j) n e) := by
    intro n e w hi hn hw
    rw [← stepS (a j) e n (by have := hi.1; omega), ← hw]
    rfl
  have s1 := st 128 _ (broadcast S16x128 0#32) i0 (by omega) rfl
  have s2 := st 64 _ _ i1 (by omega) s1
  have s3 := st 32 _ _ i2 (by omega) s2
  have s4 := st 16 _ _ i3 (by omega) s3
  have s5 := st 8 _ _ i4 (by omega) s4
  have s6 := st 4 _ _ i5 (by omega) s5
  have s7 := st 2 _ _ i6 (by omega) s6
  exact st 1 _ _ i7 (by omega) s7

theorem max_word : ∀ e : Fin 256, IntOp.maxsi (BitVec.ofNat 32 e.val - 8#32) 0#32 = BitVec.ofNat 32 (e.val - 8) := by decide +kernel

/-- The scale byte on words. -/
theorem byte_apply (a : FVec Ideal S16x128 .f32) (j : S16x128.Idx) (ha : 0 ≤ a j) : byte a j = BitVec.ofNat 32 (sbyte (a j)) := by
  have h1 := (expoN_inv _ ha).1
  have h2 := max_word ⟨expoN (a j), by omega⟩
  show Scalar.select (Ideal.cmp .oeq (a j) (Ideal.ofBits .f32 0x00000000#32)) 127#32 (IntOp.maxsi (expo a j - 8#32) 0#32) = _
  rw [expo_apply a j ha, h2, c_zero]
  unfold Scalar.select Ideal.cmp sbyte
  simp only [ofBool_eq_one]
  split <;> rfl

theorem sbyte_le (a : EReal) (ha : 0 ≤ a) : sbyte a ≤ 247 := by
  have h1 := (expoN_inv _ ha).1
  unfold sbyte; split <;> omega

theorem pack_hi (b c : ℕ) (hb : b < 256) (hc : c < 256) :
    (BitVec.ofNat 32 b <<< 23 ||| BitVec.ofNat 32 c <<< 7) &&& 4294901760#32 = BitVec.ofNat 32 b <<< 23 := by
  have t : ∀ k, 8 ≤ k → c.testBit k = false := fun k hk => Nat.testBit_lt_two_pow (lt_of_lt_of_le hc (Nat.pow_le_pow_right (by omega) hk : 2 ^ 8 ≤ 2 ^ k))
  have u : ∀ k : Fin 32, Nat.testBit 4294901760 k.val = decide (16 ≤ k.val) := by decide +kernel
  apply BitVec.eq_of_getLsbD_eq
  intro i hi
  have ui := u ⟨i, hi⟩
  simp only [BitVec.getLsbD_and, BitVec.getLsbD_or, BitVec.getLsbD_shiftLeft, BitVec.getLsbD_ofNat]
  rw [show Nat.testBit 4294901760 i = decide (16 ≤ i) from ui]
  clear ui u hb hc
  interval_cases i <;> simp [t]

theorem pack_lo (b c : ℕ) :
    (BitVec.ofNat 32 b <<< 23 ||| BitVec.ofNat 32 c <<< 7) <<< 16 = BitVec.ofNat 32 c <<< 23 := by
  apply BitVec.eq_of_getLsbD_eq
  intro i hi
  simp only [BitVec.getLsbD_or, BitVec.getLsbD_shiftLeft, BitVec.getLsbD_ofNat]
  interval_cases i <;> simp

theorem word_inv : ∀ b : Fin 248, 2130706432#32 - BitVec.ofNat 32 (254 - b.val) <<< 23 = BitVec.ofNat 32 b.val <<< 23 := by decide +kernel
theorem word_sub : ∀ b : Fin 248, 254#32 - BitVec.ofNat 32 b.val = BitVec.ofNat 32 (254 - b.val) := by decide +kernel

/-- The reference's scale exponent of a block maximum. -/
def refX (a : EReal) : EReal :=
  Scalar.select (Ideal.cmp .oeq a (Ideal.ofBits .f32 0x00000000#32)) (Ideal.ofBits .f32 0x00000000#32)
    (min (Ideal.ofBits .f32 0x42FE0000#32) (max (Ideal.ofBits .f32 0xC2FE0000#32)
      (Scalar.select (Ideal.cmp .oeq a (Ideal.ofBits .f32 0x7F800000#32)) (Ideal.ofBits .f32 0x43000000#32)
        (min (Ideal.liftRound Int.floor (Ideal.div (Ideal.log a) (Ideal.log (Ideal.ofBits .f32 0x40000000#32)))) (Ideal.ofBits .f32 0x42FE0000#32))
        - Ideal.ofBits .f32 0x41000000#32)))

theorem select_ofBool {α : Type} (p : Prop) [Decidable p] (x y : α) : Scalar.select (BitVec.ofBool (decide p)) x y = if p then x else y := by
  unfold Scalar.select; simp only [ofBool_eq_one]

theorem coe_min' (x y : ℝ) : min (x : EReal) (y : EReal) = ((min x y : ℝ) : EReal) := (EReal.coe_strictMono.monotone.map_min).symm
theorem coe_max' (x y : ℝ) : max (x : EReal) (y : EReal) = ((max x y : ℝ) : EReal) := (EReal.coe_strictMono.monotone.map_max).symm

theorem floor_log (r : ℝ) (hr : 0 < r) :
    (2 : ℝ) ^ ⌊Real.log r / Real.log 2⌋ ≤ r ∧ r < (2 : ℝ) ^ (⌊Real.log r / Real.log 2⌋ + 1) := by
  have h2 : 0 < Real.log 2 := Real.log_pos (by norm_num)
  have p : ∀ k : ℤ, (2 : ℝ) ^ k = Real.exp (k * Real.log 2) := fun k => by
    rw [mul_comm, Real.exp_mul, Real.exp_log (by norm_num), Real.rpow_intCast]
  have hl := Int.floor_le (Real.log r / Real.log 2)
  have hu := Int.lt_floor_add_one (Real.log r / Real.log 2)
  rw [le_div_iff₀ h2] at hl
  rw [div_lt_iff₀ h2] at hu
  refine ⟨?_, ?_⟩
  · rw [p, ← Real.le_log_iff_exp_le hr]; exact hl
  · rw [p, ← Real.log_lt_iff_lt_exp hr]; push_cast; exact hu

theorem thr_le_coe (e : ℕ) (r : ℝ) (h0 : e ≠ 0) (h1 : e ≠ 255) : thr e ≤ (r : EReal) ↔ (2 : ℝ) ^ ((e : ℤ) - 127) ≤ r := by
  unfold thr; rw [if_neg h1, if_neg h0, EReal.coe_le_coe_iff]

/-- The reference's scale exponent is the scale byte less its bias. -/
theorem refX_eq (a : EReal) (ha : 0 ≤ a) : refX a = (((sbyte a : ℝ) - 127 : ℝ) : EReal) := by
  obtain ⟨i1, i2, i3⟩ := expoN_inv a ha
  unfold refX Ideal.cmp
  simp only [select_ofBool, c_zero, c_127, c_neg127, c_top, c_128, c_2, c_8]
  unfold sbyte
  by_cases hz : a = 0
  · simp [hz]
  rw [if_neg hz, if_neg hz]
  by_cases ht : a = ⊤
  · rw [if_pos ht, ← EReal.coe_sub, coe_max', coe_min']
    have : expoN a = 255 := by
      by_contra hh
      exact i3 (by omega) (by rw [ht]; exact le_top)
    rw [this]; norm_num
  rw [if_neg ht]
  induction a using EReal.rec with
  | bot => exact absurd ha (by simp)
  | top => exact absurd rfl ht
  | coe r =>
    have hr : 0 < r := lt_of_le_of_ne (by exact_mod_cast ha) (fun h => hz (by rw [← h]; rfl))
    have hl2 : Real.log 2 ≠ 0 := (Real.log_pos (by norm_num)).ne'
    rw [Ideal.log_coe, Ideal.log_coe, if_neg (not_le.2 hr), if_neg (by norm_num), Ideal.div_coe hl2, ← EReal.coe_mul,
      Ideal.liftRound_coe, coe_min', ← EReal.coe_sub, coe_max', coe_min', EReal.coe_eq_coe_iff,
      show Real.log r * (1 / Real.log 2) = Real.log r / Real.log 2 by ring]
    obtain ⟨f1, f2⟩ := floor_log r hr
    generalize ⌊Real.log r / Real.log 2⌋ = k at f1 f2
    generalize expoN (r : EReal) = e at i1 i2 i3
    have he : e ≠ 255 := fun h => by rw [h] at i2; simp [thr] at i2
    have b1 : e ≠ 0 → (e : ℤ) - 127 ≤ k := fun h0 => by
      have := (thr_le_coe e r h0 he).1 i2
      have := (zpow_lt_zpow_iff_right₀ (by norm_num : (1 : ℝ) < 2)).1 (lt_of_le_of_lt this f2)
      omega
    have b2 : e ≠ 254 → k < (e : ℤ) + 1 - 127 := fun h0 => by
      have := i3 (by omega)
      rw [thr_le_coe (e + 1) r (by omega) (by omega), not_le] at this
      have := (zpow_lt_zpow_iff_right₀ (by norm_num : (1 : ℝ) < 2)).1 (lt_of_le_of_lt f1 this)
      push_cast at this
      omega
    have key : min 127 (max (-127) (min k 127 - 8)) = ((e - 8 : ℕ) : ℤ) - 127 := by omega
    exact_mod_cast key

theorem exp2_sub (n : ℤ) : Ideal.exp2 (((n : ℝ) : ℝ) : EReal) = (((2 : ℝ) ^ n : ℝ) : EReal) := by
  rw [Ideal.exp2_coe]; congr 1; exact Real.rpow_intCast 2 n

/-- The reference's multiplier. -/
theorem ref_mult (a : EReal) (ha : 0 ≤ a) : Ideal.exp2 (Ideal.ofBits .f32 0x00000000#32 - refX a) = thr (254 - sbyte a) := by
  have h := sbyte_le a ha
  rw [refX_eq a ha, c_zero, ← EReal.coe_zero, ← EReal.coe_sub,
    show (0 - ((sbyte a : ℝ) - 127) : ℝ) = ((127 - (sbyte a : ℤ) : ℤ) : ℝ) by push_cast; ring, exp2_sub]
  unfold thr
  rw [if_neg (by omega), if_neg (by omega)]
  congr 2; omega

/-- The reference's scale. -/
theorem ref_scale (a : EReal) (ha : 0 ≤ a) :
    Scalar.select (Ideal.cmp .oeq (refX a) (Ideal.ofBits .f32 0xC2FE0000#32)) (Ideal.ofBits .f32 0x00000000#32) (Ideal.exp2 (refX a)) = thr (sbyte a) := by
  have h := sbyte_le a ha
  unfold Ideal.cmp
  rw [refX_eq a ha, c_zero, c_neg127]
  simp only [select_ofBool, EReal.coe_eq_coe_iff]
  rw [show (((sbyte a : ℝ) - 127 : ℝ)) = (((sbyte a : ℤ) - 127 : ℤ) : ℝ) by push_cast; ring, exp2_sub]
  unfold thr
  by_cases hb : sbyte a = 0
  · simp [hb]
  · have : ¬ ((((sbyte a : ℤ) - 127 : ℤ) : ℝ) = -127) := by
      intro h'
      have : ((sbyte a : ℤ) - 127 : ℤ) = -127 := by exact_mod_cast h'
      omega
    rw [if_neg this, if_neg (by omega), if_neg hb]

/-- The reference's scale byte. -/
theorem ref_byte (a : EReal) (ha : 0 ≤ a) : Ideal.fptosi 32 (refX a + Ideal.ofBits .f32 0x42FE0000#32) = BitVec.ofNat 32 (sbyte a) := by
  have h := sbyte_le a ha
  rw [refX_eq a ha, c_127, ← EReal.coe_add, show ((sbyte a : ℝ) - 127 + 127 : ℝ) = ((sbyte a : ℤ) : ℝ) by push_cast; ring]
  unfold Ideal.fptosi
  have : Ideal.toIntClamped (-(2 ^ (32 - 1) : Nat)) ((2 ^ (32 - 1) : Nat) - 1) ((((sbyte a : ℤ) : ℝ) : ℝ) : EReal) = (sbyte a : ℤ) := by
    show max _ (min _ (if _ then _ else _)) = _
    rw [Int.floor_intCast, Int.ceil_intCast, ite_self]
    norm_num
    omega
  rw [this]; simp

end Cert.KernelIdeal.Gen.Strip

end
-- ==== Proof.Lanes.lean ====
module

public import proofs.«01_k».proof.Proof.Scalar
public import Idealize.ShloMosaic.Lib.ValueIdx

@[expose] public section

noncomputable section

/-! The lane movements of the strip, read at one lane: the merge of eight tiles' maxima, the gather that hands each
block its multiplier, and the order in which the scale bytes leave. -/

namespace Cert.KernelIdeal.Gen.Strip

open Idealize.ShloMosaic Idealize.ShloMosaic.ValueIdx

theorem lane_apply (r : Fin 16) (l : Fin 128) : lane (ix2 r l) = BitVec.ofNat 32 l.val := by
  unfold lane; rw [iota_single_apply]

theorem wrap_word : ∀ m : Fin 128, Scalar.select (IntOp.cmpi .slt (BitVec.ofNat 32 m.val) 0#32) (BitVec.ofNat 32 m.val + 128#32) (BitVec.ofNat 32 m.val) = BitVec.ofNat 32 m.val := by
  decide +kernel

/-- A lane number in range is kept. -/
theorem wrap_apply (p : IVec S16x128 32) (j : S16x128.Idx) (m : Fin 128) (h : p j = BitVec.ofNat 32 m.val) : wrap p j = BitVec.ofNat 32 m.val := by
  unfold wrap
  rw [shapeCast_shapeCast]
  show Scalar.select (IntOp.cmpi .slt (p j) 0#32) (p j + 128#32) (p j) = _
  rw [h]; exact wrap_word m

/-- A gather by lane numbers, at one lane. -/
theorem gather_apply {α : Type} (x : S16x128.Idx → α) (p : IVec S16x128 32) (r : Fin 16) (l m : Fin 128)
    (h : p (ix2 r l) = BitVec.ofNat 32 m.val) : dynamicGather 1 x (wrap p) (ix2 r l) = x (ix2 r m) := by
  have hw := wrap_apply p _ m h
  unfold dynamicGather
  congr 1
  funext b
  match b with
  | ⟨0, _⟩ => rfl
  | ⟨1, _⟩ =>
    refine (if_pos rfl).trans ?_
    apply Fin.ext
    show (wrap p (ix2 r l)).toNat % 128 = m.val
    rw [hw, BitVec.toNat_ofNat]; have := m.isLt; omega

/-- The lane across a bit. -/
def sw (s l : Fin 128) : Fin 128 := ⟨l.val ^^^ s.val, Nat.xor_lt_two_pow (n := 7) l.isLt s.isLt⟩

theorem sw_sw (s t l : Fin 128) : sw t (sw s l) = sw (sw t s) l := Fin.ext (Nat.xor_assoc _ _ _)

theorem perm_apply {α : Type} (x : S16x128.Idx → α) (s : Fin 128) (r : Fin 16) (l : Fin 128) :
    dynamicGather 1 x (perm (BitVec.ofNat 32 s.val)) (ix2 r l) = x (ix2 r (sw s l)) := by
  refine gather_apply x _ r l (sw s l) ?_
  show lane (ix2 r l) ^^^ BitVec.ofNat 32 s.val = BitVec.ofNat 32 (l.val ^^^ s.val)
  rw [lane_apply]
  apply BitVec.eq_of_getLsbD_eq
  intro i hi
  simp [BitVec.getLsbD_xor, BitVec.getLsbD_ofNat, Nat.testBit_xor, hi]

/-- Whether a lane's number has the bit `s` clear. -/
def clr (s l : Fin 128) : Bool := l.val &&& s.val == 0

theorem bit_apply {α : Type} (a b : S16x128.Idx → α) (s : Fin 128) (r : Fin 16) (l : Fin 128) :
    select (bit (BitVec.ofNat 32 s.val)) a b (ix2 r l) = if clr s l then a (ix2 r l) else b (ix2 r l) := by
  show Scalar.select (IntOp.cmpi .eq (lane (ix2 r l) &&& BitVec.ofNat 32 s.val) 0#32) _ _ = _
  rw [lane_apply]
  have h : IntOp.cmpi .eq (BitVec.ofNat 32 l.val &&& BitVec.ofNat 32 s.val) 0#32 = BitVec.ofBool (clr s l) := by
    show BitVec.ofBool _ = _
    congr 1
    unfold clr
    have e : (BitVec.ofNat 32 l.val &&& BitVec.ofNat 32 s.val).toNat = l.val &&& s.val := by
      rw [BitVec.toNat_and, BitVec.toNat_ofNat, BitVec.toNat_ofNat, Nat.mod_eq_of_lt (by omega), Nat.mod_eq_of_lt (by omega)]
    rw [Bool.eq_iff_iff, beq_iff_eq, beq_iff_eq, ← e, ← BitVec.toNat_inj]; rfl
  rw [h]
  cases clr s l <;> rfl

/-- A family of lane values `A` is the maximum, at each lane, of what the lane's tile `f` holds at the lanes across `K`. -/
def IsMax (K : List (Fin 128)) (f : Fin 128 → Fin 128 → EReal) (A : Fin 128 → EReal) : Prop :=
  ∀ l x, A l ≤ x ↔ ∀ k ∈ K, f l (sw k l) ≤ x

/-- The tile of a lane after a merge. -/
def pickT (s : Fin 128) (f g : Fin 128 → Fin 128 → EReal) : Fin 128 → Fin 128 → EReal := fun l => if clr s l then f l else g l

theorem fold_isMax (s : Fin 128) (K : List (Fin 128)) (f : Fin 128 → Fin 128 → EReal) (a : FVec Ideal S16x128 .f32) (r : Fin 16)
    (h : IsMax K f fun l => a (ix2 r l)) (hf : ∀ l, f (sw s l) = f l) :
    IsMax (K ++ K.map fun k => sw k s) f fun l => fold (BitVec.ofNat 32 s.val) a (ix2 r l) := by
  intro l x
  show max (a (ix2 r l)) (dynamicGather 1 a (perm (BitVec.ofNat 32 s.val)) (ix2 r l)) ≤ x ↔ _
  rw [perm_apply, max_le_iff, h l x, h (sw s l) x, hf]
  simp only [List.mem_append, List.mem_map, sw_sw]
  constructor
  · rintro ⟨h1, h2⟩ k (hk | ⟨k', hk, rfl⟩)
    · exact h1 k hk
    · exact h2 k' hk
  · intro h
    exact ⟨fun k hk => h k (.inl hk), fun k hk => h _ (.inr ⟨k, hk, rfl⟩)⟩

theorem merge_isMax (s : Fin 128) (hs : ∀ l, clr s (sw s l) = !clr s l) (K : List (Fin 128)) (f g : Fin 128 → Fin 128 → EReal)
    (a b : FVec Ideal S16x128 .f32) (r : Fin 16)
    (ha : IsMax K f fun l => a (ix2 r l)) (hb : IsMax K g fun l => b (ix2 r l)) (hf : ∀ l, f (sw s l) = f l) (hg : ∀ l, g (sw s l) = g l) :
    IsMax (K ++ K.map fun k => sw k s) (pickT s f g) fun l => merge (BitVec.ofNat 32 s.val) a b (ix2 r l) := by
  intro l x
  show max (select (bit (BitVec.ofNat 32 s.val)) a b (ix2 r l)) (dynamicGather 1 (select (bit (BitVec.ofNat 32 s.val)) b a) (perm (BitVec.ofNat 32 s.val)) (ix2 r l)) ≤ x ↔ _
  rw [perm_apply, bit_apply, bit_apply, hs, max_le_iff]
  unfold pickT
  simp only [List.mem_append, List.mem_map]
  cases clr s l
  · simp only [Bool.not_false, if_true]
    rw [if_neg (by simp), if_neg (by simp)]
    have h1 := hb l x
    have h2 := hb (sw s l) x
    rw [hg] at h2
    simp only [sw_sw] at h2
    rw [h1, h2]
    constructor
    · rintro ⟨h1, h2⟩ k (hk | ⟨k', hk, rfl⟩)
      · exact h1 k hk
      · exact h2 k' hk
    · intro h
      exact ⟨fun k hk => h k (.inl hk), fun k hk => h _ (.inr ⟨k, hk, rfl⟩)⟩
  · simp only [Bool.not_true, if_true]
    rw [if_neg (by simp)]
    have h1 := ha l x
    have h2 := ha (sw s l) x
    rw [hf] at h2
    simp only [sw_sw] at h2
    rw [h1, h2]
    constructor
    · rintro ⟨h1, h2⟩ k (hk | ⟨k', hk, rfl⟩)
      · exact h1 k hk
      · exact h2 k' hk
    · intro h
      exact ⟨fun k hk => h k (.inl hk), fun k hk => h _ (.inr ⟨k, hk, rfl⟩)⟩

theorem leaf_isMax (t : FVec Ideal S16x128 .f32) (r : Fin 16) : IsMax [0] (fun _ l => t (ix2 r l)) fun l => t (ix2 r l) := by
  intro l x
  have : sw 0 l = l := Fin.ext (Nat.xor_zero _)
  simp [this]

theorem clr16 : ∀ l, clr 16 (sw 16 l) = !clr 16 l := by decide +kernel
theorem clr8 : ∀ l, clr 8 (sw 8 l) = !clr 8 l := by decide +kernel
theorem clr4 : ∀ l, clr 4 (sw 4 l) = !clr 4 l := by decide +kernel
theorem clr16' : ∀ l, clr 16 (sw 8 l) = clr 16 l ∧ clr 16 (sw 4 l) = clr 16 l ∧ clr 16 (sw 2 l) = clr 16 l ∧ clr 16 (sw 1 l) = clr 16 l := by decide +kernel
theorem clr8' : ∀ l, clr 8 (sw 4 l) = clr 8 l ∧ clr 8 (sw 2 l) = clr 8 l ∧ clr 8 (sw 1 l) = clr 8 l := by decide +kernel
theorem clr4' : ∀ l, clr 4 (sw 2 l) = clr 4 l ∧ clr 4 (sw 1 l) = clr 4 l := by decide +kernel

/-- The lanes across every set of the low five bits. -/
def K5 : List (Fin 128) :=
  let K1 := [0] ++ [0].map fun k => sw k 16
  let K2 := K1 ++ K1.map fun k => sw k 8
  let K3 := K2 ++ K2.map fun k => sw k 4
  let K4 := K3 ++ K3.map fun k => sw k 2
  K4 ++ K4.map fun k => sw k 1

/-- The tile whose maxima a lane ends with. -/
def tileOf (t : Fin 8 → Fin 128 → EReal) : Fin 128 → Fin 128 → EReal :=
  pickT 4 (pickT 8 (pickT 16 (fun _ => t 0) fun _ => t 1) (pickT 16 (fun _ => t 2) fun _ => t 3))
    (pickT 8 (pickT 16 (fun _ => t 4) fun _ => t 5) (pickT 16 (fun _ => t 6) fun _ => t 7))

theorem maxOf_isMax (t : Fin 8 → FVec Ideal S16x128 .f32) (r : Fin 16) :
    IsMax K5 (tileOf fun j l => t j (ix2 r l)) fun l => maxOf (t 0) (t 1) (t 2) (t 3) (t 4) (t 5) (t 6) (t 7) (ix2 r l) := by
  have m16 : ∀ j k : Fin 8, _ := fun j k => merge_isMax 16 clr16 [0] _ _ (t j) (t k) r (leaf_isMax (t j) r) (leaf_isMax (t k) r) (fun _ => rfl) (fun _ => rfl)
  have m8 : ∀ j k j' k' : Fin 8, _ := fun j k j' k' => merge_isMax 8 clr8 _ _ _ _ _ r (m16 j k) (m16 j' k')
    (fun l => by simp only [pickT, clr16']) (fun l => by simp only [pickT, clr16'])
  have m4 := merge_isMax 4 clr4 _ _ _ _ _ r (m8 0 1 2 3) (m8 4 5 6 7)
    (fun l => by simp only [pickT, clr16', clr8']) (fun l => by simp only [pickT, clr16', clr8'])
  have m2 := fold_isMax 2 _ _ _ r m4 (fun l => by simp only [pickT, clr16', clr8', clr4'])
  have m1 := fold_isMax 1 _ _ _ r m2 (fun l => by simp only [pickT, clr16', clr8', clr4'])
  exact m1

/-- The lane of tile `j`'s group `q`. -/
def ln (q : Fin 4) (j : Fin 8) : Fin 128 := ⟨32 * q.val + (offs j).toNat % 32, by omega⟩

theorem ln_clr : ∀ q j, clr 16 (ln q j) = (j.val % 2 == 0) ∧ clr 8 (ln q j) = (j.val / 2 % 2 == 0) ∧ clr 4 (ln q j) = (j.val / 4 == 0) := by decide +kernel

theorem tileOf_ln (t : Fin 8 → Fin 128 → EReal) (q : Fin 4) (j : Fin 8) : tileOf t (ln q j) = t j := by
  obtain ⟨h1, h2, h3⟩ := ln_clr q j
  unfold tileOf pickT
  simp only [h1, h2, h3]
  fin_cases j <;> rfl

/-- Column `i` of group `q`. -/
def col (q : Fin 4) (i : Fin 32) : Fin 128 := ⟨32 * q.val + i.val, by omega⟩

theorem K5_cover : ∀ (q : Fin 4) (j : Fin 8), (∀ k ∈ K5, ∃ i, sw k (ln q j) = col q i) ∧ ∀ i, ∃ k ∈ K5, sw k (ln q j) = col q i := by decide +kernel

/-- THE MERGE: at tile `j`'s lane of group `q` lies the maximum of that tile's group. -/
theorem maxOf_ln (t : Fin 8 → FVec Ideal S16x128 .f32) (r : Fin 16) (q : Fin 4) (j : Fin 8) :
    maxOf (t 0) (t 1) (t 2) (t 3) (t 4) (t 5) (t 6) (t 7) (ix2 r (ln q j)) = Finset.univ.sup fun i : Fin 32 => t j (ix2 r (col q i)) := by
  apply eq_of_forall_ge_iff
  intro x
  rw [maxOf_isMax t r (ln q j) x, tileOf_ln, Finset.sup_le_iff]
  obtain ⟨h1, h2⟩ := K5_cover q j
  constructor
  · intro h i _
    obtain ⟨k, hk, e⟩ := h2 i
    rw [← e]; exact h k hk
  · intro h k hk
    obtain ⟨i, e⟩ := h1 k hk
    rw [e]; exact h i (Finset.mem_univ _)

theorem group_word : ∀ (l : Fin 128) (j : Fin 8), IntOp.shli .vector (IntOp.shrsi .vector (BitVec.ofNat 32 l.val) 5#32) 5#32 + offs j
    = BitVec.ofNat 32 (ln ⟨l.val / 32, by omega⟩ j).val := by decide +kernel

/-- The gather hands lane `l` the word at tile `j`'s lane of its own group. -/
theorem gath_apply (w : IVec S16x128 32) (j : Fin 8) (r : Fin 16) (l : Fin 128) :
    gath w (offs j) (ix2 r l) = w (ix2 r (ln ⟨l.val / 32, by omega⟩ j)) := by
  refine gather_apply w _ r l _ ?_
  show IntOp.shli .vector (IntOp.shrsi .vector (lane (ix2 r l)) 5#32) 5#32 + offs j = _
  rw [lane_apply]; exact group_word l j

/-- The lane that holds a block's scale byte, on one word. -/
def srcS (w : BitVec 32) : BitVec 32 :=
  let p (q o e : BitVec 32) : BitVec 32 := Scalar.select (IntOp.cmpi .eq (IntOp.shrsi .vector w 2#32) q)
    (IntOp.shli .vector (w &&& 3#32) 5#32 + o) e
  p 7#32 28#32 (p 6#32 12#32 (p 5#32 20#32 (p 4#32 4#32 (p 3#32 24#32 (p 2#32 8#32 (p 1#32 16#32 (p 0#32 0#32 0#32)))))))

theorem src_word : ∀ l : Fin 32, srcS (BitVec.ofNat 32 l.val) = BitVec.ofNat 32 (ln ⟨l.val % 4, by omega⟩ ⟨l.val / 4, by omega⟩).val := by decide +kernel

/-- The scale bytes leave in the order of their blocks. -/
theorem src_apply (r : Fin 16) (l : Fin 32) :
    src (ix2 r (⟨l.val, by omega⟩ : Fin 128)) = BitVec.ofNat 32 (ln ⟨l.val % 4, by omega⟩ ⟨l.val / 4, by omega⟩).val := by
  have : src (ix2 r (⟨l.val, by omega⟩ : Fin 128)) = srcS (lane (ix2 r (⟨l.val, by omega⟩ : Fin 128))) := rfl
  rw [this, lane_apply]; exact src_word l

end Cert.KernelIdeal.Gen.Strip

end
-- ==== Proof.StripValue.lean ====
module

public import proofs.«01_k».proof.Proof.Lanes

@[expose] public section

noncomputable section

/-! What a strip stores, read at one element: the code, the decoded value and the scale byte of a block, by the
block's maximum. -/

namespace Cert.KernelIdeal.Gen.Strip

open Idealize.ShloMosaic Idealize.ShloMosaic.ValueIdx

/-- The code of `x` under the scale byte `b`. -/
def qcode (x : EReal) (b : ℕ) : EReal := min ((448 : ℝ) : EReal) (max ((-448 : ℝ) : EReal) (x * thr (254 - b)))

/-- The decoded value of `x` under the scale byte `b`. -/
def qval (x : EReal) (b : ℕ) : EReal := qcode x b * thr b

/-- The largest magnitude of 32 numbers. -/
def amax (f : Fin 32 → EReal) : EReal := Finset.univ.sup fun i => max (f i) (-f i)

theorem abs_nonneg' (x : EReal) : 0 ≤ max x (-x) := by
  rcases le_total 0 x with h | h
  · exact le_max_of_le_left h
  · exact le_max_of_le_right (by rw [EReal.le_neg]; simpa using h)

theorem amax_nonneg (f : Fin 32 → EReal) : 0 ≤ amax f :=
  (abs_nonneg' (f 0)).trans (Finset.le_sup (f := fun i => max (f i) (-f i)) (Finset.mem_univ 0))

theorem top_apply {α : Type} (t : S32x128.Idx → α) (r : Fin 16) (l : Fin 128) :
    extractStridedSlice S16x128 ![0, 0] t slices_S32x128_o0_0_S16x128 (ix2 r l) = t (ix2 (⟨r.val, by omega⟩ : Fin 32) l) :=
  extractStridedSlice_apply _ t _ _ _ fun a => match a with | ⟨0, _⟩ => (Nat.zero_add _).symm | ⟨1, _⟩ => (Nat.zero_add _).symm

theorem bot_apply {α : Type} (t : S32x128.Idx → α) (r : Fin 16) (l : Fin 128) :
    extractStridedSlice S16x128 ![16, 0] t slices_S32x128_o16_0_S16x128 (ix2 r l) = t (ix2 (⟨16 + r.val, by omega⟩ : Fin 32) l) :=
  extractStridedSlice_apply _ t _ _ _ fun a => match a with | ⟨0, _⟩ => rfl | ⟨1, _⟩ => (Nat.zero_add _).symm

/-- The largest magnitude of a block of the strip: row `R`, tile `j`, group `q`. -/
def blk (g : Fin 8 → FVec Ideal S32x128 .f32) (R : Fin 32) (j : Fin 8) (q : Fin 4) : EReal := amax fun i => g j (ix2 R (col q i))

theorem byteT_ln (g : Fin 8 → FVec Ideal S32x128 .f32) (r : Fin 16) (q : Fin 4) (j : Fin 8) :
    byteT g (ix2 r (ln q j)) = BitVec.ofNat 32 (sbyte (blk g ⟨r.val, by omega⟩ j q)) := by
  have h := maxOf_ln (fun j => absf (top (g j))) r q j
  have e : (Finset.univ.sup fun i : Fin 32 => absf (top (g j)) (ix2 r (col q i))) = blk g ⟨r.val, by omega⟩ j q := by
    unfold blk amax
    refine Finset.sup_congr rfl fun i _ => ?_
    show max (top (g j) (ix2 r (col q i))) (-top (g j) (ix2 r (col q i))) = _
    unfold top; rw [top_apply]
  rw [e] at h
  unfold byteT
  rw [byte_apply _ _ (by rw [h]; exact amax_nonneg _), h]

theorem byteB_ln (g : Fin 8 → FVec Ideal S32x128 .f32) (r : Fin 16) (q : Fin 4) (j : Fin 8) :
    byteB g (ix2 r (ln q j)) = BitVec.ofNat 32 (sbyte (blk g ⟨16 + r.val, by omega⟩ j q)) := by
  have h := maxOf_ln (fun j => absf (bot (g j))) r q j
  have e : (Finset.univ.sup fun i : Fin 32 => absf (bot (g j)) (ix2 r (col q i))) = blk g ⟨16 + r.val, by omega⟩ j q := by
    unfold blk amax
    refine Finset.sup_congr rfl fun i _ => ?_
    show max (bot (g j) (ix2 r (col q i))) (-bot (g j) (ix2 r (col q i))) = _
    unfold bot; rw [bot_apply]
  rw [e] at h
  unfold byteB
  rw [byte_apply _ _ (by rw [h]; exact amax_nonneg _), h]

theorem word_ln (g : Fin 8 → FVec Ideal S32x128 .f32) (r : Fin 16) (q : Fin 4) (j : Fin 8) :
    word g (ix2 r (ln q j)) = BitVec.ofNat 32 (254 - sbyte (blk g ⟨r.val, by omega⟩ j q)) <<< 23
      ||| BitVec.ofNat 32 (254 - sbyte (blk g ⟨16 + r.val, by omega⟩ j q)) <<< 7 := by
  have ht := word_sub ⟨sbyte (blk g ⟨r.val, by omega⟩ j q), Nat.lt_succ_of_le (sbyte_le _ (amax_nonneg _))⟩
  have hb := word_sub ⟨sbyte (blk g ⟨16 + r.val, by omega⟩ j q), Nat.lt_succ_of_le (sbyte_le _ (amax_nonneg _))⟩
  rw [← ht, ← hb]
  show IntOp.shli .vector (254#32 - byteT g (ix2 r (ln q j))) 23#32 ||| IntOp.shli .vector (254#32 - byteB g (ix2 r (ln q j))) 7#32 = _
  rw [byteT_ln, byteB_ln]
  rfl

theorem hiW_apply (g : Fin 8 → FVec Ideal S32x128 .f32) (j : Fin 8) (r : Fin 16) (l : Fin 128) :
    hiW (word g) (offs j) (ix2 r l) = BitVec.ofNat 32 (254 - sbyte (blk g ⟨r.val, by omega⟩ j ⟨l.val / 32, by omega⟩)) <<< 23 := by
  show gath (word g) (offs j) (ix2 r l) &&& 4294901760#32 = _
  rw [gath_apply, word_ln, pack_hi _ _ (by omega) (by omega)]

theorem loW_apply (g : Fin 8 → FVec Ideal S32x128 .f32) (j : Fin 8) (r : Fin 16) (l : Fin 128) :
    loW (word g) (offs j) (ix2 r l) = BitVec.ofNat 32 (254 - sbyte (blk g ⟨16 + r.val, by omega⟩ j ⟨l.val / 32, by omega⟩)) <<< 23 := by
  show IntOp.shli .vector (gath (word g) (offs j) (ix2 r l)) 16#32 = _
  rw [gath_apply, word_ln]
  exact pack_lo _ _

theorem codesHalf_apply (x : FVec Ideal S16x128 .f32) (k : IVec S16x128 32) (i : S16x128.Idx) (b : ℕ)
    (h : k i = BitVec.ofNat 32 (254 - b) <<< 23) : codesHalf x k i = qcode (x i) b := by
  show min (Ideal.ofBits .f32 0x43E00000#32) (max (Ideal.ofBits .f32 0xC3E00000#32) (x i * Ideal.ofBits .f32 (k i))) = _
  rw [h, ofBits_field _ (by omega), c_448, c_neg448]; rfl

theorem valsHalf_words (x : FVec Ideal S16x128 .f32) (k : IVec S16x128 32) (w : BitVec 32) (i : S16x128.Idx) :
    (truncf .bf16 (mulf (extf .f32 (codesHalf x k) bitsLt_fp8e4m3_f32) (bitcastToFloat .f32 (subi (broadcast S16x128 w) k))) bitsLt_bf16_f32 : FVec Ideal S16x128 .bf16) i
      = codesHalf x k i * Ideal.ofBits .f32 (w - k i) := rfl

theorem valsHalf_apply (x : FVec Ideal S16x128 .f32) (k : IVec S16x128 32) (i : S16x128.Idx) (b : ℕ) (hb : b ≤ 247)
    (h : k i = BitVec.ofNat 32 (254 - b) <<< 23) : valsHalf x k i = qval (x i) b := by
  have hw : 2130706432#32 - BitVec.ofNat 32 (254 - b) <<< 23 = BitVec.ofNat 32 b <<< 23 := word_inv ⟨b, by omega⟩
  have hv := valsHalf_words x k 2130706432#32 i
  rw [codesHalf_apply x k i b h, h, hw, ofBits_field b (by omega)] at hv
  exact hv

theorem concat_lo {α : Type} (x y : S16x128.Idx → α) (r : Fin 16) (l : Fin 128) :
    concatenate S32x128 0 [⟨S16x128, x⟩, ⟨S16x128, y⟩] concatenates_S16x128_S16x128_S32x128_d0 (ix2 (⟨r.val, by omega⟩ : Fin 32) l) = x (ix2 r l) :=
  concatenate_pair_apply_left (t := S32x128) 0 x y concatenates_S16x128_S16x128_S32x128_d0 (ix2 (⟨r.val, by omega⟩ : Fin 32) l) rfl (ix2 r l) fun b => match b with | ⟨0, _⟩ => rfl | ⟨1, _⟩ => rfl

theorem concat_hi {α : Type} (x y : S16x128.Idx → α) (r : Fin 16) (l : Fin 128) :
    concatenate S32x128 0 [⟨S16x128, x⟩, ⟨S16x128, y⟩] concatenates_S16x128_S16x128_S32x128_d0 (ix2 (⟨16 + r.val, by omega⟩ : Fin 32) l) = y (ix2 r l) :=
  concatenate_pair_apply_right (t := S32x128) 0 x y concatenates_S16x128_S16x128_S32x128_d0 (ix2 (⟨16 + r.val, by omega⟩ : Fin 32) l) rfl rfl (ix2 r l) (fun b => match b with | ⟨0, _⟩ => fun h => absurd rfl h | ⟨1, _⟩ => fun _ => rfl) (Nat.add_comm r.val 16)

/-- A row of the strip lies in its upper or in its lower half. -/
theorem row_cases (R : Fin 32) : (∃ r : Fin 16, R = ⟨r.val, by omega⟩) ∨ ∃ r : Fin 16, R = ⟨16 + r.val, by omega⟩ := by
  by_cases h : R.val < 16
  · exact .inl ⟨⟨R.val, h⟩, rfl⟩
  · exact .inr ⟨⟨R.val - 16, by omega⟩, Fin.ext (by show R.val = 16 + (R.val - 16); omega)⟩

/-- A strip's codes at one element. -/
theorem codes_apply (g : Fin 8 → FVec Ideal S32x128 .f32) (j : Fin 8) (R : Fin 32) (l : Fin 128) :
    codes (g j) (word g) (offs j) (ix2 R l) = qcode (g j (ix2 R l)) (sbyte (blk g R j ⟨l.val / 32, by omega⟩)) := by
  unfold codes
  rcases row_cases R with ⟨r, rfl⟩ | ⟨r, rfl⟩
  · rw [concat_lo, codesHalf_apply _ _ _ _ (hiW_apply g j r l)]; unfold top; rw [top_apply]
  · rw [concat_hi, codesHalf_apply _ _ _ _ (loW_apply g j r l)]; unfold bot; rw [bot_apply]

/-- A strip's decoded values at one element. -/
theorem vals_apply (g : Fin 8 → FVec Ideal S32x128 .f32) (j : Fin 8) (R : Fin 32) (l : Fin 128) :
    vals (g j) (word g) (offs j) (ix2 R l) = qval (g j (ix2 R l)) (sbyte (blk g R j ⟨l.val / 32, by omega⟩)) := by
  unfold vals
  rw [shapeCast_self]
  have hb := sbyte_le _ (amax_nonneg fun i => g j (ix2 R (col ⟨l.val / 32, by omega⟩ i)))
  rcases row_cases R with ⟨r, rfl⟩ | ⟨r, rfl⟩
  · rw [concat_lo, valsHalf_apply _ _ _ _ hb (hiW_apply g j r l)]; unfold top; rw [top_apply]; rfl
  · rw [concat_hi, valsHalf_apply _ _ _ _ hb (loW_apply g j r l)]; unfold bot; rw [bot_apply]; rfl

/-- A strip's scale bytes at one element: block `l` is group `l % 4` of tile `l / 4`. -/
theorem scales_apply (g : Fin 8 → FVec Ideal S32x128 .f32) (R : Fin 32) (l : Fin 32) :
    scales (byteT g) (byteB g) (ix3 (0 : Fin 1) R l) = BitVec.ofNat 8 (sbyte (blk g R ⟨l.val / 4, by omega⟩ ⟨l.val % 4, by omega⟩)) := by
  unfold scales
  have hi : (fun a : Fin 2 => ix3 (0 : Fin 1) R l a.succ) = ix2 R l := funext fun a => match a with | ⟨0, _⟩ => rfl | ⟨1, _⟩ => rfl
  refine (shapeCast_addUnit_apply ![32, 32] _ _ _).trans ((congrArg _ hi).trans ?_)
  refine (congrArg (BitVec.setWidth 8) (extractStridedSlice_apply (s := S32x128) (t := S32x32) ![0, 0] _ slices_S32x128_o0_0_S32x32 (ix2 R l) (ix2 R (⟨l.val, by omega⟩ : Fin 128))
    fun a => match a with | ⟨0, _⟩ => (Nat.zero_add _).symm | ⟨1, _⟩ => (Nat.zero_add _).symm)).trans ?_
  have hs : ∀ n, (BitVec.ofNat 32 n).setWidth 8 = BitVec.ofNat 8 n := fun n => BitVec.eq_of_toNat_eq (by simp)
  rcases row_cases R with ⟨r, rfl⟩ | ⟨r, rfl⟩
  · rw [concat_lo, gather_apply _ _ _ _ _ (src_apply r l), byteT_ln, hs]
  · rw [concat_hi, gather_apply _ _ _ _ _ (src_apply r l), byteB_ln, hs]

end Cert.KernelIdeal.Gen.Strip

end
-- ==== Proof.Model.lean ====
module

public import proofs.«01_k».proof.Proof.StripValue

@[expose] public section

noncomputable section

/-! The feed-forward layer as functions of its five arrays, by row and column: the gated activations, their block codes,
decoded values and scale bytes, and the result rows. -/

namespace Cert.KernelIdeal.Gen.Strip

open Idealize.ShloMosaic Idealize.ShloMosaic.ValueIdx

/-- One gated activation. -/
def gs (a b : EReal) : EReal := a * Ideal.logistic a * b

theorem amax_congr {f g : Fin 32 → EReal} (h : ∀ i, f i = g i) : amax f = amax g := by rw [funext h]

/-- An array of two axes at Ideal. -/
abbrev Arr (a b : ℕ) : Type := (⟨2, ![a, b]⟩ : Shape).Idx → EReal

/-- The product of row `r` of `x` and row `c` of `w`. -/
def dotr {a b n : ℕ} (x : Arr a n) (w : Arr b n) (r : Fin a) (c : Fin b) : EReal := ∑ k : Fin n, x (ix2 r k) * w (ix2 c k)

section Model

variable (a0 : Arr 12288 2048) (a1 : Arr 12288 2048) (a2 a3 : Arr 8192 2048) (a4 : Arr 2048 8192)

/-- The gated activation of row `r` and column `c`. -/
def act (r : Fin 12288) (c : Fin 8192) : EReal := gs (dotr a0 a2 r c) (dotr a0 a3 r c)

/-- The scale byte of block `b` of row `r`. -/
def sb (r : Fin 12288) (b : Fin 256) : ℕ := sbyte (amax fun i : Fin 32 => act a0 a2 a3 r ⟨32 * b.val + i.val, by omega⟩)

/-- The code of row `r` and column `c`. -/
def code (r : Fin 12288) (c : Fin 8192) : EReal := qcode (act a0 a2 a3 r c) (sb a0 a2 a3 r ⟨c.val / 32, by omega⟩)

/-- The decoded value of row `r` and column `c`. -/
def dec (r : Fin 12288) (c : Fin 8192) : EReal := qval (act a0 a2 a3 r c) (sb a0 a2 a3 r ⟨c.val / 32, by omega⟩)

/-- The result of row `r` and column `d`. -/
def res (r : Fin 12288) (d : Fin 2048) : EReal := a1 (ix2 r d) + ∑ c : Fin 8192, dec a0 a2 a3 r c * a4 (ix2 d c)

/-- One product of the last matrix product, zero past the last column. -/
def term (r : Fin 12288) (d : Fin 2048) (c : ℕ) : EReal := if h : c < 8192 then dec a0 a2 a3 r ⟨c, h⟩ * a4 (ix2 d ⟨c, h⟩) else 0

/-- The result is the residual plus all products. -/
theorem res_eq (r : Fin 12288) (d : Fin 2048) : res a0 a1 a2 a3 a4 r d = a1 (ix2 r d) + ∑ c ∈ Finset.range 8192, term a0 a2 a3 a4 r d c := by
  unfold res
  rw [Finset.sum_range]
  refine congrArg (a1 (ix2 r d) + ·) (Finset.sum_congr rfl fun c _ => ?_)
  unfold term
  rw [dif_pos c.isLt]

/-- A further 1024 columns. -/
theorem sum_step (r : Fin 12288) (d : Fin 2048) (n : ℕ) :
    ∑ c ∈ Finset.range (n + 1024), term a0 a2 a3 a4 r d c = ∑ c ∈ Finset.range n, term a0 a2 a3 a4 r d c + ∑ c : Fin 1024, term a0 a2 a3 a4 r d (n + c.val) := by
  rw [Finset.sum_range_add, Finset.sum_range fun c => term a0 a2 a3 a4 r d (n + c)]

end Model

end Cert.KernelIdeal.Gen.Strip

end
-- ==== Proof.Trip.lean ====
module

public import proofs.«01_k».proof.Proof.Strip

@[expose] public section

set_option maxRecDepth 8192

noncomputable section

/-! What one trip of the strip loop stores: the pieces its run found, in the vocabulary of the strip. -/

namespace Cert.KernelIdeal.Gen.Strip

open Idealize.ShloMosaic Idealize.ShloMosaic.TcCoe Idealize.ShloMosaic.Tactic Idealize.SL.Sem

variable {F : FTy → Type} [FloatOps F]

/-- The codes a trip stores. -/
theorem trip_codes (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt F) arg11.view.ty) (X_arg12 : BufTy.Contents (Elt F) arg12.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 X_arg11 X_arg12 k).1 = [
      ⟨(Rect.unit (s := S512x1024) (k0_off8 k) S32x128.size (k0_off8_inb k)), codes ((tiles arg11 arg12 X_arg11 X_arg12 k) 7) (word (tiles arg11 arg12 X_arg11 X_arg12 k)) 28#32⟩,
      ⟨(Rect.unit (s := S512x1024) (k0_off7 k) S32x128.size (k0_off7_inb k)), codes ((tiles arg11 arg12 X_arg11 X_arg12 k) 6) (word (tiles arg11 arg12 X_arg11 X_arg12 k)) 12#32⟩,
      ⟨(Rect.unit (s := S512x1024) (k0_off6 k) S32x128.size (k0_off6_inb k)), codes ((tiles arg11 arg12 X_arg11 X_arg12 k) 5) (word (tiles arg11 arg12 X_arg11 X_arg12 k)) 20#32⟩,
      ⟨(Rect.unit (s := S512x1024) (k0_off5 k) S32x128.size (k0_off5_inb k)), codes ((tiles arg11 arg12 X_arg11 X_arg12 k) 4) (word (tiles arg11 arg12 X_arg11 X_arg12 k)) 4#32⟩,
      ⟨(Rect.unit (s := S512x1024) (k0_off4 k) S32x128.size (k0_off4_inb k)), codes ((tiles arg11 arg12 X_arg11 X_arg12 k) 3) (word (tiles arg11 arg12 X_arg11 X_arg12 k)) 24#32⟩,
      ⟨(Rect.unit (s := S512x1024) (k0_off3 k) S32x128.size (k0_off3_inb k)), codes ((tiles arg11 arg12 X_arg11 X_arg12 k) 2) (word (tiles arg11 arg12 X_arg11 X_arg12 k)) 8#32⟩,
      ⟨(Rect.unit (s := S512x1024) (k0_off2 k) S32x128.size (k0_off2_inb k)), codes ((tiles arg11 arg12 X_arg11 X_arg12 k) 1) (word (tiles arg11 arg12 X_arg11 X_arg12 k)) 16#32⟩,
      ⟨(Rect.unit (s := S512x1024) (k0_off1 k) S32x128.size (k0_off1_inb k)), codes ((tiles arg11 arg12 X_arg11 X_arg12 k) 0) (word (tiles arg11 arg12 X_arg11 X_arg12 k)) 0#32⟩] := by
  unfold trip_k0_t1
  dsimp only
  sl_unfold_words
  rfl

/-- The scale bytes a trip stores. -/
theorem trip_scales (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt F) arg11.view.ty) (X_arg12 : BufTy.Contents (Elt F) arg12.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 X_arg11 X_arg12 k).2.1 = [⟨(Rect.unit (s := S1x512x32) (k0_off9 k) S1x32x32.size (k0_off9_inb k)), scales (byteT (tiles arg11 arg12 X_arg11 X_arg12 k)) (byteB (tiles arg11 arg12 X_arg11 X_arg12 k))⟩] := by
  unfold trip_k0_t1
  dsimp only
  sl_unfold_words
  rfl

/-- The decoded values a trip stores. -/
theorem trip_vals (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt F) arg11.view.ty) (X_arg12 : BufTy.Contents (Elt F) arg12.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 X_arg11 X_arg12 k).2.2.1 = [
      ⟨(Rect.unit (s := S512x1024) (k0_off8 k) S32x128.size (k0_off8_inb k)), vals ((tiles arg11 arg12 X_arg11 X_arg12 k) 7) (word (tiles arg11 arg12 X_arg11 X_arg12 k)) 28#32⟩,
      ⟨(Rect.unit (s := S512x1024) (k0_off7 k) S32x128.size (k0_off7_inb k)), vals ((tiles arg11 arg12 X_arg11 X_arg12 k) 6) (word (tiles arg11 arg12 X_arg11 X_arg12 k)) 12#32⟩,
      ⟨(Rect.unit (s := S512x1024) (k0_off6 k) S32x128.size (k0_off6_inb k)), vals ((tiles arg11 arg12 X_arg11 X_arg12 k) 5) (word (tiles arg11 arg12 X_arg11 X_arg12 k)) 20#32⟩,
      ⟨(Rect.unit (s := S512x1024) (k0_off5 k) S32x128.size (k0_off5_inb k)), vals ((tiles arg11 arg12 X_arg11 X_arg12 k) 4) (word (tiles arg11 arg12 X_arg11 X_arg12 k)) 4#32⟩,
      ⟨(Rect.unit (s := S512x1024) (k0_off4 k) S32x128.size (k0_off4_inb k)), vals ((tiles arg11 arg12 X_arg11 X_arg12 k) 3) (word (tiles arg11 arg12 X_arg11 X_arg12 k)) 24#32⟩,
      ⟨(Rect.unit (s := S512x1024) (k0_off3 k) S32x128.size (k0_off3_inb k)), vals ((tiles arg11 arg12 X_arg11 X_arg12 k) 2) (word (tiles arg11 arg12 X_arg11 X_arg12 k)) 8#32⟩,
      ⟨(Rect.unit (s := S512x1024) (k0_off2 k) S32x128.size (k0_off2_inb k)), vals ((tiles arg11 arg12 X_arg11 X_arg12 k) 1) (word (tiles arg11 arg12 X_arg11 X_arg12 k)) 16#32⟩,
      ⟨(Rect.unit (s := S512x1024) (k0_off1 k) S32x128.size (k0_off1_inb k)), vals ((tiles arg11 arg12 X_arg11 X_arg12 k) 0) (word (tiles arg11 arg12 X_arg11 X_arg12 k)) 0#32⟩] := by
  unfold trip_k0_t1
  dsimp only
  sl_unfold_words
  rfl

end Cert.KernelIdeal.Gen.Strip

end
-- ==== Proof.Block.lean ====
module

public import proofs.«01_k».proof.Proof.Model
public import proofs.«01_k».proof.Proof.Trip

@[expose] public section

noncomputable section

/-! What the strip loop leaves of a 512 x 1024 block: codes, decoded values and scale bytes, each a function of the
block's gate and up arrays. -/

namespace Cert.KernelIdeal.Gen.Strip

open Idealize.ShloMosaic Idealize.ShloMosaic.TcCoe Idealize.ShloMosaic.Tactic Idealize.SL.Sem Idealize.ShloMosaic.ValueIdx

section Block

variable (gate up : FVec Ideal S512x1024 .f32)

/-- The block's gated activations by row and column. -/
def gt (r : Fin 512) (c : Fin 1024) : EReal := gs (gate (ix2 r c)) (up (ix2 r c))

/-- The largest magnitude in the 32 columns around column `c`. -/
def mx (r : Fin 512) (c : Fin 1024) : EReal := amax fun i : Fin 32 => gt gate up r ⟨32 * (c.val / 32) + i.val, by omega⟩

/-- The block's codes. -/
def codeB : FVec Ideal S512x1024 .fp8e4m3 := fun i => qcode (gt gate up (i 0) (i 1)) (sbyte (mx gate up (i 0) (i 1)))

/-- The block's decoded values. -/
def valB : FVec Ideal S512x1024 .bf16 := fun i => qval (gt gate up (i 0) (i 1)) (sbyte (mx gate up (i 0) (i 1)))

/-- The block's scale bytes. -/
def scaleB : IVec S1x512x32 8 := fun i => BitVec.ofNat 8 (sbyte (amax fun c : Fin 32 => gt gate up (i 1) ⟨32 * (i 2).val + c.val, by have : (i 2).val < 32 := (i 2).isLt; omega⟩))

theorem gt_congr {r r' : Fin 512} {c c' : Fin 1024} (hr : r = r') (hc : c = c') : gt gate up r c = gt gate up r' c' := by rw [hr, hc]

theorem trips_eq : k0_t1_loop.trips = 16 := by decide +kernel

theorem trip_lt (k : Fin k0_t1_loop.trips) : k.val < 16 := lt_of_lt_of_eq k.isLt trips_eq

theorem row_lt (k : Fin k0_t1_loop.trips) (R : Fin 32) : 32 * k.val + R.val < 512 := by have := trip_lt k; omega

theorem emb_tile (off : Fin S512x1024.rank → ℕ) (inb : ∀ a, off a + S32x128.size a ≤ S512x1024.size a) (k : Fin k0_t1_loop.trips) (n : Fin 8)
    (h : off = ![32 * k.val, 128 * n.val]) (R : Fin 32) (l : Fin 128) :
    (Rect.unit (s := S512x1024) off S32x128.size inb).emb (ix2 R l)
      = ix2 (⟨32 * k.val + R.val, row_lt k R⟩ : Fin 512) (⟨128 * n.val + l.val, by omega⟩ : Fin 1024) := by
  subst h
  funext a
  match a with
  | ⟨0, _⟩ => exact Fin.ext (show 32 * k.val + 1 * R.val = 32 * k.val + R.val by omega)
  | ⟨1, _⟩ => exact Fin.ext (show 128 * n.val + 1 * l.val = 128 * n.val + l.val by omega)

variable (arg11 : Memref sig .tc .vmem S512x1024 .f32) (arg12 : Memref sig .tc .vmem S512x1024 .f32) (X_arg11 : BufTy.Contents (Elt Ideal) arg11.view.ty)
    (X_arg12 : BufTy.Contents (Elt Ideal) arg12.view.ty)
    (hg : arg11.view.read (Elt Ideal) X_arg11 = gate) (hu : arg12.view.read (Elt Ideal) X_arg12 = up)

include hg hu in
theorem gated_apply (off : Fin S512x1024.rank → ℕ) (inb : ∀ a, off a + S32x128.size a ≤ S512x1024.size a) (k : Fin k0_t1_loop.trips) (n : Fin 8)
    (h : off = ![32 * k.val, 128 * n.val]) (R : Fin 32) (l : Fin 128) :
    gated (F := Ideal) (View.readAt (Elt Ideal) arg11.view (Rect.unit (s := S512x1024) off S32x128.size inb).toLoadRect X_arg11)
      (View.readAt (Elt Ideal) arg12.view (Rect.unit (s := S512x1024) off S32x128.size inb).toLoadRect X_arg12) (ix2 R l)
      = gt gate up (⟨32 * k.val + R.val, row_lt k R⟩ : Fin 512) (⟨128 * n.val + l.val, by omega⟩ : Fin 1024) := by
  show gs (arg11.view.read (Elt Ideal) X_arg11 ((Rect.unit (s := S512x1024) off S32x128.size inb).emb (ix2 R l)))
    (arg12.view.read (Elt Ideal) X_arg12 ((Rect.unit (s := S512x1024) off S32x128.size inb).emb (ix2 R l))) = _
  rw [emb_tile off inb k n h, hg, hu]; rfl

include hg hu in
/-- A strip's tiles are the block's gated activations. -/
theorem tiles_apply (k : Fin k0_t1_loop.trips) (n : Fin 8) (R : Fin 32) (l : Fin 128) :
    tiles (F := Ideal) arg11 arg12 X_arg11 X_arg12 k n (ix2 R l)
      = gt gate up (⟨32 * k.val + R.val, row_lt k R⟩ : Fin 512) (⟨128 * n.val + l.val, by omega⟩ : Fin 1024) := by
  fin_cases n
  · exact gated_apply gate up arg11 arg12 X_arg11 X_arg12 hg hu _ (k0_off1_inb k) k 0 (k0_off1_eq k) R l
  · exact gated_apply gate up arg11 arg12 X_arg11 X_arg12 hg hu _ (k0_off2_inb k) k 1 (k0_off2_eq k) R l
  · exact gated_apply gate up arg11 arg12 X_arg11 X_arg12 hg hu _ (k0_off3_inb k) k 2 (k0_off3_eq k) R l
  · exact gated_apply gate up arg11 arg12 X_arg11 X_arg12 hg hu _ (k0_off4_inb k) k 3 (k0_off4_eq k) R l
  · exact gated_apply gate up arg11 arg12 X_arg11 X_arg12 hg hu _ (k0_off5_inb k) k 4 (k0_off5_eq k) R l
  · exact gated_apply gate up arg11 arg12 X_arg11 X_arg12 hg hu _ (k0_off6_inb k) k 5 (k0_off6_eq k) R l
  · exact gated_apply gate up arg11 arg12 X_arg11 X_arg12 hg hu _ (k0_off7_inb k) k 6 (k0_off7_eq k) R l
  · exact gated_apply gate up arg11 arg12 X_arg11 X_arg12 hg hu _ (k0_off8_inb k) k 7 (k0_off8_eq k) R l

include hg hu in
theorem blk_tiles (k : Fin k0_t1_loop.trips) (n : Fin 8) (R : Fin 32) (q : Fin 4) :
    blk (tiles (F := Ideal) arg11 arg12 X_arg11 X_arg12 k) R n q
      = amax fun i : Fin 32 => gt gate up (⟨32 * k.val + R.val, row_lt k R⟩ : Fin 512) (⟨128 * n.val + (32 * q.val + i.val), by omega⟩ : Fin 1024) := by
  exact amax_congr fun i => tiles_apply gate up arg11 arg12 X_arg11 X_arg12 hg hu k n R (col q i)

include hg hu in
theorem blk_mx (k : Fin k0_t1_loop.trips) (n : Fin 8) (R : Fin 32) (l : Fin 128) :
    blk (tiles (F := Ideal) arg11 arg12 X_arg11 X_arg12 k) R n ⟨l.val / 32, by omega⟩
      = mx gate up (⟨32 * k.val + R.val, row_lt k R⟩ : Fin 512) (⟨128 * n.val + l.val, by omega⟩ : Fin 1024) := by
  rw [blk_tiles gate up arg11 arg12 X_arg11 X_arg12 hg hu]
  exact amax_congr fun i => gt_congr gate up rfl <| Fin.ext (show 128 * n.val + (32 * (l.val / 32) + i.val) = 32 * ((128 * n.val + l.val) / 32) + i.val by omega)

include hg hu in
theorem codes_piece (k : Fin k0_t1_loop.trips) (n : Fin 8) (off : Fin S512x1024.rank → ℕ) (inb : ∀ a, off a + S32x128.size a ≤ S512x1024.size a)
    (h : off = ![32 * k.val, 128 * n.val]) (x : S32x128.Idx) :
    codes (F := Ideal) (tiles arg11 arg12 X_arg11 X_arg12 k n) (word (tiles arg11 arg12 X_arg11 X_arg12 k)) (offs n) x
      = codeB gate up ((Rect.unit (s := S512x1024) off S32x128.size inb).emb x) := by
  obtain ⟨R, l, rfl⟩ : ∃ (R : Fin 32) (l : Fin 128), x = ix2 R l := ⟨x 0, x 1, eq_ix2 x⟩
  rw [codes_apply, blk_mx gate up arg11 arg12 X_arg11 X_arg12 hg hu, tiles_apply gate up arg11 arg12 X_arg11 X_arg12 hg hu, emb_tile off inb k n h]
  rfl

include hg hu in
theorem vals_piece (k : Fin k0_t1_loop.trips) (n : Fin 8) (off : Fin S512x1024.rank → ℕ) (inb : ∀ a, off a + S32x128.size a ≤ S512x1024.size a)
    (h : off = ![32 * k.val, 128 * n.val]) (x : S32x128.Idx) :
    vals (F := Ideal) (tiles arg11 arg12 X_arg11 X_arg12 k n) (word (tiles arg11 arg12 X_arg11 X_arg12 k)) (offs n) x
      = valB gate up ((Rect.unit (s := S512x1024) off S32x128.size inb).emb x) := by
  obtain ⟨R, l, rfl⟩ : ∃ (R : Fin 32) (l : Fin 128), x = ix2 R l := ⟨x 0, x 1, eq_ix2 x⟩
  rw [vals_apply, blk_mx gate up arg11 arg12 X_arg11 X_arg12 hg hu, tiles_apply gate up arg11 arg12 X_arg11 X_arg12 hg hu, emb_tile off inb k n h]
  rfl

include hg hu in
theorem scales_piece (k : Fin k0_t1_loop.trips) (off : Fin S1x512x32.rank → ℕ) (inb : ∀ a, off a + S1x32x32.size a ≤ S1x512x32.size a)
    (h : off = ![0, 32 * k.val, 0]) (x : S1x32x32.Idx) :
    scales (byteT (F := Ideal) (tiles arg11 arg12 X_arg11 X_arg12 k)) (byteB (tiles arg11 arg12 X_arg11 X_arg12 k)) x
      = scaleB gate up ((Rect.unit (s := S1x512x32) off S1x32x32.size inb).emb x) := by
  subst h
  obtain ⟨z, R, l, rfl⟩ : ∃ (z : Fin 1) (R : Fin 32) (l : Fin 32), x = ix3 z R l := ⟨x 0, x 1, x 2, eq_ix3 x⟩
  obtain rfl : z = 0 := Subsingleton.elim _ _
  rw [scales_apply, blk_tiles gate up arg11 arg12 X_arg11 X_arg12 hg hu]
  exact congrArg (fun z => BitVec.ofNat 8 (sbyte z)) (amax_congr fun i => gt_congr gate up
    (Fin.ext (show 32 * k.val + R.val = 32 * k.val + 1 * R.val by omega))
    (Fin.ext (show 128 * (l.val / 4) + (32 * (l.val % 4) + i.val) = 32 * (0 + 1 * l.val) + i.val by omega)))

end Block

variable (gate up : FVec Ideal S512x1024 .f32)

/-- The codes of every trip are the block's. -/
theorem pb_codes (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) (n : ℕ) (hn : n ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 n).1, ∀ x : p.1.shape.Idx, p.2 x = codeB gate up (p.1.emb x) := by
  induction n with
  | zero => intro p hp; simp [pb_k0_t1] at hp
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
    intro p hp
    rw [show n + 1 = (⟨n, hn⟩ : Fin k0_t1_loop.trips).val + 1 from rfl, hs] at hp
    rcases List.mem_append.1 hp with hp | hp
    · have ht := trip_codes (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
      rw [show (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).1 = (trip_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).1 from rfl, ht] at hp
      simp only [List.mem_cons, List.not_mem_nil, or_false] at hp
      rcases hp with rfl | rfl | rfl | rfl | rfl | rfl | rfl | rfl
      · exact fun x => codes_piece gate up _ _ _ _ hg hu ⟨n, hn⟩ 7 _ (k0_off8_inb _) (k0_off8_eq _) x
      · exact fun x => codes_piece gate up _ _ _ _ hg hu ⟨n, hn⟩ 6 _ (k0_off7_inb _) (k0_off7_eq _) x
      · exact fun x => codes_piece gate up _ _ _ _ hg hu ⟨n, hn⟩ 5 _ (k0_off6_inb _) (k0_off6_eq _) x
      · exact fun x => codes_piece gate up _ _ _ _ hg hu ⟨n, hn⟩ 4 _ (k0_off5_inb _) (k0_off5_eq _) x
      · exact fun x => codes_piece gate up _ _ _ _ hg hu ⟨n, hn⟩ 3 _ (k0_off4_inb _) (k0_off4_eq _) x
      · exact fun x => codes_piece gate up _ _ _ _ hg hu ⟨n, hn⟩ 2 _ (k0_off3_inb _) (k0_off3_eq _) x
      · exact fun x => codes_piece gate up _ _ _ _ hg hu ⟨n, hn⟩ 1 _ (k0_off2_inb _) (k0_off2_eq _) x
      · exact fun x => codes_piece gate up _ _ _ _ hg hu ⟨n, hn⟩ 0 _ (k0_off1_inb _) (k0_off1_eq _) x
    · exact ih (by omega) p hp

/-- The vals of every trip are the block's. -/
theorem pb_vals (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) (n : ℕ) (hn : n ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 n).2.2, ∀ x : p.1.shape.Idx, p.2 x = valB gate up (p.1.emb x) := by
  induction n with
  | zero => intro p hp; simp [pb_k0_t1] at hp
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
    intro p hp
    rw [show n + 1 = (⟨n, hn⟩ : Fin k0_t1_loop.trips).val + 1 from rfl, hs] at hp
    rcases List.mem_append.1 hp with hp | hp
    · have ht := trip_vals (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
      rw [show (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).2.2 = (trip_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).2.2.1 from rfl, ht] at hp
      simp only [List.mem_cons, List.not_mem_nil, or_false] at hp
      rcases hp with rfl | rfl | rfl | rfl | rfl | rfl | rfl | rfl
      · exact fun x => vals_piece gate up _ _ _ _ hg hu ⟨n, hn⟩ 7 _ (k0_off8_inb _) (k0_off8_eq _) x
      · exact fun x => vals_piece gate up _ _ _ _ hg hu ⟨n, hn⟩ 6 _ (k0_off7_inb _) (k0_off7_eq _) x
      · exact fun x => vals_piece gate up _ _ _ _ hg hu ⟨n, hn⟩ 5 _ (k0_off6_inb _) (k0_off6_eq _) x
      · exact fun x => vals_piece gate up _ _ _ _ hg hu ⟨n, hn⟩ 4 _ (k0_off5_inb _) (k0_off5_eq _) x
      · exact fun x => vals_piece gate up _ _ _ _ hg hu ⟨n, hn⟩ 3 _ (k0_off4_inb _) (k0_off4_eq _) x
      · exact fun x => vals_piece gate up _ _ _ _ hg hu ⟨n, hn⟩ 2 _ (k0_off3_inb _) (k0_off3_eq _) x
      · exact fun x => vals_piece gate up _ _ _ _ hg hu ⟨n, hn⟩ 1 _ (k0_off2_inb _) (k0_off2_eq _) x
      · exact fun x => vals_piece gate up _ _ _ _ hg hu ⟨n, hn⟩ 0 _ (k0_off1_inb _) (k0_off1_eq _) x
    · exact ih (by omega) p hp

/-- The scale bytes of every trip are the block's. -/
theorem pb_scales (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) (n : ℕ) (hn : n ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 n).2.1, ∀ x : p.1.shape.Idx, p.2 x = scaleB gate up (p.1.emb x) := by
  induction n with
  | zero => intro p hp; simp [pb_k0_t1] at hp
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
    intro p hp
    rw [show n + 1 = (⟨n, hn⟩ : Fin k0_t1_loop.trips).val + 1 from rfl, hs] at hp
    rcases List.mem_append.1 hp with hp | hp
    · have ht := trip_scales (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩
      rw [show (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).2.1 = (trip_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 ⟨n, hn⟩).2.1 from rfl, ht] at hp
      simp only [List.mem_cons, List.not_mem_nil, or_false] at hp
      subst hp
      exact fun x => scales_piece gate up _ _ _ _ hg hu ⟨n, hn⟩ _ (k0_off9_inb _) (k0_off9_eq _) x
    · exact ih (by omega) p hp

end Cert.KernelIdeal.Gen.Strip

end
-- ==== Proof.Point.lean ====
module

public import proofs.«01_k».proof.Proof.Block

@[expose] public section

set_option maxRecDepth 8192

noncomputable section

/-! What one grid point leaves: the codes, decoded values and scale bytes of its block, and the accumulator's step. -/

namespace Cert.KernelIdeal.Gen.Strip

open Idealize.ShloMosaic Idealize.ShloMosaic.TcCoe Idealize.ShloMosaic.Tactic Idealize.SL.Sem Idealize.ShloMosaic.ValueIdx

/-- A load of a whole memref holding `x` reads `x`. -/
theorem rd {sp : Space} {s : Shape} {e : EltTy} (M : Memref sig .tc sp s e) (h : M.IsWhole) (x : Vec Ideal s e) {off : Fin s.rank → ℕ} (hz : off = fun _ => 0)
    (inb : ∀ a, off a + s.size a ≤ s.size a) : View.readAt (Elt Ideal) M.view (Rect.unit off s.size inb).toLoadRect (h.unread x) = x := by
  rw [View.readAt_eq_ld, h.read_unread, View.ld_unit_zero hz]

/-- A read after a write of the whole reads what was written. -/
theorem rd_write {sp : Space} {s : Shape} {e : EltTy} (M : Memref sig .tc sp s e) (w : Vec Ideal s e) {off : Fin s.rank → ℕ} (hz : off = fun _ => 0)
    (inb : ∀ a, off a + s.size a ≤ s.size a) : M.view.read (Elt Ideal) (M.view.writes (Elt Ideal) M.view.junk [⟨Rect.unit off s.size inb, w⟩]) = w :=
  (View.read_writes_junk_eq_canon _ _).trans (View.canon_unit_zero hz _ _)

theorem z2 : (![0, 0] : Fin 2 → ℕ) = fun _ => 0 := by funext a; fin_cases a <;> rfl

/-- The gate (or up) block of a point. -/
def dotB (x : FVec Ideal S512x2048 .bf16) (w : FVec Ideal S1024x2048 .bf16) : FVec Ideal S512x1024 .f32 := k0_pay164 x w

/-- The codes the loop leaves are the block's. -/
theorem loop_codes (gate up : FVec Ideal S512x1024 .f32) (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).1 = codeB gate up :=
  funext fun y => View.canon_apply_of_pieces (codeB gate up) _ (pb_codes gate up 𝒱 c bd i arg2 harg2 arg3 harg3 arg4 harg4 arg5 harg5 arg6 harg6 arg7 harg7 arg8 harg8 arg9 harg9 arg10 harg10 arg11 harg11 arg12 harg12 arg13 harg13 X_arg11 X_arg12 hg hu _ le_rfl) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).1 S32x128.size (by sl_kernel_rfl) y)

/-- The scales the loop leaves are the block's. -/
theorem loop_scales (gate up : FVec Ideal S512x1024 .f32) (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).2.1 = scaleB gate up :=
  funext fun y => View.canon_apply_of_pieces (scaleB gate up) _ (pb_scales gate up 𝒱 c bd i arg2 harg2 arg3 harg3 arg4 harg4 arg5 harg5 arg6 harg6 arg7 harg7 arg8 harg8 arg9 harg9 arg10 harg10 arg11 harg11 arg12 harg12 arg13 harg13 X_arg11 X_arg12 hg hu _ le_rfl) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).2.1 S1x32x32.size (by sl_kernel_rfl) y)

/-- The vals the loop leaves are the block's. -/
theorem loop_vals (gate up : FVec Ideal S512x1024 .f32) (𝒱 : Variants) (c : Dev nD) (bd : Option 𝒱.V) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (X_arg11 : BufTy.Contents (Elt Ideal) arg11.view.ty) (X_arg12 : BufTy.Contents (Elt Ideal) arg12.view.ty)
    (hg : arg11.view.read (Elt Ideal) X_arg11 = gate) (hu : arg12.view.read (Elt Ideal) X_arg12 = up) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).2.2 = valB gate up :=
  funext fun y => View.canon_apply_of_pieces (valB gate up) _ (pb_vals gate up 𝒱 c bd i arg2 harg2 arg3 harg3 arg4 harg4 arg5 harg5 arg6 harg6 arg7 harg7 arg8 harg8 arg9 harg9 arg10 harg10 arg11 harg11 arg12 harg12 arg13 harg13 X_arg11 X_arg12 hg hu _ le_rfl) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X_arg11 X_arg12 k0_t1_loop.trips).2.2 S32x128.size (by sl_kernel_rfl) y)

/-- Case A's codes. -/
theorem codes_A (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) :
    out0_A_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 = codeB (dotB x0 x2) (dotB x0 x3) :=
  (View.read_writes_junk_eq_canon _ _).trans (loop_codes _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case A's scales. -/
theorem scales_A (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) :
    out0_A_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 = scaleB (dotB x0 x2) (dotB x0 x3) :=
  (View.read_writes_junk_eq_canon _ _).trans (loop_scales _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case A's accumulator. -/
theorem acc_A (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay168 x1 (valB (dotB x0 x2) (dotB x0 x3)) x4 :=
  (View.read_writes_junk_eq_canon _ _).trans ((View.canon_cons_unit_zero z2 _ _ _).trans (congr (congrArg₂ k0_pay168 ((View.readCov_unit_zero _ z2 _ _).trans ((shapeCast_self _ _).trans (rd arg3 harg3 x1 z2 _)))
      ((View.readCov_eq_canon' _ _ _).trans ((View.ld_unit_zero z2 _ _).trans (loop_vals _ _ _ _ _ _ _ _ _ _ _ _ _ _ _ _ _ _ _ _ _ _ _ _ _ _ _ _ _ _ _ _
        ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _)))))))
      (rd arg6 harg6 x4 z2 _)))

/-- Case B's codes. -/
theorem codes_B (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    out0_B_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = codeB (dotB x0 x2) (dotB x0 x3) :=
  (View.read_writes_junk_eq_canon _ _).trans (loop_codes _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case B's scales. -/
theorem scales_B (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = scaleB (dotB x0 x2) (dotB x0 x3) :=
  (View.read_writes_junk_eq_canon _ _).trans (loop_scales _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case B's accumulator. -/
theorem acc_B (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : ¬cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = k0_pay168 xs0 (valB (dotB x0 x2) (dotB x0 x3)) x4 :=
  (View.read_writes_junk_eq_canon _ _).trans ((View.canon_unit_zero z2 _ _).trans (congr (congrArg₂ k0_pay168 (rd arg10 harg10 xs0 z2 _)
      ((View.readCov_eq_canon' _ _ _).trans ((View.ld_unit_zero z2 _ _).trans (loop_vals _ _ _ _ _ _ _ _ _ _ _ _ _ _ _ _ _ _ _ _ _ _ _ _ _ _ _ _ _ _ _ _
        ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _)))))))
      (rd arg6 harg6 x4 z2 _)))

/-- Case C's codes. -/
theorem codes_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = codeB (dotB x0 x2) (dotB x0 x3) :=
  (View.read_writes_junk_eq_canon _ _).trans (loop_codes _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case C's scales. -/
theorem scales_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = scaleB (dotB x0 x2) (dotB x0 x3) :=
  (View.read_writes_junk_eq_canon _ _).trans (loop_scales _ _ _ _ _ _ _ _ _ _ _ _ _ _ _ _ _ _ _ _ _ _ _ _ _ _ _ _ _ _ _ _
    ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _))))

/-- Case C's accumulator. -/
theorem acc_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = k0_pay168 xs0 (valB (dotB x0 x2) (dotB x0 x3)) x4 :=
  (View.read_writes_junk_eq_canon _ _).trans ((View.canon_unit_zero z2 _ _).trans (congr (congrArg₂ k0_pay168 (rd arg10 harg10 xs0 z2 _)
      ((View.readCov_eq_canon' _ _ _).trans ((View.ld_unit_zero z2 _ _).trans (loop_vals _ _ _ _ _ _ _ _ _ _ _ _ _ _ _ _ _ _ _ _ _ _ _ _ _ _ _ _ _ _ _ _
        ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _)))))))
      (rd arg6 harg6 x4 z2 _)))

/-- The last point's result rows. -/
theorem y_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x1024 .fp8e4m3) (harg8 : arg8.IsWhole) (arg9 : Memref sig .tc .vmem S1x512x32 .i8) (harg9 : arg9.IsWhole) (arg10 : Memref sig .tc .vmem S512x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i) (x0 : Vec Ideal S512x2048 .bf16) (x1 : Vec Ideal S512x2048 .f32) (x2 : Vec Ideal S1024x2048 .bf16) (x3 : Vec Ideal S1024x2048 .bf16) (x4 : Vec Ideal S2048x1024 .bf16) (xs0 : Vec Ideal S512x2048 .f32) :
    out0_C_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 = k0_pay1 (k0_pay168 xs0 (valB (dotB x0 x2) (dotB x0 x3)) x4) :=
  (View.read_writes_junk_eq_canon _ _).trans ((View.canon_unit_zero z2 _ _).trans (congrArg k0_pay1 ((View.readCov_unit_zero _ z2 _ _).trans (congr (congrArg₂ k0_pay168 (rd arg10 harg10 xs0 z2 _)
      ((View.readCov_eq_canon' _ _ _).trans ((View.ld_unit_zero z2 _ _).trans (loop_vals _ _ _ _ _ _ _ _ _ _ _ _ _ _ _ _ _ _ _ _ _ _ _ _ _ _ _ _ _ _ _ _
        ((rd_write arg11 _ z2 _).trans (congrArg₂ k0_pay164 (rd arg2 harg2 x0 z2 _) (rd arg4 harg4 x2 z2 _))) ((rd_write arg12 _ z2 _).trans (congrArg₂ k0_pay165 (rd arg2 harg2 x0 z2 _) (rd arg5 harg5 x3 z2 _)))))))
      (rd arg6 harg6 x4 z2 _)))))

end Cert.KernelIdeal.Gen.Strip

end
-- ==== Proof.Fold.lean ====
module

public import proofs.«01_k».proof.Proof.Point
public import proofs.«01_k».proof.Proof.Model
public import proofs.«01_k».proof.Proof.Gen.KernelIdeal.Value
public import Idealize.ShloMosaic.Lib.MatmulPlain

@[expose] public section

set_option maxRecDepth 8192

noncomputable section

/-! The kernel's three result arrays, element by element. -/

namespace Cert.KernelIdeal.Gen.Strip

open Idealize.ShloMosaic Idealize.ShloMosaic.TcCoe Idealize.ShloMosaic.Tactic Idealize.SL.Sem Idealize.ShloMosaic.ValueIdx
open Cert.KernelIdeal.Value

/-! ## The matrix products of a point -/

theorem dotB_apply (x : FVec Ideal S512x2048 .bf16) (w : FVec Ideal S1024x2048 .bf16) (R : Fin 512) (C : Fin 1024) :
    dotB x w (ix2 R C) = ∑ k : Fin 2048, x (ix2 R k) * w (ix2 C k) := by
  refine (congrFun (shapeCast_self _ _) _).trans ((Ideal.matmul_transposedRhs_apply (M := 512) (K := 2048) (N := 1024) none x w _ R C).trans ?_)
  show Ideal.ofBits .f32 0x00000000#32 + _ = _
  rw [c_zero, zero_add]

theorem step_apply (acc : FVec Ideal S512x2048 .f32) (v : FVec Ideal S512x1024 .bf16) (w : FVec Ideal S2048x1024 .bf16) (R : Fin 512) (d : Fin 2048) :
    k0_pay168 acc v w (ix2 R d) = acc (ix2 R d) + ∑ C : Fin 1024, v (ix2 R C) * w (ix2 d C) := by
  unfold k0_pay168
  refine (congrFun (shapeCast_self _ _) _).trans ?_
  show acc (ix2 R d) + _ = _
  refine (congrArg (acc (ix2 R d) + ·) ((Ideal.matmul_transposedRhs_apply (M := 512) (K := 1024) (N := 2048) none v w _ R d).trans ?_))
  show Ideal.ofBits .f32 0x00000000#32 + _ = _
  rw [c_zero, zero_add]

/-! ## The blocks a point reads -/

variable (m : (ℓ : Loc nD τ sig) → Buf (Elt Ideal) ℓ)

abbrev A0 (c : Dev nD) : Arr 12288 2048 := m ((c : Thread nD τ).loc main_arg0)
abbrev A1 (c : Dev nD) : Arr 12288 2048 := m ((c : Thread nD τ).loc main_arg1)
abbrev A2 (c : Dev nD) : Arr 8192 2048 := m ((c : Thread nD τ).loc main_arg2)
abbrev A3 (c : Dev nD) : Arr 8192 2048 := m ((c : Thread nD τ).loc main_arg3)
abbrev A4 (c : Dev nD) : Arr 2048 8192 := m ((c : Thread nD τ).loc main_arg4)

theorem t_lt (t : Fin cfg0.N) : t.val < 192 := lt_of_lt_of_eq t.isLt N_0

/-- The row of the arrays that row `R` of point `t`'s block is. -/
def row (t : Fin cfg0.N) (R : Fin 512) : Fin 12288 := ⟨512 * (t.val / 8) + R.val, by have := t_lt t; omega⟩

/-- The column of the arrays that column `C` of point `t`'s block is. -/
def cl (t : Fin cfg0.N) (C : Fin 1024) : Fin 8192 := ⟨1024 * (t.val % 8) + C.val, by omega⟩

theorem in0 : ∀ t : Fin cfg0.N, win0_0.index t (0 : Fin 2) = t.val / 8 ∧ win0_0.index t (1 : Fin 2) = 0 := (by decide +kernel : ∀ t : Fin grid0.N, _)
theorem in1 : ∀ t : Fin cfg0.N, win0_1.index t (0 : Fin 2) = t.val / 8 ∧ win0_1.index t (1 : Fin 2) = 0 := (by decide +kernel : ∀ t : Fin grid0.N, _)
theorem in2 : ∀ t : Fin cfg0.N, win0_2.index t (0 : Fin 2) = t.val % 8 ∧ win0_2.index t (1 : Fin 2) = 0 := (by decide +kernel : ∀ t : Fin grid0.N, _)
theorem in3 : ∀ t : Fin cfg0.N, win0_3.index t (0 : Fin 2) = t.val % 8 ∧ win0_3.index t (1 : Fin 2) = 0 := (by decide +kernel : ∀ t : Fin grid0.N, _)
theorem in4 : ∀ t : Fin cfg0.N, win0_4.index t (0 : Fin 2) = 0 ∧ win0_4.index t (1 : Fin 2) = t.val % 8 := (by decide +kernel : ∀ t : Fin grid0.N, _)

theorem blk0 (c : Dev nD) (t : Fin cfg0.N) (R : Fin 512) (k : Fin 2048) :
    (iblk m c 0 t : Vec Ideal S512x2048 .bf16) (ix2 R k) = A0 m c (ix2 (row t R) k) := by
  obtain ⟨e0, e1⟩ := in0 t
  unfold iblk
  rw [View.read_apply]
  show V m c main_arg0 _ = A0 m c _
  unfold V
  refine congrArg (m ((c : Thread nD τ).loc main_arg0)) ?_
  funext a
  apply Fin.ext
  match a with
  | ⟨0, _⟩ => show win0_0.index t 0 * 512 + 1 * R.val = 512 * (t.val / 8) + R.val; rw [e0]; omega
  | ⟨1, _⟩ => show win0_0.index t 1 * 2048 + 1 * k.val = k.val; rw [e1]; omega

theorem blk1 (c : Dev nD) (t : Fin cfg0.N) (R : Fin 512) (k : Fin 2048) :
    (iblk m c 1 t : Vec Ideal S512x2048 .f32) (ix2 R k) = A1 m c (ix2 (row t R) k) := by
  obtain ⟨e0, e1⟩ := in1 t
  unfold iblk
  rw [View.read_apply]
  show V m c main_arg1 _ = A1 m c _
  unfold V
  refine congrArg (m ((c : Thread nD τ).loc main_arg1)) ?_
  funext a
  apply Fin.ext
  match a with
  | ⟨0, _⟩ => show win0_1.index t 0 * 512 + 1 * R.val = 512 * (t.val / 8) + R.val; rw [e0]; omega
  | ⟨1, _⟩ => show win0_1.index t 1 * 2048 + 1 * k.val = k.val; rw [e1]; omega

theorem blk2 (c : Dev nD) (t : Fin cfg0.N) (C : Fin 1024) (k : Fin 2048) :
    (iblk m c 2 t : Vec Ideal S1024x2048 .bf16) (ix2 C k) = A2 m c (ix2 (cl t C) k) := by
  obtain ⟨e0, e1⟩ := in2 t
  unfold iblk
  rw [View.read_apply]
  show V m c main_arg2 _ = A2 m c _
  unfold V
  refine congrArg (m ((c : Thread nD τ).loc main_arg2)) ?_
  funext a
  apply Fin.ext
  match a with
  | ⟨0, _⟩ => show win0_2.index t 0 * 1024 + 1 * C.val = 1024 * (t.val % 8) + C.val; rw [e0]; omega
  | ⟨1, _⟩ => show win0_2.index t 1 * 2048 + 1 * k.val = k.val; rw [e1]; omega

theorem blk3 (c : Dev nD) (t : Fin cfg0.N) (C : Fin 1024) (k : Fin 2048) :
    (iblk m c 3 t : Vec Ideal S1024x2048 .bf16) (ix2 C k) = A3 m c (ix2 (cl t C) k) := by
  obtain ⟨e0, e1⟩ := in3 t
  unfold iblk
  rw [View.read_apply]
  show V m c main_arg3 _ = A3 m c _
  unfold V
  refine congrArg (m ((c : Thread nD τ).loc main_arg3)) ?_
  funext a
  apply Fin.ext
  match a with
  | ⟨0, _⟩ => show win0_3.index t 0 * 1024 + 1 * C.val = 1024 * (t.val % 8) + C.val; rw [e0]; omega
  | ⟨1, _⟩ => show win0_3.index t 1 * 2048 + 1 * k.val = k.val; rw [e1]; omega

theorem blk4 (c : Dev nD) (t : Fin cfg0.N) (d : Fin 2048) (C : Fin 1024) :
    (iblk m c 4 t : Vec Ideal S2048x1024 .bf16) (ix2 d C) = A4 m c (ix2 d (cl t C)) := by
  obtain ⟨e0, e1⟩ := in4 t
  unfold iblk
  rw [View.read_apply]
  show V m c main_arg4 _ = A4 m c _
  unfold V
  refine congrArg (m ((c : Thread nD τ).loc main_arg4)) ?_
  funext a
  apply Fin.ext
  match a with
  | ⟨0, _⟩ => show win0_4.index t 0 * 2048 + 1 * d.val = d.val; rw [e0]; omega
  | ⟨1, _⟩ => show win0_4.index t 1 * 1024 + 1 * C.val = 1024 * (t.val % 8) + C.val; rw [e1]; omega

/-! ## A point's block in the arrays -/

/-- The gate block of point `t`. -/
abbrev gB (c : Dev nD) (t : Fin cfg0.N) : FVec Ideal S512x1024 .f32 := dotB (iblk m c 0 t) (iblk m c 2 t)
/-- The up block of point `t`. -/
abbrev uB (c : Dev nD) (t : Fin cfg0.N) : FVec Ideal S512x1024 .f32 := dotB (iblk m c 0 t) (iblk m c 3 t)

theorem gt_act (c : Dev nD) (t : Fin cfg0.N) (R : Fin 512) (C : Fin 1024) :
    gt (gB m c t) (uB m c t) R C = act (A0 m c) (A2 m c) (A3 m c) (row t R) (cl t C) := by
  refine congrArg₂ gs ((dotB_apply _ _ R C).trans (Finset.sum_congr rfl fun k _ => ?_)) ((dotB_apply _ _ R C).trans (Finset.sum_congr rfl fun k _ => ?_))
  · rw [blk0, blk2]
  · rw [blk0, blk3]

theorem act_congr (c : Dev nD) (r : Fin 12288) {x y : Fin 8192} (h : x = y) : act (A0 m c) (A2 m c) (A3 m c) r x = act (A0 m c) (A2 m c) (A3 m c) r y := by rw [h]

theorem mx_sb (c : Dev nD) (t : Fin cfg0.N) (R : Fin 512) (C : Fin 1024) (h) :
    sbyte (mx (gB m c t) (uB m c t) R C) = sb (A0 m c) (A2 m c) (A3 m c) (row t R) ⟨(cl t C).val / 32, h⟩ := by
  refine congrArg sbyte (amax_congr fun i => (gt_act m c t R _).trans (act_congr m c _ (Fin.ext ?_)))
  show 1024 * (t.val % 8) + (32 * (C.val / 32) + i.val) = 32 * ((1024 * (t.val % 8) + C.val) / 32) + i.val
  omega

/-- The codes of point `t`. -/
theorem codeB_code (c : Dev nD) (t : Fin cfg0.N) (R : Fin 512) (C : Fin 1024) :
    codeB (gB m c t) (uB m c t) (ix2 R C) = code (A0 m c) (A2 m c) (A3 m c) (row t R) (cl t C) :=
  congrArg₂ qcode (gt_act m c t R C) (mx_sb m c t R C _)

/-- The decoded values of point `t`. -/
theorem valB_dec (c : Dev nD) (t : Fin cfg0.N) (R : Fin 512) (C : Fin 1024) :
    valB (gB m c t) (uB m c t) (ix2 R C) = dec (A0 m c) (A2 m c) (A3 m c) (row t R) (cl t C) :=
  congrArg₂ qval (gt_act m c t R C) (mx_sb m c t R C _)

/-- The scale bytes of point `t`. -/
theorem scaleB_sb (c : Dev nD) (t : Fin cfg0.N) (R : Fin 512) (l : Fin 32) :
    scaleB (gB m c t) (uB m c t) (ix3 (0 : Fin 1) R l) = BitVec.ofNat 8 (sb (A0 m c) (A2 m c) (A3 m c) (row t R) ⟨32 * (t.val % 8) + l.val, by omega⟩) := by
  refine congrArg (fun z => BitVec.ofNat 8 (sbyte z)) (amax_congr fun i => (gt_act m c t R _).trans (act_congr m c _ (Fin.ext ?_)))
  show 1024 * (t.val % 8) + (32 * l.val + i.val) = 32 * (32 * (t.val % 8) + l.val) + i.val
  omega

/-! ## The fold over the points -/

/-- What the state holds after point `t`. -/
abbrev after (c : Dev nD) (t : Fin cfg0.N) : Vec Ideal S512x2048 .bf16 × Vec Ideal S512x1024 .fp8e4m3 × Vec Ideal S1x512x32 .i8 × Vec Ideal S512x2048 .f32 :=
  Pipeline.accAt (fun n h => stAt0 m c n h junk0) (stAt0 m c) 0 t.val (by rw [Nat.zero_add]; exact t.isLt)

/-- After a point, what the step left over some earlier state. -/
theorem after_step (c : Dev nD) (t : Fin cfg0.N) : ∃ s, after m c t = stAt0 m c t.val t.isLt s
    ∧ (t.val ≠ 0 → ∃ h : t.val - 1 < cfg0.N, s = after m c ⟨t.val - 1, h⟩) := by
  obtain ⟨n, hn⟩ := t
  match n with
  | 0 => exact ⟨junk0, rfl, fun h => absurd rfl h⟩
  | n + 1 =>
    refine ⟨after m c ⟨n, Nat.lt_of_succ_lt hn⟩, ?_, fun _ => ⟨Nat.lt_of_succ_lt hn, rfl⟩⟩
    have e : ∀ (j : ℕ) (hj : j = n + 1) (h : j < cfg0.N), stAt0 m c j h (after m c ⟨n, Nat.lt_of_succ_lt hn⟩) = stAt0 m c (n + 1) hn (after m c ⟨n, Nat.lt_of_succ_lt hn⟩) := by
      intro j hj h; subst hj; rfl
    exact (Pipeline.accAt_succ _ _ 0 n _).trans (e _ (Nat.zero_add _) _)

/-- The codes after point `t`. -/
theorem after_codes (c : Dev nD) (t : Fin cfg0.N) : (after m c t).2.1 = codeB (gB m c t) (uB m c t) := by
  obtain ⟨s, e, -⟩ := after_step m c t
  rw [e]
  by_cases h0 : t.val % 8 = 0
  · rw [stAt0_A m c t s h0 (by omega)]; exact codes_A ..
  · by_cases h1 : t.val % 8 = 7
    · rw [stAt0_C m c t s h0 h1]; exact codes_C ..
    · rw [stAt0_B m c t s h0 h1]; exact codes_B ..

/-- The scale bytes after point `t`. -/
theorem after_scales (c : Dev nD) (t : Fin cfg0.N) : (after m c t).2.2.1 = scaleB (gB m c t) (uB m c t) := by
  obtain ⟨s, e, -⟩ := after_step m c t
  rw [e]
  by_cases h0 : t.val % 8 = 0
  · rw [stAt0_A m c t s h0 (by omega)]; exact scales_A ..
  · by_cases h1 : t.val % 8 = 7
    · rw [stAt0_C m c t s h0 h1]; exact scales_C ..
    · rw [stAt0_B m c t s h0 h1]; exact scales_B ..

/-- The first of a row block's points starts from the residual. -/
theorem after_acc_first (c : Dev nD) (t : Fin cfg0.N) (h0 : t.val % 8 = 0) :
    (after m c t).2.2.2 = k0_pay168 (iblk m c 1 t) (valB (gB m c t) (uB m c t)) (iblk m c 4 t) := by
  obtain ⟨s, e, -⟩ := after_step m c t
  rw [e, stAt0_A m c t s h0 (by omega)]
  dsimp only; exact acc_A ..

/-- The others go on from the point before. -/
theorem after_acc_next (c : Dev nD) (t : Fin cfg0.N) (h0 : ¬ t.val % 8 = 0) (h : t.val - 1 < cfg0.N) :
    (after m c t).2.2.2 = k0_pay168 (after m c ⟨t.val - 1, h⟩).2.2.2 (valB (gB m c t) (uB m c t)) (iblk m c 4 t) := by
  obtain ⟨s, e, hs⟩ := after_step m c t
  obtain ⟨_, rfl⟩ := hs (fun h => h0 (by rw [h]))
  rw [e]
  by_cases h1 : t.val % 8 = 7
  · rw [stAt0_C m c t _ h0 h1]; dsimp only; exact acc_C ..
  · rw [stAt0_B m c t _ h0 h1]; dsimp only; exact acc_B ..

/-- The last writes the accumulator out. -/
theorem after_y (c : Dev nD) (t : Fin cfg0.N) (h1 : t.val % 8 = 7) : (after m c t).1 = (after m c t).2.2.2 := by
  obtain ⟨s, e, -⟩ := after_step m c t
  rw [e, stAt0_C m c t s (by omega) h1]
  dsimp only; exact (y_C ..).trans (acc_C ..).symm

/-- The products of a point's columns. -/
theorem point_sum (c : Dev nD) (t : Fin cfg0.N) (R : Fin 512) (d : Fin 2048) :
    ∑ C : Fin 1024, valB (gB m c t) (uB m c t) (ix2 R C) * (iblk m c 4 t : Vec Ideal S2048x1024 .bf16) (ix2 d C)
      = ∑ C : Fin 1024, term (A0 m c) (A2 m c) (A3 m c) (A4 m c) (row t R) d (1024 * (t.val % 8) + C.val) := by
  refine Finset.sum_congr rfl fun C _ => ?_
  rw [valB_dec, blk4]
  unfold term
  rw [dif_pos (by omega)]
  rfl

/-- The accumulator after point `t`: the residual plus the products of the columns so far. -/
theorem after_acc (c : Dev nD) (R : Fin 512) (d : Fin 2048) : ∀ (j : ℕ) (t : Fin cfg0.N), t.val % 8 = j →
    ((after m c t).2.2.2 : FVec Ideal S512x2048 .f32) (ix2 R d) = A1 m c (ix2 (row t R) d)
      + ∑ x ∈ Finset.range (1024 * j + 1024), term (A0 m c) (A2 m c) (A3 m c) (A4 m c) (row t R) d x := by
  intro j
  induction j with
  | zero =>
    intro t ht
    rw [after_acc_first m c t ht, step_apply, point_sum, blk1, ht, sum_step, Finset.range_zero, Finset.sum_empty, zero_add]
  | succ j ih =>
    intro t ht
    have hlt := t_lt t
    have h : t.val - 1 < cfg0.N := lt_of_le_of_lt (Nat.sub_le _ _) t.isLt
    have hr : row ⟨t.val - 1, h⟩ R = row t R := Fin.ext (show 512 * ((t.val - 1) / 8) + R.val = 512 * (t.val / 8) + R.val by omega)
    rw [after_acc_next m c t (by omega) h, step_apply, ih ⟨t.val - 1, h⟩ (show (t.val - 1) % 8 = j by omega), hr, point_sum, sum_step _ _ _ _ _ _ (1024 * (j + 1)), ht, add_assoc]
    rfl

/-! ## The three arrays -/

/-- The result rows. -/
theorem kernel_y (c : Dev nD) (r : Fin 12288) (d : Fin 2048) :
    (G5 m c : FVec Ideal S12288x2048 .bf16) (ix2 r d) = res (A0 m c) (A1 m c) (A2 m c) (A3 m c) (A4 m c) r d := by
  have hp : pt5Of (ix2 r d) = 8 * (r.val / 512) + 7 := by show 8 * (1 * (r.val / 512 - 0) + 1 * (d.val / 2048 - 0)) + 7 = _; omega
  have hN : pt5Of (ix2 r d) < cfg0.N := by rw [hp]; exact lt_of_lt_of_eq (by omega) N_0.symm
  have hl : loc5Of (ix2 r d) = ix2 (⟨r.val % 512, by omega⟩ : Fin 512) d := by
    funext a
    match a with
    | ⟨0, _⟩ => rfl
    | ⟨1, _⟩ => exact Fin.ext (Nat.mod_eq_of_lt d.isLt)
  refine (dif_pos hN).trans ?_
  rw [hl]
  have h7 : pt5Of (ix2 r d) % 8 = 7 := by omega
  refine (congrFun (after_y m c ⟨pt5Of (ix2 r d), hN⟩ h7) _).trans ((after_acc m c _ d 7 ⟨pt5Of (ix2 r d), hN⟩ h7).trans ?_)
  have hr : row ⟨pt5Of (ix2 r d), hN⟩ ⟨r.val % 512, by omega⟩ = r := Fin.ext (show 512 * (pt5Of (ix2 r d) / 8) + r.val % 512 = r.val by omega)
  rw [hr, res_eq]

/-- The codes. -/
theorem kernel_codes (c : Dev nD) (r : Fin 12288) (x : Fin 8192) :
    (G6 m c : FVec Ideal S12288x8192 .fp8e4m3) (ix2 r x) = code (A0 m c) (A2 m c) (A3 m c) r x := by
  have hp : pt6Of (ix2 r x) = 8 * (r.val / 512) + x.val / 1024 := by show 8 * (r.val / 512 - 0) + 1 * (x.val / 1024 - 0) = _; omega
  have hN : pt6Of (ix2 r x) < cfg0.N := by rw [hp]; exact lt_of_lt_of_eq (by omega) N_0.symm
  have hl : loc6Of (ix2 r x) = ix2 (⟨r.val % 512, by omega⟩ : Fin 512) (⟨x.val % 1024, by omega⟩ : Fin 1024) := by
    funext a
    match a with
    | ⟨0, _⟩ => rfl
    | ⟨1, _⟩ => rfl
  refine (dif_pos hN).trans ?_
  rw [hl]
  refine (congrFun (after_codes m c ⟨pt6Of (ix2 r x), hN⟩) _).trans ((codeB_code m c _ _ _).trans ?_)
  have hr : row ⟨pt6Of (ix2 r x), hN⟩ ⟨r.val % 512, by omega⟩ = r := Fin.ext (show 512 * (pt6Of (ix2 r x) / 8) + r.val % 512 = r.val by omega)
  have hc : cl ⟨pt6Of (ix2 r x), hN⟩ ⟨x.val % 1024, by omega⟩ = x := Fin.ext (show 1024 * (pt6Of (ix2 r x) % 8) + x.val % 1024 = x.val by omega)
  rw [hr, hc]

/-- The scale bytes. -/
theorem kernel_scales (c : Dev nD) (j : Fin 8) (r : Fin 12288) (l : Fin 32) :
    (G7 m c : IVec S8x12288x32 8) (ix3 j r l) = BitVec.ofNat 8 (sb (A0 m c) (A2 m c) (A3 m c) r ⟨32 * j.val + l.val, by omega⟩) := by
  have hp : pt7Of (ix3 j r l) = 8 * (r.val / 512) + j.val := by show 1 * (j.val / 1 - 0) + 8 * (r.val / 512 - 0) + 192 * (l.val / 32 - 0) = _; omega
  have hN : pt7Of (ix3 j r l) < cfg0.N := by rw [hp]; exact lt_of_lt_of_eq (by omega) N_0.symm
  have hl : loc7Of (ix3 j r l) = ix3 (0 : Fin 1) (⟨r.val % 512, by omega⟩ : Fin 512) l := by
    funext a
    match a with
    | ⟨0, _⟩ => exact Fin.ext (Nat.mod_one _)
    | ⟨1, _⟩ => rfl
    | ⟨2, _⟩ => exact Fin.ext (Nat.mod_eq_of_lt l.isLt)
  refine (dif_pos hN).trans ?_
  rw [hl]
  refine (congrFun (after_scales m c ⟨pt7Of (ix3 j r l), hN⟩) _).trans ((scaleB_sb m c _ _ _).trans ?_)
  have hr : row ⟨pt7Of (ix3 j r l), hN⟩ ⟨r.val % 512, by omega⟩ = r := Fin.ext (show 512 * (pt7Of (ix3 j r l) / 8) + r.val % 512 = r.val by omega)
  have hb : (⟨32 * (pt7Of (ix3 j r l) % 8) + l.val, by omega⟩ : Fin 256) = ⟨32 * j.val + l.val, by omega⟩ := Fin.ext (show 32 * (pt7Of (ix3 j r l) % 8) + l.val = 32 * j.val + l.val by omega)
  rw [hr]
  exact congrArg (fun b => BitVec.ofNat 8 (sb (A0 m c) (A2 m c) (A3 m c) r b)) hb

end Cert.KernelIdeal.Gen.Strip

end
-- ==== Proof.RefRun.lean ====
module

public import proofs.«01_k».proof.Proof.Gen.ReferenceIdeal.Frame
public import Idealize.ShloMosaic.Lib.Pipeline.Value

@[expose] public section

noncomputable section

/-! The reference's run: each result array it leaves is one function (`G5`, `G6`, `G7`) of the argument arrays. The reference
has one grid point and every window's block is its whole array. -/

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S12288x2048.Idx) : ((cfg0.win 0).blk t).view.emb j = j := by
  obtain ⟨e0, e1⟩ := idx_zero0 t
  funext a; apply Fin.ext
  match a with
  | ⟨0, _⟩ => show win0_0.index t (0 : Fin 2) * 12288 + 1 * (j 0).val = (j 0).val; omega
  | ⟨1, _⟩ => show win0_0.index t (1 : Fin 2) * 2048 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S12288x2048.Idx) : ((cfg0.win 1).blk t).view.emb j = j := by
  obtain ⟨e0, e1⟩ := idx_zero1 t
  funext a; apply Fin.ext
  match a with
  | ⟨0, _⟩ => show win0_1.index t (0 : Fin 2) * 12288 + 1 * (j 0).val = (j 0).val; omega
  | ⟨1, _⟩ => show win0_1.index t (1 : Fin 2) * 2048 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x2048.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 2048 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S8192x2048.Idx) : ((cfg0.win 3).blk t).view.emb j = j := by
  obtain ⟨e0, e1⟩ := idx_zero3 t
  funext a; apply Fin.ext
  match a with
  | ⟨0, _⟩ => show win0_3.index t (0 : Fin 2) * 8192 + 1 * (j 0).val = (j 0).val; omega
  | ⟨1, _⟩ => show win0_3.index t (1 : Fin 2) * 2048 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2048x8192.Idx) : ((cfg0.win 4).blk t).view.emb j = j := by
  obtain ⟨e0, e1⟩ := idx_zero4 t
  funext a; apply Fin.ext
  match a with
  | ⟨0, _⟩ => show win0_4.index t (0 : Fin 2) * 2048 + 1 * (j 0).val = (j 0).val; omega
  | ⟨1, _⟩ => show win0_4.index t (1 : Fin 2) * 8192 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S12288x2048.Idx) : ((cfg0.win 5).blk t).view.emb j = j := by
  obtain ⟨e0, e1⟩ := idx_zero5 t
  funext a; apply Fin.ext
  match a with
  | ⟨0, _⟩ => show win0_5.index t (0 : Fin 2) * 12288 + 1 * (j 0).val = (j 0).val; omega
  | ⟨1, _⟩ => show win0_5.index t (1 : Fin 2) * 2048 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S12288x8192.Idx) : ((cfg0.win 6).blk t).view.emb j = j := by
  obtain ⟨e0, e1⟩ := idx_zero6 t
  funext a; apply Fin.ext
  match a with
  | ⟨0, _⟩ => show win0_6.index t (0 : Fin 2) * 12288 + 1 * (j 0).val = (j 0).val; omega
  | ⟨1, _⟩ => show win0_6.index t (1 : Fin 2) * 8192 + 1 * (j 1).val = (j 1).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x12288x32.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 12288 + 1 * (j 1).val = (j 1).val; omega
  | ⟨2, _⟩ => show win0_7.index t (2 : Fin 3) * 32 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S12288x2048 .bf16) (a1 : Vec F S12288x2048 .f32) (a2 : Vec F S8192x2048 .bf16) (a3 : Vec F S8192x2048 .bf16) (a4 : Vec F S2048x8192 .bf16) : Vec F S12288x2048 .bf16 :=
  k0_pay2 (k0_pay9 a0 a1 a2 a3 a4) (k0_pay10 a0 a1 a2 a3 a4) (Scalar.ofBits .f32 0x43E00000#32) (k0_pay11 a0 a1 a2 a3 a4) a4 a1

/-- A load of the whole of a block reads the block, and the one store through the whole rectangle leaves its payload. -/
theorem out5_eq (a0 : Vec F S12288x2048 .bf16) (a1 : Vec F S12288x2048 .f32) (a2 : Vec F S8192x2048 .bf16) (a3 : Vec F S8192x2048 .bf16) (a4 : Vec F S2048x8192 .bf16) : out0_5 (F := F) a0 a1 a2 a3 a4 = G5 a0 a1 a2 a3 a4 := by
  unfold out0_5
  rw [View.canon_unit_zero hz5, View.ld_unit_zero (S := S2048x8192) hz4 _ a4, View.ld_unit_zero (S := S12288x2048) hz1 _ a1]

/-- Cutting the point's block out of `X` and reading `X` through the block's view give the same. -/
theorem cut5_eq (t : Fin cfg0.N) (X : Vec F S12288x2048 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S12288x2048.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S12288x2048 .bf16) (a1 : Vec F S12288x2048 .f32) (a2 : Vec F S8192x2048 .bf16) (a3 : Vec F S8192x2048 .bf16) (a4 : Vec F S2048x8192 .bf16) : Vec F S12288x8192 .fp8e4m3 :=
  k0_pay3 (k0_pay10 a0 a1 a2 a3 a4) (Scalar.ofBits .f32 0x43E00000#32) (k0_pay11 a0 a1 a2 a3 a4)

/-- The one store through the whole rectangle leaves its payload. -/
theorem out6_eq (a0 : Vec F S12288x2048 .bf16) (a1 : Vec F S12288x2048 .f32) (a2 : Vec F S8192x2048 .bf16) (a3 : Vec F S8192x2048 .bf16) (a4 : Vec F S2048x8192 .bf16) : out0_6 (F := F) a0 a1 a2 a3 a4 = G6 a0 a1 a2 a3 a4 := by
  unfold out0_6
  rw [View.canon_unit_zero hz6]

/-- Cutting the point's block out of `X` and reading `X` through the block's view give the same. -/
theorem cut6_eq (t : Fin cfg0.N) (X : Vec F S12288x8192 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S12288x8192.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S12288x2048 .bf16) (a1 : Vec F S12288x2048 .f32) (a2 : Vec F S8192x2048 .bf16) (a3 : Vec F S8192x2048 .bf16) (a4 : Vec F S2048x8192 .bf16) : Vec F S8x12288x32 .i8 :=
  k0_pay4 (k0_pay9 a0 a1 a2 a3 a4)

/-- The one store through the whole rectangle leaves its payload. -/
theorem out7_eq (a0 : Vec F S12288x2048 .bf16) (a1 : Vec F S12288x2048 .f32) (a2 : Vec F S8192x2048 .bf16) (a3 : Vec F S8192x2048 .bf16) (a4 : Vec F S2048x8192 .bf16) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S8x12288x32 .i8) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S8x12288x32.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.ReferenceIdeal.RefRun

end
-- ==== Proof.RefValue.lean ====
module

public import proofs.«01_k».proof.Proof.Model
public import proofs.«01_k».proof.Proof.RefRun
public import Idealize.ShloMosaic.Lib.MatmulPlain

@[expose] public section

set_option maxRecDepth 8192

noncomputable section

/-! The reference's three result arrays, element by element. -/

namespace Cert.ReferenceIdeal.Gen.Ref

open Idealize.ShloMosaic Idealize.ShloMosaic.TcCoe Idealize.ShloMosaic.ValueIdx
open Cert.ReferenceIdeal Cert.ReferenceIdeal.Gen Cert.KernelIdeal.Gen.Strip

variable (x : FVec Ideal S12288x2048 .bf16) (w1 w3 : FVec Ideal S8192x2048 .bf16) (w2 : FVec Ideal S2048x8192 .bf16) (r1 : FVec Ideal S12288x2048 .f32)

theorem dot_apply (w : FVec Ideal S8192x2048 .bf16) (r : Fin 12288) (c : Fin 8192) :
    matmul (F := Ideal) dot_S12288x2048_S8192x2048_S12288x8192_1_1_0_0_n_n none x w (constant S12288x8192 .f32 0x00000000#32) (ix2 r c) = dotr x w r c := by
  refine (Ideal.matmul_transposedRhs_apply (M := 12288) (K := 2048) (N := 8192) none x w _ r c).trans ?_
  show Ideal.ofBits .f32 0x00000000#32 + _ = _
  rw [c_zero, zero_add]; rfl

/-- The gated activations by block. -/
theorem pay5_apply (r : Fin 12288) (b : Fin 256) (i : Fin 32) :
    k0_pay5 (F := Ideal) x w1 w3 (ix3 r b i) = act x w1 w3 r ⟨32 * b.val + i.val, by omega⟩ := by
  unfold k0_pay5
  refine (shapeCast_apply _ _ _ (ix2 r (⟨32 * b.val + i.val, by omega⟩ : Fin 8192)) ?_).trans ?_
  · rw [Shape.rowMajor_val_two, Shape.rowMajor_val_three]
    show r.val * 8192 + (32 * b.val + i.val) = (r.val * 256 + b.val) * 32 + i.val
    omega
  · exact congrArg₂ gs (dot_apply x w1 r _) (dot_apply x w3 r _)

/-- The largest magnitude of block `b` of row `r`. -/
def mag (r : Fin 12288) (b : Fin 256) : EReal := amax fun i : Fin 32 => act x w1 w3 r ⟨32 * b.val + i.val, by omega⟩

/-- A reduction over the last axis is the largest magnitude of the 32 entries. -/
theorem max_point (p : FVec Ideal S12288x256x32 .f32) (h) (hφ) (hacc) (r : Fin 12288) (b : Fin 256) :
    multiReduction (F := Ideal) .maximumf [2] S12288x256 (absf p) 0xFF800000#32 h hφ hacc (ix2 r b) = amax fun i => p (ix3 r b i) := by
  refine (Ideal.multiReduction_maximumf_single (absf p) 0xFF800000#32 h hφ hacc (ix2 r b)).trans ?_
  show (Finset.univ : Finset (Fin 32)).fold max (Ideal.ofBits .f32 0xFF800000#32) _ = _
  rw [c_bot]
  unfold amax Finset.sup
  refine Finset.fold_congr fun i _ => ?_
  have hl : h.lift (ix2 r b) i = ix3 r b i := by
    funext a
    match a with
    | ⟨0, _⟩ => rfl
    | ⟨1, _⟩ => rfl
    | ⟨2, _⟩ => rfl
  exact congrArg (fun k => max (p k) (-p k)) hl

section
variable {s : Shape} {φ : FTy}
theorem log_i (v : FVec Ideal s φ) (i : s.Idx) : log v i = Ideal.log (v i) := rfl
theorem floor_i (v : FVec Ideal s φ) (i : s.Idx) : floor v i = Ideal.liftRound Int.floor (v i) := rfl
theorem exp2_i (v : FVec Ideal s φ) (i : s.Idx) : exp2 v i = Ideal.exp2 (v i) := rfl
theorem cmpf_i (p : CmpFPredicate) (v w : FVec Ideal s φ) (i : s.Idx) : cmpf p v w i = Ideal.cmp p (v i) (w i) := rfl
theorem bits_i (w : BitVec φ.bits) : (Scalar.ofBits φ w : Ideal φ) = Ideal.ofBits φ w := rfl
theorem sub_i (v w : FVec Ideal s φ) (i : s.Idx) : subf v w i = v i - w i := rfl
theorem mul_i (v w : FVec Ideal s φ) (i : s.Idx) : mulf v w i = v i * w i := rfl
theorem max_i (v w : FVec Ideal s φ) (i : s.Idx) : maximumf v w i = max (v i) (w i) := rfl
theorem min_i (v w : FVec Ideal s φ) (i : s.Idx) : minimumf v w i = min (v i) (w i) := rfl
theorem div_i (v w : FVec Ideal s φ) (i : s.Idx) : divf v w i = Ideal.div (v i) (w i) := rfl
theorem sel_i (c : IVec s 1) (v w : FVec Ideal s φ) (i : s.Idx) : select c v w i = Scalar.select (c i) (v i) (w i) := rfl
theorem spl_i (a : Ideal φ) (i : s.Idx) : broadcast s a i = a := rfl
end

/-- The shared exponent of block `b` of row `r`. -/
theorem pay6_apply (r : Fin 12288) (b : Fin 256) : k0_pay6 (F := Ideal) x w1 w3 (ix2 r b) = refX (mag x w1 w3 r b) := by
  have h := (max_point (k0_pay5 (F := Ideal) x w1 w3) reduces_S12288x256x32_S12288x256 (.inl rfl) rfl r b).trans
    (amax_congr fun i => pay5_apply x w1 w3 r b i)
  have h' : _ = mag x w1 w3 r b := h
  unfold k0_pay6
  dsimp only
  rw [sel_i, cmpf_i, h', min_i, max_i, sub_i, sel_i, cmpf_i, h', min_i, floor_i, div_i, log_i, log_i, h']
  simp only [spl_i, bits_i]
  unfold refX
  rfl

/-- A block's largest magnitude is not negative. -/
theorem mag_nonneg (r : Fin 12288) (b : Fin 256) : 0 ≤ mag x w1 w3 r b := amax_nonneg _

/-- A row of blocks' numbers spread over the blocks. -/
theorem spread_apply {φ : FTy} (v : FVec Ideal S12288x256 φ) (r : Fin 12288) (b : Fin 256) (i : Fin 32) :
    broadcastTo S12288x256x32 (shapeCast S12288x256x1 v shapeCasts_S12288x256_S12288x256x1) broadcasts_S12288x256x1_S12288x256x32 (ix3 r b i) = v (ix2 r b) := by
  refine (broadcastTo_apply _ _ _ (ix3 r b (0 : Fin 1)) fun a => ?_).trans (shapeCast_apply _ _ _ (ix2 r b) ?_)
  · match a with
    | ⟨0, _⟩ => rfl
    | ⟨1, _⟩ => rfl
    | ⟨2, _⟩ => rfl
  · rw [Shape.rowMajor_val_two, Shape.rowMajor_val_three]
    show r.val * 256 + b.val = (r.val * 256 + b.val) * 1 + 0
    omega

/-- The scaled activations. -/
theorem pay7_apply (r : Fin 12288) (b : Fin 256) (i : Fin 32) :
    k0_pay7 (F := Ideal) x w1 w3 (ix3 r b i) = act x w1 w3 r ⟨32 * b.val + i.val, by omega⟩ * thr (254 - sb x w1 w3 r b) := by
  have h5 := pay5_apply x w1 w3 r b i
  have h6 := pay6_apply x w1 w3 r b
  unfold k0_pay7
  generalize k0_pay5 (F := Ideal) x w1 w3 = p5 at h5 ⊢
  generalize k0_pay6 (F := Ideal) x w1 w3 = p6 at h6 ⊢
  rw [mul_i, spread_apply, exp2_i, sub_i, spl_i, bits_i, h5, h6, ref_mult _ (mag_nonneg x w1 w3 r b)]
  unfold sb mag
  rfl

/-- A scaled activation, clamped. -/
theorem clamp_apply (q : FVec Ideal S12288x256x32 .f32) (r : Fin 12288) (b : Fin 256) (i : Fin 32) :
    k0_pay1 (F := Ideal) q (Scalar.ofBits .f32 0x43E00000#32) k0_pay8 (ix3 r b i)
      = min ((448 : ℝ) : EReal) (max ((-448 : ℝ) : EReal) (q (ix3 r b i))) := by
  show min (Ideal.ofBits .f32 0x43E00000#32) (max (Ideal.ofBits .f32 0xC3E00000#32) (q (ix3 r b i))) = _
  rw [c_448, c_neg448]

/-- The codes by block. -/
theorem pay1_apply (r : Fin 12288) (b : Fin 256) (i : Fin 32) :
    k0_pay1 (F := Ideal) (k0_pay7 x w1 w3) (Scalar.ofBits .f32 0x43E00000#32) k0_pay8 (ix3 r b i)
      = qcode (act x w1 w3 r ⟨32 * b.val + i.val, by omega⟩) (sb x w1 w3 r b) := by
  rw [clamp_apply, pay7_apply]
  rfl

/-- Blocks laid end to end. -/
theorem flat_apply {α : Type} (v : S12288x256x32.Idx → α) (r : Fin 12288) (c : Fin 8192) :
    shapeCast S12288x8192 v shapeCasts_S12288x256x32_S12288x8192 (ix2 r c) = v (ix3 r (⟨c.val / 32, by omega⟩ : Fin 256) (⟨c.val % 32, by omega⟩ : Fin 32)) := by
  refine shapeCast_apply _ _ _ _ ?_
  rw [Shape.rowMajor_val_two, Shape.rowMajor_val_three]
  show (r.val * 256 + c.val / 32) * 32 + c.val % 32 = r.val * 8192 + c.val
  omega

theorem act_back (r : Fin 12288) (c : Fin 8192) (h) : act x w1 w3 r ⟨32 * (c.val / 32) + c.val % 32, h⟩ = act x w1 w3 r c :=
  congrArg (act x w1 w3 r) (Fin.ext (show 32 * (c.val / 32) + c.val % 32 = c.val by omega))

/-- The codes. -/
theorem pay3_apply (r : Fin 12288) (c : Fin 8192) :
    k0_pay3 (F := Ideal) (k0_pay7 x w1 w3) (Scalar.ofBits .f32 0x43E00000#32) k0_pay8 (ix2 r c) = code x w1 w3 r c := by
  unfold k0_pay3
  refine (flat_apply _ r c).trans ((pay1_apply x w1 w3 r _ _).trans ?_)
  unfold code
  exact congrArg (fun z => qcode z _) (act_back x w1 w3 r c _)

/-- A row of exponents as bytes, cut in eight and the cut put first. -/
theorem bytes_apply (p : FVec Ideal S12288x256 .f32) (j : Fin 8) (r : Fin 12288) (l : Fin 32) :
    k0_pay4 (F := Ideal) p (ix3 j r l)
      = (Ideal.fptosi 32 (p (ix2 r (⟨32 * j.val + l.val, by omega⟩ : Fin 256)) + Ideal.ofBits .f32 0x42FE0000#32)).setWidth 8 := by
  unfold k0_pay4
  refine (transpose_apply _ _ _ _ (ix3 r j l) fun b => ?_).trans (shapeCast_apply _ _ _ (ix2 r (⟨32 * j.val + l.val, by omega⟩ : Fin 256)) ?_)
  · match b with
    | ⟨0, _⟩ => rfl
    | ⟨1, _⟩ => rfl
    | ⟨2, _⟩ => rfl
  · rw [Shape.rowMajor_val_two, Shape.rowMajor_val_three]
    show r.val * 256 + (32 * j.val + l.val) = (r.val * 8 + j.val) * 32 + l.val
    omega

theorem byte_of_word (n : ℕ) : (BitVec.ofNat 32 n).setWidth 8 = BitVec.ofNat 8 n := by
  apply BitVec.eq_of_toNat_eq
  rw [BitVec.toNat_setWidth, BitVec.toNat_ofNat, BitVec.toNat_ofNat]
  omega

/-- The scale bytes. -/
theorem pay4_apply (j : Fin 8) (r : Fin 12288) (l : Fin 32) :
    k0_pay4 (F := Ideal) (k0_pay6 x w1 w3) (ix3 j r l) = BitVec.ofNat 8 (sb x w1 w3 r ⟨32 * j.val + l.val, by omega⟩) := by
  rw [bytes_apply, pay6_apply, ref_byte _ (mag_nonneg x w1 w3 r _)]
  exact byte_of_word _

/-- The residual plus the product of the decoded values with the weights. -/
theorem down_apply (e : FVec Ideal S12288x256 .f32) (q : FVec Ideal S12288x256x32 .f32) (r : Fin 12288) (d : Fin 2048) :
    k0_pay2 (F := Ideal) e q (Scalar.ofBits .f32 0x43E00000#32) k0_pay8 w2 r1 (ix2 r d)
      = r1 (ix2 r d) + ∑ c : Fin 8192,
          k0_pay1 (F := Ideal) q (Scalar.ofBits .f32 0x43E00000#32) k0_pay8 (ix3 r (⟨c.val / 32, by omega⟩ : Fin 256) (⟨c.val % 32, by omega⟩ : Fin 32))
            * Scalar.select (Ideal.cmp .oeq (e (ix2 r (⟨c.val / 32, by omega⟩ : Fin 256))) (Ideal.ofBits .f32 0xC2FE0000#32))
                (Ideal.ofBits .f32 0x00000000#32) (Ideal.exp2 (e (ix2 r (⟨c.val / 32, by omega⟩ : Fin 256))))
            * w2 (ix2 d c) := by
  unfold k0_pay2
  generalize k0_pay1 (F := Ideal) q (Scalar.ofBits .f32 0x43E00000#32) k0_pay8 = p1
  refine congrArg (r1 (ix2 r d) + ·) ((Ideal.matmul_transposedRhs_apply (M := 12288) (K := 8192) (N := 2048) none _ w2 _ r d).trans ?_)
  refine (congrArg (· + _) ((c_zero : Ideal.ofBits .f32 0x00000000#32 = 0))).trans ((zero_add _).trans ?_)
  refine Finset.sum_congr rfl fun c _ => congrArg (· * w2 (ix2 d c)) ((flat_apply _ r c).trans ?_)
  exact congrArg (p1 _ * ·) (spread_apply _ r _ _)

/-- The result rows. -/
theorem pay2_apply (r : Fin 12288) (d : Fin 2048) :
    k0_pay2 (F := Ideal) (k0_pay6 x w1 w3) (k0_pay7 x w1 w3) (Scalar.ofBits .f32 0x43E00000#32) k0_pay8 w2 r1 (ix2 r d) = res x r1 w1 w3 w2 r d := by
  rw [down_apply]
  unfold res dec qval
  refine congrArg (r1 (ix2 r d) + ·) (Finset.sum_congr rfl fun c _ => congrArg (· * w2 (ix2 d c)) ?_)
  rw [pay1_apply, act_back, pay6_apply, ref_scale _ (mag_nonneg x w1 w3 r _)]
  rfl

theorem z2 : (![0, 0] : Fin 2 → ℕ) = fun _ => 0 := by funext a; fin_cases a <;> rfl

/-- Loading the whole of an array gives the array. -/
theorem lds (x : Vec Ideal S12288x2048 .bf16) (w1 w3 : Vec Ideal S8192x2048 .bf16) :
    View.ld x r0_0 = x ∧ View.ld w1 r0_1 = w1 ∧ View.ld w3 r0_1 = w3 :=
  ⟨View.ld_unit_zero (S := S12288x2048) z2 _ x, View.ld_unit_zero (S := S8192x2048) z2 _ w1, View.ld_unit_zero (S := S8192x2048) z2 _ w3⟩

/-- The reference's result rows. -/
theorem ref_y (r : Fin 12288) (d : Fin 2048) : RefRun.G5 (F := Ideal) x r1 w1 w3 w2 (ix2 r d) = res x r1 w1 w3 w2 r d := by
  obtain ⟨e0, e1, e2⟩ := lds x w1 w3
  unfold RefRun.G5 k0_pay9 k0_pay10 k0_pay11
  rw [e0, e1, e2]
  exact pay2_apply x w1 w3 w2 r1 r d

/-- The reference's codes. -/
theorem ref_codes (r : Fin 12288) (c : Fin 8192) : RefRun.G6 (F := Ideal) x r1 w1 w3 w2 (ix2 r c) = code x w1 w3 r c := by
  obtain ⟨e0, e1, e2⟩ := lds x w1 w3
  unfold RefRun.G6 k0_pay10 k0_pay11
  rw [e0, e1, e2]
  exact pay3_apply x w1 w3 r c

/-- The reference's scale bytes. -/
theorem ref_scales (j : Fin 8) (r : Fin 12288) (l : Fin 32) :
    RefRun.G7 (F := Ideal) x r1 w1 w3 w2 (ix3 j r l) = BitVec.ofNat 8 (sb x w1 w3 r ⟨32 * j.val + l.val, by omega⟩) := by
  obtain ⟨e0, e1, e2⟩ := lds x w1 w3
  unfold RefRun.G7 k0_pay9
  rw [e0, e1, e2]
  exact pay4_apply x w1 w3 j r l

end Cert.ReferenceIdeal.Gen.Ref

end
-- ==== Proof.OutModel.lean ====
module

public import proofs.«01_k».proof.Proof.Model

@[expose] public section

noncomputable section

/-! The output projection as functions of its four arrays, by row and column: the residual rows, the normed rows, their
block codes, decoded values and scale bytes. -/

namespace Cert.OutKernelIdeal.Gen.Wide

open Idealize.ShloMosaic Idealize.ShloMosaic.ValueIdx
open Cert.KernelIdeal.Gen.Strip (Arr dotr amax amax_congr sbyte qcode qval)

/-- One entry of a normed row: the entry over the root mean square of its row, times its weight. -/
def nrm (x : Fin 2048 → EReal) (w : EReal) (c : Fin 2048) : EReal :=
  x c * Ideal.rsqrt ((∑ k, x k * x k) * Ideal.ofBits .f32 0x3A000000#32 + Ideal.ofBits .f32 0x358637BD#32) * w

theorem nrm_congr {x y : Fin 2048 → EReal} {v w : EReal} (h : ∀ k, x k = y k) (hw : v = w) (c : Fin 2048) : nrm x v c = nrm y w c := by rw [funext h, hw]

section Model

variable (a0 : Arr 12288 1920) (a1 : Arr 2048 1920) (a2 : Arr 12288 2048) (a3 : Arr 1 2048)

/-- The residual's entry of row `r` and column `c`. -/
def resid (r : Fin 12288) (c : Fin 2048) : EReal := dotr a0 a1 r c + a2 (ix2 r c)

/-- The normed entry of row `r` and column `c`. -/
def nact (r : Fin 12288) (c : Fin 2048) : EReal := nrm (resid a0 a1 a2 r) (a3 (ix2 (0 : Fin 1) c)) c

/-- The scale byte of block `b` of row `r`. -/
def sb (r : Fin 12288) (b : Fin 64) : ℕ := sbyte (amax fun i : Fin 32 => nact a0 a1 a2 a3 r ⟨32 * b.val + i.val, by omega⟩)

/-- The code of row `r` and column `c`. -/
def code (r : Fin 12288) (c : Fin 2048) : EReal := qcode (nact a0 a1 a2 a3 r c) (sb a0 a1 a2 a3 r ⟨c.val / 32, by omega⟩)

/-- The decoded value of row `r` and column `c`. -/
def dec (r : Fin 12288) (c : Fin 2048) : EReal := qval (nact a0 a1 a2 a3 r c) (sb a0 a1 a2 a3 r ⟨c.val / 32, by omega⟩)

end Model

end Cert.OutKernelIdeal.Gen.Wide

end
-- ==== Proof.OutStrip.lean ====
module

public import proofs.«01_k».proof.Proof.Gen.OutKernelIdeal.Value
public import proofs.«01_k».proof.Proof.Strip

@[expose] public section

noncomputable section

/-! The output projection's strip: sixteen 32 x 128 tiles of a strip of 32 token rows, normed by their rows' mean squares
and quantised. The half tiles' moves and the search for exponents are those of the eight-tile strip. -/

namespace Cert.OutKernelIdeal.Gen.Wide

open Idealize.ShloMosaic Idealize.ShloMosaic.TcCoe
open Cert.KernelIdeal.Gen.Strip (lane wrap bit perm merge fold top bot byte packed hiW loW valsHalf codes pick)

variable {F : FTy → Type} [FloatOps F]

/-- The sixteen tiles' block maxima, all in one tile. -/
def maxW (t : Fin 16 → FVec F S16x128 .f32) : FVec F S16x128 .f32 :=
  fold 1#32 (merge 2#32 (merge 4#32 (merge 8#32 (merge 16#32 (t 0) (t 1)) (merge 16#32 (t 2) (t 3))) (merge 8#32 (merge 16#32 (t 4) (t 5)) (merge 16#32 (t 6) (t 7)))) (merge 4#32 (merge 8#32 (merge 16#32 (t 8) (t 9)) (merge 16#32 (t 10) (t 11))) (merge 8#32 (merge 16#32 (t 12) (t 13)) (merge 16#32 (t 14) (t 15)))))

/-- The upper rows' scale bytes of a strip of sixteen tiles. -/
def byteT (g : Fin 16 → FVec F S32x128 .f32) : IVec S16x128 32 := byte (maxW fun j => absf (top (g j)))

/-- The lower rows' scale bytes of a strip of sixteen tiles. -/
def byteB (g : Fin 16 → FVec F S32x128 .f32) : IVec S16x128 32 := byte (maxW fun j => absf (bot (g j)))

/-- A tile's decoded values. -/
def vals (t : FVec F S32x128 .f32) (w : IVec S16x128 32) (o : BitVec 32) : FVec F S32x128 .bf16 :=
  concatenate S32x128 0 [⟨S16x128, valsHalf (top t) (hiW w o)⟩, ⟨S16x128, valsHalf (bot t) (loW w o)⟩] concatenates_S16x128_S16x128_S32x128_d0

/-- The strip's packed multipliers. -/
def word (g : Fin 16 → FVec F S32x128 .f32) : IVec S16x128 32 := packed (byteT g) (byteB g)

/-- The lane that holds block `l`'s scale byte. -/
def src : IVec S16x128 32 :=
  (pick 15#32 30#32 (pick 14#32 14#32 (pick 13#32 22#32 (pick 12#32 6#32 (pick 11#32 26#32 (pick 10#32 10#32 (pick 9#32 18#32 (pick 8#32 2#32 (pick 7#32 28#32 (pick 6#32 12#32 (pick 5#32 20#32 (pick 4#32 4#32 (pick 3#32 24#32 (pick 2#32 8#32 (pick 1#32 16#32 (pick 0#32 0#32 (broadcast S16x128 0#32)))))))))))))))))

/-- The strip's 32 x 64 scale bytes. -/
def scales (p q : IVec S16x128 32) : IVec S32x64 8 :=
  trunci 8 (extractStridedSlice S32x64 ![0, 0]
    (concatenate S32x128 0 [⟨S16x128, dynamicGather 1 p (wrap src)⟩, ⟨S16x128, dynamicGather 1 q (wrap src)⟩] concatenates_S16x128_S16x128_S32x128_d0)
    slices_S32x128_o0_0_S32x64) natLt_8_32

/-- The lane within a group at which tile `j`'s multipliers lie. -/
def offs : Fin 16 → BitVec 32 := ![0#32, 16#32, 8#32, 24#32, 4#32, 20#32, 12#32, 28#32, 2#32, 18#32, 10#32, 26#32, 6#32, 22#32, 14#32, 30#32]

/-- The sums of the tiles' squares. -/
def squares (x : Fin 16 → FVec F S32x128 .f32) : FVec F S32x128 .f32 :=
  (addf (addf (addf (addf (addf (addf (addf (addf (addf (addf (addf (addf (addf (addf (addf (mulf (x 0) (x 0)) (mulf (x 1) (x 1))) (mulf (x 2) (x 2))) (mulf (x 3) (x 3))) (mulf (x 4) (x 4))) (mulf (x 5) (x 5))) (mulf (x 6) (x 6))) (mulf (x 7) (x 7))) (mulf (x 8) (x 8))) (mulf (x 9) (x 9))) (mulf (x 10) (x 10))) (mulf (x 11) (x 11))) (mulf (x 12) (x 12))) (mulf (x 13) (x 13))) (mulf (x 14) (x 14))) (mulf (x 15) (x 15)))

/-- The rows' reciprocal root mean squares. -/
def inv (x : Fin 16 → FVec F S32x128 .f32) : FVec F S32x1 .f32 :=
  rsqrt (addf (mulf (shapeCast S32x1 (multiReduction .add [1] S32 (squares x) 0x00000000#32 reduces_S32x128_S32 (.inl rfl) rfl) shapeCasts_S32_S32x1)
    (broadcast S32x1 (Scalar.ofBits .f32 0x3A000000#32))) (broadcast S32x1 (Scalar.ofBits .f32 0x358637BD#32)))

/-- One normed tile. -/
def normed (x : FVec F S32x128 .f32) (i : FVec F S32x1 .f32) (w : FVec F S1x128 .f32) : FVec F S32x128 .f32 :=
  mulf (mulf x (broadcastTo S32x128 i broadcasts_S32x1_S32x128)) (broadcastTo S32x128 w broadcasts_S1x128_S32x128)

/-- Strip `k`'s sixteen tiles, read from the residual block. -/
def raw (arg5 : Memref sig .tc .vmem S512x2048 .f32) (X_arg5 : BufTy.Contents (Elt F) arg5.view.ty) (k : Fin k0_t1_loop.trips) : Fin 16 → FVec F S32x128 .f32 :=
  ![
    shapeCast S32x128 (View.readAt (Elt F) arg5.view (Rect.unit (s := S512x2048) (k0_off1 k) S32x128.size (k0_off1_inb k)).toLoadRect X_arg5) shapeCasts_S32x128_S32x128,
    shapeCast S32x128 (View.readAt (Elt F) arg5.view (Rect.unit (s := S512x2048) (k0_off2 k) S32x128.size (k0_off2_inb k)).toLoadRect X_arg5) shapeCasts_S32x128_S32x128,
    shapeCast S32x128 (View.readAt (Elt F) arg5.view (Rect.unit (s := S512x2048) (k0_off3 k) S32x128.size (k0_off3_inb k)).toLoadRect X_arg5) shapeCasts_S32x128_S32x128,
    shapeCast S32x128 (View.readAt (Elt F) arg5.view (Rect.unit (s := S512x2048) (k0_off4 k) S32x128.size (k0_off4_inb k)).toLoadRect X_arg5) shapeCasts_S32x128_S32x128,
    shapeCast S32x128 (View.readAt (Elt F) arg5.view (Rect.unit (s := S512x2048) (k0_off5 k) S32x128.size (k0_off5_inb k)).toLoadRect X_arg5) shapeCasts_S32x128_S32x128,
    shapeCast S32x128 (View.readAt (Elt F) arg5.view (Rect.unit (s := S512x2048) (k0_off6 k) S32x128.size (k0_off6_inb k)).toLoadRect X_arg5) shapeCasts_S32x128_S32x128,
    shapeCast S32x128 (View.readAt (Elt F) arg5.view (Rect.unit (s := S512x2048) (k0_off7 k) S32x128.size (k0_off7_inb k)).toLoadRect X_arg5) shapeCasts_S32x128_S32x128,
    shapeCast S32x128 (View.readAt (Elt F) arg5.view (Rect.unit (s := S512x2048) (k0_off8 k) S32x128.size (k0_off8_inb k)).toLoadRect X_arg5) shapeCasts_S32x128_S32x128,
    shapeCast S32x128 (View.readAt (Elt F) arg5.view (Rect.unit (s := S512x2048) (k0_off9 k) S32x128.size (k0_off9_inb k)).toLoadRect X_arg5) shapeCasts_S32x128_S32x128,
    shapeCast S32x128 (View.readAt (Elt F) arg5.view (Rect.unit (s := S512x2048) (k0_off10 k) S32x128.size (k0_off10_inb k)).toLoadRect X_arg5) shapeCasts_S32x128_S32x128,
    shapeCast S32x128 (View.readAt (Elt F) arg5.view (Rect.unit (s := S512x2048) (k0_off11 k) S32x128.size (k0_off11_inb k)).toLoadRect X_arg5) shapeCasts_S32x128_S32x128,
    shapeCast S32x128 (View.readAt (Elt F) arg5.view (Rect.unit (s := S512x2048) (k0_off12 k) S32x128.size (k0_off12_inb k)).toLoadRect X_arg5) shapeCasts_S32x128_S32x128,
    shapeCast S32x128 (View.readAt (Elt F) arg5.view (Rect.unit (s := S512x2048) (k0_off13 k) S32x128.size (k0_off13_inb k)).toLoadRect X_arg5) shapeCasts_S32x128_S32x128,
    shapeCast S32x128 (View.readAt (Elt F) arg5.view (Rect.unit (s := S512x2048) (k0_off14 k) S32x128.size (k0_off14_inb k)).toLoadRect X_arg5) shapeCasts_S32x128_S32x128,
    shapeCast S32x128 (View.readAt (Elt F) arg5.view (Rect.unit (s := S512x2048) (k0_off15 k) S32x128.size (k0_off15_inb k)).toLoadRect X_arg5) shapeCasts_S32x128_S32x128,
    shapeCast S32x128 (View.readAt (Elt F) arg5.view (Rect.unit (s := S512x2048) (k0_off16 k) S32x128.size (k0_off16_inb k)).toLoadRect X_arg5) shapeCasts_S32x128_S32x128]

/-- The norm's weights, tile by tile. -/
def wts (arg4 : Memref sig .tc .vmem S1x2048 .f32) (X_arg4 : BufTy.Contents (Elt F) arg4.view.ty) : Fin 16 → FVec F S1x128 .f32 :=
  ![
    View.readAt (Elt F) arg4.view (Rect.unit (s := S1x2048) ![0, 0] S1x128.size inb_S1x2048_S1x128_0_0).toLoadRect X_arg4,
    View.readAt (Elt F) arg4.view (Rect.unit (s := S1x2048) ![0, 128] S1x128.size inb_S1x2048_S1x128_0_128).toLoadRect X_arg4,
    View.readAt (Elt F) arg4.view (Rect.unit (s := S1x2048) ![0, 256] S1x128.size inb_S1x2048_S1x128_0_256).toLoadRect X_arg4,
    View.readAt (Elt F) arg4.view (Rect.unit (s := S1x2048) ![0, 384] S1x128.size inb_S1x2048_S1x128_0_384).toLoadRect X_arg4,
    View.readAt (Elt F) arg4.view (Rect.unit (s := S1x2048) ![0, 512] S1x128.size inb_S1x2048_S1x128_0_512).toLoadRect X_arg4,
    View.readAt (Elt F) arg4.view (Rect.unit (s := S1x2048) ![0, 640] S1x128.size inb_S1x2048_S1x128_0_640).toLoadRect X_arg4,
    View.readAt (Elt F) arg4.view (Rect.unit (s := S1x2048) ![0, 768] S1x128.size inb_S1x2048_S1x128_0_768).toLoadRect X_arg4,
    View.readAt (Elt F) arg4.view (Rect.unit (s := S1x2048) ![0, 896] S1x128.size inb_S1x2048_S1x128_0_896).toLoadRect X_arg4,
    View.readAt (Elt F) arg4.view (Rect.unit (s := S1x2048) ![0, 1024] S1x128.size inb_S1x2048_S1x128_0_1024).toLoadRect X_arg4,
    View.readAt (Elt F) arg4.view (Rect.unit (s := S1x2048) ![0, 1152] S1x128.size inb_S1x2048_S1x128_0_1152).toLoadRect X_arg4,
    View.readAt (Elt F) arg4.view (Rect.unit (s := S1x2048) ![0, 1280] S1x128.size inb_S1x2048_S1x128_0_1280).toLoadRect X_arg4,
    View.readAt (Elt F) arg4.view (Rect.unit (s := S1x2048) ![0, 1408] S1x128.size inb_S1x2048_S1x128_0_1408).toLoadRect X_arg4,
    View.readAt (Elt F) arg4.view (Rect.unit (s := S1x2048) ![0, 1536] S1x128.size inb_S1x2048_S1x128_0_1536).toLoadRect X_arg4,
    View.readAt (Elt F) arg4.view (Rect.unit (s := S1x2048) ![0, 1664] S1x128.size inb_S1x2048_S1x128_0_1664).toLoadRect X_arg4,
    View.readAt (Elt F) arg4.view (Rect.unit (s := S1x2048) ![0, 1792] S1x128.size inb_S1x2048_S1x128_0_1792).toLoadRect X_arg4,
    View.readAt (Elt F) arg4.view (Rect.unit (s := S1x2048) ![0, 1920] S1x128.size inb_S1x2048_S1x128_0_1920).toLoadRect X_arg4]

/-- Strip `k`'s normed tiles. -/
def tiles (arg4 : Memref sig .tc .vmem S1x2048 .f32) (arg5 : Memref sig .tc .vmem S512x2048 .f32) (X_arg4 : BufTy.Contents (Elt F) arg4.view.ty)
    (X_arg5 : BufTy.Contents (Elt F) arg5.view.ty) (k : Fin k0_t1_loop.trips) (j : Fin 16) : FVec F S32x128 .f32 :=
  normed (raw arg5 X_arg5 k j) (inv (raw arg5 X_arg5 k)) (wts arg4 X_arg4 j)

end Cert.OutKernelIdeal.Gen.Wide

end
-- ==== Proof.OutValue.lean ====
module

public import proofs.«01_k».proof.Proof.StripValue
public import proofs.«01_k».proof.Proof.OutStrip

@[expose] public section

noncomputable section

/-! The sixteen-tile strip read at one element: the merge of its tiles' maxima, the gather that hands each block its
multiplier, the order of the scale bytes, and what the strip stores. -/

namespace Cert.OutKernelIdeal.Gen.Wide

open Idealize.ShloMosaic Idealize.ShloMosaic.ValueIdx
open Cert.KernelIdeal.Gen.Strip (lane wrap bit perm merge fold top bot byte byte_apply packed hiW loW valsHalf codesHalf codes gath gather_apply lane_apply clr sw
  IsMax pickT fold_isMax merge_isMax leaf_isMax clr16 clr8 clr4 clr16' clr8' clr4' K5 col amax amax_nonneg sbyte sbyte_le word_sub pack_hi pack_lo qcode qval
  concat_lo concat_hi row_cases codesHalf_apply valsHalf_apply top_apply bot_apply)

theorem clr2 : ∀ l, clr 2 (sw 2 l) = !clr 2 l := by decide +kernel
theorem clr2' : ∀ l, clr 2 (sw 1 l) = clr 2 l := by decide +kernel

/-- The tile whose maxima a lane ends with. -/
def tileOf (t : Fin 16 → Fin 128 → EReal) : Fin 128 → Fin 128 → EReal :=
  pickT 2 (pickT 4 (pickT 8 (pickT 16 (fun _ => t 0) fun _ => t 1) (pickT 16 (fun _ => t 2) fun _ => t 3))
    (pickT 8 (pickT 16 (fun _ => t 4) fun _ => t 5) (pickT 16 (fun _ => t 6) fun _ => t 7)))
    (pickT 4 (pickT 8 (pickT 16 (fun _ => t 8) fun _ => t 9) (pickT 16 (fun _ => t 10) fun _ => t 11))
    (pickT 8 (pickT 16 (fun _ => t 12) fun _ => t 13) (pickT 16 (fun _ => t 14) fun _ => t 15)))

theorem maxW_isMax (t : Fin 16 → FVec Ideal S16x128 .f32) (r : Fin 16) :
    IsMax K5 (tileOf fun j l => t j (ix2 r l)) fun l => maxW t (ix2 r l) := by
  have m16 : ∀ j k : Fin 16, _ := fun j k => merge_isMax 16 clr16 [0] _ _ (t j) (t k) r (leaf_isMax (t j) r) (leaf_isMax (t k) r) (fun _ => rfl) (fun _ => rfl)
  have m8 : ∀ j k j' k' : Fin 16, _ := fun j k j' k' => merge_isMax 8 clr8 _ _ _ _ _ r (m16 j k) (m16 j' k')
    (fun l => by simp only [pickT, clr16']) (fun l => by simp only [pickT, clr16'])
  have m4 : ∀ a b c d a' b' c' d' : Fin 16, _ := fun a b c d a' b' c' d' => merge_isMax 4 clr4 _ _ _ _ _ r (m8 a b c d) (m8 a' b' c' d')
    (fun l => by simp only [pickT, clr16', clr8']) (fun l => by simp only [pickT, clr16', clr8'])
  have m2 := merge_isMax 2 clr2 _ _ _ _ _ r (m4 0 1 2 3 4 5 6 7) (m4 8 9 10 11 12 13 14 15)
    (fun l => by simp only [pickT, clr16', clr8', clr4']) (fun l => by simp only [pickT, clr16', clr8', clr4'])
  have m1 := fold_isMax 1 _ _ _ r m2 (fun l => by simp only [pickT, clr16', clr8', clr4', clr2'])
  exact m1

/-- The lane of tile `j`'s group `q`. -/
def ln (q : Fin 4) (j : Fin 16) : Fin 128 := ⟨32 * q.val + (offs j).toNat % 32, by omega⟩

theorem ln_clr : ∀ q j, clr 16 (ln q j) = (j.val % 2 == 0) ∧ clr 8 (ln q j) = (j.val / 2 % 2 == 0) ∧ clr 4 (ln q j) = (j.val / 4 % 2 == 0) ∧ clr 2 (ln q j) = (j.val / 8 == 0) := by decide +kernel

theorem tileOf_ln (t : Fin 16 → Fin 128 → EReal) (q : Fin 4) (j : Fin 16) : tileOf t (ln q j) = t j := by
  obtain ⟨h1, h2, h3, h4⟩ := ln_clr q j
  unfold tileOf pickT
  simp only [h1, h2, h3, h4]
  fin_cases j <;> rfl

theorem K5_cover : ∀ (q : Fin 4) (j : Fin 16), (∀ k ∈ K5, ∃ i, sw k (ln q j) = col q i) ∧ ∀ i, ∃ k ∈ K5, sw k (ln q j) = col q i := by decide +kernel

/-- THE MERGE: at tile `j`'s lane of group `q` lies the maximum of that tile's group. -/
theorem maxW_ln (t : Fin 16 → FVec Ideal S16x128 .f32) (r : Fin 16) (q : Fin 4) (j : Fin 16) :
    maxW t (ix2 r (ln q j)) = Finset.univ.sup fun i : Fin 32 => t j (ix2 r (col q i)) := by
  apply eq_of_forall_ge_iff
  intro x
  rw [maxW_isMax t r (ln q j) x, tileOf_ln, Finset.sup_le_iff]
  obtain ⟨h1, h2⟩ := K5_cover q j
  constructor
  · intro h i _
    obtain ⟨k, hk, e⟩ := h2 i
    rw [← e]; exact h k hk
  · intro h k hk
    obtain ⟨i, e⟩ := h1 k hk
    rw [e]; exact h i (Finset.mem_univ _)

theorem group_word : ∀ (l : Fin 128) (j : Fin 16), IntOp.shli .vector (IntOp.shrsi .vector (BitVec.ofNat 32 l.val) 5#32) 5#32 + offs j
    = BitVec.ofNat 32 (ln ⟨l.val / 32, by omega⟩ j).val := by decide +kernel

/-- The gather hands lane `l` the word at tile `j`'s lane of its own group. -/
theorem gath_apply (w : IVec S16x128 32) (j : Fin 16) (r : Fin 16) (l : Fin 128) :
    gath w (offs j) (ix2 r l) = w (ix2 r (ln ⟨l.val / 32, by omega⟩ j)) := by
  refine gather_apply w _ r l _ ?_
  show IntOp.shli .vector (IntOp.shrsi .vector (lane (ix2 r l)) 5#32) 5#32 + offs j = _
  rw [lane_apply]; exact group_word l j

/-- The lane that holds a block's scale byte, on one word. -/
def srcS (w : BitVec 32) : BitVec 32 :=
  let p (q o e : BitVec 32) : BitVec 32 := Scalar.select (IntOp.cmpi .eq (IntOp.shrsi .vector w 2#32) q)
    (IntOp.shli .vector (w &&& 3#32) 5#32 + o) e
  (p 15#32 30#32 (p 14#32 14#32 (p 13#32 22#32 (p 12#32 6#32 (p 11#32 26#32 (p 10#32 10#32 (p 9#32 18#32 (p 8#32 2#32 (p 7#32 28#32 (p 6#32 12#32 (p 5#32 20#32 (p 4#32 4#32 (p 3#32 24#32 (p 2#32 8#32 (p 1#32 16#32 (p 0#32 0#32 0#32))))))))))))))))

theorem src_word : ∀ l : Fin 64, srcS (BitVec.ofNat 32 l.val) = BitVec.ofNat 32 (ln ⟨l.val % 4, by omega⟩ ⟨l.val / 4, by omega⟩).val := by decide +kernel

/-- The scale bytes leave in the order of their blocks. -/
theorem src_apply (r : Fin 16) (l : Fin 64) :
    src (ix2 r (⟨l.val, by omega⟩ : Fin 128)) = BitVec.ofNat 32 (ln ⟨l.val % 4, by omega⟩ ⟨l.val / 4, by omega⟩).val := by
  have : src (ix2 r (⟨l.val, by omega⟩ : Fin 128)) = srcS (lane (ix2 r (⟨l.val, by omega⟩ : Fin 128))) := rfl
  rw [this, lane_apply]; exact src_word l
/-- The largest magnitude of a block of the strip: row `R`, tile `j`, group `q`. -/
def blk (g : Fin 16 → FVec Ideal S32x128 .f32) (R : Fin 32) (j : Fin 16) (q : Fin 4) : EReal := amax fun i => g j (ix2 R (col q i))

theorem byteT_ln (g : Fin 16 → FVec Ideal S32x128 .f32) (r : Fin 16) (q : Fin 4) (j : Fin 16) :
    byteT g (ix2 r (ln q j)) = BitVec.ofNat 32 (sbyte (blk g ⟨r.val, by omega⟩ j q)) := by
  have h := maxW_ln (fun j => absf (top (g j))) r q j
  have e : (Finset.univ.sup fun i : Fin 32 => absf (top (g j)) (ix2 r (col q i))) = blk g ⟨r.val, by omega⟩ j q := by
    unfold blk amax
    refine Finset.sup_congr rfl fun i _ => ?_
    show max (top (g j) (ix2 r (col q i))) (-top (g j) (ix2 r (col q i))) = _
    unfold top; rw [top_apply]
  rw [e] at h
  unfold byteT
  rw [byte_apply _ _ (by rw [h]; exact amax_nonneg _), h]

theorem byteB_ln (g : Fin 16 → FVec Ideal S32x128 .f32) (r : Fin 16) (q : Fin 4) (j : Fin 16) :
    byteB g (ix2 r (ln q j)) = BitVec.ofNat 32 (sbyte (blk g ⟨16 + r.val, by omega⟩ j q)) := by
  have h := maxW_ln (fun j => absf (bot (g j))) r q j
  have e : (Finset.univ.sup fun i : Fin 32 => absf (bot (g j)) (ix2 r (col q i))) = blk g ⟨16 + r.val, by omega⟩ j q := by
    unfold blk amax
    refine Finset.sup_congr rfl fun i _ => ?_
    show max (bot (g j) (ix2 r (col q i))) (-bot (g j) (ix2 r (col q i))) = _
    unfold bot; rw [bot_apply]
  rw [e] at h
  unfold byteB
  rw [byte_apply _ _ (by rw [h]; exact amax_nonneg _), h]

theorem word_ln (g : Fin 16 → FVec Ideal S32x128 .f32) (r : Fin 16) (q : Fin 4) (j : Fin 16) :
    word g (ix2 r (ln q j)) = BitVec.ofNat 32 (254 - sbyte (blk g ⟨r.val, by omega⟩ j q)) <<< 23
      ||| BitVec.ofNat 32 (254 - sbyte (blk g ⟨16 + r.val, by omega⟩ j q)) <<< 7 := by
  have ht := word_sub ⟨sbyte (blk g ⟨r.val, by omega⟩ j q), Nat.lt_succ_of_le (sbyte_le _ (amax_nonneg _))⟩
  have hb := word_sub ⟨sbyte (blk g ⟨16 + r.val, by omega⟩ j q), Nat.lt_succ_of_le (sbyte_le _ (amax_nonneg _))⟩
  rw [← ht, ← hb]
  show IntOp.shli .vector (254#32 - byteT g (ix2 r (ln q j))) 23#32 ||| IntOp.shli .vector (254#32 - byteB g (ix2 r (ln q j))) 7#32 = _
  rw [byteT_ln, byteB_ln]
  rfl

theorem hiW_apply (g : Fin 16 → FVec Ideal S32x128 .f32) (j : Fin 16) (r : Fin 16) (l : Fin 128) :
    hiW (word g) (offs j) (ix2 r l) = BitVec.ofNat 32 (254 - sbyte (blk g ⟨r.val, by omega⟩ j ⟨l.val / 32, by omega⟩)) <<< 23 := by
  show gath (word g) (offs j) (ix2 r l) &&& 4294901760#32 = _
  rw [gath_apply, word_ln, pack_hi _ _ (by omega) (by omega)]

theorem loW_apply (g : Fin 16 → FVec Ideal S32x128 .f32) (j : Fin 16) (r : Fin 16) (l : Fin 128) :
    loW (word g) (offs j) (ix2 r l) = BitVec.ofNat 32 (254 - sbyte (blk g ⟨16 + r.val, by omega⟩ j ⟨l.val / 32, by omega⟩)) <<< 23 := by
  show IntOp.shli .vector (gath (word g) (offs j) (ix2 r l)) 16#32 = _
  rw [gath_apply, word_ln]
  exact pack_lo _ _

/-- A strip's codes at one element. -/
theorem codes_apply (g : Fin 16 → FVec Ideal S32x128 .f32) (j : Fin 16) (R : Fin 32) (l : Fin 128) :
    codes (g j) (word g) (offs j) (ix2 R l) = qcode (g j (ix2 R l)) (sbyte (blk g R j ⟨l.val / 32, by omega⟩)) := by
  unfold codes
  rcases row_cases R with ⟨r, rfl⟩ | ⟨r, rfl⟩
  · rw [concat_lo, codesHalf_apply _ _ _ _ (hiW_apply g j r l)]; unfold top; rw [top_apply]
  · rw [concat_hi, codesHalf_apply _ _ _ _ (loW_apply g j r l)]; unfold bot; rw [bot_apply]

/-- A strip's decoded values at one element. -/
theorem vals_apply (g : Fin 16 → FVec Ideal S32x128 .f32) (j : Fin 16) (R : Fin 32) (l : Fin 128) :
    vals (g j) (word g) (offs j) (ix2 R l) = qval (g j (ix2 R l)) (sbyte (blk g R j ⟨l.val / 32, by omega⟩)) := by
  unfold vals
  have hb := sbyte_le _ (amax_nonneg fun i => g j (ix2 R (col ⟨l.val / 32, by omega⟩ i)))
  rcases row_cases R with ⟨r, rfl⟩ | ⟨r, rfl⟩
  · rw [concat_lo, valsHalf_apply _ _ _ _ hb (hiW_apply g j r l)]; unfold top; rw [top_apply]; rfl
  · rw [concat_hi, valsHalf_apply _ _ _ _ hb (loW_apply g j r l)]; unfold bot; rw [bot_apply]; rfl

/-- A strip's scale bytes at one element: block `l` is group `l % 4` of tile `l / 4`. -/
theorem scales_apply (g : Fin 16 → FVec Ideal S32x128 .f32) (R : Fin 32) (l : Fin 64) :
    scales (byteT g) (byteB g) (ix2 R l) = BitVec.ofNat 8 (sbyte (blk g R ⟨l.val / 4, by omega⟩ ⟨l.val % 4, by omega⟩)) := by
  unfold scales
  refine (congrArg (BitVec.setWidth 8) (extractStridedSlice_apply (s := S32x128) (t := S32x64) ![0, 0] _ slices_S32x128_o0_0_S32x64 (ix2 R l) (ix2 R (⟨l.val, by omega⟩ : Fin 128))
    fun a => match a with | ⟨0, _⟩ => (Nat.zero_add _).symm | ⟨1, _⟩ => (Nat.zero_add _).symm)).trans ?_
  have hs : ∀ n, (BitVec.ofNat 32 n).setWidth 8 = BitVec.ofNat 8 n := fun n => BitVec.eq_of_toNat_eq (by simp)
  rcases row_cases R with ⟨r, rfl⟩ | ⟨r, rfl⟩
  · rw [concat_lo, gather_apply _ _ _ _ _ (src_apply r l), byteT_ln, hs]
  · rw [concat_hi, gather_apply _ _ _ _ _ (src_apply r l), byteB_ln, hs]

end Cert.OutKernelIdeal.Gen.Wide

end
-- ==== Proof.OutWords.lean ====
module

public import proofs.«01_k».proof.Proof.OutStrip

@[expose] public section

set_option maxRecDepth 8192

noncomputable section

/-! The values one trip of the output projection's strip loop computes, in the vocabulary of the strip: its tiles, the
merges of their magnitudes, the scale bytes and the packed multipliers. -/

namespace Cert.OutKernelIdeal.Gen.Wide

open Idealize.ShloMosaic Idealize.ShloMosaic.TcCoe Idealize.ShloMosaic.Tactic Idealize.SL.Sem
open Cert.KernelIdeal.Gen.Strip (lane wrap bit perm merge fold top bot byte packed hiW loW valsHalf codes pick)

variable {F : FTy → Type} [FloatOps F]

section

variable (arg4 : Memref sig .tc .vmem S1x2048 .f32) (arg5 : Memref sig .tc .vmem S512x2048 .f32) (X_arg4 : BufTy.Contents (Elt F) arg4.view.ty) (X_arg5 : BufTy.Contents (Elt F) arg5.view.ty) (k : Fin k0_t1_loop.trips)

theorem inv_w : (trip_k0_t1.sl.r_2 (F := F) arg5 X_arg5 k) = inv (raw arg5 X_arg5 k) := by
  unfold trip_k0_t1.sl.r_2
  rfl

theorem tile0 : (trip_k0_t1.sl.r_3 (F := F) arg4 arg5 X_arg4 X_arg5 k) = tiles arg4 arg5 X_arg4 X_arg5 k 0 := by
  unfold trip_k0_t1.sl.r_3
  rfl

theorem tile1 : (trip_k0_t1.sl.r_5 (F := F) arg4 arg5 X_arg4 X_arg5 k) = tiles arg4 arg5 X_arg4 X_arg5 k 1 := by
  unfold trip_k0_t1.sl.r_5 trip_k0_t1.sl.r_4
  rfl

theorem tile2 : (trip_k0_t1.sl.r_6 (F := F) arg4 arg5 X_arg4 X_arg5 k) = tiles arg4 arg5 X_arg4 X_arg5 k 2 := by
  unfold trip_k0_t1.sl.r_6
  rw [inv_w]
  rfl

theorem tile3 : (trip_k0_t1.sl.r_7 (F := F) arg4 arg5 X_arg4 X_arg5 k) = tiles arg4 arg5 X_arg4 X_arg5 k 3 := by
  unfold trip_k0_t1.sl.r_7
  rw [inv_w]
  rfl

theorem tile4 : (trip_k0_t1.sl.r_8 (F := F) arg4 arg5 X_arg4 X_arg5 k) = tiles arg4 arg5 X_arg4 X_arg5 k 4 := by
  unfold trip_k0_t1.sl.r_8
  rw [inv_w]
  rfl

theorem tile5 : (trip_k0_t1.sl.r_9 (F := F) arg4 arg5 X_arg4 X_arg5 k) = tiles arg4 arg5 X_arg4 X_arg5 k 5 := by
  unfold trip_k0_t1.sl.r_9
  rw [inv_w]
  rfl

theorem tile6 : (trip_k0_t1.sl.r_10 (F := F) arg4 arg5 X_arg4 X_arg5 k) = tiles arg4 arg5 X_arg4 X_arg5 k 6 := by
  unfold trip_k0_t1.sl.r_10
  rw [inv_w]
  rfl

theorem tile7 : (trip_k0_t1.sl.r_11 (F := F) arg4 arg5 X_arg4 X_arg5 k) = tiles arg4 arg5 X_arg4 X_arg5 k 7 := by
  unfold trip_k0_t1.sl.r_11
  rw [inv_w]
  rfl

theorem tile8 : (trip_k0_t1.sl.r_12 (F := F) arg4 arg5 X_arg4 X_arg5 k) = tiles arg4 arg5 X_arg4 X_arg5 k 8 := by
  unfold trip_k0_t1.sl.r_12
  rw [inv_w]
  rfl

theorem tile9 : (trip_k0_t1.sl.r_13 (F := F) arg4 arg5 X_arg4 X_arg5 k) = tiles arg4 arg5 X_arg4 X_arg5 k 9 := by
  unfold trip_k0_t1.sl.r_13
  rw [inv_w]
  rfl

theorem tile10 : (trip_k0_t1.sl.r_15 (F := F) arg4 arg5 X_arg4 X_arg5 k) = tiles arg4 arg5 X_arg4 X_arg5 k 10 := by
  unfold trip_k0_t1.sl.r_15 trip_k0_t1.sl.r_14
  rw [inv_w]
  rfl

theorem tile11 : (trip_k0_t1.sl.r_16 (F := F) arg4 arg5 X_arg4 X_arg5 k) = tiles arg4 arg5 X_arg4 X_arg5 k 11 := by
  unfold trip_k0_t1.sl.r_16
  rw [inv_w]
  rfl

theorem tile12 : (trip_k0_t1.sl.r_17 (F := F) arg4 arg5 X_arg4 X_arg5 k) = tiles arg4 arg5 X_arg4 X_arg5 k 12 := by
  unfold trip_k0_t1.sl.r_17
  rw [inv_w]
  rfl

theorem tile13 : (trip_k0_t1.sl.r_18 (F := F) arg4 arg5 X_arg4 X_arg5 k) = tiles arg4 arg5 X_arg4 X_arg5 k 13 := by
  unfold trip_k0_t1.sl.r_18
  rw [inv_w]
  rfl

theorem tile14 : (trip_k0_t1.sl.r_19 (F := F) arg4 arg5 X_arg4 X_arg5 k) = tiles arg4 arg5 X_arg4 X_arg5 k 14 := by
  unfold trip_k0_t1.sl.r_19
  rw [inv_w]
  rfl

theorem tile15 : (trip_k0_t1.sl.r_20 (F := F) arg4 arg5 X_arg4 X_arg5 k) = tiles arg4 arg5 X_arg4 X_arg5 k 15 := by
  unfold trip_k0_t1.sl.r_20
  rw [inv_w]
  rfl

theorem top0 : (trip_k0_t1.sl.r_21 (F := F) arg4 arg5 X_arg4 X_arg5 k) = absf (top (trip_k0_t1.sl.r_3 (F := F) arg4 arg5 X_arg4 X_arg5 k)) := by
  unfold trip_k0_t1.sl.r_21
  rfl

theorem bot0 : (trip_k0_t1.sl.r_22 (F := F) arg4 arg5 X_arg4 X_arg5 k) = absf (bot (trip_k0_t1.sl.r_3 (F := F) arg4 arg5 X_arg4 X_arg5 k)) := by
  unfold trip_k0_t1.sl.r_22
  rfl

theorem top1 : (trip_k0_t1.sl.r_23 (F := F) arg4 arg5 X_arg4 X_arg5 k) = absf (top (trip_k0_t1.sl.r_5 (F := F) arg4 arg5 X_arg4 X_arg5 k)) := by
  unfold trip_k0_t1.sl.r_23
  rfl

theorem bot1 : (trip_k0_t1.sl.r_24 (F := F) arg4 arg5 X_arg4 X_arg5 k) = absf (bot (trip_k0_t1.sl.r_5 (F := F) arg4 arg5 X_arg4 X_arg5 k)) := by
  unfold trip_k0_t1.sl.r_24
  rfl

theorem top2 : (trip_k0_t1.sl.r_25 (F := F) arg4 arg5 X_arg4 X_arg5 k) = absf (top (trip_k0_t1.sl.r_6 (F := F) arg4 arg5 X_arg4 X_arg5 k)) := by
  unfold trip_k0_t1.sl.r_25
  rfl

theorem bot2 : (trip_k0_t1.sl.r_26 (F := F) arg4 arg5 X_arg4 X_arg5 k) = absf (bot (trip_k0_t1.sl.r_6 (F := F) arg4 arg5 X_arg4 X_arg5 k)) := by
  unfold trip_k0_t1.sl.r_26
  rfl

theorem top3 : (trip_k0_t1.sl.r_27 (F := F) arg4 arg5 X_arg4 X_arg5 k) = absf (top (trip_k0_t1.sl.r_7 (F := F) arg4 arg5 X_arg4 X_arg5 k)) := by
  unfold trip_k0_t1.sl.r_27
  rfl

theorem bot3 : (trip_k0_t1.sl.r_28 (F := F) arg4 arg5 X_arg4 X_arg5 k) = absf (bot (trip_k0_t1.sl.r_7 (F := F) arg4 arg5 X_arg4 X_arg5 k)) := by
  unfold trip_k0_t1.sl.r_28
  rfl

theorem top4 : (trip_k0_t1.sl.r_29 (F := F) arg4 arg5 X_arg4 X_arg5 k) = absf (top (trip_k0_t1.sl.r_8 (F := F) arg4 arg5 X_arg4 X_arg5 k)) := by
  unfold trip_k0_t1.sl.r_29
  rfl

theorem bot4 : (trip_k0_t1.sl.r_30 (F := F) arg4 arg5 X_arg4 X_arg5 k) = absf (bot (trip_k0_t1.sl.r_8 (F := F) arg4 arg5 X_arg4 X_arg5 k)) := by
  unfold trip_k0_t1.sl.r_30
  rfl

theorem top5 : (trip_k0_t1.sl.r_31 (F := F) arg4 arg5 X_arg4 X_arg5 k) = absf (top (trip_k0_t1.sl.r_9 (F := F) arg4 arg5 X_arg4 X_arg5 k)) := by
  unfold trip_k0_t1.sl.r_31
  rfl

theorem bot5 : (trip_k0_t1.sl.r_32 (F := F) arg4 arg5 X_arg4 X_arg5 k) = absf (bot (trip_k0_t1.sl.r_9 (F := F) arg4 arg5 X_arg4 X_arg5 k)) := by
  unfold trip_k0_t1.sl.r_32
  rfl

theorem top6 : (trip_k0_t1.sl.r_33 (F := F) arg4 arg5 X_arg4 X_arg5 k) = absf (top (trip_k0_t1.sl.r_10 (F := F) arg4 arg5 X_arg4 X_arg5 k)) := by
  unfold trip_k0_t1.sl.r_33
  rfl

theorem bot6 : (trip_k0_t1.sl.r_34 (F := F) arg4 arg5 X_arg4 X_arg5 k) = absf (bot (trip_k0_t1.sl.r_10 (F := F) arg4 arg5 X_arg4 X_arg5 k)) := by
  unfold trip_k0_t1.sl.r_34
  rfl

theorem top7 : (trip_k0_t1.sl.r_35 (F := F) arg4 arg5 X_arg4 X_arg5 k) = absf (top (trip_k0_t1.sl.r_11 (F := F) arg4 arg5 X_arg4 X_arg5 k)) := by
  unfold trip_k0_t1.sl.r_35
  rfl

theorem bot7 : (trip_k0_t1.sl.r_36 (F := F) arg4 arg5 X_arg4 X_arg5 k) = absf (bot (trip_k0_t1.sl.r_11 (F := F) arg4 arg5 X_arg4 X_arg5 k)) := by
  unfold trip_k0_t1.sl.r_36
  rfl

theorem top8 : (trip_k0_t1.sl.r_37 (F := F) arg4 arg5 X_arg4 X_arg5 k) = absf (top (trip_k0_t1.sl.r_12 (F := F) arg4 arg5 X_arg4 X_arg5 k)) := by
  unfold trip_k0_t1.sl.r_37
  rfl

theorem bot8 : (trip_k0_t1.sl.r_38 (F := F) arg4 arg5 X_arg4 X_arg5 k) = absf (bot (trip_k0_t1.sl.r_12 (F := F) arg4 arg5 X_arg4 X_arg5 k)) := by
  unfold trip_k0_t1.sl.r_38
  rfl

theorem top9 : (trip_k0_t1.sl.r_39 (F := F) arg4 arg5 X_arg4 X_arg5 k) = absf (top (trip_k0_t1.sl.r_13 (F := F) arg4 arg5 X_arg4 X_arg5 k)) := by
  unfold trip_k0_t1.sl.r_39
  rfl

theorem bot9 : (trip_k0_t1.sl.r_40 (F := F) arg4 arg5 X_arg4 X_arg5 k) = absf (bot (trip_k0_t1.sl.r_13 (F := F) arg4 arg5 X_arg4 X_arg5 k)) := by
  unfold trip_k0_t1.sl.r_40
  rfl

theorem top10 : (trip_k0_t1.sl.r_41 (F := F) arg4 arg5 X_arg4 X_arg5 k) = absf (top (trip_k0_t1.sl.r_15 (F := F) arg4 arg5 X_arg4 X_arg5 k)) := by
  unfold trip_k0_t1.sl.r_41
  rfl

theorem bot10 : (trip_k0_t1.sl.r_42 (F := F) arg4 arg5 X_arg4 X_arg5 k) = absf (bot (trip_k0_t1.sl.r_15 (F := F) arg4 arg5 X_arg4 X_arg5 k)) := by
  unfold trip_k0_t1.sl.r_42
  rfl

theorem top11 : (trip_k0_t1.sl.r_43 (F := F) arg4 arg5 X_arg4 X_arg5 k) = absf (top (trip_k0_t1.sl.r_16 (F := F) arg4 arg5 X_arg4 X_arg5 k)) := by
  unfold trip_k0_t1.sl.r_43
  rfl

theorem bot11 : (trip_k0_t1.sl.r_44 (F := F) arg4 arg5 X_arg4 X_arg5 k) = absf (bot (trip_k0_t1.sl.r_16 (F := F) arg4 arg5 X_arg4 X_arg5 k)) := by
  unfold trip_k0_t1.sl.r_44
  rfl

theorem top12 : (trip_k0_t1.sl.r_45 (F := F) arg4 arg5 X_arg4 X_arg5 k) = absf (top (trip_k0_t1.sl.r_17 (F := F) arg4 arg5 X_arg4 X_arg5 k)) := by
  unfold trip_k0_t1.sl.r_45
  rfl

theorem bot12 : (trip_k0_t1.sl.r_46 (F := F) arg4 arg5 X_arg4 X_arg5 k) = absf (bot (trip_k0_t1.sl.r_17 (F := F) arg4 arg5 X_arg4 X_arg5 k)) := by
  unfold trip_k0_t1.sl.r_46
  rfl

theorem top13 : (trip_k0_t1.sl.r_47 (F := F) arg4 arg5 X_arg4 X_arg5 k) = absf (top (trip_k0_t1.sl.r_18 (F := F) arg4 arg5 X_arg4 X_arg5 k)) := by
  unfold trip_k0_t1.sl.r_47
  rfl

theorem bot13 : (trip_k0_t1.sl.r_48 (F := F) arg4 arg5 X_arg4 X_arg5 k) = absf (bot (trip_k0_t1.sl.r_18 (F := F) arg4 arg5 X_arg4 X_arg5 k)) := by
  unfold trip_k0_t1.sl.r_48
  rfl

theorem top14 : (trip_k0_t1.sl.r_49 (F := F) arg4 arg5 X_arg4 X_arg5 k) = absf (top (trip_k0_t1.sl.r_19 (F := F) arg4 arg5 X_arg4 X_arg5 k)) := by
  unfold trip_k0_t1.sl.r_49
  rfl

theorem bot14 : (trip_k0_t1.sl.r_50 (F := F) arg4 arg5 X_arg4 X_arg5 k) = absf (bot (trip_k0_t1.sl.r_19 (F := F) arg4 arg5 X_arg4 X_arg5 k)) := by
  unfold trip_k0_t1.sl.r_50
  rfl

theorem top15 : (trip_k0_t1.sl.r_51 (F := F) arg4 arg5 X_arg4 X_arg5 k) = absf (top (trip_k0_t1.sl.r_20 (F := F) arg4 arg5 X_arg4 X_arg5 k)) := by
  unfold trip_k0_t1.sl.r_51
  rfl

theorem bot15 : (trip_k0_t1.sl.r_52 (F := F) arg4 arg5 X_arg4 X_arg5 k) = absf (bot (trip_k0_t1.sl.r_20 (F := F) arg4 arg5 X_arg4 X_arg5 k)) := by
  unfold trip_k0_t1.sl.r_52
  rfl

theorem m16_0 : (trip_k0_t1.sl.r_57 (F := F) arg4 arg5 X_arg4 X_arg5 k) = merge 16#32 (trip_k0_t1.sl.r_21 (F := F) arg4 arg5 X_arg4 X_arg5 k) (trip_k0_t1.sl.r_23 (F := F) arg4 arg5 X_arg4 X_arg5 k) := by
  unfold trip_k0_t1.sl.r_57 trip_k0_t1.sl.r_53 trip_k0_t1.sl.r_55
  rfl

theorem m16_1 : (trip_k0_t1.sl.r_59 (F := F) arg4 arg5 X_arg4 X_arg5 k) = merge 16#32 (trip_k0_t1.sl.r_25 (F := F) arg4 arg5 X_arg4 X_arg5 k) (trip_k0_t1.sl.r_27 (F := F) arg4 arg5 X_arg4 X_arg5 k) := by
  unfold trip_k0_t1.sl.r_59
  rfl

theorem m16_2 : (trip_k0_t1.sl.r_65 (F := F) arg4 arg5 X_arg4 X_arg5 k) = merge 16#32 (trip_k0_t1.sl.r_29 (F := F) arg4 arg5 X_arg4 X_arg5 k) (trip_k0_t1.sl.r_31 (F := F) arg4 arg5 X_arg4 X_arg5 k) := by
  unfold trip_k0_t1.sl.r_65 trip_k0_t1.sl.r_61 trip_k0_t1.sl.r_63
  rfl

theorem m16_3 : (trip_k0_t1.sl.r_67 (F := F) arg4 arg5 X_arg4 X_arg5 k) = merge 16#32 (trip_k0_t1.sl.r_33 (F := F) arg4 arg5 X_arg4 X_arg5 k) (trip_k0_t1.sl.r_35 (F := F) arg4 arg5 X_arg4 X_arg5 k) := by
  unfold trip_k0_t1.sl.r_67
  rfl

theorem m16_4 : (trip_k0_t1.sl.r_73 (F := F) arg4 arg5 X_arg4 X_arg5 k) = merge 16#32 (trip_k0_t1.sl.r_37 (F := F) arg4 arg5 X_arg4 X_arg5 k) (trip_k0_t1.sl.r_39 (F := F) arg4 arg5 X_arg4 X_arg5 k) := by
  unfold trip_k0_t1.sl.r_73 trip_k0_t1.sl.r_69 trip_k0_t1.sl.r_72
  rfl

theorem m16_5 : (trip_k0_t1.sl.r_75 (F := F) arg4 arg5 X_arg4 X_arg5 k) = merge 16#32 (trip_k0_t1.sl.r_41 (F := F) arg4 arg5 X_arg4 X_arg5 k) (trip_k0_t1.sl.r_43 (F := F) arg4 arg5 X_arg4 X_arg5 k) := by
  unfold trip_k0_t1.sl.r_75
  rfl

theorem m16_6 : (trip_k0_t1.sl.r_77 (F := F) arg4 arg5 X_arg4 X_arg5 k) = merge 16#32 (trip_k0_t1.sl.r_45 (F := F) arg4 arg5 X_arg4 X_arg5 k) (trip_k0_t1.sl.r_47 (F := F) arg4 arg5 X_arg4 X_arg5 k) := by
  unfold trip_k0_t1.sl.r_77
  rfl

theorem m16_7 : (trip_k0_t1.sl.r_82 (F := F) arg4 arg5 X_arg4 X_arg5 k) = merge 16#32 (trip_k0_t1.sl.r_49 (F := F) arg4 arg5 X_arg4 X_arg5 k) (trip_k0_t1.sl.r_51 (F := F) arg4 arg5 X_arg4 X_arg5 k) := by
  unfold trip_k0_t1.sl.r_82 trip_k0_t1.sl.r_79 trip_k0_t1.sl.r_81
  rfl

theorem n16_0 : (trip_k0_t1.sl.r_58 (F := F) arg4 arg5 X_arg4 X_arg5 k) = merge 16#32 (trip_k0_t1.sl.r_22 (F := F) arg4 arg5 X_arg4 X_arg5 k) (trip_k0_t1.sl.r_24 (F := F) arg4 arg5 X_arg4 X_arg5 k) := by
  unfold trip_k0_t1.sl.r_58 trip_k0_t1.sl.r_54 trip_k0_t1.sl.r_56
  rfl

theorem n16_1 : (trip_k0_t1.sl.r_60 (F := F) arg4 arg5 X_arg4 X_arg5 k) = merge 16#32 (trip_k0_t1.sl.r_26 (F := F) arg4 arg5 X_arg4 X_arg5 k) (trip_k0_t1.sl.r_28 (F := F) arg4 arg5 X_arg4 X_arg5 k) := by
  unfold trip_k0_t1.sl.r_60
  rfl

theorem n16_2 : (trip_k0_t1.sl.r_66 (F := F) arg4 arg5 X_arg4 X_arg5 k) = merge 16#32 (trip_k0_t1.sl.r_30 (F := F) arg4 arg5 X_arg4 X_arg5 k) (trip_k0_t1.sl.r_32 (F := F) arg4 arg5 X_arg4 X_arg5 k) := by
  unfold trip_k0_t1.sl.r_66 trip_k0_t1.sl.r_62 trip_k0_t1.sl.r_64
  rfl

theorem n16_3 : (trip_k0_t1.sl.r_68 (F := F) arg4 arg5 X_arg4 X_arg5 k) = merge 16#32 (trip_k0_t1.sl.r_34 (F := F) arg4 arg5 X_arg4 X_arg5 k) (trip_k0_t1.sl.r_36 (F := F) arg4 arg5 X_arg4 X_arg5 k) := by
  unfold trip_k0_t1.sl.r_68
  rfl

theorem n16_4 : (trip_k0_t1.sl.r_74 (F := F) arg4 arg5 X_arg4 X_arg5 k) = merge 16#32 (trip_k0_t1.sl.r_38 (F := F) arg4 arg5 X_arg4 X_arg5 k) (trip_k0_t1.sl.r_40 (F := F) arg4 arg5 X_arg4 X_arg5 k) := by
  unfold trip_k0_t1.sl.r_74 trip_k0_t1.sl.r_70 trip_k0_t1.sl.r_71
  rfl

theorem n16_5 : (trip_k0_t1.sl.r_76 (F := F) arg4 arg5 X_arg4 X_arg5 k) = merge 16#32 (trip_k0_t1.sl.r_42 (F := F) arg4 arg5 X_arg4 X_arg5 k) (trip_k0_t1.sl.r_44 (F := F) arg4 arg5 X_arg4 X_arg5 k) := by
  unfold trip_k0_t1.sl.r_76
  rfl

theorem n16_6 : (trip_k0_t1.sl.r_78 (F := F) arg4 arg5 X_arg4 X_arg5 k) = merge 16#32 (trip_k0_t1.sl.r_46 (F := F) arg4 arg5 X_arg4 X_arg5 k) (trip_k0_t1.sl.r_48 (F := F) arg4 arg5 X_arg4 X_arg5 k) := by
  unfold trip_k0_t1.sl.r_78
  rfl

theorem n16_7 : (trip_k0_t1.sl.r_83 (F := F) arg4 arg5 X_arg4 X_arg5 k) = merge 16#32 (trip_k0_t1.sl.r_50 (F := F) arg4 arg5 X_arg4 X_arg5 k) (trip_k0_t1.sl.r_52 (F := F) arg4 arg5 X_arg4 X_arg5 k) := by
  unfold trip_k0_t1.sl.r_83 trip_k0_t1.sl.r_80
  rfl

theorem m8_0 : (trip_k0_t1.sl.r_84 (F := F) arg4 arg5 X_arg4 X_arg5 k) = merge 8#32 (trip_k0_t1.sl.r_57 (F := F) arg4 arg5 X_arg4 X_arg5 k) (trip_k0_t1.sl.r_59 (F := F) arg4 arg5 X_arg4 X_arg5 k) := by
  unfold trip_k0_t1.sl.r_84
  rfl

theorem m8_1 : (trip_k0_t1.sl.r_88 (F := F) arg4 arg5 X_arg4 X_arg5 k) = merge 8#32 (trip_k0_t1.sl.r_65 (F := F) arg4 arg5 X_arg4 X_arg5 k) (trip_k0_t1.sl.r_67 (F := F) arg4 arg5 X_arg4 X_arg5 k) := by
  unfold trip_k0_t1.sl.r_88 trip_k0_t1.sl.r_86
  rfl

theorem m8_2 : (trip_k0_t1.sl.r_90 (F := F) arg4 arg5 X_arg4 X_arg5 k) = merge 8#32 (trip_k0_t1.sl.r_73 (F := F) arg4 arg5 X_arg4 X_arg5 k) (trip_k0_t1.sl.r_75 (F := F) arg4 arg5 X_arg4 X_arg5 k) := by
  unfold trip_k0_t1.sl.r_90
  rfl

theorem n8_0 : (trip_k0_t1.sl.r_85 (F := F) arg4 arg5 X_arg4 X_arg5 k) = merge 8#32 (trip_k0_t1.sl.r_58 (F := F) arg4 arg5 X_arg4 X_arg5 k) (trip_k0_t1.sl.r_60 (F := F) arg4 arg5 X_arg4 X_arg5 k) := by
  unfold trip_k0_t1.sl.r_85
  rfl

theorem n8_1 : (trip_k0_t1.sl.r_89 (F := F) arg4 arg5 X_arg4 X_arg5 k) = merge 8#32 (trip_k0_t1.sl.r_66 (F := F) arg4 arg5 X_arg4 X_arg5 k) (trip_k0_t1.sl.r_68 (F := F) arg4 arg5 X_arg4 X_arg5 k) := by
  unfold trip_k0_t1.sl.r_89 trip_k0_t1.sl.r_87
  rfl

theorem n8_2 : (trip_k0_t1.sl.r_91 (F := F) arg4 arg5 X_arg4 X_arg5 k) = merge 8#32 (trip_k0_t1.sl.r_74 (F := F) arg4 arg5 X_arg4 X_arg5 k) (trip_k0_t1.sl.r_76 (F := F) arg4 arg5 X_arg4 X_arg5 k) := by
  unfold trip_k0_t1.sl.r_91
  rfl

theorem m4_0 : (trip_k0_t1.sl.r_96 (F := F) arg4 arg5 X_arg4 X_arg5 k) = merge 4#32 (trip_k0_t1.sl.r_84 (F := F) arg4 arg5 X_arg4 X_arg5 k) (trip_k0_t1.sl.r_88 (F := F) arg4 arg5 X_arg4 X_arg5 k) := by
  unfold trip_k0_t1.sl.r_96
  rfl

theorem n4_0 : (trip_k0_t1.sl.r_97 (F := F) arg4 arg5 X_arg4 X_arg5 k) = merge 4#32 (trip_k0_t1.sl.r_85 (F := F) arg4 arg5 X_arg4 X_arg5 k) (trip_k0_t1.sl.r_89 (F := F) arg4 arg5 X_arg4 X_arg5 k) := by
  unfold trip_k0_t1.sl.r_97
  rfl

theorem m2 : (trip_k0_t1.sl.r_102 (F := F) arg4 arg5 X_arg4 X_arg5 k) = merge 2#32 (trip_k0_t1.sl.r_96 (F := F) arg4 arg5 X_arg4 X_arg5 k) (merge 4#32 (trip_k0_t1.sl.r_90 (F := F) arg4 arg5 X_arg4 X_arg5 k) (merge 8#32 (trip_k0_t1.sl.r_77 (F := F) arg4 arg5 X_arg4 X_arg5 k) (trip_k0_t1.sl.r_82 (F := F) arg4 arg5 X_arg4 X_arg5 k))) := by
  unfold trip_k0_t1.sl.r_102 trip_k0_t1.sl.r_98 trip_k0_t1.sl.r_100 trip_k0_t1.sl.r_92 trip_k0_t1.sl.r_94
  rfl

theorem n2 : (trip_k0_t1.sl.r_103 (F := F) arg4 arg5 X_arg4 X_arg5 k) = merge 2#32 (trip_k0_t1.sl.r_97 (F := F) arg4 arg5 X_arg4 X_arg5 k) (merge 4#32 (trip_k0_t1.sl.r_91 (F := F) arg4 arg5 X_arg4 X_arg5 k) (merge 8#32 (trip_k0_t1.sl.r_78 (F := F) arg4 arg5 X_arg4 X_arg5 k) (trip_k0_t1.sl.r_83 (F := F) arg4 arg5 X_arg4 X_arg5 k))) := by
  unfold trip_k0_t1.sl.r_103 trip_k0_t1.sl.r_99 trip_k0_t1.sl.r_101 trip_k0_t1.sl.r_93 trip_k0_t1.sl.r_95
  rfl

theorem m1 : (trip_k0_t1.sl.r_104 (F := F) arg4 arg5 X_arg4 X_arg5 k) = fold 1#32 (trip_k0_t1.sl.r_102 (F := F) arg4 arg5 X_arg4 X_arg5 k) := by
  unfold trip_k0_t1.sl.r_104
  rfl

theorem n1 : (trip_k0_t1.sl.r_105 (F := F) arg4 arg5 X_arg4 X_arg5 k) = fold 1#32 (trip_k0_t1.sl.r_103 (F := F) arg4 arg5 X_arg4 X_arg5 k) := by
  unfold trip_k0_t1.sl.r_105
  rfl

theorem maxT : (trip_k0_t1.sl.r_104 (F := F) arg4 arg5 X_arg4 X_arg5 k) = maxW fun j => absf (top (tiles arg4 arg5 X_arg4 X_arg5 k j)) := by
  rw [m1, m2, m4_0, m8_0, m8_1, m8_2, m16_0, m16_1, m16_2, m16_3, m16_4, m16_5, m16_6, m16_7, top0, top1, top2, top3, top4, top5, top6, top7, top8, top9, top10, top11, top12, top13, top14, top15, tile0, tile1, tile2, tile3, tile4, tile5, tile6, tile7, tile8, tile9, tile10, tile11, tile12, tile13, tile14, tile15]
  rfl

theorem maxB : (trip_k0_t1.sl.r_105 (F := F) arg4 arg5 X_arg4 X_arg5 k) = maxW fun j => absf (bot (tiles arg4 arg5 X_arg4 X_arg5 k j)) := by
  rw [n1, n2, n4_0, n8_0, n8_1, n8_2, n16_0, n16_1, n16_2, n16_3, n16_4, n16_5, n16_6, n16_7, bot0, bot1, bot2, bot3, bot4, bot5, bot6, bot7, bot8, bot9, bot10, bot11, bot12, bot13, bot14, bot15, tile0, tile1, tile2, tile3, tile4, tile5, tile6, tile7, tile8, tile9, tile10, tile11, tile12, tile13, tile14, tile15]
  rfl

theorem byteT_r : (trip_k0_t1.sl.r_110 (F := F) arg4 arg5 X_arg4 X_arg5 k) = byte (trip_k0_t1.sl.r_104 (F := F) arg4 arg5 X_arg4 X_arg5 k) := by
  unfold trip_k0_t1.sl.r_110 trip_k0_t1.sl.r_108 trip_k0_t1.sl.r_109 trip_k0_t1.sl.r_106 trip_k0_t1.sl.r_107
  rfl

theorem byteB_r : (trip_k0_t1.sl.r_113 (F := F) arg4 arg5 X_arg4 X_arg5 k) = byte (trip_k0_t1.sl.r_105 (F := F) arg4 arg5 X_arg4 X_arg5 k) := by
  unfold trip_k0_t1.sl.r_113 trip_k0_t1.sl.r_111 trip_k0_t1.sl.r_112
  rfl

theorem word_r : (trip_k0_t1.sl.r_115 (F := F) arg4 arg5 X_arg4 X_arg5 k) = packed (trip_k0_t1.sl.r_110 (F := F) arg4 arg5 X_arg4 X_arg5 k) (trip_k0_t1.sl.r_113 (F := F) arg4 arg5 X_arg4 X_arg5 k) := by
  unfold trip_k0_t1.sl.r_115 trip_k0_t1.sl.r_114
  rfl

theorem byteT_w : (trip_k0_t1.sl.r_110 (F := F) arg4 arg5 X_arg4 X_arg5 k) = byteT (tiles arg4 arg5 X_arg4 X_arg5 k) := by rw [byteT_r, maxT]; rfl

theorem byteB_w : (trip_k0_t1.sl.r_113 (F := F) arg4 arg5 X_arg4 X_arg5 k) = byteB (tiles arg4 arg5 X_arg4 X_arg5 k) := by rw [byteB_r, maxB]; rfl

theorem word_w : (trip_k0_t1.sl.r_115 (F := F) arg4 arg5 X_arg4 X_arg5 k) = word (tiles arg4 arg5 X_arg4 X_arg5 k) := by rw [word_r, byteT_w, byteB_w]; rfl

theorem src_w : trip_k0_t1.sl.r_162 = src := by
  unfold trip_k0_t1.sl.r_162
  rfl

end

end Cert.OutKernelIdeal.Gen.Wide

end
-- ==== Proof.OutTrip.lean ====
module

public import proofs.«01_k».proof.Proof.OutWords

@[expose] public section

set_option maxRecDepth 8192

noncomputable section

/-! What one trip of the output projection's strip loop stores: the pieces its run found, in the vocabulary of the strip. -/

namespace Cert.OutKernelIdeal.Gen.Wide

open Idealize.ShloMosaic Idealize.ShloMosaic.TcCoe Idealize.ShloMosaic.Tactic Idealize.SL.Sem
open Cert.KernelIdeal.Gen.Strip (codes)

variable {F : FTy → Type} [FloatOps F]

/-- The scale bytes a trip stores. -/
theorem trip_scales (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt F) arg4.view.ty) (X_arg5 : BufTy.Contents (Elt F) arg5.view.ty) (k : Fin k0_t1_loop.trips) :
    (trip_k0_t1 (F := F) 𝒱 c bd i arg1 harg1 arg2 harg2 arg3 harg3 arg4 harg4 arg5 harg5 arg6 harg6 arg7 harg7 arg8 harg8 X_arg4 X_arg5 k).2.1 = [⟨(Rect.unit (s := S512x64) (k0_off17 k) S32x64.size (k0_off17_inb k)), scales (byteT (tiles arg4 arg5 X_arg4 X_arg5 k)) (byteB (tiles arg4 arg5 X_arg4 X_arg5 k))⟩] := by
  unfold trip_k0_t1
  dsimp only
  rw [byteT_w, byteB_w, src_w]
  rfl

/-- The codes a trip stores. -/
theorem trip_codes (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt F) arg4.view.ty) (X_arg5 : BufTy.Contents (Elt F) arg5.view.ty) (k : Fin k0_t1_loop.trips) :
    (trip_k0_t1 (F := F) 𝒱 c bd i arg1 harg1 arg2 harg2 arg3 harg3 arg4 harg4 arg5 harg5 arg6 harg6 arg7 harg7 arg8 harg8 X_arg4 X_arg5 k).1 = [
      ⟨(Rect.unit (s := S512x2048) (k0_off16 k) S32x128.size (k0_off16_inb k)), codes (tiles arg4 arg5 X_arg4 X_arg5 k 15) (word (tiles arg4 arg5 X_arg4 X_arg5 k)) 30#32⟩,
      ⟨(Rect.unit (s := S512x2048) (k0_off15 k) S32x128.size (k0_off15_inb k)), codes (tiles arg4 arg5 X_arg4 X_arg5 k 14) (word (tiles arg4 arg5 X_arg4 X_arg5 k)) 14#32⟩,
      ⟨(Rect.unit (s := S512x2048) (k0_off14 k) S32x128.size (k0_off14_inb k)), codes (tiles arg4 arg5 X_arg4 X_arg5 k 13) (word (tiles arg4 arg5 X_arg4 X_arg5 k)) 22#32⟩,
      ⟨(Rect.unit (s := S512x2048) (k0_off13 k) S32x128.size (k0_off13_inb k)), codes (tiles arg4 arg5 X_arg4 X_arg5 k 12) (word (tiles arg4 arg5 X_arg4 X_arg5 k)) 6#32⟩,
      ⟨(Rect.unit (s := S512x2048) (k0_off12 k) S32x128.size (k0_off12_inb k)), codes (tiles arg4 arg5 X_arg4 X_arg5 k 11) (word (tiles arg4 arg5 X_arg4 X_arg5 k)) 26#32⟩,
      ⟨(Rect.unit (s := S512x2048) (k0_off11 k) S32x128.size (k0_off11_inb k)), codes (tiles arg4 arg5 X_arg4 X_arg5 k 10) (word (tiles arg4 arg5 X_arg4 X_arg5 k)) 10#32⟩,
      ⟨(Rect.unit (s := S512x2048) (k0_off10 k) S32x128.size (k0_off10_inb k)), codes (tiles arg4 arg5 X_arg4 X_arg5 k 9) (word (tiles arg4 arg5 X_arg4 X_arg5 k)) 18#32⟩,
      ⟨(Rect.unit (s := S512x2048) (k0_off9 k) S32x128.size (k0_off9_inb k)), codes (tiles arg4 arg5 X_arg4 X_arg5 k 8) (word (tiles arg4 arg5 X_arg4 X_arg5 k)) 2#32⟩,
      ⟨(Rect.unit (s := S512x2048) (k0_off8 k) S32x128.size (k0_off8_inb k)), codes (tiles arg4 arg5 X_arg4 X_arg5 k 7) (word (tiles arg4 arg5 X_arg4 X_arg5 k)) 28#32⟩,
      ⟨(Rect.unit (s := S512x2048) (k0_off7 k) S32x128.size (k0_off7_inb k)), codes (tiles arg4 arg5 X_arg4 X_arg5 k 6) (word (tiles arg4 arg5 X_arg4 X_arg5 k)) 12#32⟩,
      ⟨(Rect.unit (s := S512x2048) (k0_off6 k) S32x128.size (k0_off6_inb k)), codes (tiles arg4 arg5 X_arg4 X_arg5 k 5) (word (tiles arg4 arg5 X_arg4 X_arg5 k)) 20#32⟩,
      ⟨(Rect.unit (s := S512x2048) (k0_off5 k) S32x128.size (k0_off5_inb k)), codes (tiles arg4 arg5 X_arg4 X_arg5 k 4) (word (tiles arg4 arg5 X_arg4 X_arg5 k)) 4#32⟩,
      ⟨(Rect.unit (s := S512x2048) (k0_off4 k) S32x128.size (k0_off4_inb k)), codes (tiles arg4 arg5 X_arg4 X_arg5 k 3) (word (tiles arg4 arg5 X_arg4 X_arg5 k)) 24#32⟩,
      ⟨(Rect.unit (s := S512x2048) (k0_off3 k) S32x128.size (k0_off3_inb k)), codes (tiles arg4 arg5 X_arg4 X_arg5 k 2) (word (tiles arg4 arg5 X_arg4 X_arg5 k)) 8#32⟩,
      ⟨(Rect.unit (s := S512x2048) (k0_off2 k) S32x128.size (k0_off2_inb k)), codes (tiles arg4 arg5 X_arg4 X_arg5 k 1) (word (tiles arg4 arg5 X_arg4 X_arg5 k)) 16#32⟩,
      ⟨(Rect.unit (s := S512x2048) (k0_off1 k) S32x128.size (k0_off1_inb k)), codes (tiles arg4 arg5 X_arg4 X_arg5 k 0) (word (tiles arg4 arg5 X_arg4 X_arg5 k)) 0#32⟩] := by
  unfold trip_k0_t1
  dsimp only
  rw [← word_w, ← tile0, ← tile1, ← tile2, ← tile3, ← tile4, ← tile5, ← tile6, ← tile7, ← tile8, ← tile9, ← tile10, ← tile11, ← tile12, ← tile13, ← tile14, ← tile15]
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  rfl

/-- The decoded values a trip stores. -/
theorem trip_vals (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt F) arg4.view.ty) (X_arg5 : BufTy.Contents (Elt F) arg5.view.ty) (k : Fin k0_t1_loop.trips) :
    (trip_k0_t1 (F := F) 𝒱 c bd i arg1 harg1 arg2 harg2 arg3 harg3 arg4 harg4 arg5 harg5 arg6 harg6 arg7 harg7 arg8 harg8 X_arg4 X_arg5 k).2.2.1 = [
      ⟨(Rect.unit (s := S512x2048) (k0_off16 k) S32x128.size (k0_off16_inb k)), vals (tiles arg4 arg5 X_arg4 X_arg5 k 15) (word (tiles arg4 arg5 X_arg4 X_arg5 k)) 30#32⟩,
      ⟨(Rect.unit (s := S512x2048) (k0_off15 k) S32x128.size (k0_off15_inb k)), vals (tiles arg4 arg5 X_arg4 X_arg5 k 14) (word (tiles arg4 arg5 X_arg4 X_arg5 k)) 14#32⟩,
      ⟨(Rect.unit (s := S512x2048) (k0_off14 k) S32x128.size (k0_off14_inb k)), vals (tiles arg4 arg5 X_arg4 X_arg5 k 13) (word (tiles arg4 arg5 X_arg4 X_arg5 k)) 22#32⟩,
      ⟨(Rect.unit (s := S512x2048) (k0_off13 k) S32x128.size (k0_off13_inb k)), vals (tiles arg4 arg5 X_arg4 X_arg5 k 12) (word (tiles arg4 arg5 X_arg4 X_arg5 k)) 6#32⟩,
      ⟨(Rect.unit (s := S512x2048) (k0_off12 k) S32x128.size (k0_off12_inb k)), vals (tiles arg4 arg5 X_arg4 X_arg5 k 11) (word (tiles arg4 arg5 X_arg4 X_arg5 k)) 26#32⟩,
      ⟨(Rect.unit (s := S512x2048) (k0_off11 k) S32x128.size (k0_off11_inb k)), vals (tiles arg4 arg5 X_arg4 X_arg5 k 10) (word (tiles arg4 arg5 X_arg4 X_arg5 k)) 10#32⟩,
      ⟨(Rect.unit (s := S512x2048) (k0_off10 k) S32x128.size (k0_off10_inb k)), vals (tiles arg4 arg5 X_arg4 X_arg5 k 9) (word (tiles arg4 arg5 X_arg4 X_arg5 k)) 18#32⟩,
      ⟨(Rect.unit (s := S512x2048) (k0_off9 k) S32x128.size (k0_off9_inb k)), vals (tiles arg4 arg5 X_arg4 X_arg5 k 8) (word (tiles arg4 arg5 X_arg4 X_arg5 k)) 2#32⟩,
      ⟨(Rect.unit (s := S512x2048) (k0_off8 k) S32x128.size (k0_off8_inb k)), vals (tiles arg4 arg5 X_arg4 X_arg5 k 7) (word (tiles arg4 arg5 X_arg4 X_arg5 k)) 28#32⟩,
      ⟨(Rect.unit (s := S512x2048) (k0_off7 k) S32x128.size (k0_off7_inb k)), vals (tiles arg4 arg5 X_arg4 X_arg5 k 6) (word (tiles arg4 arg5 X_arg4 X_arg5 k)) 12#32⟩,
      ⟨(Rect.unit (s := S512x2048) (k0_off6 k) S32x128.size (k0_off6_inb k)), vals (tiles arg4 arg5 X_arg4 X_arg5 k 5) (word (tiles arg4 arg5 X_arg4 X_arg5 k)) 20#32⟩,
      ⟨(Rect.unit (s := S512x2048) (k0_off5 k) S32x128.size (k0_off5_inb k)), vals (tiles arg4 arg5 X_arg4 X_arg5 k 4) (word (tiles arg4 arg5 X_arg4 X_arg5 k)) 4#32⟩,
      ⟨(Rect.unit (s := S512x2048) (k0_off4 k) S32x128.size (k0_off4_inb k)), vals (tiles arg4 arg5 X_arg4 X_arg5 k 3) (word (tiles arg4 arg5 X_arg4 X_arg5 k)) 24#32⟩,
      ⟨(Rect.unit (s := S512x2048) (k0_off3 k) S32x128.size (k0_off3_inb k)), vals (tiles arg4 arg5 X_arg4 X_arg5 k 2) (word (tiles arg4 arg5 X_arg4 X_arg5 k)) 8#32⟩,
      ⟨(Rect.unit (s := S512x2048) (k0_off2 k) S32x128.size (k0_off2_inb k)), vals (tiles arg4 arg5 X_arg4 X_arg5 k 1) (word (tiles arg4 arg5 X_arg4 X_arg5 k)) 16#32⟩,
      ⟨(Rect.unit (s := S512x2048) (k0_off1 k) S32x128.size (k0_off1_inb k)), vals (tiles arg4 arg5 X_arg4 X_arg5 k 0) (word (tiles arg4 arg5 X_arg4 X_arg5 k)) 0#32⟩] := by
  unfold trip_k0_t1
  dsimp only
  rw [← word_w, ← tile0, ← tile1, ← tile2, ← tile3, ← tile4, ← tile5, ← tile6, ← tile7, ← tile8, ← tile9, ← tile10, ← tile11, ← tile12, ← tile13, ← tile14, ← tile15]
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  rfl

end Cert.OutKernelIdeal.Gen.Wide

end
-- ==== Proof.OutBlock.lean ====
module

public import proofs.«01_k».proof.Proof.OutModel
public import proofs.«01_k».proof.Proof.OutValue
public import proofs.«01_k».proof.Proof.OutTrip

@[expose] public section

noncomputable section

/-! What the strip loop leaves of a 512 x 2048 block: codes, decoded values and scale bytes, each a function of the
block's residual rows and the norm's weights. -/

namespace Cert.OutKernelIdeal.Gen.Wide

open Idealize.ShloMosaic Idealize.ShloMosaic.TcCoe Idealize.ShloMosaic.Tactic Idealize.SL.Sem Idealize.ShloMosaic.ValueIdx
open Cert.KernelIdeal.Gen.Strip (Arr dotr amax amax_congr sbyte qcode qval codes col)

section Block

variable (x : FVec Ideal S512x2048 .f32) (w : FVec Ideal S1x2048 .f32)

/-- The block's normed entries by row and column. -/
def nt (r : Fin 512) (c : Fin 2048) : EReal := nrm (fun k => x (ix2 r k)) (w (ix2 (0 : Fin 1) c)) c

/-- The largest magnitude in the 32 columns around column `c`. -/
def mx (r : Fin 512) (c : Fin 2048) : EReal := amax fun i : Fin 32 => nt x w r ⟨32 * (c.val / 32) + i.val, by omega⟩

/-- The block's codes. -/
def codeB : FVec Ideal S512x2048 .fp8e4m3 := fun i => qcode (nt x w (i 0) (i 1)) (sbyte (mx x w (i 0) (i 1)))

/-- The block's decoded values. -/
def valB : FVec Ideal S512x2048 .bf16 := fun i => qval (nt x w (i 0) (i 1)) (sbyte (mx x w (i 0) (i 1)))

/-- The block's scale bytes. -/
def scaleB : IVec S512x64 8 := fun i => BitVec.ofNat 8 (sbyte (amax fun c : Fin 32 => nt x w (i 0) ⟨32 * (i 1).val + c.val, by have : (i 1).val < 64 := (i 1).isLt; omega⟩))

theorem nt_congr {r r' : Fin 512} {c c' : Fin 2048} (hr : r = r') (hc : c = c') : nt x w r c = nt x w r' c' := by rw [hr, hc]

theorem trips_eq : k0_t1_loop.trips = 16 := by decide +kernel

theorem trip_lt (k : Fin k0_t1_loop.trips) : k.val < 16 := lt_of_lt_of_eq k.isLt trips_eq

theorem row_lt (k : Fin k0_t1_loop.trips) (R : Fin 32) : 32 * k.val + R.val < 512 := by have := trip_lt k; omega

theorem emb_tile (off : Fin S512x2048.rank → ℕ) (inb : ∀ a, off a + S32x128.size a ≤ S512x2048.size a) (k : Fin k0_t1_loop.trips) (n : Fin 16)
    (h : off = ![32 * k.val, 128 * n.val]) (R : Fin 32) (l : Fin 128) :
    (Rect.unit (s := S512x2048) off S32x128.size inb).emb (ix2 R l)
      = ix2 (⟨32 * k.val + R.val, row_lt k R⟩ : Fin 512) (⟨128 * n.val + l.val, by omega⟩ : Fin 2048) := by
  subst h
  funext a
  match a with
  | ⟨0, _⟩ => exact Fin.ext (show 32 * k.val + 1 * R.val = 32 * k.val + R.val by omega)
  | ⟨1, _⟩ => exact Fin.ext (show 128 * n.val + 1 * l.val = 128 * n.val + l.val by omega)

theorem emb_wt (off : Fin S1x2048.rank → ℕ) (inb : ∀ a, off a + S1x128.size a ≤ S1x2048.size a) (n : Fin 16)
    (h : off = ![0, 128 * n.val]) (l : Fin 128) :
    (Rect.unit (s := S1x2048) off S1x128.size inb).emb (ix2 (0 : Fin 1) l) = ix2 (0 : Fin 1) (⟨128 * n.val + l.val, by omega⟩ : Fin 2048) := by
  subst h
  funext a
  match a with
  | ⟨0, _⟩ => rfl
  | ⟨1, _⟩ => exact Fin.ext (show 128 * n.val + 1 * l.val = 128 * n.val + l.val by omega)

variable (arg4 : Memref sig .tc .vmem S1x2048 .f32) (arg5 : Memref sig .tc .vmem S512x2048 .f32) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x)

include hx in
theorem raw1 (off : Fin S512x2048.rank → ℕ) (inb : ∀ a, off a + S32x128.size a ≤ S512x2048.size a) (k : Fin k0_t1_loop.trips) (n : Fin 16)
    (h : off = ![32 * k.val, 128 * n.val]) (R : Fin 32) (l : Fin 128) :
    (shapeCast S32x128 (View.readAt (Elt Ideal) arg5.view (Rect.unit (s := S512x2048) off S32x128.size inb).toLoadRect X_arg5) shapeCasts_S32x128_S32x128 : FVec Ideal S32x128 .f32) (ix2 R l)
      = x (ix2 (⟨32 * k.val + R.val, row_lt k R⟩ : Fin 512) (⟨128 * n.val + l.val, by omega⟩ : Fin 2048)) := by
  refine (congrFun (shapeCast_self _ _) _).trans ?_
  show arg5.view.read (Elt Ideal) X_arg5 ((Rect.unit (s := S512x2048) off S32x128.size inb).emb (ix2 R l)) = _
  rw [emb_tile off inb k n h, hx]

include hw in
theorem wts1 (off : Fin S1x2048.rank → ℕ) (inb : ∀ a, off a + S1x128.size a ≤ S1x2048.size a) (n : Fin 16)
    (h : off = ![0, 128 * n.val]) (l : Fin 128) :
    (View.readAt (Elt Ideal) arg4.view (Rect.unit (s := S1x2048) off S1x128.size inb).toLoadRect X_arg4 : FVec Ideal S1x128 .f32) (ix2 (0 : Fin 1) l)
      = w (ix2 (0 : Fin 1) (⟨128 * n.val + l.val, by omega⟩ : Fin 2048)) := by
  show arg4.view.read (Elt Ideal) X_arg4 ((Rect.unit (s := S1x2048) off S1x128.size inb).emb (ix2 (0 : Fin 1) l)) = _
  rw [emb_wt off inb n h, hw]

include hx in
/-- The loaded tiles are the block's columns. -/
theorem raw_apply (k : Fin k0_t1_loop.trips) (n : Fin 16) (R : Fin 32) (l : Fin 128) :
    raw (F := Ideal) arg5 X_arg5 k n (ix2 R l) = x (ix2 (⟨32 * k.val + R.val, row_lt k R⟩ : Fin 512) (⟨128 * n.val + l.val, by omega⟩ : Fin 2048)) := by
  fin_cases n
  · exact raw1 x arg5 X_arg5 hx _ (k0_off1_inb k) k 0 (k0_off1_eq k) R l
  · exact raw1 x arg5 X_arg5 hx _ (k0_off2_inb k) k 1 (k0_off2_eq k) R l
  · exact raw1 x arg5 X_arg5 hx _ (k0_off3_inb k) k 2 (k0_off3_eq k) R l
  · exact raw1 x arg5 X_arg5 hx _ (k0_off4_inb k) k 3 (k0_off4_eq k) R l
  · exact raw1 x arg5 X_arg5 hx _ (k0_off5_inb k) k 4 (k0_off5_eq k) R l
  · exact raw1 x arg5 X_arg5 hx _ (k0_off6_inb k) k 5 (k0_off6_eq k) R l
  · exact raw1 x arg5 X_arg5 hx _ (k0_off7_inb k) k 6 (k0_off7_eq k) R l
  · exact raw1 x arg5 X_arg5 hx _ (k0_off8_inb k) k 7 (k0_off8_eq k) R l
  · exact raw1 x arg5 X_arg5 hx _ (k0_off9_inb k) k 8 (k0_off9_eq k) R l
  · exact raw1 x arg5 X_arg5 hx _ (k0_off10_inb k) k 9 (k0_off10_eq k) R l
  · exact raw1 x arg5 X_arg5 hx _ (k0_off11_inb k) k 10 (k0_off11_eq k) R l
  · exact raw1 x arg5 X_arg5 hx _ (k0_off12_inb k) k 11 (k0_off12_eq k) R l
  · exact raw1 x arg5 X_arg5 hx _ (k0_off13_inb k) k 12 (k0_off13_eq k) R l
  · exact raw1 x arg5 X_arg5 hx _ (k0_off14_inb k) k 13 (k0_off14_eq k) R l
  · exact raw1 x arg5 X_arg5 hx _ (k0_off15_inb k) k 14 (k0_off15_eq k) R l
  · exact raw1 x arg5 X_arg5 hx _ (k0_off16_inb k) k 15 (k0_off16_eq k) R l

include hw in
theorem wts_apply (n : Fin 16) (l : Fin 128) :
    wts (F := Ideal) arg4 X_arg4 n (ix2 (0 : Fin 1) l) = w (ix2 (0 : Fin 1) (⟨128 * n.val + l.val, by omega⟩ : Fin 2048)) := by
  fin_cases n
  · exact wts1 w arg4 X_arg4 hw _ inb_S1x2048_S1x128_0_0 0 rfl l
  · exact wts1 w arg4 X_arg4 hw _ inb_S1x2048_S1x128_0_128 1 rfl l
  · exact wts1 w arg4 X_arg4 hw _ inb_S1x2048_S1x128_0_256 2 rfl l
  · exact wts1 w arg4 X_arg4 hw _ inb_S1x2048_S1x128_0_384 3 rfl l
  · exact wts1 w arg4 X_arg4 hw _ inb_S1x2048_S1x128_0_512 4 rfl l
  · exact wts1 w arg4 X_arg4 hw _ inb_S1x2048_S1x128_0_640 5 rfl l
  · exact wts1 w arg4 X_arg4 hw _ inb_S1x2048_S1x128_0_768 6 rfl l
  · exact wts1 w arg4 X_arg4 hw _ inb_S1x2048_S1x128_0_896 7 rfl l
  · exact wts1 w arg4 X_arg4 hw _ inb_S1x2048_S1x128_0_1024 8 rfl l
  · exact wts1 w arg4 X_arg4 hw _ inb_S1x2048_S1x128_0_1152 9 rfl l
  · exact wts1 w arg4 X_arg4 hw _ inb_S1x2048_S1x128_0_1280 10 rfl l
  · exact wts1 w arg4 X_arg4 hw _ inb_S1x2048_S1x128_0_1408 11 rfl l
  · exact wts1 w arg4 X_arg4 hw _ inb_S1x2048_S1x128_0_1536 12 rfl l
  · exact wts1 w arg4 X_arg4 hw _ inb_S1x2048_S1x128_0_1664 13 rfl l
  · exact wts1 w arg4 X_arg4 hw _ inb_S1x2048_S1x128_0_1792 14 rfl l
  · exact wts1 w arg4 X_arg4 hw _ inb_S1x2048_S1x128_0_1920 15 rfl l

theorem squares_apply (g : Fin 16 → FVec Ideal S32x128 .f32) (R : Fin 32) (l : Fin 128) :
    squares g (ix2 R l) = ∑ j : Fin 16, g j (ix2 R l) * g j (ix2 R l) := by
  simp only [Fin.sum_univ_castSucc, Fin.sum_univ_zero, zero_add]
  rfl

/-- A sum over a row's columns, tile by tile. -/
theorem sum_tiles (f : Fin 2048 → EReal) : ∑ l : Fin 128, ∑ j : Fin 16, f ⟨128 * j.val + l.val, by omega⟩ = ∑ k, f k := by
  rw [Finset.sum_comm, ← Fintype.sum_prod_type']
  refine Fintype.sum_equiv (finProdFinEquiv (m := 16) (n := 128)) _ _ fun p => ?_
  exact congrArg f (Fin.ext (show 128 * p.1.val + p.2.val = p.2.val + 128 * p.1.val by omega))

/-- The rows' reciprocal root mean squares. -/
theorem inv_apply (g : Fin 16 → FVec Ideal S32x128 .f32) (f : Fin 2048 → EReal) (R : Fin 32)
    (hf : ∀ (j : Fin 16) (l : Fin 128), g j (ix2 R l) = f ⟨128 * j.val + l.val, by omega⟩) :
    inv g (ix2 R (0 : Fin 1)) = Ideal.rsqrt ((∑ k, f k * f k) * Ideal.ofBits .f32 0x3A000000#32 + Ideal.ofBits .f32 0x358637BD#32) := by
  have hs : (shapeCast S32x1 (multiReduction .add [1] S32 (squares g) 0x00000000#32 reduces_S32x128_S32 (.inl rfl) rfl) shapeCasts_S32_S32x1 : FVec Ideal S32x1 .f32) (ix2 R (0 : Fin 1))
      = ∑ k, f k * f k := by
    refine (shapeCast_apply _ _ _ (ix1 R) ?_).trans ?_
    · rw [Shape.rowMajor_val_one, Shape.rowMajor_val_two]
      show R.val = R.val * 1 + 0
      omega
    have key : ∀ l : Fin 128, squares g (reduces_S32x128_S32.lift (ix1 R) l)
        = ∑ j : Fin 16, f ⟨128 * j.val + l.val, by omega⟩ * f ⟨128 * j.val + l.val, by omega⟩ := by
      intro l
      have hl : reduces_S32x128_S32.lift (ix1 R) l = ix2 R l := by
        funext a
        match a with
        | ⟨0, _⟩ => rfl
        | ⟨1, _⟩ => rfl
      exact (congrArg (squares g) hl).trans ((squares_apply g R l).trans (Finset.sum_congr rfl fun j _ => by rw [hf j l]))
    exact (Ideal.multiReduction_add_single (squares g) _ _ _ _ (ix1 R)).trans ((Finset.sum_congr rfl fun l _ => key l).trans (sum_tiles fun k => f k * f k))
  unfold inv
  exact congrArg (fun z => Ideal.rsqrt (z * Ideal.ofBits .f32 0x3A000000#32 + Ideal.ofBits .f32 0x358637BD#32)) hs

theorem normed_apply (t : FVec Ideal S32x128 .f32) (v : FVec Ideal S32x1 .f32) (u : FVec Ideal S1x128 .f32) (R : Fin 32) (l : Fin 128) :
    normed t v u (ix2 R l) = t (ix2 R l) * v (ix2 R (0 : Fin 1)) * u (ix2 (0 : Fin 1) l) := by
  have h1 : broadcastTo S32x128 v broadcasts_S32x1_S32x128 (ix2 R l) = v (ix2 R (0 : Fin 1)) := broadcastTo_apply _ _ _ _ fun a => by
    match a with
    | ⟨0, _⟩ => rfl
    | ⟨1, _⟩ => rfl
  have h2 : broadcastTo S32x128 u broadcasts_S1x128_S32x128 (ix2 R l) = u (ix2 (0 : Fin 1) l) := broadcastTo_apply _ _ _ _ fun a => by
    match a with
    | ⟨0, _⟩ => rfl
    | ⟨1, _⟩ => rfl
  show t (ix2 R l) * broadcastTo S32x128 v broadcasts_S32x1_S32x128 (ix2 R l) * broadcastTo S32x128 u broadcasts_S1x128_S32x128 (ix2 R l) = _
  rw [h1, h2]

include hw hx in
/-- A strip's tiles are the block's normed entries. -/
theorem tiles_apply (k : Fin k0_t1_loop.trips) (n : Fin 16) (R : Fin 32) (l : Fin 128) :
    tiles (F := Ideal) arg4 arg5 X_arg4 X_arg5 k n (ix2 R l)
      = nt x w (⟨32 * k.val + R.val, row_lt k R⟩ : Fin 512) (⟨128 * n.val + l.val, by omega⟩ : Fin 2048) := by
  unfold tiles
  rw [normed_apply, raw_apply x arg5 X_arg5 hx, wts_apply w arg4 X_arg4 hw,
    inv_apply _ (fun c => x (ix2 (⟨32 * k.val + R.val, row_lt k R⟩ : Fin 512) c)) R fun j l => raw_apply x arg5 X_arg5 hx k j R l]
  rfl

include hw hx in
theorem blk_tiles (k : Fin k0_t1_loop.trips) (n : Fin 16) (R : Fin 32) (q : Fin 4) :
    blk (tiles (F := Ideal) arg4 arg5 X_arg4 X_arg5 k) R n q
      = amax fun i : Fin 32 => nt x w (⟨32 * k.val + R.val, row_lt k R⟩ : Fin 512) (⟨128 * n.val + (32 * q.val + i.val), by omega⟩ : Fin 2048) := by
  exact amax_congr fun i => tiles_apply x w arg4 arg5 X_arg4 X_arg5 hw hx k n R (col q i)

include hw hx in
theorem blk_mx (k : Fin k0_t1_loop.trips) (n : Fin 16) (R : Fin 32) (l : Fin 128) :
    blk (tiles (F := Ideal) arg4 arg5 X_arg4 X_arg5 k) R n ⟨l.val / 32, by omega⟩
      = mx x w (⟨32 * k.val + R.val, row_lt k R⟩ : Fin 512) (⟨128 * n.val + l.val, by omega⟩ : Fin 2048) := by
  rw [blk_tiles x w arg4 arg5 X_arg4 X_arg5 hw hx]
  exact amax_congr fun i => nt_congr x w rfl <| Fin.ext (show 128 * n.val + (32 * (l.val / 32) + i.val) = 32 * ((128 * n.val + l.val) / 32) + i.val by omega)

include hw hx in
theorem codes_piece (k : Fin k0_t1_loop.trips) (n : Fin 16) (off : Fin S512x2048.rank → ℕ) (inb : ∀ a, off a + S32x128.size a ≤ S512x2048.size a)
    (h : off = ![32 * k.val, 128 * n.val]) (y : S32x128.Idx) :
    codes (F := Ideal) (tiles arg4 arg5 X_arg4 X_arg5 k n) (word (tiles arg4 arg5 X_arg4 X_arg5 k)) (offs n) y
      = codeB x w ((Rect.unit (s := S512x2048) off S32x128.size inb).emb y) := by
  obtain ⟨R, l, rfl⟩ : ∃ (R : Fin 32) (l : Fin 128), y = ix2 R l := ⟨y 0, y 1, eq_ix2 y⟩
  rw [codes_apply, blk_mx x w arg4 arg5 X_arg4 X_arg5 hw hx, tiles_apply x w arg4 arg5 X_arg4 X_arg5 hw hx, emb_tile off inb k n h]
  rfl

include hw hx in
theorem vals_piece (k : Fin k0_t1_loop.trips) (n : Fin 16) (off : Fin S512x2048.rank → ℕ) (inb : ∀ a, off a + S32x128.size a ≤ S512x2048.size a)
    (h : off = ![32 * k.val, 128 * n.val]) (y : S32x128.Idx) :
    vals (F := Ideal) (tiles arg4 arg5 X_arg4 X_arg5 k n) (word (tiles arg4 arg5 X_arg4 X_arg5 k)) (offs n) y
      = valB x w ((Rect.unit (s := S512x2048) off S32x128.size inb).emb y) := by
  obtain ⟨R, l, rfl⟩ : ∃ (R : Fin 32) (l : Fin 128), y = ix2 R l := ⟨y 0, y 1, eq_ix2 y⟩
  rw [vals_apply, blk_mx x w arg4 arg5 X_arg4 X_arg5 hw hx, tiles_apply x w arg4 arg5 X_arg4 X_arg5 hw hx, emb_tile off inb k n h]
  rfl

include hw hx in
theorem scales_piece (k : Fin k0_t1_loop.trips) (off : Fin S512x64.rank → ℕ) (inb : ∀ a, off a + S32x64.size a ≤ S512x64.size a)
    (h : off = ![32 * k.val, 0]) (y : S32x64.Idx) :
    scales (byteT (F := Ideal) (tiles arg4 arg5 X_arg4 X_arg5 k)) (byteB (tiles arg4 arg5 X_arg4 X_arg5 k)) y
      = scaleB x w ((Rect.unit (s := S512x64) off S32x64.size inb).emb y) := by
  subst h
  obtain ⟨R, l, rfl⟩ : ∃ (R : Fin 32) (l : Fin 64), y = ix2 R l := ⟨y 0, y 1, eq_ix2 y⟩
  rw [scales_apply, blk_tiles x w arg4 arg5 X_arg4 X_arg5 hw hx]
  exact congrArg (fun z => BitVec.ofNat 8 (sbyte z)) (amax_congr fun i => nt_congr x w
    (Fin.ext (show 32 * k.val + R.val = 32 * k.val + 1 * R.val by omega))
    (Fin.ext (show 128 * (l.val / 4) + (32 * (l.val % 4) + i.val) = 32 * (0 + 1 * l.val) + i.val by omega)))

end Block

variable (x : FVec Ideal S512x2048 .f32) (w : FVec Ideal S1x2048 .f32)

/-- The codes of every trip are the block's. -/
theorem pb_codes (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 X_arg4 X_arg5 n).1, ∀ y : p.1.shape.Idx, p.2 y = codeB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 X_arg4 X_arg5 ⟨n, hn⟩
    intro p hp
    rw [show n + 1 = (⟨n, hn⟩ : Fin k0_t1_loop.trips).val + 1 from rfl, hs] at hp
    rcases List.mem_append.1 hp with hp | hp
    · have ht := trip_codes (F := Ideal) 𝒱 c bd i arg1 harg1 arg2 harg2 arg3 harg3 arg4 harg4 arg5 harg5 arg6 harg6 arg7 harg7 arg8 harg8 X_arg4 X_arg5 ⟨n, hn⟩
      rw [show (tripL_k0_t1 (F := Ideal) 𝒱 c bd i arg1 harg1 arg2 harg2 arg3 harg3 arg4 harg4 arg5 harg5 arg6 harg6 arg7 harg7 arg8 harg8 X_arg4 X_arg5 ⟨n, hn⟩).1 = (trip_k0_t1 (F := Ideal) 𝒱 c bd i arg1 harg1 arg2 harg2 arg3 harg3 arg4 harg4 arg5 harg5 arg6 harg6 arg7 harg7 arg8 harg8 X_arg4 X_arg5 ⟨n, hn⟩).1 from rfl, ht] at hp
      simp only [List.mem_cons, List.not_mem_nil, or_false] at hp
      rcases hp with rfl | rfl | rfl | rfl | rfl | rfl | rfl | rfl | rfl | rfl | rfl | rfl | rfl | rfl | rfl | rfl
      · exact fun y => codes_piece x w _ _ _ _ hw hx ⟨n, hn⟩ 15 _ (k0_off16_inb _) (k0_off16_eq _) y
      · exact fun y => codes_piece x w _ _ _ _ hw hx ⟨n, hn⟩ 14 _ (k0_off15_inb _) (k0_off15_eq _) y
      · exact fun y => codes_piece x w _ _ _ _ hw hx ⟨n, hn⟩ 13 _ (k0_off14_inb _) (k0_off14_eq _) y
      · exact fun y => codes_piece x w _ _ _ _ hw hx ⟨n, hn⟩ 12 _ (k0_off13_inb _) (k0_off13_eq _) y
      · exact fun y => codes_piece x w _ _ _ _ hw hx ⟨n, hn⟩ 11 _ (k0_off12_inb _) (k0_off12_eq _) y
      · exact fun y => codes_piece x w _ _ _ _ hw hx ⟨n, hn⟩ 10 _ (k0_off11_inb _) (k0_off11_eq _) y
      · exact fun y => codes_piece x w _ _ _ _ hw hx ⟨n, hn⟩ 9 _ (k0_off10_inb _) (k0_off10_eq _) y
      · exact fun y => codes_piece x w _ _ _ _ hw hx ⟨n, hn⟩ 8 _ (k0_off9_inb _) (k0_off9_eq _) y
      · exact fun y => codes_piece x w _ _ _ _ hw hx ⟨n, hn⟩ 7 _ (k0_off8_inb _) (k0_off8_eq _) y
      · exact fun y => codes_piece x w _ _ _ _ hw hx ⟨n, hn⟩ 6 _ (k0_off7_inb _) (k0_off7_eq _) y
      · exact fun y => codes_piece x w _ _ _ _ hw hx ⟨n, hn⟩ 5 _ (k0_off6_inb _) (k0_off6_eq _) y
      · exact fun y => codes_piece x w _ _ _ _ hw hx ⟨n, hn⟩ 4 _ (k0_off5_inb _) (k0_off5_eq _) y
      · exact fun y => codes_piece x w _ _ _ _ hw hx ⟨n, hn⟩ 3 _ (k0_off4_inb _) (k0_off4_eq _) y
      · exact fun y => codes_piece x w _ _ _ _ hw hx ⟨n, hn⟩ 2 _ (k0_off3_inb _) (k0_off3_eq _) y
      · exact fun y => codes_piece x w _ _ _ _ hw hx ⟨n, hn⟩ 1 _ (k0_off2_inb _) (k0_off2_eq _) y
      · exact fun y => codes_piece x w _ _ _ _ hw hx ⟨n, hn⟩ 0 _ (k0_off1_inb _) (k0_off1_eq _) y
    · exact ih (by omega) p hp

/-- The decoded values of every trip are the block's. -/
theorem pb_vals (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 X_arg4 X_arg5 n).2.2, ∀ y : p.1.shape.Idx, p.2 y = valB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 X_arg4 X_arg5 ⟨n, hn⟩
    intro p hp
    rw [show n + 1 = (⟨n, hn⟩ : Fin k0_t1_loop.trips).val + 1 from rfl, hs] at hp
    rcases List.mem_append.1 hp with hp | hp
    · have ht := trip_vals (F := Ideal) 𝒱 c bd i arg1 harg1 arg2 harg2 arg3 harg3 arg4 harg4 arg5 harg5 arg6 harg6 arg7 harg7 arg8 harg8 X_arg4 X_arg5 ⟨n, hn⟩
      rw [show (tripL_k0_t1 (F := Ideal) 𝒱 c bd i arg1 harg1 arg2 harg2 arg3 harg3 arg4 harg4 arg5 harg5 arg6 harg6 arg7 harg7 arg8 harg8 X_arg4 X_arg5 ⟨n, hn⟩).2.2 = (trip_k0_t1 (F := Ideal) 𝒱 c bd i arg1 harg1 arg2 harg2 arg3 harg3 arg4 harg4 arg5 harg5 arg6 harg6 arg7 harg7 arg8 harg8 X_arg4 X_arg5 ⟨n, hn⟩).2.2.1 from rfl, ht] at hp
      simp only [List.mem_cons, List.not_mem_nil, or_false] at hp
      rcases hp with rfl | rfl | rfl | rfl | rfl | rfl | rfl | rfl | rfl | rfl | rfl | rfl | rfl | rfl | rfl | rfl
      · exact fun y => vals_piece x w _ _ _ _ hw hx ⟨n, hn⟩ 15 _ (k0_off16_inb _) (k0_off16_eq _) y
      · exact fun y => vals_piece x w _ _ _ _ hw hx ⟨n, hn⟩ 14 _ (k0_off15_inb _) (k0_off15_eq _) y
      · exact fun y => vals_piece x w _ _ _ _ hw hx ⟨n, hn⟩ 13 _ (k0_off14_inb _) (k0_off14_eq _) y
      · exact fun y => vals_piece x w _ _ _ _ hw hx ⟨n, hn⟩ 12 _ (k0_off13_inb _) (k0_off13_eq _) y
      · exact fun y => vals_piece x w _ _ _ _ hw hx ⟨n, hn⟩ 11 _ (k0_off12_inb _) (k0_off12_eq _) y
      · exact fun y => vals_piece x w _ _ _ _ hw hx ⟨n, hn⟩ 10 _ (k0_off11_inb _) (k0_off11_eq _) y
      · exact fun y => vals_piece x w _ _ _ _ hw hx ⟨n, hn⟩ 9 _ (k0_off10_inb _) (k0_off10_eq _) y
      · exact fun y => vals_piece x w _ _ _ _ hw hx ⟨n, hn⟩ 8 _ (k0_off9_inb _) (k0_off9_eq _) y
      · exact fun y => vals_piece x w _ _ _ _ hw hx ⟨n, hn⟩ 7 _ (k0_off8_inb _) (k0_off8_eq _) y
      · exact fun y => vals_piece x w _ _ _ _ hw hx ⟨n, hn⟩ 6 _ (k0_off7_inb _) (k0_off7_eq _) y
      · exact fun y => vals_piece x w _ _ _ _ hw hx ⟨n, hn⟩ 5 _ (k0_off6_inb _) (k0_off6_eq _) y
      · exact fun y => vals_piece x w _ _ _ _ hw hx ⟨n, hn⟩ 4 _ (k0_off5_inb _) (k0_off5_eq _) y
      · exact fun y => vals_piece x w _ _ _ _ hw hx ⟨n, hn⟩ 3 _ (k0_off4_inb _) (k0_off4_eq _) y
      · exact fun y => vals_piece x w _ _ _ _ hw hx ⟨n, hn⟩ 2 _ (k0_off3_inb _) (k0_off3_eq _) y
      · exact fun y => vals_piece x w _ _ _ _ hw hx ⟨n, hn⟩ 1 _ (k0_off2_inb _) (k0_off2_eq _) y
      · exact fun y => vals_piece x w _ _ _ _ hw hx ⟨n, hn⟩ 0 _ (k0_off1_inb _) (k0_off1_eq _) y
    · exact ih (by omega) p hp

/-- The scale bytes of every trip are the block's. -/
theorem pb_scales (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 X_arg4 X_arg5 n).2.1, ∀ y : p.1.shape.Idx, p.2 y = scaleB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 X_arg4 X_arg5 ⟨n, hn⟩
    intro p hp
    rw [show n + 1 = (⟨n, hn⟩ : Fin k0_t1_loop.trips).val + 1 from rfl, hs] at hp
    rcases List.mem_append.1 hp with hp | hp
    · have ht := trip_scales (F := Ideal) 𝒱 c bd i arg1 harg1 arg2 harg2 arg3 harg3 arg4 harg4 arg5 harg5 arg6 harg6 arg7 harg7 arg8 harg8 X_arg4 X_arg5 ⟨n, hn⟩
      rw [show (tripL_k0_t1 (F := Ideal) 𝒱 c bd i arg1 harg1 arg2 harg2 arg3 harg3 arg4 harg4 arg5 harg5 arg6 harg6 arg7 harg7 arg8 harg8 X_arg4 X_arg5 ⟨n, hn⟩).2.1 = (trip_k0_t1 (F := Ideal) 𝒱 c bd i arg1 harg1 arg2 harg2 arg3 harg3 arg4 harg4 arg5 harg5 arg6 harg6 arg7 harg7 arg8 harg8 X_arg4 X_arg5 ⟨n, hn⟩).2.1 from rfl, ht] at hp
      simp only [List.mem_cons, List.not_mem_nil, or_false] at hp
      subst hp
      exact fun y => scales_piece x w _ _ _ _ hw hx ⟨n, hn⟩ _ (k0_off17_inb _) (k0_off17_eq _) y
    · exact ih (by omega) p hp

end Cert.OutKernelIdeal.Gen.Wide

end
-- ==== Proof.OutPoint.lean ====
module

public import proofs.«01_k».proof.Proof.OutBlock

@[expose] public section

set_option maxRecDepth 8192

noncomputable section

/-! What one grid point of the output projection leaves: its residual rows, and their codes, scale bytes and decoded values. -/

namespace Cert.OutKernelIdeal.Gen.Wide

open Idealize.ShloMosaic Idealize.ShloMosaic.TcCoe Idealize.ShloMosaic.Tactic Idealize.SL.Sem Idealize.ShloMosaic.ValueIdx

/-- A load of a whole memref holding `x` reads `x`. -/
theorem rd {sp : Space} {s : Shape} {e : EltTy} (M : Memref sig .tc sp s e) (h : M.IsWhole) (x : Vec Ideal s e) {off : Fin s.rank → ℕ} (hz : off = fun _ => 0)
    (inb : ∀ a, off a + s.size a ≤ s.size a) : View.readAt (Elt Ideal) M.view (Rect.unit off s.size inb).toLoadRect (h.unread x) = x := by
  rw [View.readAt_eq_ld, h.read_unread, View.ld_unit_zero hz]

/-- A read after a write of the whole reads what was written. -/
theorem rd_write {sp : Space} {s : Shape} {e : EltTy} (M : Memref sig .tc sp s e) (w : Vec Ideal s e) {off : Fin s.rank → ℕ} (hz : off = fun _ => 0)
    (inb : ∀ a, off a + s.size a ≤ s.size a) : M.view.read (Elt Ideal) (M.view.writes (Elt Ideal) M.view.junk [⟨Rect.unit off s.size inb, w⟩]) = w :=
  (View.read_writes_junk_eq_canon _ _).trans (View.canon_unit_zero hz _ _)

theorem z2 : (![0, 0] : Fin 2 → ℕ) = fun _ => 0 := by funext a; fin_cases a <;> rfl

/-- The codes the loop leaves are the block's. -/
theorem loop_codes (x : FVec Ideal S512x2048 .f32) (w : FVec Ideal S1x2048 .f32) (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) :
    View.canon (pb_k0_t1 (F := Ideal) 𝒱 c bd i arg1 harg1 arg2 harg2 arg3 harg3 arg4 harg4 arg5 harg5 arg6 harg6 arg7 harg7 arg8 harg8 X_arg4 X_arg5 k0_t1_loop.trips).1 = codeB x w :=
  funext fun y => View.canon_apply_of_pieces (codeB x w) _ (pb_codes x w 𝒱 c bd i arg1 harg1 arg2 harg2 arg3 harg3 arg4 harg4 arg5 harg5 arg6 harg6 arg7 harg7 arg8 harg8 X_arg4 X_arg5 hw hx _ le_rfl) y
    (View.cover_of_tiledL (pb_k0_t1 (F := Ideal) 𝒱 c bd i arg1 harg1 arg2 harg2 arg3 harg3 arg4 harg4 arg5 harg5 arg6 harg6 arg7 harg7 arg8 harg8 X_arg4 X_arg5 k0_t1_loop.trips).1 S32x128.size (by sl_kernel_rfl) y)

/-- The scales the loop leaves are the block's. -/
theorem loop_scales (x : FVec Ideal S512x2048 .f32) (w : FVec Ideal S1x2048 .f32) (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) :
    View.canon (pb_k0_t1 (F := Ideal) 𝒱 c bd i arg1 harg1 arg2 harg2 arg3 harg3 arg4 harg4 arg5 harg5 arg6 harg6 arg7 harg7 arg8 harg8 X_arg4 X_arg5 k0_t1_loop.trips).2.1 = scaleB x w :=
  funext fun y => View.canon_apply_of_pieces (scaleB x w) _ (pb_scales x w 𝒱 c bd i arg1 harg1 arg2 harg2 arg3 harg3 arg4 harg4 arg5 harg5 arg6 harg6 arg7 harg7 arg8 harg8 X_arg4 X_arg5 hw hx _ le_rfl) y
    (View.cover_of_tiledL (pb_k0_t1 (F := Ideal) 𝒱 c bd i arg1 harg1 arg2 harg2 arg3 harg3 arg4 harg4 arg5 harg5 arg6 harg6 arg7 harg7 arg8 harg8 X_arg4 X_arg5 k0_t1_loop.trips).2.1 S32x64.size (by sl_kernel_rfl) y)

/-- The vals the loop leaves are the block's. -/
theorem loop_vals (x : FVec Ideal S512x2048 .f32) (w : FVec Ideal S1x2048 .f32) (𝒱 : Variants) (c : Dev nD) (bd : Option 𝒱.V) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (X_arg4 : BufTy.Contents (Elt Ideal) arg4.view.ty) (X_arg5 : BufTy.Contents (Elt Ideal) arg5.view.ty)
    (hw : arg4.view.read (Elt Ideal) X_arg4 = w) (hx : arg5.view.read (Elt Ideal) X_arg5 = x) :
    View.canon (pb_k0_t1 (F := Ideal) 𝒱 c bd i arg1 harg1 arg2 harg2 arg3 harg3 arg4 harg4 arg5 harg5 arg6 harg6 arg7 harg7 arg8 harg8 X_arg4 X_arg5 k0_t1_loop.trips).2.2 = valB x w :=
  funext fun y => View.canon_apply_of_pieces (valB x w) _ (pb_vals x w 𝒱 c bd i arg1 harg1 arg2 harg2 arg3 harg3 arg4 harg4 arg5 harg5 arg6 harg6 arg7 harg7 arg8 harg8 X_arg4 X_arg5 hw hx _ le_rfl) y
    (View.cover_of_tiledL (pb_k0_t1 (F := Ideal) 𝒱 c bd i arg1 harg1 arg2 harg2 arg3 harg3 arg4 harg4 arg5 harg5 arg6 harg6 arg7 harg7 arg8 harg8 X_arg4 X_arg5 k0_t1_loop.trips).2.2 S32x128.size (by sl_kernel_rfl) y)

/-- A point's residual rows. -/
theorem resid_A (c : Dev nD) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (x0 : Vec Ideal S512x1920 .bf16) (x1 : Vec Ideal S2048x1920 .bf16) (x2 : Vec Ideal S512x2048 .bf16) (x3 : Vec Ideal S1x2048 .f32) :
    out0_A_4 (F := Ideal) c i arg1 harg1 arg2 harg2 arg3 harg3 arg4 harg4 arg5 harg5 arg6 harg6 arg7 harg7 arg8 harg8 x0 x1 x2 x3 = k0_pay1 x0 x1 x2 :=
  (View.read_writes_junk_eq_canon _ _).trans ((View.canon_unit_zero z2 _ _).trans
    (congr (congrArg₂ k0_pay1 (rd arg1 harg1 x0 z2 _) (rd arg2 harg2 x1 z2 _)) (rd arg3 harg3 x2 z2 _)))

/-- A point's codes. -/
theorem codes_A (c : Dev nD) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (x0 : Vec Ideal S512x1920 .bf16) (x1 : Vec Ideal S2048x1920 .bf16) (x2 : Vec Ideal S512x2048 .bf16) (x3 : Vec Ideal S1x2048 .f32) :
    out0_A_5 (F := Ideal) c i arg1 harg1 arg2 harg2 arg3 harg3 arg4 harg4 arg5 harg5 arg6 harg6 arg7 harg7 arg8 harg8 x0 x1 x2 x3 = codeB (k0_pay1 x0 x1 x2) x3 :=
  (View.read_writes_junk_eq_canon _ _).trans (loop_codes _ _ _ _ _ _ _ _ _ _ _ _ _ _ _ _ _ _ _ _ _ _ _ _
    (harg4.read_unread x3) ((rd_write arg5 _ z2 _).trans (congr (congrArg₂ k0_pay1 (rd arg1 harg1 x0 z2 _) (rd arg2 harg2 x1 z2 _)) (rd arg3 harg3 x2 z2 _))))

/-- A point's scales. -/
theorem scales_A (c : Dev nD) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (x0 : Vec Ideal S512x1920 .bf16) (x1 : Vec Ideal S2048x1920 .bf16) (x2 : Vec Ideal S512x2048 .bf16) (x3 : Vec Ideal S1x2048 .f32) :
    out0_A_6 (F := Ideal) c i arg1 harg1 arg2 harg2 arg3 harg3 arg4 harg4 arg5 harg5 arg6 harg6 arg7 harg7 arg8 harg8 x0 x1 x2 x3 = scaleB (k0_pay1 x0 x1 x2) x3 :=
  (View.read_writes_junk_eq_canon _ _).trans (loop_scales _ _ _ _ _ _ _ _ _ _ _ _ _ _ _ _ _ _ _ _ _ _ _ _
    (harg4.read_unread x3) ((rd_write arg5 _ z2 _).trans (congr (congrArg₂ k0_pay1 (rd arg1 harg1 x0 z2 _) (rd arg2 harg2 x1 z2 _)) (rd arg3 harg3 x2 z2 _))))

/-- A point's vals. -/
theorem vals_A (c : Dev nD) (i : grid0.Coords) (arg1 : Memref sig .tc .vmem S512x1920 .bf16) (harg1 : arg1.IsWhole) (arg2 : Memref sig .tc .vmem S2048x1920 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S512x2048 .bf16) (harg8 : arg8.IsWhole) (x0 : Vec Ideal S512x1920 .bf16) (x1 : Vec Ideal S2048x1920 .bf16) (x2 : Vec Ideal S512x2048 .bf16) (x3 : Vec Ideal S1x2048 .f32) :
    out0_A_7 (F := Ideal) c i arg1 harg1 arg2 harg2 arg3 harg3 arg4 harg4 arg5 harg5 arg6 harg6 arg7 harg7 arg8 harg8 x0 x1 x2 x3 = valB (k0_pay1 x0 x1 x2) x3 :=
  (View.read_writes_junk_eq_canon _ _).trans (loop_vals _ _ _ _ _ _ _ _ _ _ _ _ _ _ _ _ _ _ _ _ _ _ _ _
    (harg4.read_unread x3) ((rd_write arg5 _ z2 _).trans (congr (congrArg₂ k0_pay1 (rd arg1 harg1 x0 z2 _) (rd arg2 harg2 x1 z2 _)) (rd arg3 harg3 x2 z2 _))))

end Cert.OutKernelIdeal.Gen.Wide

end
-- ==== Proof.OutFold.lean ====
module

public import proofs.«01_k».proof.Proof.OutPoint
public import proofs.«01_k».proof.Proof.OutModel
public import proofs.«01_k».proof.Proof.Gen.OutKernelIdeal.Value
public import Idealize.ShloMosaic.Lib.MatmulPlain

@[expose] public section

set_option maxRecDepth 8192

noncomputable section

/-! The output projection's four result arrays, element by element. -/

namespace Cert.OutKernelIdeal.Gen.Wide

open Idealize.ShloMosaic Idealize.ShloMosaic.TcCoe Idealize.ShloMosaic.Tactic Idealize.SL.Sem Idealize.ShloMosaic.ValueIdx
open Cert.OutKernelIdeal.Value
open Cert.KernelIdeal.Gen.Strip (Arr dotr amax amax_congr sbyte qcode qval c_zero)

/-- The residual rows of a point. -/
theorem pay1_apply (x : FVec Ideal S512x1920 .bf16) (w : FVec Ideal S2048x1920 .bf16) (h : FVec Ideal S512x2048 .bf16) (R : Fin 512) (C : Fin 2048) :
    k0_pay1 (F := Ideal) x w h (ix2 R C) = (∑ k : Fin 1920, x (ix2 R k) * w (ix2 C k)) + h (ix2 R C) := by
  unfold k0_pay1
  refine congrArg (· + h (ix2 R C)) ((Ideal.matmul_transposedRhs_apply (M := 512) (K := 1920) (N := 2048) none x w _ R C).trans ?_)
  show Ideal.ofBits .f32 0x00000000#32 + _ = _
  rw [c_zero, zero_add]

/-! ## The blocks a point reads -/

variable (m : (ℓ : Loc nD τ sig) → Buf (Elt Ideal) ℓ)

abbrev A0 (c : Dev nD) : Arr 12288 1920 := m ((c : Thread nD τ).loc main_arg0)
abbrev A1 (c : Dev nD) : Arr 2048 1920 := m ((c : Thread nD τ).loc main_arg1)
abbrev A2 (c : Dev nD) : Arr 12288 2048 := m ((c : Thread nD τ).loc main_arg2)
abbrev A3 (c : Dev nD) : Arr 1 2048 := m ((c : Thread nD τ).loc main_arg3)

theorem t_lt (t : Fin cfg0.N) : t.val < 24 := lt_of_lt_of_eq t.isLt N_0

/-- The row of the arrays that row `R` of point `t`'s block is. -/
def row (t : Fin cfg0.N) (R : Fin 512) : Fin 12288 := ⟨512 * t.val + R.val, by have := t_lt t; omega⟩

theorem in0 : ∀ t : Fin cfg0.N, win0_0.index t (0 : Fin 2) = t.val ∧ win0_0.index t (1 : Fin 2) = 0 := (by decide +kernel : ∀ t : Fin grid0.N, _)
theorem in1 : ∀ t : Fin cfg0.N, win0_1.index t (0 : Fin 2) = 0 ∧ win0_1.index t (1 : Fin 2) = 0 := (by decide +kernel : ∀ t : Fin grid0.N, _)
theorem in2 : ∀ t : Fin cfg0.N, win0_2.index t (0 : Fin 2) = t.val ∧ win0_2.index t (1 : Fin 2) = 0 := (by decide +kernel : ∀ t : Fin grid0.N, _)
theorem in3 : ∀ t : Fin cfg0.N, win0_3.index t (0 : Fin 2) = 0 ∧ win0_3.index t (1 : Fin 2) = 0 := (by decide +kernel : ∀ t : Fin grid0.N, _)
theorem in4 : ∀ t : Fin cfg0.N, win0_4.index t (0 : Fin 2) = t.val ∧ win0_4.index t (1 : Fin 2) = 0 := (by decide +kernel : ∀ t : Fin grid0.N, _)
theorem in5 : ∀ t : Fin cfg0.N, win0_5.index t (0 : Fin 2) = t.val ∧ win0_5.index t (1 : Fin 2) = 0 := (by decide +kernel : ∀ t : Fin grid0.N, _)
theorem in6 : ∀ t : Fin cfg0.N, win0_6.index t (0 : Fin 2) = t.val ∧ win0_6.index t (1 : Fin 2) = 0 := (by decide +kernel : ∀ t : Fin grid0.N, _)
theorem in7 : ∀ t : Fin cfg0.N, win0_7.index t (0 : Fin 2) = t.val ∧ win0_7.index t (1 : Fin 2) = 0 := (by decide +kernel : ∀ t : Fin grid0.N, _)

theorem fl4 : ∀ t : Fin cfg0.N, (cfg0.win 4).flush t = true := (by decide +kernel : ∀ t : Fin grid0.N, _)
theorem fl5 : ∀ t : Fin cfg0.N, (cfg0.win 5).flush t = true := (by decide +kernel : ∀ t : Fin grid0.N, _)
theorem fl6 : ∀ t : Fin cfg0.N, (cfg0.win 6).flush t = true := (by decide +kernel : ∀ t : Fin grid0.N, _)
theorem fl7 : ∀ t : Fin cfg0.N, (cfg0.win 7).flush t = true := (by decide +kernel : ∀ t : Fin grid0.N, _)

theorem blk0 (c : Dev nD) (t : Fin cfg0.N) (R : Fin 512) (k : Fin 1920) :
    (iblk m c 0 t : Vec Ideal S512x1920 .bf16) (ix2 R k) = A0 m c (ix2 (row t R) k) := by
  obtain ⟨e0, e1⟩ := in0 t
  unfold iblk
  rw [View.read_apply]
  show V m c main_arg0 _ = A0 m c _
  unfold V
  refine congrArg (m ((c : Thread nD τ).loc main_arg0)) ?_
  funext a
  apply Fin.ext
  match a with
  | ⟨0, _⟩ => show win0_0.index t 0 * 512 + 1 * R.val = 512 * t.val + R.val; rw [e0]; omega
  | ⟨1, _⟩ => show win0_0.index t 1 * 1920 + 1 * k.val = k.val; rw [e1]; omega

theorem blk1 (c : Dev nD) (t : Fin cfg0.N) (R : Fin 2048) (k : Fin 1920) :
    (iblk m c 1 t : Vec Ideal S2048x1920 .bf16) (ix2 R k) = A1 m c (ix2 R k) := by
  obtain ⟨e0, e1⟩ := in1 t
  unfold iblk
  rw [View.read_apply]
  show V m c main_arg1 _ = A1 m c _
  unfold V
  refine congrArg (m ((c : Thread nD τ).loc main_arg1)) ?_
  funext a
  apply Fin.ext
  match a with
  | ⟨0, _⟩ => show win0_1.index t 0 * 2048 + 1 * R.val = R.val; rw [e0]; omega
  | ⟨1, _⟩ => show win0_1.index t 1 * 1920 + 1 * k.val = k.val; rw [e1]; omega

theorem blk2 (c : Dev nD) (t : Fin cfg0.N) (R : Fin 512) (k : Fin 2048) :
    (iblk m c 2 t : Vec Ideal S512x2048 .bf16) (ix2 R k) = A2 m c (ix2 (row t R) k) := by
  obtain ⟨e0, e1⟩ := in2 t
  unfold iblk
  rw [View.read_apply]
  show V m c main_arg2 _ = A2 m c _
  unfold V
  refine congrArg (m ((c : Thread nD τ).loc main_arg2)) ?_
  funext a
  apply Fin.ext
  match a with
  | ⟨0, _⟩ => show win0_2.index t 0 * 512 + 1 * R.val = 512 * t.val + R.val; rw [e0]; omega
  | ⟨1, _⟩ => show win0_2.index t 1 * 2048 + 1 * k.val = k.val; rw [e1]; omega

theorem blk3 (c : Dev nD) (t : Fin cfg0.N) (R : Fin 1) (k : Fin 2048) :
    (iblk m c 3 t : Vec Ideal S1x2048 .f32) (ix2 R k) = A3 m c (ix2 R k) := by
  obtain ⟨e0, e1⟩ := in3 t
  unfold iblk
  rw [View.read_apply]
  show V m c main_arg3 _ = A3 m c _
  unfold V
  refine congrArg (m ((c : Thread nD τ).loc main_arg3)) ?_
  funext a
  apply Fin.ext
  match a with
  | ⟨0, _⟩ => show win0_3.index t 0 * 1 + 1 * R.val = R.val; rw [e0]; omega
  | ⟨1, _⟩ => show win0_3.index t 1 * 2048 + 1 * k.val = k.val; rw [e1]; omega

/-! ## A point's block in the arrays -/

/-- The residual rows of point `t`. -/
abbrev xB (c : Dev nD) (t : Fin cfg0.N) : FVec Ideal S512x2048 .f32 := k0_pay1 (iblk m c 0 t) (iblk m c 1 t) (iblk m c 2 t)

theorem xB_resid (c : Dev nD) (t : Fin cfg0.N) (R : Fin 512) (C : Fin 2048) :
    xB m c t (ix2 R C) = resid (A0 m c) (A1 m c) (A2 m c) (row t R) C := by
  refine (pay1_apply _ _ _ R C).trans (congrArg₂ (· + ·) (Finset.sum_congr rfl fun k _ => ?_) (blk2 m c t R C))
  rw [blk0, blk1]

theorem nt_nact (c : Dev nD) (t : Fin cfg0.N) (R : Fin 512) (C : Fin 2048) :
    nt (xB m c t) (iblk m c 3 t) R C = nact (A0 m c) (A1 m c) (A2 m c) (A3 m c) (row t R) C :=
  nrm_congr (fun k => xB_resid m c t R k) (blk3 m c t 0 C) C

theorem mx_sb (c : Dev nD) (t : Fin cfg0.N) (R : Fin 512) (C : Fin 2048) (h) :
    sbyte (mx (xB m c t) (iblk m c 3 t) R C) = sb (A0 m c) (A1 m c) (A2 m c) (A3 m c) (row t R) ⟨C.val / 32, h⟩ :=
  congrArg sbyte (amax_congr fun i => nt_nact m c t R _)

/-- The codes of point `t`. -/
theorem codeB_code (c : Dev nD) (t : Fin cfg0.N) (R : Fin 512) (C : Fin 2048) :
    codeB (xB m c t) (iblk m c 3 t) (ix2 R C) = code (A0 m c) (A1 m c) (A2 m c) (A3 m c) (row t R) C :=
  congrArg₂ qcode (nt_nact m c t R C) (mx_sb m c t R C _)

/-- The decoded values of point `t`. -/
theorem valB_dec (c : Dev nD) (t : Fin cfg0.N) (R : Fin 512) (C : Fin 2048) :
    valB (xB m c t) (iblk m c 3 t) (ix2 R C) = dec (A0 m c) (A1 m c) (A2 m c) (A3 m c) (row t R) C :=
  congrArg₂ qval (nt_nact m c t R C) (mx_sb m c t R C _)

/-- The scale bytes of point `t`. -/
theorem scaleB_sb (c : Dev nD) (t : Fin cfg0.N) (R : Fin 512) (l : Fin 64) :
    scaleB (xB m c t) (iblk m c 3 t) (ix2 R l) = BitVec.ofNat 8 (sb (A0 m c) (A1 m c) (A2 m c) (A3 m c) (row t R) l) :=
  congrArg (fun z => BitVec.ofNat 8 (sbyte z)) (amax_congr fun i => nt_nact m c t R _)

/-! ## The four arrays -/

/-- The point that row `r` belongs to. -/
def pt (r : Fin 12288) : Fin cfg0.N := ⟨r.val / 512, lt_of_lt_of_eq (by omega) N_0.symm⟩

theorem row_pt (r : Fin 12288) : row (pt r) ⟨r.val % 512, by omega⟩ = r := Fin.ext (show 512 * (r.val / 512) + r.val % 512 = r.val by omega)

/-- Where entry `d` of row `r` of the residual rows lies in its point's block. -/
theorem at4 (r : Fin 12288) (d : Fin 2048) : ((cfg0.win 4).blk (pt r)).view.emb (ix2 (⟨r.val % 512, by omega⟩ : Fin 512) d) = ix2 r d := by
  obtain ⟨e0, e1⟩ := in4 (pt r)
  funext a
  apply Fin.ext
  match a with
  | ⟨0, _⟩ => show win0_4.index (pt r) 0 * 512 + 1 * (r.val % 512) = r.val; rw [e0]; show r.val / 512 * 512 + 1 * (r.val % 512) = r.val; omega
  | ⟨1, _⟩ => show win0_4.index (pt r) 1 * 2048 + 1 * d.val = d.val; rw [e1]; omega

/-- The residual rows. -/
theorem kernel_y (c : Dev nD) (r : Fin 12288) (d : Fin 2048) :
    ((dats m 0 c).arrAt 4 cfg0.N : Vec Ideal S12288x2048 .f32) (ix2 r d) = resid (A0 m c) (A1 m c) (A2 m c) r d := by
  have h := congrFun ((blocks4 m c (pt r) (fl4 (pt r))).trans (flushed4_A m c (pt r))) (ix2 (⟨r.val % 512, by omega⟩ : Fin 512) d)
  rw [View.read_apply, at4] at h
  refine h.trans ((congrFun (resid_A ..) (ix2 (⟨r.val % 512, by omega⟩ : Fin 512) d)).trans ((xB_resid m c _ _ _).trans ?_))
  rw [row_pt]

/-- Where entry `d` of row `r` of the codes lies in its point's block. -/
theorem at5 (r : Fin 12288) (d : Fin 2048) : ((cfg0.win 5).blk (pt r)).view.emb (ix2 (⟨r.val % 512, by omega⟩ : Fin 512) d) = ix2 r d := by
  obtain ⟨e0, e1⟩ := in5 (pt r)
  funext a
  apply Fin.ext
  match a with
  | ⟨0, _⟩ => show win0_5.index (pt r) 0 * 512 + 1 * (r.val % 512) = r.val; rw [e0]; show r.val / 512 * 512 + 1 * (r.val % 512) = r.val; omega
  | ⟨1, _⟩ => show win0_5.index (pt r) 1 * 2048 + 1 * d.val = d.val; rw [e1]; omega

/-- The codes. -/
theorem kernel_codes (c : Dev nD) (r : Fin 12288) (d : Fin 2048) :
    ((dats m 0 c).arrAt 5 cfg0.N : Vec Ideal S12288x2048 .fp8e4m3) (ix2 r d) = code (A0 m c) (A1 m c) (A2 m c) (A3 m c) r d := by
  have h := congrFun ((blocks5 m c (pt r) (fl5 (pt r))).trans (flushed5_A m c (pt r))) (ix2 (⟨r.val % 512, by omega⟩ : Fin 512) d)
  rw [View.read_apply, at5] at h
  refine h.trans ((congrFun (codes_A ..) (ix2 (⟨r.val % 512, by omega⟩ : Fin 512) d)).trans ((codeB_code m c _ _ _).trans ?_))
  rw [row_pt]

/-- Where entry `d` of row `r` of the scale bytes lies in its point's block. -/
theorem at6 (r : Fin 12288) (d : Fin 64) : ((cfg0.win 6).blk (pt r)).view.emb (ix2 (⟨r.val % 512, by omega⟩ : Fin 512) d) = ix2 r d := by
  obtain ⟨e0, e1⟩ := in6 (pt r)
  funext a
  apply Fin.ext
  match a with
  | ⟨0, _⟩ => show win0_6.index (pt r) 0 * 512 + 1 * (r.val % 512) = r.val; rw [e0]; show r.val / 512 * 512 + 1 * (r.val % 512) = r.val; omega
  | ⟨1, _⟩ => show win0_6.index (pt r) 1 * 64 + 1 * d.val = d.val; rw [e1]; omega

/-- The scale bytes. -/
theorem kernel_scales (c : Dev nD) (r : Fin 12288) (d : Fin 64) :
    ((dats m 0 c).arrAt 6 cfg0.N : Vec Ideal S12288x64 .i8) (ix2 r d) = BitVec.ofNat 8 (sb (A0 m c) (A1 m c) (A2 m c) (A3 m c) r d) := by
  have h := congrFun ((blocks6 m c (pt r) (fl6 (pt r))).trans (flushed6_A m c (pt r))) (ix2 (⟨r.val % 512, by omega⟩ : Fin 512) d)
  rw [View.read_apply, at6] at h
  refine h.trans ((congrFun (scales_A ..) (ix2 (⟨r.val % 512, by omega⟩ : Fin 512) d)).trans ((scaleB_sb m c _ _ _).trans ?_))
  rw [row_pt]

/-- Where entry `d` of row `r` of the decoded values lies in its point's block. -/
theorem at7 (r : Fin 12288) (d : Fin 2048) : ((cfg0.win 7).blk (pt r)).view.emb (ix2 (⟨r.val % 512, by omega⟩ : Fin 512) d) = ix2 r d := by
  obtain ⟨e0, e1⟩ := in7 (pt r)
  funext a
  apply Fin.ext
  match a with
  | ⟨0, _⟩ => show win0_7.index (pt r) 0 * 512 + 1 * (r.val % 512) = r.val; rw [e0]; show r.val / 512 * 512 + 1 * (r.val % 512) = r.val; omega
  | ⟨1, _⟩ => show win0_7.index (pt r) 1 * 2048 + 1 * d.val = d.val; rw [e1]; omega

/-- The decoded values. -/
theorem kernel_vals (c : Dev nD) (r : Fin 12288) (d : Fin 2048) :
    ((dats m 0 c).arrAt 7 cfg0.N : Vec Ideal S12288x2048 .bf16) (ix2 r d) = dec (A0 m c) (A1 m c) (A2 m c) (A3 m c) r d := by
  have h := congrFun ((blocks7 m c (pt r) (fl7 (pt r))).trans (flushed7_A m c (pt r))) (ix2 (⟨r.val % 512, by omega⟩ : Fin 512) d)
  rw [View.read_apply, at7] at h
  refine h.trans ((congrFun (vals_A ..) (ix2 (⟨r.val % 512, by omega⟩ : Fin 512) d)).trans ((valB_dec m c _ _ _).trans ?_))
  rw [row_pt]

end Cert.OutKernelIdeal.Gen.Wide

end
-- ==== Proof.OutRefValue.lean ====
module

public import proofs.«01_k».proof.Proof.OutModel
public import proofs.«01_k».proof.Proof.RefValue
public import proofs.«01_k».proof.Proof.Gen.OutReferenceIdeal.Value
public import Idealize.ShloMosaic.Lib.MatmulPlain

@[expose] public section

set_option maxRecDepth 8192

noncomputable section

/-! The four result arrays of the output projection's reference, element by element. -/

namespace Cert.OutReferenceIdeal.Gen.Ref

open Idealize.ShloMosaic Idealize.ShloMosaic.TcCoe Idealize.ShloMosaic.ValueIdx
open Cert.OutReferenceIdeal Cert.OutReferenceIdeal.Gen
open Cert.KernelIdeal.Gen.Strip (Arr dotr amax amax_congr amax_nonneg sbyte thr qcode qval refX ref_mult ref_scale ref_byte c_zero c_bot c_448 c_neg448)
open Cert.OutKernelIdeal.Gen.Wide (resid nact nrm sb code dec)
open Cert.ReferenceIdeal.Gen.Ref (log_i floor_i exp2_i cmpf_i bits_i sub_i mul_i max_i min_i div_i sel_i spl_i byte_of_word)

theorem c_2048 : Ideal.ofBits .f32 0x45000000#32 = ((2048 : ℝ) : EReal) := by simp [Ideal.ofBits, Ideal.ieee, -EReal.coe_mul]; norm_num
theorem c_inv2048 : Ideal.ofBits .f32 0x3A000000#32 = ((2048⁻¹ : ℝ) : EReal) := by simp [Ideal.ofBits, Ideal.ieee, -EReal.coe_mul]; norm_num

/-- Dividing by the width is multiplying by its reciprocal. -/
theorem div_2048 (x : EReal) : Ideal.div x (Ideal.ofBits .f32 0x45000000#32) = x * Ideal.ofBits .f32 0x3A000000#32 := by
  rw [c_2048, c_inv2048]
  unfold Ideal.div
  rw [if_neg (by rw [← EReal.coe_zero, EReal.coe_eq_coe_iff]; norm_num), EReal.coe_inv]

section
variable {s : Shape} {φ : FTy}
theorem add_i (v w : FVec Ideal s φ) (i : s.Idx) : addf v w i = v i + w i := rfl
theorem rsqrt_i (v : FVec Ideal s φ) (i : s.Idx) : rsqrt v i = Ideal.rsqrt (v i) := rfl
end

variable (x : FVec Ideal S12288x1920 .bf16) (w : FVec Ideal S2048x1920 .bf16) (h : FVec Ideal S12288x2048 .bf16) (g : FVec Ideal S1x2048 .f32)

/-- The residual rows. -/
theorem pay6_apply (r : Fin 12288) (c : Fin 2048) : k0_pay6 (F := Ideal) x w h (ix2 r c) = resid x w h r c := by
  unfold k0_pay6
  refine congrArg (· + h (ix2 r c)) ((Ideal.matmul_transposedRhs_apply (M := 12288) (K := 1920) (N := 2048) none x w _ r c).trans ?_)
  show Ideal.ofBits .f32 0x00000000#32 + _ = _
  rw [c_zero, zero_add]; rfl

/-- The sum of the squares of a row. -/
theorem squares_apply (p : FVec Ideal S12288x2048 .f32) (hh) (hφ) (hacc) (r : Fin 12288) :
    multiReduction (F := Ideal) .add [1] S12288 (mulf p p) 0x00000000#32 hh hφ hacc (ix1 r) = ∑ k : Fin 2048, p (ix2 r k) * p (ix2 r k) := by
  refine (Ideal.multiReduction_add_single (mulf p p) 0x00000000#32 hh hφ hacc (ix1 r)).trans ?_
  refine Finset.sum_congr rfl fun k _ => ?_
  have hl : hh.lift (ix1 r) k = ix2 r k := by
    funext a
    match a with
    | ⟨0, _⟩ => rfl
    | ⟨1, _⟩ => rfl
  exact congrArg (fun k => p k * p k) hl

theorem colcast_apply (v : FVec Ideal S12288 .f32) (r : Fin 12288) :
    shapeCast S12288x1 v shapeCasts_S12288_S12288x1 (ix2 r (0 : Fin 1)) = v (ix1 r) := by
  refine shapeCast_apply _ _ _ (ix1 r) ?_
  rw [Shape.rowMajor_val_one, Shape.rowMajor_val_two]
  show r.val = r.val * 1 + 0
  omega

theorem colspread_apply (v : FVec Ideal S12288x1 .f32) (r : Fin 12288) (c : Fin 2048) :
    broadcastTo S12288x2048 v broadcasts_S12288x1_S12288x2048 (ix2 r c) = v (ix2 r (0 : Fin 1)) := broadcastTo_apply _ _ _ _ fun a => by
  match a with
  | ⟨0, _⟩ => rfl
  | ⟨1, _⟩ => rfl

theorem rowspread_apply (v : FVec Ideal S1x2048 .f32) (r : Fin 12288) (c : Fin 2048) :
    broadcastTo S12288x2048 v broadcasts_S1x2048_S12288x2048 (ix2 r c) = v (ix2 (0 : Fin 1) c) := broadcastTo_apply _ _ _ _ fun a => by
  match a with
  | ⟨0, _⟩ => rfl
  | ⟨1, _⟩ => rfl

theorem cut_apply (v : FVec Ideal S12288x2048 .f32) (r : Fin 12288) (b : Fin 64) (i : Fin 32) :
    shapeCast S12288x64x32 v shapeCasts_S12288x2048_S12288x64x32 (ix3 r b i) = v (ix2 r (⟨32 * b.val + i.val, by omega⟩ : Fin 2048)) := by
  refine shapeCast_apply _ _ _ _ ?_
  rw [Shape.rowMajor_val_two, Shape.rowMajor_val_three]
  show r.val * 2048 + (32 * b.val + i.val) = (r.val * 64 + b.val) * 32 + i.val
  omega

/-- The normed rows by block. -/
theorem pay7_apply (r : Fin 12288) (b : Fin 64) (i : Fin 32) :
    k0_pay7 (F := Ideal) x w h g (ix3 r b i) = nact x w h g r ⟨32 * b.val + i.val, by omega⟩ := by
  have h6 := fun c => pay6_apply x w h r c
  unfold k0_pay7
  generalize k0_pay6 (F := Ideal) x w h = p at h6 ⊢
  dsimp only
  rw [cut_apply, mul_i, mul_i, colspread_apply, rowspread_apply, rsqrt_i, add_i, div_i, colcast_apply]
  refine (congrArg (fun z => p (ix2 r (⟨32 * b.val + i.val, by omega⟩ : Fin 2048)) * Ideal.rsqrt (Ideal.div z (Ideal.ofBits .f32 0x45000000#32) + Ideal.ofBits .f32 0x358637BD#32)
    * g (ix2 (0 : Fin 1) (⟨32 * b.val + i.val, by omega⟩ : Fin 2048))) (squares_apply p _ _ _ r)).trans ?_
  simp only [div_2048, h6]
  rfl

/-- The largest magnitude of block `b` of row `r`. -/
def mag (r : Fin 12288) (b : Fin 64) : EReal := amax fun i : Fin 32 => nact x w h g r ⟨32 * b.val + i.val, by omega⟩

theorem mag_nonneg (r : Fin 12288) (b : Fin 64) : 0 ≤ mag x w h g r b := amax_nonneg _

/-- A reduction over the last axis is the largest magnitude of the 32 entries. -/
theorem max_point (p : FVec Ideal S12288x64x32 .f32) (hh) (hφ) (hacc) (r : Fin 12288) (b : Fin 64) :
    multiReduction (F := Ideal) .maximumf [2] S12288x64 (absf p) 0xFF800000#32 hh hφ hacc (ix2 r b) = amax fun i => p (ix3 r b i) := by
  refine (Ideal.multiReduction_maximumf_single (absf p) 0xFF800000#32 hh hφ hacc (ix2 r b)).trans ?_
  show (Finset.univ : Finset (Fin 32)).fold max (Ideal.ofBits .f32 0xFF800000#32) _ = _
  rw [c_bot]
  unfold amax Finset.sup
  refine Finset.fold_congr fun i _ => ?_
  have hl : hh.lift (ix2 r b) i = ix3 r b i := by
    funext a
    match a with
    | ⟨0, _⟩ => rfl
    | ⟨1, _⟩ => rfl
    | ⟨2, _⟩ => rfl
  exact congrArg (fun k => max (p k) (-p k)) hl

theorem pay8_apply (r : Fin 12288) (b : Fin 64) : k0_pay8 (F := Ideal) x w h g (ix2 r b) = mag x w h g r b := by
  unfold k0_pay8
  exact (max_point (k0_pay7 (F := Ideal) x w h g) reduces_S12288x64x32_S12288x64 (.inl rfl) rfl r b).trans
    (amax_congr fun i => pay7_apply x w h g r b i)

/-- The shared exponents of the blocks. -/
def expo : FVec Ideal S12288x64 .f32 := k0_pay1 (k0_pay9 (F := Ideal) x w h g) (Scalar.ofBits .f32 0x42FE0000#32) (k0_pay10 (F := Ideal) x w h g)

/-- The shared exponent of block `b` of row `r`. -/
theorem expo_apply (r : Fin 12288) (b : Fin 64) : expo x w h g (ix2 r b) = refX (mag x w h g r b) := by
  have h8 := pay8_apply x w h g r b
  unfold expo k0_pay1 k0_pay9 k0_pay10
  generalize k0_pay8 (F := Ideal) x w h g = p at h8 ⊢
  dsimp only
  rw [sel_i, cmpf_i, h8, min_i, max_i, sub_i, sel_i, cmpf_i, h8, min_i, floor_i, div_i, log_i, log_i, h8]
  simp only [spl_i, bits_i]
  unfold refX
  rfl

/-- A row of blocks' numbers spread over the blocks. -/
theorem spread_apply {φ : FTy} (v : FVec Ideal S12288x64 φ) (r : Fin 12288) (b : Fin 64) (i : Fin 32) :
    broadcastTo S12288x64x32 (shapeCast S12288x64x1 v shapeCasts_S12288x64_S12288x64x1) broadcasts_S12288x64x1_S12288x64x32 (ix3 r b i) = v (ix2 r b) := by
  refine (broadcastTo_apply _ _ _ (ix3 r b (0 : Fin 1)) fun a => ?_).trans (shapeCast_apply _ _ _ (ix2 r b) ?_)
  · match a with
    | ⟨0, _⟩ => rfl
    | ⟨1, _⟩ => rfl
    | ⟨2, _⟩ => rfl
  · rw [Shape.rowMajor_val_two, Shape.rowMajor_val_three]
    show r.val * 64 + b.val = (r.val * 64 + b.val) * 1 + 0
    omega

/-- Blocks laid end to end. -/
theorem flat_apply {α : Type} (v : S12288x64x32.Idx → α) (r : Fin 12288) (c : Fin 2048) :
    shapeCast S12288x2048 v shapeCasts_S12288x64x32_S12288x2048 (ix2 r c) = v (ix3 r (⟨c.val / 32, by omega⟩ : Fin 64) (⟨c.val % 32, by omega⟩ : Fin 32)) := by
  refine shapeCast_apply _ _ _ _ ?_
  rw [Shape.rowMajor_val_two, Shape.rowMajor_val_three]
  show (r.val * 64 + c.val / 32) * 32 + c.val % 32 = r.val * 2048 + c.val
  omega

theorem nact_back (r : Fin 12288) (c : Fin 2048) (hc) : nact x w h g r ⟨32 * (c.val / 32) + c.val % 32, hc⟩ = nact x w h g r c :=
  congrArg (nact x w h g r) (Fin.ext (show 32 * (c.val / 32) + c.val % 32 = c.val by omega))

/-- A clamped value. -/
theorem clamp_point (q : FVec Ideal S12288x64x32 .f32) (j : S12288x64x32.Idx) :
    truncf (F := Ideal) .fp8e4m3 (minimumf (broadcast S12288x64x32 (Scalar.ofBits .f32 0x43E00000#32)) (maximumf (broadcast S12288x64x32 (Scalar.ofBits .f32 0xC3E00000#32)) q)) bitsLt_fp8e4m3_f32 j
      = min ((448 : ℝ) : EReal) (max ((-448 : ℝ) : EReal) (q j)) := by
  show min (Ideal.ofBits .f32 0x43E00000#32) (max (Ideal.ofBits .f32 0xC3E00000#32) (q j)) = _
  rw [c_448, c_neg448]

/-- The codes by block. -/
theorem pay2_apply (r : Fin 12288) (b : Fin 64) (i : Fin 32) :
    k0_pay2 (F := Ideal) (k0_pay7 x w h g) (k0_pay9 (F := Ideal) x w h g) (Scalar.ofBits .f32 0x42FE0000#32) (k0_pay10 (F := Ideal) x w h g) (ix3 r b i)
      = qcode (nact x w h g r ⟨32 * b.val + i.val, by omega⟩) (sb x w h g r b) := by
  have h7 := pay7_apply x w h g r b i
  have he := expo_apply x w h g r b
  unfold k0_pay2
  unfold expo at he
  generalize k0_pay1 (k0_pay9 (F := Ideal) x w h g) (Scalar.ofBits .f32 0x42FE0000#32) (k0_pay10 (F := Ideal) x w h g) = e at he ⊢
  generalize k0_pay7 (F := Ideal) x w h g = p at h7 ⊢
  rw [clamp_point, mul_i, spread_apply, exp2_i, sub_i, spl_i, bits_i, h7, he, ref_mult _ (mag_nonneg x w h g r b)]
  rfl

/-- The reference's residual rows. -/
theorem ref_y (r : Fin 12288) (c : Fin 2048) : Cert.OutReferenceIdeal.Value.G4 (F := Ideal) x w h g (ix2 r c) = resid x w h r c :=
  pay6_apply x w h r c

theorem z2 : (![0, 0] : Fin 2 → ℕ) = fun _ => 0 := by funext a; fin_cases a <;> rfl

/-- Loading the whole of an array gives the array. -/
theorem lds (x : Vec Ideal S12288x1920 .bf16) (w : Vec Ideal S2048x1920 .bf16) (h : Vec Ideal S12288x2048 .bf16) (g : Vec Ideal S1x2048 .f32) :
    View.ld x r0_0 = x ∧ View.ld w r0_1 = w ∧ View.ld h r0_2 = h ∧ View.ld g r0_3 = g :=
  ⟨View.ld_unit_zero (S := S12288x1920) z2 _ x, View.ld_unit_zero (S := S2048x1920) z2 _ w, View.ld_unit_zero (S := S12288x2048) z2 _ h, View.ld_unit_zero (S := S1x2048) z2 _ g⟩

/-- The reference's codes. -/
theorem ref_codes (r : Fin 12288) (c : Fin 2048) : Cert.OutReferenceIdeal.Value.G5 (F := Ideal) x w h g (ix2 r c) = code x w h g r c := by
  obtain ⟨e0, e1, e2, e3⟩ := lds x w h g
  unfold Cert.OutReferenceIdeal.Value.G5 k0_pay11 k0_pay12 k0_pay13
  rw [e0, e1, e2, e3]
  unfold k0_pay3
  refine (flat_apply _ r c).trans ((pay2_apply x w h g r _ _).trans ?_)
  unfold code
  exact congrArg (fun z => qcode z _) (nact_back x w h g r c _)

/-- Exponents as bytes. -/
theorem bytes_point (v34 : IVec S12288x64 1) (k : Ideal .f32) (v38 : FVec Ideal S12288x64 .f32) (j : S12288x64.Idx) :
    k0_pay4 (F := Ideal) v34 k v38 j = (Ideal.fptosi 32 (k0_pay1 v34 k v38 j + Ideal.ofBits .f32 0x42FE0000#32)).setWidth 8 := by
  unfold k0_pay4
  rfl

theorem pay4_apply (r : Fin 12288) (b : Fin 64) :
    k0_pay4 (F := Ideal) (k0_pay9 (F := Ideal) x w h g) (Scalar.ofBits .f32 0x42FE0000#32) (k0_pay10 (F := Ideal) x w h g) (ix2 r b) = BitVec.ofNat 8 (sb x w h g r b) := by
  have he := expo_apply x w h g r b
  unfold expo at he
  rw [bytes_point, he, ref_byte _ (mag_nonneg x w h g r b), byte_of_word]
  unfold sb mag
  rfl

/-- The reference's scale bytes. -/
theorem ref_scales (r : Fin 12288) (b : Fin 64) : Cert.OutReferenceIdeal.Value.G6 (F := Ideal) x w h g (ix2 r b) = BitVec.ofNat 8 (sb x w h g r b) := by
  obtain ⟨e0, e1, e2, e3⟩ := lds x w h g
  unfold Cert.OutReferenceIdeal.Value.G6 k0_pay12 k0_pay13
  rw [e0, e1, e2, e3]
  exact pay4_apply x w h g r b

/-- A decoded value: its code times its block's scale. -/
theorem vals_point (v19 : FVec Ideal S12288x64x32 .f32) (v34 : IVec S12288x64 1) (k : Ideal .f32) (v38 : FVec Ideal S12288x64 .f32) (r : Fin 12288) (c : Fin 2048) :
    k0_pay5 (F := Ideal) v19 v34 k v38 (ix2 r c)
      = k0_pay2 (F := Ideal) v19 v34 k v38 (ix3 r (⟨c.val / 32, by omega⟩ : Fin 64) (⟨c.val % 32, by omega⟩ : Fin 32))
        * Scalar.select (Ideal.cmp .oeq (k0_pay1 v34 k v38 (ix2 r (⟨c.val / 32, by omega⟩ : Fin 64))) (Ideal.ofBits .f32 0xC2FE0000#32))
            (Ideal.ofBits .f32 0x00000000#32) (Ideal.exp2 (k0_pay1 v34 k v38 (ix2 r (⟨c.val / 32, by omega⟩ : Fin 64)))) := by
  unfold k0_pay5
  generalize k0_pay2 (F := Ideal) v19 v34 k v38 = q
  generalize k0_pay1 (F := Ideal) v34 k v38 = e
  refine (flat_apply _ r c).trans ?_
  exact congrArg (q _ * ·) (spread_apply _ r _ _)

theorem pay5_apply (r : Fin 12288) (c : Fin 2048) :
    k0_pay5 (F := Ideal) (k0_pay7 x w h g) (k0_pay9 (F := Ideal) x w h g) (Scalar.ofBits .f32 0x42FE0000#32) (k0_pay10 (F := Ideal) x w h g) (ix2 r c) = dec x w h g r c := by
  have he := expo_apply x w h g r ⟨c.val / 32, by omega⟩
  unfold expo at he
  rw [vals_point, pay2_apply, he, ref_scale _ (mag_nonneg x w h g r _), nact_back]
  unfold dec qval sb mag
  rfl

/-- The reference's decoded values. -/
theorem ref_vals (r : Fin 12288) (c : Fin 2048) : Cert.OutReferenceIdeal.Value.G7 (F := Ideal) x w h g (ix2 r c) = dec x w h g r c := by
  obtain ⟨e0, e1, e2, e3⟩ := lds x w h g
  unfold Cert.OutReferenceIdeal.Value.G7 k0_pay11 k0_pay12 k0_pay13
  rw [e0, e1, e2, e3]
  exact pay5_apply x w h g r c

end Cert.OutReferenceIdeal.Gen.Ref

end
-- ==== Proof.OutSame.lean ====
module

public import proofs.«01_k».proof.Proof.OutFold
public import proofs.«01_k».proof.Proof.OutRefValue
public import proofs.«01_k».proof.Defs

@[expose] public section

noncomputable section

/-! The output projection and its reference end with equal results. -/

namespace Cert.OutKernelIdeal.Gen.Wide

open Idealize.ShloMosaic Idealize.SL.Sem Idealize.ShloMosaic.ValueIdx Idealize.ShloMosaic.TcCoe

variable (m : (ℓ : Loc Cert.OutKernelIdeal.nD Cert.OutKernelIdeal.τ Cert.OutKernelIdeal.sig) → Buf (Elt Ideal) ℓ)

/-- The residual rows of the output projection's reference are the kernel's. -/
theorem out_same_y (c : Dev Cert.OutKernelIdeal.nD) :
    Cert.OutReferenceIdeal.Value.G4 (F := Ideal) (A0 m c) (A1 m c) (A2 m c) (A3 m c) = (dats m 0 c).arrAt 4 cfg0.N := by
  funext j
  rw [eq_ix2 j]
  exact (Cert.OutReferenceIdeal.Gen.Ref.ref_y _ _ _ _ _ _).trans (kernel_y m c _ _).symm

/-- The codes of the output projection's reference are the kernel's. -/
theorem out_same_codes (c : Dev Cert.OutKernelIdeal.nD) :
    Cert.OutReferenceIdeal.Value.G5 (F := Ideal) (A0 m c) (A1 m c) (A2 m c) (A3 m c) = (dats m 0 c).arrAt 5 cfg0.N := by
  funext j
  rw [eq_ix2 j]
  exact (Cert.OutReferenceIdeal.Gen.Ref.ref_codes _ _ _ _ _ _).trans (kernel_codes m c _ _).symm

/-- The scale bytes of the output projection's reference are the kernel's. -/
theorem out_same_scales (c : Dev Cert.OutKernelIdeal.nD) :
    Cert.OutReferenceIdeal.Value.G6 (F := Ideal) (A0 m c) (A1 m c) (A2 m c) (A3 m c) = (dats m 0 c).arrAt 6 cfg0.N := by
  funext j
  rw [eq_ix2 j]
  exact (Cert.OutReferenceIdeal.Gen.Ref.ref_scales _ _ _ _ _ _).trans (kernel_scales m c _ _).symm

/-- The decoded values of the output projection's reference are the kernel's. -/
theorem out_same_vals (c : Dev Cert.OutKernelIdeal.nD) :
    Cert.OutReferenceIdeal.Value.G7 (F := Ideal) (A0 m c) (A1 m c) (A2 m c) (A3 m c) = (dats m 0 c).arrAt 7 cfg0.N := by
  funext j
  rw [eq_ix2 j]
  exact (Cert.OutReferenceIdeal.Gen.Ref.ref_vals _ _ _ _ _ _).trans (kernel_vals m c _ _).symm

/-- The output projection and its reference, run from equal arguments, end with equal results. -/
theorem out_algebraic : Cert.algebraic_OutKernelIdeal_OutReferenceIdeal (hOutKernelIdeal := Cert.OutKernelIdeal.Gen.facts) (hOutReferenceIdeal := Cert.OutReferenceIdeal.Gen.facts) := by
  intro m g m' g' _ hagree
  refine ⟨fun c => (dats m 0 c).arrAt 4 cfg0.N, fun c => (dats m 0 c).arrAt 5 cfg0.N, fun c => (dats m 0 c).arrAt 6 cfg0.N, fun c => (dats m 0 c).arrAt 7 cfg0.N,
    Cert.OutKernelIdeal.Value.run_blocks m g, ?_⟩
  refine (θ_run _ _ _).mono (fun r h c => ?_) (Cert.OutReferenceIdeal.Value.run m' g')
  obtain ⟨h4, h5, h6, h7, hk⟩ := h c
  obtain ⟨e0, e1, e2, e3⟩ := hagree c
  rw [e0, e1, e2, e3] at h4 h5 h6 h7
  exact ⟨h4.trans (out_same_y m c), h5.trans (out_same_codes m c), h6.trans (out_same_scales m c), h7.trans (out_same_vals m c), hk⟩

end Cert.OutKernelIdeal.Gen.Wide

end
-- ==== Proof.QkvStrip.lean ====
module

public import proofs.«01_k».proof.Proof.Gen.QkvKernelIdeal.Value
public import proofs.«01_k».proof.Proof.OutPoint

@[expose] public section

noncomputable section

/-! The qkv projection's strip: sixteen 32 x 128 tiles of a strip of 32 token rows, normed and quantised as the output
projection's strip is. -/

namespace Cert.QkvKernelIdeal.Gen.Proj

open Idealize.ShloMosaic Idealize.ShloMosaic.TcCoe
open Cert.OutKernelIdeal.Gen.Wide (normed inv)

variable {F : FTy → Type} [FloatOps F]

/-- Strip `k`'s sixteen tiles, read from the block of activations. -/
def raw (arg1 : Memref sig .tc .vmem S512x2048 .bf16) (X_arg1 : BufTy.Contents (Elt F) arg1.view.ty) (k : Fin k0_t1_loop.trips) : Fin 16 → FVec F S32x128 .f32 :=
  ![
    extf .f32 (View.readAt (Elt F) arg1.view (Rect.unit (s := S512x2048) (k0_off1 k) S32x128.size (k0_off1_inb k)).toLoadRect X_arg1) bitsLt_bf16_f32,
    extf .f32 (View.readAt (Elt F) arg1.view (Rect.unit (s := S512x2048) (k0_off2 k) S32x128.size (k0_off2_inb k)).toLoadRect X_arg1) bitsLt_bf16_f32,
    extf .f32 (View.readAt (Elt F) arg1.view (Rect.unit (s := S512x2048) (k0_off3 k) S32x128.size (k0_off3_inb k)).toLoadRect X_arg1) bitsLt_bf16_f32,
    extf .f32 (View.readAt (Elt F) arg1.view (Rect.unit (s := S512x2048) (k0_off4 k) S32x128.size (k0_off4_inb k)).toLoadRect X_arg1) bitsLt_bf16_f32,
    extf .f32 (View.readAt (Elt F) arg1.view (Rect.unit (s := S512x2048) (k0_off5 k) S32x128.size (k0_off5_inb k)).toLoadRect X_arg1) bitsLt_bf16_f32,
    extf .f32 (View.readAt (Elt F) arg1.view (Rect.unit (s := S512x2048) (k0_off6 k) S32x128.size (k0_off6_inb k)).toLoadRect X_arg1) bitsLt_bf16_f32,
    extf .f32 (View.readAt (Elt F) arg1.view (Rect.unit (s := S512x2048) (k0_off7 k) S32x128.size (k0_off7_inb k)).toLoadRect X_arg1) bitsLt_bf16_f32,
    extf .f32 (View.readAt (Elt F) arg1.view (Rect.unit (s := S512x2048) (k0_off8 k) S32x128.size (k0_off8_inb k)).toLoadRect X_arg1) bitsLt_bf16_f32,
    extf .f32 (View.readAt (Elt F) arg1.view (Rect.unit (s := S512x2048) (k0_off9 k) S32x128.size (k0_off9_inb k)).toLoadRect X_arg1) bitsLt_bf16_f32,
    extf .f32 (View.readAt (Elt F) arg1.view (Rect.unit (s := S512x2048) (k0_off10 k) S32x128.size (k0_off10_inb k)).toLoadRect X_arg1) bitsLt_bf16_f32,
    extf .f32 (View.readAt (Elt F) arg1.view (Rect.unit (s := S512x2048) (k0_off11 k) S32x128.size (k0_off11_inb k)).toLoadRect X_arg1) bitsLt_bf16_f32,
    extf .f32 (View.readAt (Elt F) arg1.view (Rect.unit (s := S512x2048) (k0_off12 k) S32x128.size (k0_off12_inb k)).toLoadRect X_arg1) bitsLt_bf16_f32,
    extf .f32 (View.readAt (Elt F) arg1.view (Rect.unit (s := S512x2048) (k0_off13 k) S32x128.size (k0_off13_inb k)).toLoadRect X_arg1) bitsLt_bf16_f32,
    extf .f32 (View.readAt (Elt F) arg1.view (Rect.unit (s := S512x2048) (k0_off14 k) S32x128.size (k0_off14_inb k)).toLoadRect X_arg1) bitsLt_bf16_f32,
    extf .f32 (View.readAt (Elt F) arg1.view (Rect.unit (s := S512x2048) (k0_off15 k) S32x128.size (k0_off15_inb k)).toLoadRect X_arg1) bitsLt_bf16_f32,
    extf .f32 (View.readAt (Elt F) arg1.view (Rect.unit (s := S512x2048) (k0_off16 k) S32x128.size (k0_off16_inb k)).toLoadRect X_arg1) bitsLt_bf16_f32]

/-- The norm's weights, tile by tile. -/
def wts (arg2 : Memref sig .tc .vmem S1x2048 .f32) (X_arg2 : BufTy.Contents (Elt F) arg2.view.ty) : Fin 16 → FVec F S1x128 .f32 :=
  ![
    View.readAt (Elt F) arg2.view (Rect.unit (s := S1x2048) ![0, 0] S1x128.size inb_S1x2048_S1x128_0_0).toLoadRect X_arg2,
    View.readAt (Elt F) arg2.view (Rect.unit (s := S1x2048) ![0, 128] S1x128.size inb_S1x2048_S1x128_0_128).toLoadRect X_arg2,
    View.readAt (Elt F) arg2.view (Rect.unit (s := S1x2048) ![0, 256] S1x128.size inb_S1x2048_S1x128_0_256).toLoadRect X_arg2,
    View.readAt (Elt F) arg2.view (Rect.unit (s := S1x2048) ![0, 384] S1x128.size inb_S1x2048_S1x128_0_384).toLoadRect X_arg2,
    View.readAt (Elt F) arg2.view (Rect.unit (s := S1x2048) ![0, 512] S1x128.size inb_S1x2048_S1x128_0_512).toLoadRect X_arg2,
    View.readAt (Elt F) arg2.view (Rect.unit (s := S1x2048) ![0, 640] S1x128.size inb_S1x2048_S1x128_0_640).toLoadRect X_arg2,
    View.readAt (Elt F) arg2.view (Rect.unit (s := S1x2048) ![0, 768] S1x128.size inb_S1x2048_S1x128_0_768).toLoadRect X_arg2,
    View.readAt (Elt F) arg2.view (Rect.unit (s := S1x2048) ![0, 896] S1x128.size inb_S1x2048_S1x128_0_896).toLoadRect X_arg2,
    View.readAt (Elt F) arg2.view (Rect.unit (s := S1x2048) ![0, 1024] S1x128.size inb_S1x2048_S1x128_0_1024).toLoadRect X_arg2,
    View.readAt (Elt F) arg2.view (Rect.unit (s := S1x2048) ![0, 1152] S1x128.size inb_S1x2048_S1x128_0_1152).toLoadRect X_arg2,
    View.readAt (Elt F) arg2.view (Rect.unit (s := S1x2048) ![0, 1280] S1x128.size inb_S1x2048_S1x128_0_1280).toLoadRect X_arg2,
    View.readAt (Elt F) arg2.view (Rect.unit (s := S1x2048) ![0, 1408] S1x128.size inb_S1x2048_S1x128_0_1408).toLoadRect X_arg2,
    View.readAt (Elt F) arg2.view (Rect.unit (s := S1x2048) ![0, 1536] S1x128.size inb_S1x2048_S1x128_0_1536).toLoadRect X_arg2,
    View.readAt (Elt F) arg2.view (Rect.unit (s := S1x2048) ![0, 1664] S1x128.size inb_S1x2048_S1x128_0_1664).toLoadRect X_arg2,
    View.readAt (Elt F) arg2.view (Rect.unit (s := S1x2048) ![0, 1792] S1x128.size inb_S1x2048_S1x128_0_1792).toLoadRect X_arg2,
    View.readAt (Elt F) arg2.view (Rect.unit (s := S1x2048) ![0, 1920] S1x128.size inb_S1x2048_S1x128_0_1920).toLoadRect X_arg2]

/-- Strip `k`'s normed tiles. -/
def tiles (arg1 : Memref sig .tc .vmem S512x2048 .bf16) (arg2 : Memref sig .tc .vmem S1x2048 .f32) (X_arg1 : BufTy.Contents (Elt F) arg1.view.ty)
    (X_arg2 : BufTy.Contents (Elt F) arg2.view.ty) (k : Fin k0_t1_loop.trips) (j : Fin 16) : FVec F S32x128 .f32 :=
  normed (raw arg1 X_arg1 k j) (inv (raw arg1 X_arg1 k)) (wts arg2 X_arg2 j)

end Cert.QkvKernelIdeal.Gen.Proj

end
-- ==== Proof.QkvWords.lean ====
module

public import proofs.«01_k».proof.Proof.QkvStrip

@[expose] public section

set_option maxRecDepth 8192

noncomputable section

/-! The values one trip of the qkv projection's strip loop computes, in the vocabulary of the strip: its tiles, the
merges of their magnitudes, the scale bytes and the packed multipliers. -/

namespace Cert.QkvKernelIdeal.Gen.Proj

open Idealize.ShloMosaic Idealize.ShloMosaic.TcCoe Idealize.ShloMosaic.Tactic Idealize.SL.Sem
open Cert.OutKernelIdeal.Gen.Wide (maxW byteT byteB vals word src scales offs normed inv)
open Cert.KernelIdeal.Gen.Strip (lane wrap bit perm merge fold top bot byte packed hiW loW valsHalf codes pick)

variable {F : FTy → Type} [FloatOps F]

section

variable (arg1 : Memref sig .tc .vmem S512x2048 .bf16) (arg2 : Memref sig .tc .vmem S1x2048 .f32) (X_arg1 : BufTy.Contents (Elt F) arg1.view.ty) (X_arg2 : BufTy.Contents (Elt F) arg2.view.ty) (k : Fin k0_t1_loop.trips)

theorem inv_w : (trip_k0_t1.sl.r_16 (F := F) arg1 X_arg1 k) = inv (raw arg1 X_arg1 k) := by
  unfold trip_k0_t1.sl.r_16
  rfl

theorem tile0 : (trip_k0_t1.sl.r_17 (F := F) arg1 arg2 X_arg1 X_arg2 k) = tiles arg1 arg2 X_arg1 X_arg2 k 0 := by
  unfold trip_k0_t1.sl.r_17
  rfl

theorem tile1 : (trip_k0_t1.sl.r_19 (F := F) arg1 arg2 X_arg1 X_arg2 k) = tiles arg1 arg2 X_arg1 X_arg2 k 1 := by
  unfold trip_k0_t1.sl.r_19 trip_k0_t1.sl.r_18
  rfl

theorem tile2 : (trip_k0_t1.sl.r_20 (F := F) arg1 arg2 X_arg1 X_arg2 k) = tiles arg1 arg2 X_arg1 X_arg2 k 2 := by
  unfold trip_k0_t1.sl.r_20
  rw [inv_w]
  rfl

theorem tile3 : (trip_k0_t1.sl.r_21 (F := F) arg1 arg2 X_arg1 X_arg2 k) = tiles arg1 arg2 X_arg1 X_arg2 k 3 := by
  unfold trip_k0_t1.sl.r_21
  rw [inv_w]
  rfl

theorem tile4 : (trip_k0_t1.sl.r_22 (F := F) arg1 arg2 X_arg1 X_arg2 k) = tiles arg1 arg2 X_arg1 X_arg2 k 4 := by
  unfold trip_k0_t1.sl.r_22
  rw [inv_w]
  rfl

theorem tile5 : (trip_k0_t1.sl.r_23 (F := F) arg1 arg2 X_arg1 X_arg2 k) = tiles arg1 arg2 X_arg1 X_arg2 k 5 := by
  unfold trip_k0_t1.sl.r_23
  rw [inv_w]
  rfl

theorem tile6 : (trip_k0_t1.sl.r_24 (F := F) arg1 arg2 X_arg1 X_arg2 k) = tiles arg1 arg2 X_arg1 X_arg2 k 6 := by
  unfold trip_k0_t1.sl.r_24
  rw [inv_w]
  rfl

theorem tile7 : (trip_k0_t1.sl.r_25 (F := F) arg1 arg2 X_arg1 X_arg2 k) = tiles arg1 arg2 X_arg1 X_arg2 k 7 := by
  unfold trip_k0_t1.sl.r_25
  rw [inv_w]
  rfl

theorem tile8 : (trip_k0_t1.sl.r_26 (F := F) arg1 arg2 X_arg1 X_arg2 k) = tiles arg1 arg2 X_arg1 X_arg2 k 8 := by
  unfold trip_k0_t1.sl.r_26
  rw [inv_w]
  rfl

theorem tile9 : (trip_k0_t1.sl.r_27 (F := F) arg1 arg2 X_arg1 X_arg2 k) = tiles arg1 arg2 X_arg1 X_arg2 k 9 := by
  unfold trip_k0_t1.sl.r_27
  rw [inv_w]
  rfl

theorem tile10 : (trip_k0_t1.sl.r_29 (F := F) arg1 arg2 X_arg1 X_arg2 k) = tiles arg1 arg2 X_arg1 X_arg2 k 10 := by
  unfold trip_k0_t1.sl.r_29 trip_k0_t1.sl.r_28
  rw [inv_w]
  rfl

theorem tile11 : (trip_k0_t1.sl.r_30 (F := F) arg1 arg2 X_arg1 X_arg2 k) = tiles arg1 arg2 X_arg1 X_arg2 k 11 := by
  unfold trip_k0_t1.sl.r_30
  rw [inv_w]
  rfl

theorem tile12 : (trip_k0_t1.sl.r_31 (F := F) arg1 arg2 X_arg1 X_arg2 k) = tiles arg1 arg2 X_arg1 X_arg2 k 12 := by
  unfold trip_k0_t1.sl.r_31
  rw [inv_w]
  rfl

theorem tile13 : (trip_k0_t1.sl.r_32 (F := F) arg1 arg2 X_arg1 X_arg2 k) = tiles arg1 arg2 X_arg1 X_arg2 k 13 := by
  unfold trip_k0_t1.sl.r_32
  rw [inv_w]
  rfl

theorem tile14 : (trip_k0_t1.sl.r_33 (F := F) arg1 arg2 X_arg1 X_arg2 k) = tiles arg1 arg2 X_arg1 X_arg2 k 14 := by
  unfold trip_k0_t1.sl.r_33
  rw [inv_w]
  rfl

theorem tile15 : (trip_k0_t1.sl.r_34 (F := F) arg1 arg2 X_arg1 X_arg2 k) = tiles arg1 arg2 X_arg1 X_arg2 k 15 := by
  unfold trip_k0_t1.sl.r_34
  rw [inv_w]
  rfl

theorem top0 : (trip_k0_t1.sl.r_35 (F := F) arg1 arg2 X_arg1 X_arg2 k) = absf (top (trip_k0_t1.sl.r_17 (F := F) arg1 arg2 X_arg1 X_arg2 k)) := by
  unfold trip_k0_t1.sl.r_35
  rfl

theorem bot0 : (trip_k0_t1.sl.r_36 (F := F) arg1 arg2 X_arg1 X_arg2 k) = absf (bot (trip_k0_t1.sl.r_17 (F := F) arg1 arg2 X_arg1 X_arg2 k)) := by
  unfold trip_k0_t1.sl.r_36
  rfl

theorem top1 : (trip_k0_t1.sl.r_37 (F := F) arg1 arg2 X_arg1 X_arg2 k) = absf (top (trip_k0_t1.sl.r_19 (F := F) arg1 arg2 X_arg1 X_arg2 k)) := by
  unfold trip_k0_t1.sl.r_37
  rfl

theorem bot1 : (trip_k0_t1.sl.r_38 (F := F) arg1 arg2 X_arg1 X_arg2 k) = absf (bot (trip_k0_t1.sl.r_19 (F := F) arg1 arg2 X_arg1 X_arg2 k)) := by
  unfold trip_k0_t1.sl.r_38
  rfl

theorem top2 : (trip_k0_t1.sl.r_39 (F := F) arg1 arg2 X_arg1 X_arg2 k) = absf (top (trip_k0_t1.sl.r_20 (F := F) arg1 arg2 X_arg1 X_arg2 k)) := by
  unfold trip_k0_t1.sl.r_39
  rfl

theorem bot2 : (trip_k0_t1.sl.r_40 (F := F) arg1 arg2 X_arg1 X_arg2 k) = absf (bot (trip_k0_t1.sl.r_20 (F := F) arg1 arg2 X_arg1 X_arg2 k)) := by
  unfold trip_k0_t1.sl.r_40
  rfl

theorem top3 : (trip_k0_t1.sl.r_41 (F := F) arg1 arg2 X_arg1 X_arg2 k) = absf (top (trip_k0_t1.sl.r_21 (F := F) arg1 arg2 X_arg1 X_arg2 k)) := by
  unfold trip_k0_t1.sl.r_41
  rfl

theorem bot3 : (trip_k0_t1.sl.r_42 (F := F) arg1 arg2 X_arg1 X_arg2 k) = absf (bot (trip_k0_t1.sl.r_21 (F := F) arg1 arg2 X_arg1 X_arg2 k)) := by
  unfold trip_k0_t1.sl.r_42
  rfl

theorem top4 : (trip_k0_t1.sl.r_43 (F := F) arg1 arg2 X_arg1 X_arg2 k) = absf (top (trip_k0_t1.sl.r_22 (F := F) arg1 arg2 X_arg1 X_arg2 k)) := by
  unfold trip_k0_t1.sl.r_43
  rfl

theorem bot4 : (trip_k0_t1.sl.r_44 (F := F) arg1 arg2 X_arg1 X_arg2 k) = absf (bot (trip_k0_t1.sl.r_22 (F := F) arg1 arg2 X_arg1 X_arg2 k)) := by
  unfold trip_k0_t1.sl.r_44
  rfl

theorem top5 : (trip_k0_t1.sl.r_45 (F := F) arg1 arg2 X_arg1 X_arg2 k) = absf (top (trip_k0_t1.sl.r_23 (F := F) arg1 arg2 X_arg1 X_arg2 k)) := by
  unfold trip_k0_t1.sl.r_45
  rfl

theorem bot5 : (trip_k0_t1.sl.r_46 (F := F) arg1 arg2 X_arg1 X_arg2 k) = absf (bot (trip_k0_t1.sl.r_23 (F := F) arg1 arg2 X_arg1 X_arg2 k)) := by
  unfold trip_k0_t1.sl.r_46
  rfl

theorem top6 : (trip_k0_t1.sl.r_47 (F := F) arg1 arg2 X_arg1 X_arg2 k) = absf (top (trip_k0_t1.sl.r_24 (F := F) arg1 arg2 X_arg1 X_arg2 k)) := by
  unfold trip_k0_t1.sl.r_47
  rfl

theorem bot6 : (trip_k0_t1.sl.r_48 (F := F) arg1 arg2 X_arg1 X_arg2 k) = absf (bot (trip_k0_t1.sl.r_24 (F := F) arg1 arg2 X_arg1 X_arg2 k)) := by
  unfold trip_k0_t1.sl.r_48
  rfl

theorem top7 : (trip_k0_t1.sl.r_49 (F := F) arg1 arg2 X_arg1 X_arg2 k) = absf (top (trip_k0_t1.sl.r_25 (F := F) arg1 arg2 X_arg1 X_arg2 k)) := by
  unfold trip_k0_t1.sl.r_49
  rfl

theorem bot7 : (trip_k0_t1.sl.r_50 (F := F) arg1 arg2 X_arg1 X_arg2 k) = absf (bot (trip_k0_t1.sl.r_25 (F := F) arg1 arg2 X_arg1 X_arg2 k)) := by
  unfold trip_k0_t1.sl.r_50
  rfl

theorem top8 : (trip_k0_t1.sl.r_51 (F := F) arg1 arg2 X_arg1 X_arg2 k) = absf (top (trip_k0_t1.sl.r_26 (F := F) arg1 arg2 X_arg1 X_arg2 k)) := by
  unfold trip_k0_t1.sl.r_51
  rfl

theorem bot8 : (trip_k0_t1.sl.r_52 (F := F) arg1 arg2 X_arg1 X_arg2 k) = absf (bot (trip_k0_t1.sl.r_26 (F := F) arg1 arg2 X_arg1 X_arg2 k)) := by
  unfold trip_k0_t1.sl.r_52
  rfl

theorem top9 : (trip_k0_t1.sl.r_53 (F := F) arg1 arg2 X_arg1 X_arg2 k) = absf (top (trip_k0_t1.sl.r_27 (F := F) arg1 arg2 X_arg1 X_arg2 k)) := by
  unfold trip_k0_t1.sl.r_53
  rfl

theorem bot9 : (trip_k0_t1.sl.r_54 (F := F) arg1 arg2 X_arg1 X_arg2 k) = absf (bot (trip_k0_t1.sl.r_27 (F := F) arg1 arg2 X_arg1 X_arg2 k)) := by
  unfold trip_k0_t1.sl.r_54
  rfl

theorem top10 : (trip_k0_t1.sl.r_55 (F := F) arg1 arg2 X_arg1 X_arg2 k) = absf (top (trip_k0_t1.sl.r_29 (F := F) arg1 arg2 X_arg1 X_arg2 k)) := by
  unfold trip_k0_t1.sl.r_55
  rfl

theorem bot10 : (trip_k0_t1.sl.r_56 (F := F) arg1 arg2 X_arg1 X_arg2 k) = absf (bot (trip_k0_t1.sl.r_29 (F := F) arg1 arg2 X_arg1 X_arg2 k)) := by
  unfold trip_k0_t1.sl.r_56
  rfl

theorem top11 : (trip_k0_t1.sl.r_57 (F := F) arg1 arg2 X_arg1 X_arg2 k) = absf (top (trip_k0_t1.sl.r_30 (F := F) arg1 arg2 X_arg1 X_arg2 k)) := by
  unfold trip_k0_t1.sl.r_57
  rfl

theorem bot11 : (trip_k0_t1.sl.r_58 (F := F) arg1 arg2 X_arg1 X_arg2 k) = absf (bot (trip_k0_t1.sl.r_30 (F := F) arg1 arg2 X_arg1 X_arg2 k)) := by
  unfold trip_k0_t1.sl.r_58
  rfl

theorem top12 : (trip_k0_t1.sl.r_59 (F := F) arg1 arg2 X_arg1 X_arg2 k) = absf (top (trip_k0_t1.sl.r_31 (F := F) arg1 arg2 X_arg1 X_arg2 k)) := by
  unfold trip_k0_t1.sl.r_59
  rfl

theorem bot12 : (trip_k0_t1.sl.r_60 (F := F) arg1 arg2 X_arg1 X_arg2 k) = absf (bot (trip_k0_t1.sl.r_31 (F := F) arg1 arg2 X_arg1 X_arg2 k)) := by
  unfold trip_k0_t1.sl.r_60
  rfl

theorem top13 : (trip_k0_t1.sl.r_61 (F := F) arg1 arg2 X_arg1 X_arg2 k) = absf (top (trip_k0_t1.sl.r_32 (F := F) arg1 arg2 X_arg1 X_arg2 k)) := by
  unfold trip_k0_t1.sl.r_61
  rfl

theorem bot13 : (trip_k0_t1.sl.r_62 (F := F) arg1 arg2 X_arg1 X_arg2 k) = absf (bot (trip_k0_t1.sl.r_32 (F := F) arg1 arg2 X_arg1 X_arg2 k)) := by
  unfold trip_k0_t1.sl.r_62
  rfl

theorem top14 : (trip_k0_t1.sl.r_63 (F := F) arg1 arg2 X_arg1 X_arg2 k) = absf (top (trip_k0_t1.sl.r_33 (F := F) arg1 arg2 X_arg1 X_arg2 k)) := by
  unfold trip_k0_t1.sl.r_63
  rfl

theorem bot14 : (trip_k0_t1.sl.r_64 (F := F) arg1 arg2 X_arg1 X_arg2 k) = absf (bot (trip_k0_t1.sl.r_33 (F := F) arg1 arg2 X_arg1 X_arg2 k)) := by
  unfold trip_k0_t1.sl.r_64
  rfl

theorem top15 : (trip_k0_t1.sl.r_65 (F := F) arg1 arg2 X_arg1 X_arg2 k) = absf (top (trip_k0_t1.sl.r_34 (F := F) arg1 arg2 X_arg1 X_arg2 k)) := by
  unfold trip_k0_t1.sl.r_65
  rfl

theorem bot15 : (trip_k0_t1.sl.r_66 (F := F) arg1 arg2 X_arg1 X_arg2 k) = absf (bot (trip_k0_t1.sl.r_34 (F := F) arg1 arg2 X_arg1 X_arg2 k)) := by
  unfold trip_k0_t1.sl.r_66
  rfl

theorem m16_0 : (trip_k0_t1.sl.r_71 (F := F) arg1 arg2 X_arg1 X_arg2 k) = merge 16#32 (trip_k0_t1.sl.r_35 (F := F) arg1 arg2 X_arg1 X_arg2 k) (trip_k0_t1.sl.r_37 (F := F) arg1 arg2 X_arg1 X_arg2 k) := by
  unfold trip_k0_t1.sl.r_71 trip_k0_t1.sl.r_67 trip_k0_t1.sl.r_69
  rfl

theorem m16_1 : (trip_k0_t1.sl.r_73 (F := F) arg1 arg2 X_arg1 X_arg2 k) = merge 16#32 (trip_k0_t1.sl.r_39 (F := F) arg1 arg2 X_arg1 X_arg2 k) (trip_k0_t1.sl.r_41 (F := F) arg1 arg2 X_arg1 X_arg2 k) := by
  unfold trip_k0_t1.sl.r_73
  rfl

theorem m16_2 : (trip_k0_t1.sl.r_79 (F := F) arg1 arg2 X_arg1 X_arg2 k) = merge 16#32 (trip_k0_t1.sl.r_43 (F := F) arg1 arg2 X_arg1 X_arg2 k) (trip_k0_t1.sl.r_45 (F := F) arg1 arg2 X_arg1 X_arg2 k) := by
  unfold trip_k0_t1.sl.r_79 trip_k0_t1.sl.r_75 trip_k0_t1.sl.r_77
  rfl

theorem m16_3 : (trip_k0_t1.sl.r_81 (F := F) arg1 arg2 X_arg1 X_arg2 k) = merge 16#32 (trip_k0_t1.sl.r_47 (F := F) arg1 arg2 X_arg1 X_arg2 k) (trip_k0_t1.sl.r_49 (F := F) arg1 arg2 X_arg1 X_arg2 k) := by
  unfold trip_k0_t1.sl.r_81
  rfl

theorem m16_4 : (trip_k0_t1.sl.r_87 (F := F) arg1 arg2 X_arg1 X_arg2 k) = merge 16#32 (trip_k0_t1.sl.r_51 (F := F) arg1 arg2 X_arg1 X_arg2 k) (trip_k0_t1.sl.r_53 (F := F) arg1 arg2 X_arg1 X_arg2 k) := by
  unfold trip_k0_t1.sl.r_87 trip_k0_t1.sl.r_83 trip_k0_t1.sl.r_86
  rfl

theorem m16_5 : (trip_k0_t1.sl.r_89 (F := F) arg1 arg2 X_arg1 X_arg2 k) = merge 16#32 (trip_k0_t1.sl.r_55 (F := F) arg1 arg2 X_arg1 X_arg2 k) (trip_k0_t1.sl.r_57 (F := F) arg1 arg2 X_arg1 X_arg2 k) := by
  unfold trip_k0_t1.sl.r_89
  rfl

theorem m16_6 : (trip_k0_t1.sl.r_91 (F := F) arg1 arg2 X_arg1 X_arg2 k) = merge 16#32 (trip_k0_t1.sl.r_59 (F := F) arg1 arg2 X_arg1 X_arg2 k) (trip_k0_t1.sl.r_61 (F := F) arg1 arg2 X_arg1 X_arg2 k) := by
  unfold trip_k0_t1.sl.r_91
  rfl

theorem m16_7 : (trip_k0_t1.sl.r_96 (F := F) arg1 arg2 X_arg1 X_arg2 k) = merge 16#32 (trip_k0_t1.sl.r_63 (F := F) arg1 arg2 X_arg1 X_arg2 k) (trip_k0_t1.sl.r_65 (F := F) arg1 arg2 X_arg1 X_arg2 k) := by
  unfold trip_k0_t1.sl.r_96 trip_k0_t1.sl.r_93 trip_k0_t1.sl.r_95
  rfl

theorem n16_0 : (trip_k0_t1.sl.r_72 (F := F) arg1 arg2 X_arg1 X_arg2 k) = merge 16#32 (trip_k0_t1.sl.r_36 (F := F) arg1 arg2 X_arg1 X_arg2 k) (trip_k0_t1.sl.r_38 (F := F) arg1 arg2 X_arg1 X_arg2 k) := by
  unfold trip_k0_t1.sl.r_72 trip_k0_t1.sl.r_68 trip_k0_t1.sl.r_70
  rfl

theorem n16_1 : (trip_k0_t1.sl.r_74 (F := F) arg1 arg2 X_arg1 X_arg2 k) = merge 16#32 (trip_k0_t1.sl.r_40 (F := F) arg1 arg2 X_arg1 X_arg2 k) (trip_k0_t1.sl.r_42 (F := F) arg1 arg2 X_arg1 X_arg2 k) := by
  unfold trip_k0_t1.sl.r_74
  rfl

theorem n16_2 : (trip_k0_t1.sl.r_80 (F := F) arg1 arg2 X_arg1 X_arg2 k) = merge 16#32 (trip_k0_t1.sl.r_44 (F := F) arg1 arg2 X_arg1 X_arg2 k) (trip_k0_t1.sl.r_46 (F := F) arg1 arg2 X_arg1 X_arg2 k) := by
  unfold trip_k0_t1.sl.r_80 trip_k0_t1.sl.r_76 trip_k0_t1.sl.r_78
  rfl

theorem n16_3 : (trip_k0_t1.sl.r_82 (F := F) arg1 arg2 X_arg1 X_arg2 k) = merge 16#32 (trip_k0_t1.sl.r_48 (F := F) arg1 arg2 X_arg1 X_arg2 k) (trip_k0_t1.sl.r_50 (F := F) arg1 arg2 X_arg1 X_arg2 k) := by
  unfold trip_k0_t1.sl.r_82
  rfl

theorem n16_4 : (trip_k0_t1.sl.r_88 (F := F) arg1 arg2 X_arg1 X_arg2 k) = merge 16#32 (trip_k0_t1.sl.r_52 (F := F) arg1 arg2 X_arg1 X_arg2 k) (trip_k0_t1.sl.r_54 (F := F) arg1 arg2 X_arg1 X_arg2 k) := by
  unfold trip_k0_t1.sl.r_88 trip_k0_t1.sl.r_84 trip_k0_t1.sl.r_85
  rfl

theorem n16_5 : (trip_k0_t1.sl.r_90 (F := F) arg1 arg2 X_arg1 X_arg2 k) = merge 16#32 (trip_k0_t1.sl.r_56 (F := F) arg1 arg2 X_arg1 X_arg2 k) (trip_k0_t1.sl.r_58 (F := F) arg1 arg2 X_arg1 X_arg2 k) := by
  unfold trip_k0_t1.sl.r_90
  rfl

theorem n16_6 : (trip_k0_t1.sl.r_92 (F := F) arg1 arg2 X_arg1 X_arg2 k) = merge 16#32 (trip_k0_t1.sl.r_60 (F := F) arg1 arg2 X_arg1 X_arg2 k) (trip_k0_t1.sl.r_62 (F := F) arg1 arg2 X_arg1 X_arg2 k) := by
  unfold trip_k0_t1.sl.r_92
  rfl

theorem n16_7 : (trip_k0_t1.sl.r_97 (F := F) arg1 arg2 X_arg1 X_arg2 k) = merge 16#32 (trip_k0_t1.sl.r_64 (F := F) arg1 arg2 X_arg1 X_arg2 k) (trip_k0_t1.sl.r_66 (F := F) arg1 arg2 X_arg1 X_arg2 k) := by
  unfold trip_k0_t1.sl.r_97 trip_k0_t1.sl.r_94
  rfl

theorem m8_0 : (trip_k0_t1.sl.r_98 (F := F) arg1 arg2 X_arg1 X_arg2 k) = merge 8#32 (trip_k0_t1.sl.r_71 (F := F) arg1 arg2 X_arg1 X_arg2 k) (trip_k0_t1.sl.r_73 (F := F) arg1 arg2 X_arg1 X_arg2 k) := by
  unfold trip_k0_t1.sl.r_98
  rfl

theorem m8_1 : (trip_k0_t1.sl.r_102 (F := F) arg1 arg2 X_arg1 X_arg2 k) = merge 8#32 (trip_k0_t1.sl.r_79 (F := F) arg1 arg2 X_arg1 X_arg2 k) (trip_k0_t1.sl.r_81 (F := F) arg1 arg2 X_arg1 X_arg2 k) := by
  unfold trip_k0_t1.sl.r_102 trip_k0_t1.sl.r_100
  rfl

theorem m8_2 : (trip_k0_t1.sl.r_104 (F := F) arg1 arg2 X_arg1 X_arg2 k) = merge 8#32 (trip_k0_t1.sl.r_87 (F := F) arg1 arg2 X_arg1 X_arg2 k) (trip_k0_t1.sl.r_89 (F := F) arg1 arg2 X_arg1 X_arg2 k) := by
  unfold trip_k0_t1.sl.r_104
  rfl

theorem n8_0 : (trip_k0_t1.sl.r_99 (F := F) arg1 arg2 X_arg1 X_arg2 k) = merge 8#32 (trip_k0_t1.sl.r_72 (F := F) arg1 arg2 X_arg1 X_arg2 k) (trip_k0_t1.sl.r_74 (F := F) arg1 arg2 X_arg1 X_arg2 k) := by
  unfold trip_k0_t1.sl.r_99
  rfl

theorem n8_1 : (trip_k0_t1.sl.r_103 (F := F) arg1 arg2 X_arg1 X_arg2 k) = merge 8#32 (trip_k0_t1.sl.r_80 (F := F) arg1 arg2 X_arg1 X_arg2 k) (trip_k0_t1.sl.r_82 (F := F) arg1 arg2 X_arg1 X_arg2 k) := by
  unfold trip_k0_t1.sl.r_103 trip_k0_t1.sl.r_101
  rfl

theorem n8_2 : (trip_k0_t1.sl.r_105 (F := F) arg1 arg2 X_arg1 X_arg2 k) = merge 8#32 (trip_k0_t1.sl.r_88 (F := F) arg1 arg2 X_arg1 X_arg2 k) (trip_k0_t1.sl.r_90 (F := F) arg1 arg2 X_arg1 X_arg2 k) := by
  unfold trip_k0_t1.sl.r_105
  rfl

theorem m4_0 : (trip_k0_t1.sl.r_110 (F := F) arg1 arg2 X_arg1 X_arg2 k) = merge 4#32 (trip_k0_t1.sl.r_98 (F := F) arg1 arg2 X_arg1 X_arg2 k) (trip_k0_t1.sl.r_102 (F := F) arg1 arg2 X_arg1 X_arg2 k) := by
  unfold trip_k0_t1.sl.r_110
  rfl

theorem n4_0 : (trip_k0_t1.sl.r_111 (F := F) arg1 arg2 X_arg1 X_arg2 k) = merge 4#32 (trip_k0_t1.sl.r_99 (F := F) arg1 arg2 X_arg1 X_arg2 k) (trip_k0_t1.sl.r_103 (F := F) arg1 arg2 X_arg1 X_arg2 k) := by
  unfold trip_k0_t1.sl.r_111
  rfl

theorem m2 : (trip_k0_t1.sl.r_116 (F := F) arg1 arg2 X_arg1 X_arg2 k) = merge 2#32 (trip_k0_t1.sl.r_110 (F := F) arg1 arg2 X_arg1 X_arg2 k) (merge 4#32 (trip_k0_t1.sl.r_104 (F := F) arg1 arg2 X_arg1 X_arg2 k) (merge 8#32 (trip_k0_t1.sl.r_91 (F := F) arg1 arg2 X_arg1 X_arg2 k) (trip_k0_t1.sl.r_96 (F := F) arg1 arg2 X_arg1 X_arg2 k))) := by
  unfold trip_k0_t1.sl.r_116 trip_k0_t1.sl.r_112 trip_k0_t1.sl.r_114 trip_k0_t1.sl.r_106 trip_k0_t1.sl.r_108
  rfl

theorem n2 : (trip_k0_t1.sl.r_117 (F := F) arg1 arg2 X_arg1 X_arg2 k) = merge 2#32 (trip_k0_t1.sl.r_111 (F := F) arg1 arg2 X_arg1 X_arg2 k) (merge 4#32 (trip_k0_t1.sl.r_105 (F := F) arg1 arg2 X_arg1 X_arg2 k) (merge 8#32 (trip_k0_t1.sl.r_92 (F := F) arg1 arg2 X_arg1 X_arg2 k) (trip_k0_t1.sl.r_97 (F := F) arg1 arg2 X_arg1 X_arg2 k))) := by
  unfold trip_k0_t1.sl.r_117 trip_k0_t1.sl.r_113 trip_k0_t1.sl.r_115 trip_k0_t1.sl.r_107 trip_k0_t1.sl.r_109
  rfl

theorem m1 : (trip_k0_t1.sl.r_118 (F := F) arg1 arg2 X_arg1 X_arg2 k) = fold 1#32 (trip_k0_t1.sl.r_116 (F := F) arg1 arg2 X_arg1 X_arg2 k) := by
  unfold trip_k0_t1.sl.r_118
  rfl

theorem n1 : (trip_k0_t1.sl.r_119 (F := F) arg1 arg2 X_arg1 X_arg2 k) = fold 1#32 (trip_k0_t1.sl.r_117 (F := F) arg1 arg2 X_arg1 X_arg2 k) := by
  unfold trip_k0_t1.sl.r_119
  rfl

theorem maxT : (trip_k0_t1.sl.r_118 (F := F) arg1 arg2 X_arg1 X_arg2 k) = maxW fun j => absf (top (tiles arg1 arg2 X_arg1 X_arg2 k j)) := by
  rw [m1, m2, m4_0, m8_0, m8_1, m8_2, m16_0, m16_1, m16_2, m16_3, m16_4, m16_5, m16_6, m16_7, top0, top1, top2, top3, top4, top5, top6, top7, top8, top9, top10, top11, top12, top13, top14, top15, tile0, tile1, tile2, tile3, tile4, tile5, tile6, tile7, tile8, tile9, tile10, tile11, tile12, tile13, tile14, tile15]
  rfl

theorem maxB : (trip_k0_t1.sl.r_119 (F := F) arg1 arg2 X_arg1 X_arg2 k) = maxW fun j => absf (bot (tiles arg1 arg2 X_arg1 X_arg2 k j)) := by
  rw [n1, n2, n4_0, n8_0, n8_1, n8_2, n16_0, n16_1, n16_2, n16_3, n16_4, n16_5, n16_6, n16_7, bot0, bot1, bot2, bot3, bot4, bot5, bot6, bot7, bot8, bot9, bot10, bot11, bot12, bot13, bot14, bot15, tile0, tile1, tile2, tile3, tile4, tile5, tile6, tile7, tile8, tile9, tile10, tile11, tile12, tile13, tile14, tile15]
  rfl

theorem byteT_r : (trip_k0_t1.sl.r_124 (F := F) arg1 arg2 X_arg1 X_arg2 k) = byte (trip_k0_t1.sl.r_118 (F := F) arg1 arg2 X_arg1 X_arg2 k) := by
  unfold trip_k0_t1.sl.r_124 trip_k0_t1.sl.r_122 trip_k0_t1.sl.r_123 trip_k0_t1.sl.r_120 trip_k0_t1.sl.r_121
  rfl

theorem byteB_r : (trip_k0_t1.sl.r_127 (F := F) arg1 arg2 X_arg1 X_arg2 k) = byte (trip_k0_t1.sl.r_119 (F := F) arg1 arg2 X_arg1 X_arg2 k) := by
  unfold trip_k0_t1.sl.r_127 trip_k0_t1.sl.r_125 trip_k0_t1.sl.r_126
  rfl

theorem word_r : (trip_k0_t1.sl.r_129 (F := F) arg1 arg2 X_arg1 X_arg2 k) = packed (trip_k0_t1.sl.r_124 (F := F) arg1 arg2 X_arg1 X_arg2 k) (trip_k0_t1.sl.r_127 (F := F) arg1 arg2 X_arg1 X_arg2 k) := by
  unfold trip_k0_t1.sl.r_129 trip_k0_t1.sl.r_128
  rfl

theorem byteT_w : (trip_k0_t1.sl.r_124 (F := F) arg1 arg2 X_arg1 X_arg2 k) = byteT (tiles arg1 arg2 X_arg1 X_arg2 k) := by rw [byteT_r, maxT]; rfl

theorem byteB_w : (trip_k0_t1.sl.r_127 (F := F) arg1 arg2 X_arg1 X_arg2 k) = byteB (tiles arg1 arg2 X_arg1 X_arg2 k) := by rw [byteB_r, maxB]; rfl

theorem word_w : (trip_k0_t1.sl.r_129 (F := F) arg1 arg2 X_arg1 X_arg2 k) = word (tiles arg1 arg2 X_arg1 X_arg2 k) := by rw [word_r, byteT_w, byteB_w]; rfl

end

end Cert.QkvKernelIdeal.Gen.Proj

end
-- ==== Proof.QkvTrip.lean ====
module

public import proofs.«01_k».proof.Proof.QkvWords

@[expose] public section

set_option maxRecDepth 8192

noncomputable section

/-! What one trip of the qkv projection's strip loop stores: the pieces its run found, in the vocabulary of the strip. -/

namespace Cert.QkvKernelIdeal.Gen.Proj

open Idealize.ShloMosaic Idealize.ShloMosaic.TcCoe Idealize.ShloMosaic.Tactic Idealize.SL.Sem
open Cert.OutKernelIdeal.Gen.Wide (byteT byteB vals word src scales)
open Cert.KernelIdeal.Gen.Strip (codes)

variable {F : FTy → Type} [FloatOps F]

/-- The scale bytes a trip stores. -/
theorem trip_scales (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.1 = [⟨(Rect.unit (s := S512x64) (k0_off17 k) S32x64.size (k0_off17_inb k)), scales (byteT (tiles arg1 arg2 X_arg1 X_arg2 k)) (byteB (tiles arg1 arg2 X_arg1 X_arg2 k))⟩] := by
  unfold trip_k0_t1
  dsimp only
  rw [byteT_w, byteB_w]
  rfl

/-- The codes a trip stores. -/
theorem trip_codes (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).1 = [
      ⟨(Rect.unit (s := S512x2048) (k0_off16 k) S32x128.size (k0_off16_inb k)), codes (tiles arg1 arg2 X_arg1 X_arg2 k 15) (word (tiles arg1 arg2 X_arg1 X_arg2 k)) 30#32⟩,
      ⟨(Rect.unit (s := S512x2048) (k0_off15 k) S32x128.size (k0_off15_inb k)), codes (tiles arg1 arg2 X_arg1 X_arg2 k 14) (word (tiles arg1 arg2 X_arg1 X_arg2 k)) 14#32⟩,
      ⟨(Rect.unit (s := S512x2048) (k0_off14 k) S32x128.size (k0_off14_inb k)), codes (tiles arg1 arg2 X_arg1 X_arg2 k 13) (word (tiles arg1 arg2 X_arg1 X_arg2 k)) 22#32⟩,
      ⟨(Rect.unit (s := S512x2048) (k0_off13 k) S32x128.size (k0_off13_inb k)), codes (tiles arg1 arg2 X_arg1 X_arg2 k 12) (word (tiles arg1 arg2 X_arg1 X_arg2 k)) 6#32⟩,
      ⟨(Rect.unit (s := S512x2048) (k0_off12 k) S32x128.size (k0_off12_inb k)), codes (tiles arg1 arg2 X_arg1 X_arg2 k 11) (word (tiles arg1 arg2 X_arg1 X_arg2 k)) 26#32⟩,
      ⟨(Rect.unit (s := S512x2048) (k0_off11 k) S32x128.size (k0_off11_inb k)), codes (tiles arg1 arg2 X_arg1 X_arg2 k 10) (word (tiles arg1 arg2 X_arg1 X_arg2 k)) 10#32⟩,
      ⟨(Rect.unit (s := S512x2048) (k0_off10 k) S32x128.size (k0_off10_inb k)), codes (tiles arg1 arg2 X_arg1 X_arg2 k 9) (word (tiles arg1 arg2 X_arg1 X_arg2 k)) 18#32⟩,
      ⟨(Rect.unit (s := S512x2048) (k0_off9 k) S32x128.size (k0_off9_inb k)), codes (tiles arg1 arg2 X_arg1 X_arg2 k 8) (word (tiles arg1 arg2 X_arg1 X_arg2 k)) 2#32⟩,
      ⟨(Rect.unit (s := S512x2048) (k0_off8 k) S32x128.size (k0_off8_inb k)), codes (tiles arg1 arg2 X_arg1 X_arg2 k 7) (word (tiles arg1 arg2 X_arg1 X_arg2 k)) 28#32⟩,
      ⟨(Rect.unit (s := S512x2048) (k0_off7 k) S32x128.size (k0_off7_inb k)), codes (tiles arg1 arg2 X_arg1 X_arg2 k 6) (word (tiles arg1 arg2 X_arg1 X_arg2 k)) 12#32⟩,
      ⟨(Rect.unit (s := S512x2048) (k0_off6 k) S32x128.size (k0_off6_inb k)), codes (tiles arg1 arg2 X_arg1 X_arg2 k 5) (word (tiles arg1 arg2 X_arg1 X_arg2 k)) 20#32⟩,
      ⟨(Rect.unit (s := S512x2048) (k0_off5 k) S32x128.size (k0_off5_inb k)), codes (tiles arg1 arg2 X_arg1 X_arg2 k 4) (word (tiles arg1 arg2 X_arg1 X_arg2 k)) 4#32⟩,
      ⟨(Rect.unit (s := S512x2048) (k0_off4 k) S32x128.size (k0_off4_inb k)), codes (tiles arg1 arg2 X_arg1 X_arg2 k 3) (word (tiles arg1 arg2 X_arg1 X_arg2 k)) 24#32⟩,
      ⟨(Rect.unit (s := S512x2048) (k0_off3 k) S32x128.size (k0_off3_inb k)), codes (tiles arg1 arg2 X_arg1 X_arg2 k 2) (word (tiles arg1 arg2 X_arg1 X_arg2 k)) 8#32⟩,
      ⟨(Rect.unit (s := S512x2048) (k0_off2 k) S32x128.size (k0_off2_inb k)), codes (tiles arg1 arg2 X_arg1 X_arg2 k 1) (word (tiles arg1 arg2 X_arg1 X_arg2 k)) 16#32⟩,
      ⟨(Rect.unit (s := S512x2048) (k0_off1 k) S32x128.size (k0_off1_inb k)), codes (tiles arg1 arg2 X_arg1 X_arg2 k 0) (word (tiles arg1 arg2 X_arg1 X_arg2 k)) 0#32⟩] := by
  unfold trip_k0_t1
  dsimp only
  rw [← word_w, ← tile0, ← tile1, ← tile2, ← tile3, ← tile4, ← tile5, ← tile6, ← tile7, ← tile8, ← tile9, ← tile10, ← tile11, ← tile12, ← tile13, ← tile14, ← tile15]
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  rfl

/-- The decoded values a trip stores. -/
theorem trip_vals (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.2.1 = [
      ⟨(Rect.unit (s := S512x2048) (k0_off16 k) S32x128.size (k0_off16_inb k)), Cert.KernelIdeal.Gen.Strip.vals (tiles arg1 arg2 X_arg1 X_arg2 k 15) (word (tiles arg1 arg2 X_arg1 X_arg2 k)) 30#32⟩,
      ⟨(Rect.unit (s := S512x2048) (k0_off15 k) S32x128.size (k0_off15_inb k)), Cert.KernelIdeal.Gen.Strip.vals (tiles arg1 arg2 X_arg1 X_arg2 k 14) (word (tiles arg1 arg2 X_arg1 X_arg2 k)) 14#32⟩,
      ⟨(Rect.unit (s := S512x2048) (k0_off14 k) S32x128.size (k0_off14_inb k)), Cert.KernelIdeal.Gen.Strip.vals (tiles arg1 arg2 X_arg1 X_arg2 k 13) (word (tiles arg1 arg2 X_arg1 X_arg2 k)) 22#32⟩,
      ⟨(Rect.unit (s := S512x2048) (k0_off13 k) S32x128.size (k0_off13_inb k)), Cert.KernelIdeal.Gen.Strip.vals (tiles arg1 arg2 X_arg1 X_arg2 k 12) (word (tiles arg1 arg2 X_arg1 X_arg2 k)) 6#32⟩,
      ⟨(Rect.unit (s := S512x2048) (k0_off12 k) S32x128.size (k0_off12_inb k)), Cert.KernelIdeal.Gen.Strip.vals (tiles arg1 arg2 X_arg1 X_arg2 k 11) (word (tiles arg1 arg2 X_arg1 X_arg2 k)) 26#32⟩,
      ⟨(Rect.unit (s := S512x2048) (k0_off11 k) S32x128.size (k0_off11_inb k)), Cert.KernelIdeal.Gen.Strip.vals (tiles arg1 arg2 X_arg1 X_arg2 k 10) (word (tiles arg1 arg2 X_arg1 X_arg2 k)) 10#32⟩,
      ⟨(Rect.unit (s := S512x2048) (k0_off10 k) S32x128.size (k0_off10_inb k)), Cert.KernelIdeal.Gen.Strip.vals (tiles arg1 arg2 X_arg1 X_arg2 k 9) (word (tiles arg1 arg2 X_arg1 X_arg2 k)) 18#32⟩,
      ⟨(Rect.unit (s := S512x2048) (k0_off9 k) S32x128.size (k0_off9_inb k)), Cert.KernelIdeal.Gen.Strip.vals (tiles arg1 arg2 X_arg1 X_arg2 k 8) (word (tiles arg1 arg2 X_arg1 X_arg2 k)) 2#32⟩,
      ⟨(Rect.unit (s := S512x2048) (k0_off8 k) S32x128.size (k0_off8_inb k)), Cert.KernelIdeal.Gen.Strip.vals (tiles arg1 arg2 X_arg1 X_arg2 k 7) (word (tiles arg1 arg2 X_arg1 X_arg2 k)) 28#32⟩,
      ⟨(Rect.unit (s := S512x2048) (k0_off7 k) S32x128.size (k0_off7_inb k)), Cert.KernelIdeal.Gen.Strip.vals (tiles arg1 arg2 X_arg1 X_arg2 k 6) (word (tiles arg1 arg2 X_arg1 X_arg2 k)) 12#32⟩,
      ⟨(Rect.unit (s := S512x2048) (k0_off6 k) S32x128.size (k0_off6_inb k)), Cert.KernelIdeal.Gen.Strip.vals (tiles arg1 arg2 X_arg1 X_arg2 k 5) (word (tiles arg1 arg2 X_arg1 X_arg2 k)) 20#32⟩,
      ⟨(Rect.unit (s := S512x2048) (k0_off5 k) S32x128.size (k0_off5_inb k)), Cert.KernelIdeal.Gen.Strip.vals (tiles arg1 arg2 X_arg1 X_arg2 k 4) (word (tiles arg1 arg2 X_arg1 X_arg2 k)) 4#32⟩,
      ⟨(Rect.unit (s := S512x2048) (k0_off4 k) S32x128.size (k0_off4_inb k)), Cert.KernelIdeal.Gen.Strip.vals (tiles arg1 arg2 X_arg1 X_arg2 k 3) (word (tiles arg1 arg2 X_arg1 X_arg2 k)) 24#32⟩,
      ⟨(Rect.unit (s := S512x2048) (k0_off3 k) S32x128.size (k0_off3_inb k)), Cert.KernelIdeal.Gen.Strip.vals (tiles arg1 arg2 X_arg1 X_arg2 k 2) (word (tiles arg1 arg2 X_arg1 X_arg2 k)) 8#32⟩,
      ⟨(Rect.unit (s := S512x2048) (k0_off2 k) S32x128.size (k0_off2_inb k)), Cert.KernelIdeal.Gen.Strip.vals (tiles arg1 arg2 X_arg1 X_arg2 k 1) (word (tiles arg1 arg2 X_arg1 X_arg2 k)) 16#32⟩,
      ⟨(Rect.unit (s := S512x2048) (k0_off1 k) S32x128.size (k0_off1_inb k)), Cert.KernelIdeal.Gen.Strip.vals (tiles arg1 arg2 X_arg1 X_arg2 k 0) (word (tiles arg1 arg2 X_arg1 X_arg2 k)) 0#32⟩] := by
  unfold trip_k0_t1
  dsimp only
  rw [← word_w, ← tile0, ← tile1, ← tile2, ← tile3, ← tile4, ← tile5, ← tile6, ← tile7, ← tile8, ← tile9, ← tile10, ← tile11, ← tile12, ← tile13, ← tile14, ← tile15]
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  rfl

end Cert.QkvKernelIdeal.Gen.Proj

end
-- ==== Proof.QkvBlock.lean ====
module

public import proofs.«01_k».proof.Proof.QkvTrip

@[expose] public section

set_option maxRecDepth 8192

noncomputable section

/-! What the qkv projection's strip loop leaves of a 512 x 2048 block: codes, decoded values and scale bytes, each a
function of the block's rows and the norm's weights. -/

namespace Cert.QkvKernelIdeal.Gen.Proj

open Idealize.ShloMosaic Idealize.ShloMosaic.TcCoe Idealize.ShloMosaic.Tactic Idealize.SL.Sem Idealize.ShloMosaic.ValueIdx
open Cert.KernelIdeal.Gen.Strip (Arr dotr amax amax_congr sbyte qcode qval codes col)
open Cert.OutKernelIdeal.Gen.Wide (blk byteT byteB word src scales offs normed inv codes_apply vals_apply scales_apply normed_apply inv_apply nt mx codeB valB scaleB nt_congr nrm)

section Block

variable (x : FVec Ideal S512x2048 .bf16) (w : FVec Ideal S1x2048 .f32)

theorem trips_eq : k0_t1_loop.trips = 16 := by decide +kernel

theorem trip_lt (k : Fin k0_t1_loop.trips) : k.val < 16 := lt_of_lt_of_eq k.isLt trips_eq

theorem row_lt (k : Fin k0_t1_loop.trips) (R : Fin 32) : 32 * k.val + R.val < 512 := by have := trip_lt k; omega

theorem emb_tile (off : Fin S512x2048.rank → ℕ) (inb : ∀ a, off a + S32x128.size a ≤ S512x2048.size a) (k : Fin k0_t1_loop.trips) (n : Fin 16)
    (h : off = ![32 * k.val, 128 * n.val]) (R : Fin 32) (l : Fin 128) :
    (Rect.unit (s := S512x2048) off S32x128.size inb).emb (ix2 R l)
      = ix2 (⟨32 * k.val + R.val, row_lt k R⟩ : Fin 512) (⟨128 * n.val + l.val, by omega⟩ : Fin 2048) := by
  subst h
  funext a
  match a with
  | ⟨0, _⟩ => exact Fin.ext (show 32 * k.val + 1 * R.val = 32 * k.val + R.val by omega)
  | ⟨1, _⟩ => exact Fin.ext (show 128 * n.val + 1 * l.val = 128 * n.val + l.val by omega)

theorem emb_wt (off : Fin S1x2048.rank → ℕ) (inb : ∀ a, off a + S1x128.size a ≤ S1x2048.size a) (n : Fin 16)
    (h : off = ![0, 128 * n.val]) (l : Fin 128) :
    (Rect.unit (s := S1x2048) off S1x128.size inb).emb (ix2 (0 : Fin 1) l) = ix2 (0 : Fin 1) (⟨128 * n.val + l.val, by omega⟩ : Fin 2048) := by
  subst h
  funext a
  match a with
  | ⟨0, _⟩ => rfl
  | ⟨1, _⟩ => exact Fin.ext (show 128 * n.val + 1 * l.val = 128 * n.val + l.val by omega)

variable (arg1 : Memref sig .tc .vmem S512x2048 .bf16) (arg2 : Memref sig .tc .vmem S1x2048 .f32) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x)

include hx in
theorem raw1 (off : Fin S512x2048.rank → ℕ) (inb : ∀ a, off a + S32x128.size a ≤ S512x2048.size a) (k : Fin k0_t1_loop.trips) (n : Fin 16)
    (h : off = ![32 * k.val, 128 * n.val]) (R : Fin 32) (l : Fin 128) :
    (extf .f32 (View.readAt (Elt Ideal) arg1.view (Rect.unit (s := S512x2048) off S32x128.size inb).toLoadRect X_arg1) bitsLt_bf16_f32 : FVec Ideal S32x128 .f32) (ix2 R l)
      = x (ix2 (⟨32 * k.val + R.val, row_lt k R⟩ : Fin 512) (⟨128 * n.val + l.val, by omega⟩ : Fin 2048)) := by
  show arg1.view.read (Elt Ideal) X_arg1 ((Rect.unit (s := S512x2048) off S32x128.size inb).emb (ix2 R l)) = _
  rw [emb_tile off inb k n h, hx]

include hw in
theorem wts1 (off : Fin S1x2048.rank → ℕ) (inb : ∀ a, off a + S1x128.size a ≤ S1x2048.size a) (n : Fin 16)
    (h : off = ![0, 128 * n.val]) (l : Fin 128) :
    (View.readAt (Elt Ideal) arg2.view (Rect.unit (s := S1x2048) off S1x128.size inb).toLoadRect X_arg2 : FVec Ideal S1x128 .f32) (ix2 (0 : Fin 1) l)
      = w (ix2 (0 : Fin 1) (⟨128 * n.val + l.val, by omega⟩ : Fin 2048)) := by
  show arg2.view.read (Elt Ideal) X_arg2 ((Rect.unit (s := S1x2048) off S1x128.size inb).emb (ix2 (0 : Fin 1) l)) = _
  rw [emb_wt off inb n h, hw]

include hx in
/-- The loaded tiles are the block's columns. -/
theorem raw_apply (k : Fin k0_t1_loop.trips) (n : Fin 16) (R : Fin 32) (l : Fin 128) :
    raw (F := Ideal) arg1 X_arg1 k n (ix2 R l) = x (ix2 (⟨32 * k.val + R.val, row_lt k R⟩ : Fin 512) (⟨128 * n.val + l.val, by omega⟩ : Fin 2048)) := by
  fin_cases n
  · exact raw1 x arg1 X_arg1 hx _ (k0_off1_inb k) k 0 (k0_off1_eq k) R l
  · exact raw1 x arg1 X_arg1 hx _ (k0_off2_inb k) k 1 (k0_off2_eq k) R l
  · exact raw1 x arg1 X_arg1 hx _ (k0_off3_inb k) k 2 (k0_off3_eq k) R l
  · exact raw1 x arg1 X_arg1 hx _ (k0_off4_inb k) k 3 (k0_off4_eq k) R l
  · exact raw1 x arg1 X_arg1 hx _ (k0_off5_inb k) k 4 (k0_off5_eq k) R l
  · exact raw1 x arg1 X_arg1 hx _ (k0_off6_inb k) k 5 (k0_off6_eq k) R l
  · exact raw1 x arg1 X_arg1 hx _ (k0_off7_inb k) k 6 (k0_off7_eq k) R l
  · exact raw1 x arg1 X_arg1 hx _ (k0_off8_inb k) k 7 (k0_off8_eq k) R l
  · exact raw1 x arg1 X_arg1 hx _ (k0_off9_inb k) k 8 (k0_off9_eq k) R l
  · exact raw1 x arg1 X_arg1 hx _ (k0_off10_inb k) k 9 (k0_off10_eq k) R l
  · exact raw1 x arg1 X_arg1 hx _ (k0_off11_inb k) k 10 (k0_off11_eq k) R l
  · exact raw1 x arg1 X_arg1 hx _ (k0_off12_inb k) k 11 (k0_off12_eq k) R l
  · exact raw1 x arg1 X_arg1 hx _ (k0_off13_inb k) k 12 (k0_off13_eq k) R l
  · exact raw1 x arg1 X_arg1 hx _ (k0_off14_inb k) k 13 (k0_off14_eq k) R l
  · exact raw1 x arg1 X_arg1 hx _ (k0_off15_inb k) k 14 (k0_off15_eq k) R l
  · exact raw1 x arg1 X_arg1 hx _ (k0_off16_inb k) k 15 (k0_off16_eq k) R l

include hw in
theorem wts_apply (n : Fin 16) (l : Fin 128) :
    wts (F := Ideal) arg2 X_arg2 n (ix2 (0 : Fin 1) l) = w (ix2 (0 : Fin 1) (⟨128 * n.val + l.val, by omega⟩ : Fin 2048)) := by
  fin_cases n
  · exact wts1 w arg2 X_arg2 hw _ inb_S1x2048_S1x128_0_0 0 rfl l
  · exact wts1 w arg2 X_arg2 hw _ inb_S1x2048_S1x128_0_128 1 rfl l
  · exact wts1 w arg2 X_arg2 hw _ inb_S1x2048_S1x128_0_256 2 rfl l
  · exact wts1 w arg2 X_arg2 hw _ inb_S1x2048_S1x128_0_384 3 rfl l
  · exact wts1 w arg2 X_arg2 hw _ inb_S1x2048_S1x128_0_512 4 rfl l
  · exact wts1 w arg2 X_arg2 hw _ inb_S1x2048_S1x128_0_640 5 rfl l
  · exact wts1 w arg2 X_arg2 hw _ inb_S1x2048_S1x128_0_768 6 rfl l
  · exact wts1 w arg2 X_arg2 hw _ inb_S1x2048_S1x128_0_896 7 rfl l
  · exact wts1 w arg2 X_arg2 hw _ inb_S1x2048_S1x128_0_1024 8 rfl l
  · exact wts1 w arg2 X_arg2 hw _ inb_S1x2048_S1x128_0_1152 9 rfl l
  · exact wts1 w arg2 X_arg2 hw _ inb_S1x2048_S1x128_0_1280 10 rfl l
  · exact wts1 w arg2 X_arg2 hw _ inb_S1x2048_S1x128_0_1408 11 rfl l
  · exact wts1 w arg2 X_arg2 hw _ inb_S1x2048_S1x128_0_1536 12 rfl l
  · exact wts1 w arg2 X_arg2 hw _ inb_S1x2048_S1x128_0_1664 13 rfl l
  · exact wts1 w arg2 X_arg2 hw _ inb_S1x2048_S1x128_0_1792 14 rfl l
  · exact wts1 w arg2 X_arg2 hw _ inb_S1x2048_S1x128_0_1920 15 rfl l

include hw hx in
/-- A strip's tiles are the block's normed entries. -/
theorem tiles_apply (k : Fin k0_t1_loop.trips) (n : Fin 16) (R : Fin 32) (l : Fin 128) :
    tiles (F := Ideal) arg1 arg2 X_arg1 X_arg2 k n (ix2 R l)
      = nt x w (⟨32 * k.val + R.val, row_lt k R⟩ : Fin 512) (⟨128 * n.val + l.val, by omega⟩ : Fin 2048) := by
  unfold tiles
  refine (normed_apply _ _ _ R l).trans ?_
  rw [raw_apply x arg1 X_arg1 hx, wts_apply w arg2 X_arg2 hw]
  refine congrArg (fun z => x (ix2 (⟨32 * k.val + R.val, row_lt k R⟩ : Fin 512) (⟨128 * n.val + l.val, by omega⟩ : Fin 2048)) * z * w (ix2 (0 : Fin 1) (⟨128 * n.val + l.val, by omega⟩ : Fin 2048)))
    (inv_apply _ (fun c => x (ix2 (⟨32 * k.val + R.val, row_lt k R⟩ : Fin 512) c)) R fun j l => raw_apply x arg1 X_arg1 hx k j R l)

include hw hx in
theorem blk_tiles (k : Fin k0_t1_loop.trips) (n : Fin 16) (R : Fin 32) (q : Fin 4) :
    blk (tiles (F := Ideal) arg1 arg2 X_arg1 X_arg2 k) R n q
      = amax fun i : Fin 32 => nt x w (⟨32 * k.val + R.val, row_lt k R⟩ : Fin 512) (⟨128 * n.val + (32 * q.val + i.val), by omega⟩ : Fin 2048) := by
  exact amax_congr fun i => tiles_apply x w arg1 arg2 X_arg1 X_arg2 hw hx k n R (col q i)

include hw hx in
theorem blk_mx (k : Fin k0_t1_loop.trips) (n : Fin 16) (R : Fin 32) (l : Fin 128) :
    blk (tiles (F := Ideal) arg1 arg2 X_arg1 X_arg2 k) R n ⟨l.val / 32, by omega⟩
      = mx x w (⟨32 * k.val + R.val, row_lt k R⟩ : Fin 512) (⟨128 * n.val + l.val, by omega⟩ : Fin 2048) := by
  rw [blk_tiles x w arg1 arg2 X_arg1 X_arg2 hw hx]
  exact amax_congr fun i => nt_congr x w rfl <| Fin.ext (show 128 * n.val + (32 * (l.val / 32) + i.val) = 32 * ((128 * n.val + l.val) / 32) + i.val by omega)

include hw hx in
theorem codes_piece (k : Fin k0_t1_loop.trips) (n : Fin 16) (off : Fin S512x2048.rank → ℕ) (inb : ∀ a, off a + S32x128.size a ≤ S512x2048.size a)
    (h : off = ![32 * k.val, 128 * n.val]) (y : S32x128.Idx) :
    codes (F := Ideal) (tiles arg1 arg2 X_arg1 X_arg2 k n) (word (tiles arg1 arg2 X_arg1 X_arg2 k)) (offs n) y
      = codeB x w ((Rect.unit (s := S512x2048) off S32x128.size inb).emb y) := by
  obtain ⟨R, l, rfl⟩ : ∃ (R : Fin 32) (l : Fin 128), y = ix2 R l := ⟨y 0, y 1, eq_ix2 y⟩
  refine (codes_apply _ n R l).trans ?_
  rw [blk_mx x w arg1 arg2 X_arg1 X_arg2 hw hx, tiles_apply x w arg1 arg2 X_arg1 X_arg2 hw hx, emb_tile off inb k n h]
  rfl

include hw hx in
theorem vals_piece (k : Fin k0_t1_loop.trips) (n : Fin 16) (off : Fin S512x2048.rank → ℕ) (inb : ∀ a, off a + S32x128.size a ≤ S512x2048.size a)
    (h : off = ![32 * k.val, 128 * n.val]) (y : S32x128.Idx) :
    Cert.KernelIdeal.Gen.Strip.vals (F := Ideal) (tiles arg1 arg2 X_arg1 X_arg2 k n) (word (tiles arg1 arg2 X_arg1 X_arg2 k)) (offs n) y
      = valB x w ((Rect.unit (s := S512x2048) off S32x128.size inb).emb y) := by
  obtain ⟨R, l, rfl⟩ : ∃ (R : Fin 32) (l : Fin 128), y = ix2 R l := ⟨y 0, y 1, eq_ix2 y⟩
  refine (congrFun (shapeCast_self _ _) _).trans ((vals_apply _ n R l).trans ?_)
  rw [blk_mx x w arg1 arg2 X_arg1 X_arg2 hw hx, tiles_apply x w arg1 arg2 X_arg1 X_arg2 hw hx, emb_tile off inb k n h]
  rfl

include hw hx in
theorem scales_piece (k : Fin k0_t1_loop.trips) (off : Fin S512x64.rank → ℕ) (inb : ∀ a, off a + S32x64.size a ≤ S512x64.size a)
    (h : off = ![32 * k.val, 0]) (y : S32x64.Idx) :
    scales (byteT (F := Ideal) (tiles arg1 arg2 X_arg1 X_arg2 k)) (byteB (tiles arg1 arg2 X_arg1 X_arg2 k)) y
      = scaleB x w ((Rect.unit (s := S512x64) off S32x64.size inb).emb y) := by
  subst h
  obtain ⟨R, l, rfl⟩ : ∃ (R : Fin 32) (l : Fin 64), y = ix2 R l := ⟨y 0, y 1, eq_ix2 y⟩
  refine (scales_apply _ R l).trans ?_
  rw [blk_tiles x w arg1 arg2 X_arg1 X_arg2 hw hx]
  exact congrArg (fun z => BitVec.ofNat 8 (sbyte z)) (amax_congr fun i => nt_congr x w
    (Fin.ext (show 32 * k.val + R.val = 32 * k.val + 1 * R.val by omega))
    (Fin.ext (show 128 * (l.val / 4) + (32 * (l.val % 4) + i.val) = 32 * (0 + 1 * l.val) + i.val by omega)))

end Block

variable (x : FVec Ideal S512x2048 .bf16) (w : FVec Ideal S1x2048 .f32)

/-- The codes of every trip are the block's. -/
theorem pb_codes (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 n).1, ∀ y : p.1.shape.Idx, p.2 y = codeB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
    intro p hp
    rw [show n + 1 = (⟨n, hn⟩ : Fin k0_t1_loop.trips).val + 1 from rfl, hs] at hp
    rcases List.mem_append.1 hp with hp | hp
    · have ht := trip_codes (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
      rw [show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).1 from rfl, ht] at hp
      simp only [List.mem_cons, List.not_mem_nil, or_false] at hp
      rcases hp with rfl | rfl | rfl | rfl | rfl | rfl | rfl | rfl | rfl | rfl | rfl | rfl | rfl | rfl | rfl | rfl
      · exact fun y => codes_piece x w _ _ _ _ hw hx ⟨n, hn⟩ 15 _ (k0_off16_inb _) (k0_off16_eq _) y
      · exact fun y => codes_piece x w _ _ _ _ hw hx ⟨n, hn⟩ 14 _ (k0_off15_inb _) (k0_off15_eq _) y
      · exact fun y => codes_piece x w _ _ _ _ hw hx ⟨n, hn⟩ 13 _ (k0_off14_inb _) (k0_off14_eq _) y
      · exact fun y => codes_piece x w _ _ _ _ hw hx ⟨n, hn⟩ 12 _ (k0_off13_inb _) (k0_off13_eq _) y
      · exact fun y => codes_piece x w _ _ _ _ hw hx ⟨n, hn⟩ 11 _ (k0_off12_inb _) (k0_off12_eq _) y
      · exact fun y => codes_piece x w _ _ _ _ hw hx ⟨n, hn⟩ 10 _ (k0_off11_inb _) (k0_off11_eq _) y
      · exact fun y => codes_piece x w _ _ _ _ hw hx ⟨n, hn⟩ 9 _ (k0_off10_inb _) (k0_off10_eq _) y
      · exact fun y => codes_piece x w _ _ _ _ hw hx ⟨n, hn⟩ 8 _ (k0_off9_inb _) (k0_off9_eq _) y
      · exact fun y => codes_piece x w _ _ _ _ hw hx ⟨n, hn⟩ 7 _ (k0_off8_inb _) (k0_off8_eq _) y
      · exact fun y => codes_piece x w _ _ _ _ hw hx ⟨n, hn⟩ 6 _ (k0_off7_inb _) (k0_off7_eq _) y
      · exact fun y => codes_piece x w _ _ _ _ hw hx ⟨n, hn⟩ 5 _ (k0_off6_inb _) (k0_off6_eq _) y
      · exact fun y => codes_piece x w _ _ _ _ hw hx ⟨n, hn⟩ 4 _ (k0_off5_inb _) (k0_off5_eq _) y
      · exact fun y => codes_piece x w _ _ _ _ hw hx ⟨n, hn⟩ 3 _ (k0_off4_inb _) (k0_off4_eq _) y
      · exact fun y => codes_piece x w _ _ _ _ hw hx ⟨n, hn⟩ 2 _ (k0_off3_inb _) (k0_off3_eq _) y
      · exact fun y => codes_piece x w _ _ _ _ hw hx ⟨n, hn⟩ 1 _ (k0_off2_inb _) (k0_off2_eq _) y
      · exact fun y => codes_piece x w _ _ _ _ hw hx ⟨n, hn⟩ 0 _ (k0_off1_inb _) (k0_off1_eq _) y
    · exact ih (by omega) p hp

/-- The decoded values of every trip are the block's. -/
theorem pb_vals (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 n).2.2, ∀ y : p.1.shape.Idx, p.2 y = valB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
    intro p hp
    rw [show n + 1 = (⟨n, hn⟩ : Fin k0_t1_loop.trips).val + 1 from rfl, hs] at hp
    rcases List.mem_append.1 hp with hp | hp
    · have ht := trip_vals (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
      rw [show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).2.2 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).2.2.1 from rfl, ht] at hp
      simp only [List.mem_cons, List.not_mem_nil, or_false] at hp
      rcases hp with rfl | rfl | rfl | rfl | rfl | rfl | rfl | rfl | rfl | rfl | rfl | rfl | rfl | rfl | rfl | rfl
      · exact fun y => vals_piece x w _ _ _ _ hw hx ⟨n, hn⟩ 15 _ (k0_off16_inb _) (k0_off16_eq _) y
      · exact fun y => vals_piece x w _ _ _ _ hw hx ⟨n, hn⟩ 14 _ (k0_off15_inb _) (k0_off15_eq _) y
      · exact fun y => vals_piece x w _ _ _ _ hw hx ⟨n, hn⟩ 13 _ (k0_off14_inb _) (k0_off14_eq _) y
      · exact fun y => vals_piece x w _ _ _ _ hw hx ⟨n, hn⟩ 12 _ (k0_off13_inb _) (k0_off13_eq _) y
      · exact fun y => vals_piece x w _ _ _ _ hw hx ⟨n, hn⟩ 11 _ (k0_off12_inb _) (k0_off12_eq _) y
      · exact fun y => vals_piece x w _ _ _ _ hw hx ⟨n, hn⟩ 10 _ (k0_off11_inb _) (k0_off11_eq _) y
      · exact fun y => vals_piece x w _ _ _ _ hw hx ⟨n, hn⟩ 9 _ (k0_off10_inb _) (k0_off10_eq _) y
      · exact fun y => vals_piece x w _ _ _ _ hw hx ⟨n, hn⟩ 8 _ (k0_off9_inb _) (k0_off9_eq _) y
      · exact fun y => vals_piece x w _ _ _ _ hw hx ⟨n, hn⟩ 7 _ (k0_off8_inb _) (k0_off8_eq _) y
      · exact fun y => vals_piece x w _ _ _ _ hw hx ⟨n, hn⟩ 6 _ (k0_off7_inb _) (k0_off7_eq _) y
      · exact fun y => vals_piece x w _ _ _ _ hw hx ⟨n, hn⟩ 5 _ (k0_off6_inb _) (k0_off6_eq _) y
      · exact fun y => vals_piece x w _ _ _ _ hw hx ⟨n, hn⟩ 4 _ (k0_off5_inb _) (k0_off5_eq _) y
      · exact fun y => vals_piece x w _ _ _ _ hw hx ⟨n, hn⟩ 3 _ (k0_off4_inb _) (k0_off4_eq _) y
      · exact fun y => vals_piece x w _ _ _ _ hw hx ⟨n, hn⟩ 2 _ (k0_off3_inb _) (k0_off3_eq _) y
      · exact fun y => vals_piece x w _ _ _ _ hw hx ⟨n, hn⟩ 1 _ (k0_off2_inb _) (k0_off2_eq _) y
      · exact fun y => vals_piece x w _ _ _ _ hw hx ⟨n, hn⟩ 0 _ (k0_off1_inb _) (k0_off1_eq _) y
    · exact ih (by omega) p hp

/-- The scale bytes of every trip are the block's. -/
theorem pb_scales (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 n).2.1, ∀ y : p.1.shape.Idx, p.2 y = scaleB x w (p.1.emb y) := by
  induction n with
  | zero => intro p hp; simp [pb_k0_t1] at hp
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
    intro p hp
    rw [show n + 1 = (⟨n, hn⟩ : Fin k0_t1_loop.trips).val + 1 from rfl, hs] at hp
    rcases List.mem_append.1 hp with hp | hp
    · have ht := trip_scales (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩
      rw [show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨n, hn⟩).2.1 from rfl, ht] at hp
      simp only [List.mem_cons, List.not_mem_nil, or_false] at hp
      subst hp
      exact fun y => scales_piece x w _ _ _ _ hw hx ⟨n, hn⟩ _ (k0_off17_inb _) (k0_off17_eq _) y
    · exact ih (by omega) p hp

/-- The codes the loop leaves are the block's. -/
theorem loop_codes (x : FVec Ideal S512x2048 .bf16) (w : FVec Ideal S1x2048 .f32) (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).1 = codeB x w :=
  funext fun y => View.canon_apply_of_pieces (codeB x w) _ (pb_codes x w 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 hw hx _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).1 S32x128.size (by sl_kernel_rfl) y)

/-- The scales the loop leaves are the block's. -/
theorem loop_scales (x : FVec Ideal S512x2048 .bf16) (w : FVec Ideal S1x2048 .f32) (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).2.1 = scaleB x w :=
  funext fun y => View.canon_apply_of_pieces (scaleB x w) _ (pb_scales x w 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 hw hx _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).2.1 S32x64.size (by sl_kernel_rfl) y)

/-- The vals the loop leaves are the block's. -/
theorem loop_vals (x : FVec Ideal S512x2048 .bf16) (w : FVec Ideal S1x2048 .f32) (𝒱 : Variants) (c : Dev nD) (bd : Option 𝒱.V) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (X_arg1 : BufTy.Contents (Elt Ideal) arg1.view.ty) (X_arg2 : BufTy.Contents (Elt Ideal) arg2.view.ty)
    (hw : arg2.view.read (Elt Ideal) X_arg2 = w) (hx : arg1.view.read (Elt Ideal) X_arg1 = x) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).2.2 = valB x w :=
  funext fun y => View.canon_apply_of_pieces (valB x w) _ (pb_vals x w 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 hw hx _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k0_t1_loop.trips).2.2 S32x128.size (by sl_kernel_rfl) y)

end Cert.QkvKernelIdeal.Gen.Proj

end
-- ==== Proof.QkvModel.lean ====
module

public import proofs.«01_k».proof.Proof.OutModel

@[expose] public section

noncomputable section

/-! The projection to queries, keys and values as functions of its five arrays, by row and column: the normed rows and
their block codes, the projected rows, the rotated queries and keys, and the block codes of keys and values. -/

namespace Cert.QkvKernelIdeal.Gen.Proj

open Idealize.ShloMosaic Idealize.ShloMosaic.ValueIdx
open Cert.KernelIdeal.Gen.Strip (Arr amax amax_congr sbyte qcode qval)
open Cert.OutKernelIdeal.Gen.Wide (nrm nrm_congr)

/-- A projected row rotated head by head: entry `n` is entry `n % 96` of head `n / 96`. -/
def rot (f : Fin 2880 → EReal) (c s : Fin 48 → EReal) (n : Fin 2400) : EReal :=
  if h : n.val % 96 < 48 then f ⟨n.val, by omega⟩ * c ⟨n.val % 96, h⟩ - f ⟨n.val + 48, by omega⟩ * s ⟨n.val % 96, h⟩
  else f ⟨n.val, by omega⟩ * c ⟨n.val % 96 - 48, by omega⟩ + f ⟨n.val - 48, by omega⟩ * s ⟨n.val % 96 - 48, by omega⟩

/-- The scale byte of block `b` of 480 numbers. -/
def sbOf (f : Fin 480 → EReal) (b : Fin 15) : ℕ := sbyte (amax fun i : Fin 32 => f ⟨32 * b.val + i.val, by omega⟩)

/-- The code of entry `j` of 480 numbers. -/
def codeOf (f : Fin 480 → EReal) (j : Fin 480) : EReal := qcode (f j) (sbOf f ⟨j.val / 32, by omega⟩)

section Model

variable (x : Arr 12288 2048) (g : Arr 1 2048) (cs sn : Arr 48 12288) (w : Arr 2880 2048)

/-- The normed entry of row `r` and column `c`. -/
def nact (r : Fin 12288) (c : Fin 2048) : EReal := nrm (fun k => x (ix2 r k)) (g (ix2 (0 : Fin 1) c)) c

/-- The scale byte of block `b` of row `r`. -/
def sb (r : Fin 12288) (b : Fin 64) : ℕ := sbyte (amax fun i : Fin 32 => nact x g r ⟨32 * b.val + i.val, by omega⟩)

/-- The code of row `r` and column `c`. -/
def code (r : Fin 12288) (c : Fin 2048) : EReal := qcode (nact x g r c) (sb x g r ⟨c.val / 32, by omega⟩)

/-- The decoded value of row `r` and column `c`. -/
def dec (r : Fin 12288) (c : Fin 2048) : EReal := qval (nact x g r c) (sb x g r ⟨c.val / 32, by omega⟩)

/-- Entry `j` of the projection of row `r`. -/
def proj (r : Fin 12288) (j : Fin 2880) : EReal := ∑ k : Fin 2048, w (ix2 j k) * dec x g r k

/-- Entry `n` of the rotated queries and keys of row `r`. -/
def qk (r : Fin 12288) (n : Fin 2400) : EReal := rot (proj x g w r) (fun e => cs (ix2 e r)) (fun e => sn (ix2 e r)) n

/-- The keys of row `r`. -/
def keyE (r : Fin 12288) (j : Fin 480) : EReal := qk x g cs sn w r ⟨1920 + j.val, by omega⟩

/-- The values of row `r`. -/
def valE (r : Fin 12288) (j : Fin 480) : EReal := proj x g w r ⟨2400 + j.val, by omega⟩

/-- The keys of row `r` by head, each head padded to 128. -/
def keyP (h : Fin 5) (r : Fin 12288) (d : Fin 128) : EReal :=
  if hd : d.val < 96 then keyE x g cs sn w r ⟨96 * h.val + d.val, by omega⟩ else 0

/-- The codes of the keys and values of row `r`. -/
def kvc (r : Fin 12288) (n : Fin 960) : EReal :=
  if h : n.val < 480 then codeOf (keyE x g cs sn w r) ⟨n.val, h⟩ else codeOf (valE x g w r) ⟨n.val - 480, by omega⟩

/-- The scale bytes of the keys and values of row `r`. -/
def kvs (r : Fin 12288) (b : Fin 32) : BitVec 8 :=
  if h : b.val < 15 then BitVec.ofNat 8 (sbOf (keyE x g cs sn w r) ⟨b.val, h⟩)
  else if h' : b.val < 30 then BitVec.ofNat 8 (sbOf (valE x g w r) ⟨b.val - 15, by omega⟩) else 0#8

end Model

end Cert.QkvKernelIdeal.Gen.Proj

end
-- ==== Proof.QkvWide.lean ====
module

public import proofs.«01_k».proof.Proof.QkvModel
public import proofs.«01_k».proof.Proof.StripValue
public import proofs.«01_k».proof.Proof.Gen.QkvKernelIdeal.Value
public import Idealize.ShloMosaic.Lib.MatmulPlain
public import Idealize.ShloMosaic.Lib.ValueLayout

@[expose] public section

set_option maxRecDepth 8192

noncomputable section

/-! The projection of a block of 512 rows as one vocabulary, and each of its arrays at one element: the product with the
weights, the rotation of a head, the block scale bytes and codes of 480 rows, and the packing of the results. -/

namespace Cert.QkvKernelIdeal.Gen.Proj

open Idealize.ShloMosaic Idealize.ShloMosaic.TcCoe Idealize.ShloMosaic.ValueIdx
open Cert.KernelIdeal.Gen.Strip (amax amax_congr amax_nonneg sbyte sbyte_le qcode thr ofBits_field word_sub c_zero c_bot c_448 c_neg448 Inv inv0 stN stN_inv stepS expoN expoN_inv max_word ofBool_eq_one)

section Generic

variable {F : FTy → Type} [FloatOps F]

/-- A head rotated by its cosines and sines. -/
def rope (t : FVec F S96x512 .f32) (c s : FVec F S48x512 .f32) : FVec F S96x512 .f32 :=
  concatenate S96x512 0
    [⟨S48x512, subf (mulf (extractStridedSlice S48x512 ![0, 0] t slices_S96x512_o0_0_S48x512) c) (mulf (extractStridedSlice S48x512 ![48, 0] t slices_S96x512_o48_0_S48x512) s)⟩,
     ⟨S48x512, addf (mulf (extractStridedSlice S48x512 ![48, 0] t slices_S96x512_o48_0_S48x512) c) (mulf (extractStridedSlice S48x512 ![0, 0] t slices_S96x512_o0_0_S48x512) s)⟩]
    concatenates_S48x512_S48x512_S96x512_d0

/-- The five heads of keys rotated. -/
def keys (v : FVec F S480x512 .f32) (c s : FVec F S48x512 .f32) : FVec F S480x512 .f32 :=
  concatenate S480x512 0
    [⟨S96x512, rope (extractStridedSlice S96x512 ![0, 0] v slices_S480x512_o0_0_S96x512) c s⟩,
     ⟨S96x512, rope (extractStridedSlice S96x512 ![96, 0] v slices_S480x512_o96_0_S96x512) c s⟩,
     ⟨S96x512, rope (extractStridedSlice S96x512 ![192, 0] v slices_S480x512_o192_0_S96x512) c s⟩,
     ⟨S96x512, rope (extractStridedSlice S96x512 ![288, 0] v slices_S480x512_o288_0_S96x512) c s⟩,
     ⟨S96x512, rope (extractStridedSlice S96x512 ![384, 0] v slices_S480x512_o384_0_S96x512) c s⟩]
    concatenates_S96x512_S96x512_S96x512_S96x512_S96x512_S480x512_d0

/-- The block maxima of 480 rows, by column. -/
def maxima (v : FVec F S480x512 .f32) : FVec F S15x1x512 .f32 :=
  shapeCast S15x1x512 (multiReduction .maximumf [1] S15x512 (absf (shapeCast S15x32x512 v shapeCasts_S480x512_S15x32x512)) 0xFF800000#32 reduces_S15x32x512_S15x512 (.inl rfl) rfl) shapeCasts_S15x512_S15x1x512

/-- One step of the exponent's search. -/
def kstep (a : FVec F S15x1x512 .f32) (n : BitVec 32) (e : IVec S15x1x512 32) : IVec S15x1x512 32 :=
  select (cmpf .oge a (bitcastToFloat .f32 (shli (addi e (broadcast S15x1x512 n)) (broadcast S15x1x512 23#32))))
    (addi e (broadcast S15x1x512 n)) e

/-- The biased exponents of magnitudes. -/
def kexpo (a : FVec F S15x1x512 .f32) : IVec S15x1x512 32 :=
  kstep a 1#32 (kstep a 2#32 (kstep a 4#32 (kstep a 8#32 (kstep a 16#32 (kstep a 32#32 (kstep a 64#32 (kstep a 128#32
    (broadcast S15x1x512 0#32))))))))

/-- The scale bytes of block maxima. -/
def kbyte (a : FVec F S15x1x512 .f32) : IVec S15x1x512 32 :=
  select (cmpf .oeq a (broadcast S15x1x512 (Scalar.ofBits .f32 0x00000000#32))) (broadcast S15x1x512 127#32)
    (maxsi (subi (kexpo a) (broadcast S15x1x512 8#32)) (broadcast S15x1x512 0#32))

/-- The codes of 480 rows under their scale bytes. -/
def kcodes (v : FVec F S480x512 .f32) (b : IVec S15x1x512 32) : FVec F S480x512 .f32 :=
  shapeCast S480x512 (extf .f32 (truncf .fp8e4m3 (minimumf (broadcast S15x32x512 (Scalar.ofBits .f32 0x43E00000#32)) (maximumf (broadcast S15x32x512 (Scalar.ofBits .f32 0xC3E00000#32))
    (mulf (shapeCast S15x32x512 v shapeCasts_S480x512_S15x32x512) (broadcastTo S15x32x512 (bitcastToFloat .f32 (shli (subi (broadcast S15x1x512 254#32) b) (broadcast S15x1x512 23#32))) broadcasts_S15x1x512_S15x32x512))))
    bitsLt_fp8e4m3_f32) bitsLt_fp8e4m3_f32) shapeCasts_S15x32x512_S480x512

/-- Scale bytes by block and column. -/
def kbytes (b : IVec S15x1x512 32) : IVec S15x512 32 := shapeCast S15x512 b shapeCasts_S15x1x512_S15x512

/-- A head of keys, one row a token, padded to 128. -/
def padded (t : FVec F S96x512 .f32) : FVec F S1x512x128 .bf16 :=
  shapeCast S1x512x128 (transpose S512x128 [1, 0] (concatenate S128x512 0 [⟨S96x512, truncf .bf16 t bitsLt_bf16_f32⟩, ⟨S32x512, broadcast S32x512 (Scalar.ofBits .bf16 0x0000#16)⟩]
    concatenates_S96x512_S32x512_S128x512_d0) transposes_S128x512_p1_0_S512x128) shapeCasts_S512x128_S1x512x128

end Generic

theorem lo_apply (t : FVec Ideal S96x512 .f32) (d : Fin 48) (j : Fin 512) :
    extractStridedSlice S48x512 ![0, 0] t slices_S96x512_o0_0_S48x512 (ix2 d j) = t (ix2 (⟨d.val, by omega⟩ : Fin 96) j) :=
  extractStridedSlice_apply _ t _ _ _ fun a => match a with | ⟨0, _⟩ => (Nat.zero_add _).symm | ⟨1, _⟩ => (Nat.zero_add _).symm

theorem hi_apply (t : FVec Ideal S96x512 .f32) (d : Fin 48) (j : Fin 512) :
    extractStridedSlice S48x512 ![48, 0] t slices_S96x512_o48_0_S48x512 (ix2 d j) = t (ix2 (⟨48 + d.val, by omega⟩ : Fin 96) j) :=
  extractStridedSlice_apply _ t _ _ _ fun a => match a with | ⟨0, _⟩ => rfl | ⟨1, _⟩ => (Nat.zero_add _).symm

theorem rope_lo (t : FVec Ideal S96x512 .f32) (c s : FVec Ideal S48x512 .f32) (d : Fin 48) (j : Fin 512) :
    rope t c s (ix2 (⟨d.val, by omega⟩ : Fin 96) j) = t (ix2 (⟨d.val, by omega⟩ : Fin 96) j) * c (ix2 d j) - t (ix2 (⟨48 + d.val, by omega⟩ : Fin 96) j) * s (ix2 d j) := by
  unfold rope
  refine (concatenate_pair_apply_left (t := S96x512) 0 _ _ concatenates_S48x512_S48x512_S96x512_d0 (ix2 (⟨d.val, by omega⟩ : Fin 96) j) rfl (ix2 d j) fun b => match b with | ⟨0, _⟩ => rfl | ⟨1, _⟩ => rfl).trans ?_
  exact congrArg₂ (· - ·) (congrArg (· * c (ix2 d j)) (lo_apply t d j)) (congrArg (· * s (ix2 d j)) (hi_apply t d j))

theorem rope_hi (t : FVec Ideal S96x512 .f32) (c s : FVec Ideal S48x512 .f32) (d : Fin 48) (j : Fin 512) :
    rope t c s (ix2 (⟨48 + d.val, by omega⟩ : Fin 96) j) = t (ix2 (⟨48 + d.val, by omega⟩ : Fin 96) j) * c (ix2 d j) + t (ix2 (⟨d.val, by omega⟩ : Fin 96) j) * s (ix2 d j) := by
  unfold rope
  refine (concatenate_pair_apply_right (t := S96x512) 0 _ _ concatenates_S48x512_S48x512_S96x512_d0 (ix2 (⟨48 + d.val, by omega⟩ : Fin 96) j) rfl rfl (ix2 d j)
    (fun b => match b with | ⟨0, _⟩ => fun h => absurd rfl h | ⟨1, _⟩ => fun _ => rfl) (Nat.add_comm d.val 48)).trans ?_
  exact congrArg₂ (· + ·) (congrArg (· * c (ix2 d j)) (hi_apply t d j)) (congrArg (· * s (ix2 d j)) (lo_apply t d j))

/-- A rotated head is its part of the rotated row. -/
theorem rope_rot (t : FVec Ideal S96x512 .f32) (c s : FVec Ideal S48x512 .f32) (f : Fin 2880 → EReal) (j : Fin 512) (h : Fin 25)
    (ht : ∀ d : Fin 96, t (ix2 d j) = f ⟨96 * h.val + d.val, by omega⟩) (d : Fin 96) :
    rope t c s (ix2 d j) = rot f (fun e => c (ix2 e j)) (fun e => s (ix2 e j)) ⟨96 * h.val + d.val, by omega⟩ := by
  have hm : (96 * h.val + d.val) % 96 = d.val := by omega
  unfold rot
  by_cases hd : d.val < 48
  · have e := rope_lo t c s ⟨d.val, hd⟩ j
    refine e.trans ?_
    rw [dif_pos (show (96 * h.val + d.val) % 96 < 48 by omega), ht, ht]
    simp only [hm]
    congr 3
    exact Fin.ext (by show 96 * h.val + (48 + d.val) = 96 * h.val + d.val + 48; omega)
  · obtain ⟨e, he, rfl⟩ : ∃ e : Fin 48, ∃ he, d = ⟨48 + e.val, he⟩ := ⟨⟨d.val - 48, by omega⟩, by simp only; omega, Fin.ext (by simp only; omega)⟩
    refine (rope_hi t c s e j).trans ?_
    rw [dif_neg (show ¬ (96 * h.val + (48 + e.val)) % 96 < 48 by omega), ht, ht]
    simp only [show (96 * h.val + (48 + e.val)) % 96 = 48 + e.val by omega, show 48 + e.val - 48 = e.val by omega, Fin.eta]
    congr 3
    exact Fin.ext (by show 96 * h.val + e.val = 96 * h.val + (48 + e.val) - 48; omega)

/-- The five heads of keys at one element. -/
theorem keys_apply (v : FVec Ideal S480x512 .f32) (c s : FVec Ideal S48x512 .f32) (f : Fin 2880 → EReal) (j : Fin 512)
    (hv : ∀ n : Fin 480, v (ix2 n j) = f ⟨1920 + n.val, by omega⟩) (n : Fin 480) :
    keys v c s (ix2 n j) = rot f (fun e => c (ix2 e j)) (fun e => s (ix2 e j)) ⟨1920 + n.val, by omega⟩ := by
  let p : Fin 5 → (S96x512.Idx → EReal) := fun h => match h with
    | 0 => rope (F := Ideal) (extractStridedSlice S96x512 ![0, 0] v slices_S480x512_o0_0_S96x512) c s
    | 1 => rope (F := Ideal) (extractStridedSlice S96x512 ![96, 0] v slices_S480x512_o96_0_S96x512) c s
    | 2 => rope (F := Ideal) (extractStridedSlice S96x512 ![192, 0] v slices_S480x512_o192_0_S96x512) c s
    | 3 => rope (F := Ideal) (extractStridedSlice S96x512 ![288, 0] v slices_S480x512_o288_0_S96x512) c s
    | 4 => rope (F := Ideal) (extractStridedSlice S96x512 ![384, 0] v slices_S480x512_o384_0_S96x512) c s
  refine (concatenate_ofFn_apply (t := S480x512) (s₁ := S96x512) 0 (N := 5) p concatenates_S96x512_S96x512_S96x512_S96x512_S96x512_S480x512_d0 rfl 96 rfl (ix2 n j)
    (⟨n.val / 96, by omega⟩ : Fin 5) rfl (ix2 (⟨n.val % 96, by omega⟩ : Fin 96) j) rfl (fun b => match b with | ⟨0, _⟩ => fun h => absurd rfl h | ⟨1, _⟩ => fun _ => rfl)).trans ?_
  have hp : ∀ (h : Fin 5) (d : Fin 96), p h (ix2 d j) = rot f (fun e => c (ix2 e j)) (fun e => s (ix2 e j)) ⟨96 * (20 + h.val) + d.val, by omega⟩ := by
    intro h d
    have key : ∀ (h : Fin 5) (o : ℕ) (hs : S480x512.Slices ![o, 0] S96x512) (d : Fin 96), o = 96 * h.val →
        extractStridedSlice S96x512 ![o, 0] v hs (ix2 d j) = f ⟨96 * (20 + h.val) + d.val, by omega⟩ := by
      intro h o hs d ho
      subst ho
      refine (extractStridedSlice_apply _ v hs _ (ix2 (⟨96 * h.val + d.val, by omega⟩ : Fin 480) j) fun a => match a with | ⟨0, _⟩ => rfl | ⟨1, _⟩ => (Nat.zero_add _).symm).trans ((hv _).trans ?_)
      exact congrArg f (Fin.ext (by show 1920 + (96 * h.val + d.val) = 96 * (20 + h.val) + d.val; omega))
    match h with
    | 0 => exact rope_rot _ c s f j ⟨20, by omega⟩ (fun d => key 0 0 _ d rfl) d
    | 1 => exact rope_rot _ c s f j ⟨21, by omega⟩ (fun d => key 1 96 _ d rfl) d
    | 2 => exact rope_rot _ c s f j ⟨22, by omega⟩ (fun d => key 2 192 _ d rfl) d
    | 3 => exact rope_rot _ c s f j ⟨23, by omega⟩ (fun d => key 3 288 _ d rfl) d
    | 4 => exact rope_rot _ c s f j ⟨24, by omega⟩ (fun d => key 4 384 _ d rfl) d
  refine (hp _ _).trans (congrArg _ (Fin.ext ?_))
  show 96 * (20 + n.val / 96) + n.val % 96 = 1920 + n.val
  omega

theorem cut_apply (v : FVec Ideal S480x512 .f32) (b : Fin 15) (i : Fin 32) (j : Fin 512) :
    shapeCast S15x32x512 v shapeCasts_S480x512_S15x32x512 (ix3 b i j) = v (ix2 (⟨32 * b.val + i.val, by omega⟩ : Fin 480) j) := by
  refine shapeCast_apply _ _ _ _ ?_
  rw [Shape.rowMajor_val_two, Shape.rowMajor_val_three]
  show (32 * b.val + i.val) * 512 + j.val = (b.val * 32 + i.val) * 512 + j.val
  omega

theorem kmax_point (p : FVec Ideal S15x32x512 .f32) (hh) (hφ) (hacc) (b : Fin 15) (j : Fin 512) :
    multiReduction (F := Ideal) .maximumf [1] S15x512 (absf p) 0xFF800000#32 hh hφ hacc (ix2 b j) = amax fun i => p (ix3 b i j) := by
  refine (Ideal.multiReduction_maximumf_single (absf p) 0xFF800000#32 hh hφ hacc (ix2 b j)).trans ?_
  show (Finset.univ : Finset (Fin 32)).fold max (Ideal.ofBits .f32 0xFF800000#32) _ = _
  rw [c_bot]
  unfold amax Finset.sup
  refine Finset.fold_congr fun i _ => ?_
  have hl : hh.lift (ix2 b j) i = ix3 b i j := by
    funext a
    match a with
    | ⟨0, _⟩ => rfl
    | ⟨1, _⟩ => rfl
    | ⟨2, _⟩ => rfl
  exact congrArg (fun k => max (p k) (-p k)) hl

theorem maxima_apply (v : FVec Ideal S480x512 .f32) (b : Fin 15) (j : Fin 512) :
    maxima v (ix3 b (0 : Fin 1) j) = amax fun i : Fin 32 => v (ix2 (⟨32 * b.val + i.val, by omega⟩ : Fin 480) j) := by
  unfold maxima
  refine (shapeCast_apply _ _ _ (ix2 b j) ?_).trans ((kmax_point _ _ _ _ b j).trans (amax_congr fun i => cut_apply v b i j))
  rw [Shape.rowMajor_val_two, Shape.rowMajor_val_three]
  show b.val * 512 + j.val = (b.val * 1 + 0) * 512 + j.val
  omega

/-- The search's field on words. -/
theorem kexpo_apply (a : FVec Ideal S15x1x512 .f32) (j : S15x1x512.Idx) (ha : 0 ≤ a j) : kexpo a j = BitVec.ofNat 32 (expoN (a j)) := by
  have i0 := inv0 _ ha
  have i1 := stN_inv (a j) 128 _ (by omega) i0
  have i2 := stN_inv (a j) 64 _ (by omega) i1
  have i3 := stN_inv (a j) 32 _ (by omega) i2
  have i4 := stN_inv (a j) 16 _ (by omega) i3
  have i5 := stN_inv (a j) 8 _ (by omega) i4
  have i6 := stN_inv (a j) 4 _ (by omega) i5
  have i7 := stN_inv (a j) 2 _ (by omega) i6
  have st : ∀ (n e : ℕ) (w : IVec S15x1x512 32), Inv (a j) (2 * n) e → 0 < n → w j = BitVec.ofNat 32 e →
      kstep a (BitVec.ofNat 32 n) w j = BitVec.ofNat 32 (stN (a j) n e) := by
    intro n e w hi hn hw
    rw [← stepS (a j) e n (by have := hi.1; omega), ← hw]
    rfl
  have s1 := st 128 _ (broadcast S15x1x512 0#32) i0 (by omega) rfl
  have s2 := st 64 _ _ i1 (by omega) s1
  have s3 := st 32 _ _ i2 (by omega) s2
  have s4 := st 16 _ _ i3 (by omega) s3
  have s5 := st 8 _ _ i4 (by omega) s4
  have s6 := st 4 _ _ i5 (by omega) s5
  have s7 := st 2 _ _ i6 (by omega) s6
  exact st 1 _ _ i7 (by omega) s7

/-- The scale byte on words. -/
theorem kbyte_apply (a : FVec Ideal S15x1x512 .f32) (j : S15x1x512.Idx) (ha : 0 ≤ a j) : kbyte a j = BitVec.ofNat 32 (sbyte (a j)) := by
  have h1 := (expoN_inv _ ha).1
  have h2 := max_word ⟨expoN (a j), by omega⟩
  show Scalar.select (Ideal.cmp .oeq (a j) (Ideal.ofBits .f32 0x00000000#32)) 127#32 (IntOp.maxsi (kexpo a j - 8#32) 0#32) = _
  rw [kexpo_apply a j ha, h2, c_zero]
  unfold Scalar.select Ideal.cmp sbyte
  simp only [ofBool_eq_one]
  split <;> rfl

/-- The scale bytes of 480 rows at one element. -/
theorem byte_max (v : FVec Ideal S480x512 .f32) (f : Fin 480 → EReal) (j : Fin 512) (hv : ∀ n : Fin 480, v (ix2 n j) = f n) (b : Fin 15) :
    kbyte (maxima v) (ix3 b (0 : Fin 1) j) = BitVec.ofNat 32 (sbOf f b) := by
  have h := maxima_apply v b j
  rw [kbyte_apply _ _ (by rw [h]; exact amax_nonneg _), h]
  unfold sbOf
  exact congrArg (fun z => BitVec.ofNat 32 (sbyte z)) (amax_congr fun i => hv _)

theorem kbytes_apply (v : FVec Ideal S480x512 .f32) (f : Fin 480 → EReal) (j : Fin 512) (hv : ∀ n : Fin 480, v (ix2 n j) = f n) (b : Fin 15) :
    kbytes (kbyte (maxima v)) (ix2 b j) = BitVec.ofNat 32 (sbOf f b) := by
  unfold kbytes
  refine (shapeCast_apply _ _ _ (ix3 b (0 : Fin 1) j) ?_).trans (byte_max v f j hv b)
  rw [Shape.rowMajor_val_two, Shape.rowMajor_val_three]
  show (b.val * 1 + 0) * 512 + j.val = b.val * 512 + j.val
  omega

theorem sbOf_le (f : Fin 480 → EReal) (b : Fin 15) : sbOf f b ≤ 247 := sbyte_le _ (amax_nonneg _)

theorem clampE (x : FVec Ideal S15x32x512 .f32) (m : FVec Ideal S15x32x512 .f32) (j : S15x32x512.Idx) :
    (extf .f32 (truncf .fp8e4m3 (minimumf (broadcast S15x32x512 (Scalar.ofBits .f32 0x43E00000#32)) (maximumf (broadcast S15x32x512 (Scalar.ofBits .f32 0xC3E00000#32)) (mulf x m)))
      bitsLt_fp8e4m3_f32) bitsLt_fp8e4m3_f32 : FVec Ideal S15x32x512 .f32) j = min ((448 : ℝ) : EReal) (max ((-448 : ℝ) : EReal) (x j * m j)) := by
  show min (Ideal.ofBits .f32 0x43E00000#32) (max (Ideal.ofBits .f32 0xC3E00000#32) (x j * m j)) = _
  rw [c_448, c_neg448]

theorem spread_apply (v : FVec Ideal S15x1x512 .f32) (b : Fin 15) (i : Fin 32) (j : Fin 512) :
    broadcastTo S15x32x512 v broadcasts_S15x1x512_S15x32x512 (ix3 b i j) = v (ix3 b (0 : Fin 1) j) := broadcastTo_apply _ _ _ _ fun a => by
  match a with
  | ⟨0, _⟩ => rfl
  | ⟨1, _⟩ => rfl
  | ⟨2, _⟩ => rfl

theorem mult_point (b : IVec S15x1x512 32) (j : S15x1x512.Idx) (n : ℕ) (hn : n ≤ 247) (h : b j = BitVec.ofNat 32 n) :
    (bitcastToFloat .f32 (shli (subi (broadcast S15x1x512 254#32) b) (broadcast S15x1x512 23#32)) : FVec Ideal S15x1x512 .f32) j = thr (254 - n) := by
  show Ideal.ofBits .f32 (IntOp.shli .vector (254#32 - b j) 23#32) = _
  rw [h, show (254#32 - BitVec.ofNat 32 n) = BitVec.ofNat 32 (254 - n) from word_sub ⟨n, by omega⟩]
  exact ofBits_field _ (by omega)

/-- The codes of 480 rows at one element. -/
theorem kcodes_apply (v : FVec Ideal S480x512 .f32) (f : Fin 480 → EReal) (j : Fin 512) (hv : ∀ n : Fin 480, v (ix2 n j) = f n) (n : Fin 480) :
    kcodes v (kbyte (maxima v)) (ix2 n j) = codeOf f n := by
  unfold kcodes
  refine (shapeCast_apply _ _ _ (ix3 (⟨n.val / 32, by omega⟩ : Fin 15) (⟨n.val % 32, by omega⟩ : Fin 32) j) ?_).trans ?_
  · rw [Shape.rowMajor_val_two, Shape.rowMajor_val_three]
    show (n.val / 32 * 32 + n.val % 32) * 512 + j.val = n.val * 512 + j.val
    omega
  refine (clampE _ _ _).trans ?_
  rw [cut_apply, spread_apply, mult_point _ _ _ (sbOf_le f _) (byte_max v f j hv _), hv]
  unfold codeOf qcode
  have : (⟨32 * (n.val / 32) + n.val % 32, by omega⟩ : Fin 480) = n := Fin.ext (by simp only; omega)
  rw [this]

/-- A padded head at one element. -/
theorem padded_apply (t : FVec Ideal S96x512 .f32) (j : Fin 512) (d : Fin 128) :
    padded t (ix3 (0 : Fin 1) j d) = if h : d.val < 96 then t (ix2 (⟨d.val, h⟩ : Fin 96) j) else 0 := by
  unfold padded
  refine (shapeCast_apply _ _ _ (ix2 j d) ?_).trans ((transpose_ix2_apply (a := 128) (b := 512) _ _ j d).trans ?_)
  · rw [Shape.rowMajor_val_two, Shape.rowMajor_val_three]
    show j.val * 128 + d.val = (0 * 512 + j.val) * 128 + d.val
    omega
  by_cases hd : d.val < 96
  · rw [dif_pos hd]
    exact concatenate_pair_apply_left (t := S128x512) 0 _ _ concatenates_S96x512_S32x512_S128x512_d0 _ rfl (ix2 (⟨d.val, hd⟩ : Fin 96) j) fun b => match b with | ⟨0, _⟩ => rfl | ⟨1, _⟩ => rfl
  · rw [dif_neg hd]
    refine (concatenate_pair_apply_right (t := S128x512) 0 _ _ concatenates_S96x512_S32x512_S128x512_d0 _ rfl rfl (ix2 (⟨d.val - 96, by omega⟩ : Fin 32) j)
      (fun b => match b with | ⟨0, _⟩ => fun h => absurd rfl h | ⟨1, _⟩ => fun _ => rfl) (by show d.val - 96 + 96 = d.val; omega)).trans ?_
    show Ideal.ofBits .bf16 0x0000#16 = 0
    simp [Ideal.ofBits, Ideal.ieee]

end Cert.QkvKernelIdeal.Gen.Proj

end
-- ==== Proof.QkvOut.lean ====
module

public import proofs.«01_k».proof.Proof.QkvBlock
public import proofs.«01_k».proof.Proof.QkvWide

@[expose] public section

set_option maxRecDepth 65536

noncomputable section

/-! What a grid point of the projection stores, in the vocabulary of a block's heads: queries, keys, values, and the codes
and scale bytes of keys and values. -/

namespace Cert.QkvKernelIdeal.Gen.Proj

open Idealize.ShloMosaic Idealize.ShloMosaic.TcCoe Idealize.ShloMosaic.Tactic Idealize.SL.Sem Idealize.ShloMosaic.ValueIdx

variable {F : FTy → Type} [FloatOps F]

/-- Four heads of queries before rotation. -/
def mmq (w : FVec F S384x2048 .bf16) (v : FVec F S512x2048 .bf16) : FVec F S384x512 .f32 :=
  matmul dot_S384x2048_S512x2048_S384x512_1_1_0_0_n_n none w v (constant S384x512 .f32 0x00000000#32)

/-- The keys before rotation, or the values. -/
def mmk (w : FVec F S480x2048 .bf16) (v : FVec F S512x2048 .bf16) : FVec F S480x512 .f32 :=
  matmul dot_S480x2048_S512x2048_S480x512_1_1_0_0_n_n none w v (constant S480x512 .f32 0x00000000#32)

/-- Head 0 of four, rotated. -/
def qh0 (w : FVec F S384x2048 .bf16) (v : FVec F S512x2048 .bf16) (c s : FVec F S48x512 .f32) : FVec F S96x512 .bf16 :=
  truncf .bf16 (rope (extractStridedSlice S96x512 ![0, 0] (mmq w v) slices_S384x512_o0_0_S96x512) c s) bitsLt_bf16_f32

/-- Head 1 of four, rotated. -/
def qh1 (w : FVec F S384x2048 .bf16) (v : FVec F S512x2048 .bf16) (c s : FVec F S48x512 .f32) : FVec F S96x512 .bf16 :=
  truncf .bf16 (rope (extractStridedSlice S96x512 ![96, 0] (mmq w v) slices_S384x512_o96_0_S96x512) c s) bitsLt_bf16_f32

/-- Head 2 of four, rotated. -/
def qh2 (w : FVec F S384x2048 .bf16) (v : FVec F S512x2048 .bf16) (c s : FVec F S48x512 .f32) : FVec F S96x512 .bf16 :=
  truncf .bf16 (rope (extractStridedSlice S96x512 ![192, 0] (mmq w v) slices_S384x512_o192_0_S96x512) c s) bitsLt_bf16_f32

/-- Head 3 of four, rotated. -/
def qh3 (w : FVec F S384x2048 .bf16) (v : FVec F S512x2048 .bf16) (c s : FVec F S48x512 .f32) : FVec F S96x512 .bf16 :=
  truncf .bf16 (rope (extractStridedSlice S96x512 ![288, 0] (mmq w v) slices_S384x512_o288_0_S96x512) c s) bitsLt_bf16_f32

variable (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (x0 : Vec F S512x2048 .bf16) (x1 : Vec F S1x2048 .f32) (x2 : Vec F S48x512 .f32) (x3 : Vec F S48x512 .f32) (x4 : Vec F S2880x2048 .bf16)

/-- The stores of the queries. -/
theorem pieces7 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.1 =
    [⟨Rect.unit ![1824, 0] S96x512.size inb_S1920x512_S96x512_1824_0, qh3 (View.readAt (Elt F) arg5.view (Rect.unit (s := S2880x2048) ![1536, 0] S384x2048.size inb_S2880x2048_S384x2048_1536_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1728, 0] S96x512.size inb_S1920x512_S96x512_1728_0, qh2 (View.readAt (Elt F) arg5.view (Rect.unit (s := S2880x2048) ![1536, 0] S384x2048.size inb_S2880x2048_S384x2048_1536_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1632, 0] S96x512.size inb_S1920x512_S96x512_1632_0, qh1 (View.readAt (Elt F) arg5.view (Rect.unit (s := S2880x2048) ![1536, 0] S384x2048.size inb_S2880x2048_S384x2048_1536_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1536, 0] S96x512.size inb_S1920x512_S96x512_1536_0, qh0 (View.readAt (Elt F) arg5.view (Rect.unit (s := S2880x2048) ![1536, 0] S384x2048.size inb_S2880x2048_S384x2048_1536_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1440, 0] S96x512.size inb_S1920x512_S96x512_1440_0, qh3 (View.readAt (Elt F) arg5.view (Rect.unit (s := S2880x2048) ![1152, 0] S384x2048.size inb_S2880x2048_S384x2048_1152_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1344, 0] S96x512.size inb_S1920x512_S96x512_1344_0, qh2 (View.readAt (Elt F) arg5.view (Rect.unit (s := S2880x2048) ![1152, 0] S384x2048.size inb_S2880x2048_S384x2048_1152_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1248, 0] S96x512.size inb_S1920x512_S96x512_1248_0, qh1 (View.readAt (Elt F) arg5.view (Rect.unit (s := S2880x2048) ![1152, 0] S384x2048.size inb_S2880x2048_S384x2048_1152_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1152, 0] S96x512.size inb_S1920x512_S96x512_1152_0, qh0 (View.readAt (Elt F) arg5.view (Rect.unit (s := S2880x2048) ![1152, 0] S384x2048.size inb_S2880x2048_S384x2048_1152_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![1056, 0] S96x512.size inb_S1920x512_S96x512_1056_0, qh3 (View.readAt (Elt F) arg5.view (Rect.unit (s := S2880x2048) ![768, 0] S384x2048.size inb_S2880x2048_S384x2048_768_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![960, 0] S96x512.size inb_S1920x512_S96x512_960_0, qh2 (View.readAt (Elt F) arg5.view (Rect.unit (s := S2880x2048) ![768, 0] S384x2048.size inb_S2880x2048_S384x2048_768_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![864, 0] S96x512.size inb_S1920x512_S96x512_864_0, qh1 (View.readAt (Elt F) arg5.view (Rect.unit (s := S2880x2048) ![768, 0] S384x2048.size inb_S2880x2048_S384x2048_768_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![768, 0] S96x512.size inb_S1920x512_S96x512_768_0, qh0 (View.readAt (Elt F) arg5.view (Rect.unit (s := S2880x2048) ![768, 0] S384x2048.size inb_S2880x2048_S384x2048_768_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![672, 0] S96x512.size inb_S1920x512_S96x512_672_0, qh3 (View.readAt (Elt F) arg5.view (Rect.unit (s := S2880x2048) ![384, 0] S384x2048.size inb_S2880x2048_S384x2048_384_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![576, 0] S96x512.size inb_S1920x512_S96x512_576_0, qh2 (View.readAt (Elt F) arg5.view (Rect.unit (s := S2880x2048) ![384, 0] S384x2048.size inb_S2880x2048_S384x2048_384_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![480, 0] S96x512.size inb_S1920x512_S96x512_480_0, qh1 (View.readAt (Elt F) arg5.view (Rect.unit (s := S2880x2048) ![384, 0] S384x2048.size inb_S2880x2048_S384x2048_384_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![384, 0] S96x512.size inb_S1920x512_S96x512_384_0, qh0 (View.readAt (Elt F) arg5.view (Rect.unit (s := S2880x2048) ![384, 0] S384x2048.size inb_S2880x2048_S384x2048_384_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![288, 0] S96x512.size inb_S1920x512_S96x512_288_0, qh3 (View.readAt (Elt F) arg5.view (Rect.unit (s := S2880x2048) ![0, 0] S384x2048.size inb_S2880x2048_S384x2048_0_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![192, 0] S96x512.size inb_S1920x512_S96x512_192_0, qh2 (View.readAt (Elt F) arg5.view (Rect.unit (s := S2880x2048) ![0, 0] S384x2048.size inb_S2880x2048_S384x2048_0_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![96, 0] S96x512.size inb_S1920x512_S96x512_96_0, qh1 (View.readAt (Elt F) arg5.view (Rect.unit (s := S2880x2048) ![0, 0] S384x2048.size inb_S2880x2048_S384x2048_0_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩,
     ⟨Rect.unit ![0, 0] S96x512.size inb_S1920x512_S96x512_0_0, qh0 (View.readAt (Elt F) arg5.view (Rect.unit (s := S2880x2048) ![0, 0] S384x2048.size inb_S2880x2048_S384x2048_0_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.r_1 (F := F) c arg3 harg3 x2) (kernelRun0_A.sl.r_2 (F := F) c arg4 harg4 x3)⟩] := by
  sl_kernel_rfl

/-- The stores of the keys. -/
theorem pieces8 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.1 =
    [⟨Rect.unit ![4, 0, 0] S1x512x128.size inb_S5x512x128_S1x512x128_4_0_0, padded (extractStridedSlice S96x512 ![384, 0] (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) slices_S480x512_o384_0_S96x512)⟩,
     ⟨Rect.unit ![3, 0, 0] S1x512x128.size inb_S5x512x128_S1x512x128_3_0_0, padded (extractStridedSlice S96x512 ![288, 0] (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) slices_S480x512_o288_0_S96x512)⟩,
     ⟨Rect.unit ![2, 0, 0] S1x512x128.size inb_S5x512x128_S1x512x128_2_0_0, padded (extractStridedSlice S96x512 ![192, 0] (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) slices_S480x512_o192_0_S96x512)⟩,
     ⟨Rect.unit ![1, 0, 0] S1x512x128.size inb_S5x512x128_S1x512x128_1_0_0, padded (extractStridedSlice S96x512 ![96, 0] (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) slices_S480x512_o96_0_S96x512)⟩,
     ⟨Rect.unit ![0, 0, 0] S1x512x128.size inb_S5x512x128_S1x512x128_0_0_0, padded (extractStridedSlice S96x512 ![0, 0] (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) slices_S480x512_o0_0_S96x512)⟩] := by
  sl_kernel_rfl

/-- The store of the values. -/
theorem pieces9 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.1 =
    [⟨Rect.unit ![0, 0] S480x512.size inb_S480x512_S480x512_0_0, truncf .bf16 (mmk (View.readAt (Elt F) arg5.view (Rect.unit (s := S2880x2048) ![2400, 0] S480x2048.size inb_S2880x2048_S480x2048_2400_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) bitsLt_bf16_f32⟩] := by
  sl_kernel_rfl

/-- The store of the codes of keys and values. -/
theorem pieces10 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.2.1 =
    [⟨Rect.unit ![0, 0] S512x960.size inb_S512x960_S512x960_0_0, k0_pay2 (F := F) (kcodes (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3)) (kbyte (maxima (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3))))) (kcodes (mmk (View.readAt (Elt F) arg5.view (Rect.unit (s := S2880x2048) ![2400, 0] S480x2048.size inb_S2880x2048_S480x2048_2400_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kbyte (maxima (mmk (View.readAt (Elt F) arg5.view (Rect.unit (s := S2880x2048) ![2400, 0] S480x2048.size inb_S2880x2048_S480x2048_2400_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)))))⟩] := by
  sl_kernel_rfl

/-- The store of the scale bytes of keys and values. -/
theorem pieces11 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.2.2.1 =
    [⟨Rect.unit ![0, 0] S512x32.size inb_S512x32_S512x32_0_0, k0_pay3 (F := F) (kbytes (kbyte (maxima (keys (mmk (View.readAt (Elt F) arg5.view (Rect.unit (s := S2880x2048) ![1920, 0] S480x2048.size inb_S2880x2048_S480x2048_1920_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)) (kernelRun0_A.sl.r_1 (F := F) c arg3 harg3 x2) (kernelRun0_A.sl.r_2 (F := F) c arg4 harg4 x3))))) (kbytes (kbyte (maxima (mmk (View.readAt (Elt F) arg5.view (Rect.unit (s := S2880x2048) ![2400, 0] S480x2048.size inb_S2880x2048_S480x2048_2400_0).toLoadRect (harg5.unread x4)) (kernelRun0_A.sl.r (F := F) c i arg1 harg1 arg2 harg2 arg3 harg3 arg4 harg4 arg5 harg5 arg6 harg6 arg7 harg7 arg8 harg8 arg9 harg9 arg10 harg10 arg11 harg11 arg12 harg12 arg13 harg13 x0 x1)))))⟩] := by
  sl_kernel_rfl

end Cert.QkvKernelIdeal.Gen.Proj

end
-- ==== Proof.QkvPoint.lean ====
module

public import proofs.«01_k».proof.Proof.QkvOut
public import proofs.«01_k».proof.Proof.RefValue

@[expose] public section

set_option maxRecDepth 65536

noncomputable section

/-! What a grid point of the projection leaves, element by element: a block's queries, keys, values, and the codes and
scale bytes of its keys and values. -/

namespace Cert.QkvKernelIdeal.Gen.Proj

open Idealize.ShloMosaic Idealize.ShloMosaic.TcCoe Idealize.ShloMosaic.Tactic Idealize.SL.Sem Idealize.ShloMosaic.ValueIdx
open Cert.KernelIdeal.Gen.Strip (c_zero sbyte sbyte_le)
open Cert.OutKernelIdeal.Gen.Wide (z2 codeB scaleB valB)

theorem mmq_apply (w : FVec Ideal S384x2048 .bf16) (v : FVec Ideal S512x2048 .bf16) (n : Fin 384) (j : Fin 512) :
    mmq w v (ix2 n j) = ∑ k : Fin 2048, w (ix2 n k) * v (ix2 j k) := by
  unfold mmq
  refine (Ideal.matmul_transposedRhs_apply (M := 384) (K := 2048) (N := 512) none w v _ n j).trans ?_
  show Ideal.ofBits .f32 0x00000000#32 + _ = _
  rw [c_zero, zero_add]

theorem mmk_apply (w : FVec Ideal S480x2048 .bf16) (v : FVec Ideal S512x2048 .bf16) (n : Fin 480) (j : Fin 512) :
    mmk w v (ix2 n j) = ∑ k : Fin 2048, w (ix2 n k) * v (ix2 j k) := by
  unfold mmk
  refine (Ideal.matmul_transposedRhs_apply (M := 480) (K := 2048) (N := 512) none w v _ n j).trans ?_
  show Ideal.ofBits .f32 0x00000000#32 + _ = _
  rw [c_zero, zero_add]

/-- A load of a whole memref holding `x` reads `x`. -/
theorem rd {sp : Space} {s : Shape} {e : EltTy} (M : Memref sig .tc sp s e) (h : M.IsWhole) (x : Vec Ideal s e) {off : Fin s.rank → ℕ} (hz : off = fun _ => 0)
    (inb : ∀ a, off a + s.size a ≤ s.size a) : View.readAt (Elt Ideal) M.view (Rect.unit off s.size inb).toLoadRect (h.unread x) = x := by
  rw [View.readAt_eq_ld, h.read_unread, View.ld_unit_zero hz]

/-- The codes of keys and of values and 64 rows of zeros, stacked. -/
def three (a b : FVec Ideal S480x512 .f32) : FVec Ideal S1024x512 .bf16 :=
  concatenate S1024x512 0 [⟨S480x512, truncf .bf16 a bitsLt_bf16_f32⟩, ⟨S480x512, truncf .bf16 b bitsLt_bf16_f32⟩, ⟨S64x512, broadcast S64x512 (Scalar.ofBits .bf16 0x0000#16)⟩]
    concatenates_S480x512_S480x512_S64x512_S1024x512_d0

theorem pay2_three (a b : FVec Ideal S480x512 .f32) (j : Fin 512) (n : Fin 960) :
    k0_pay2 (F := Ideal) a b (ix2 j n) = three a b (ix2 (⟨n.val, by omega⟩ : Fin 1024) j) := by
  show extractStridedSlice S512x960 ![0, 0] (transpose S512x1024 [1, 0] (three a b) transposes_S1024x512_p1_0_S512x1024) slices_S512x1024_o0_0_S512x960 (ix2 j n) = _
  have e := extractStridedSlice_apply ![0, 0] (transpose S512x1024 [1, 0] (three a b) transposes_S1024x512_p1_0_S512x1024) slices_S512x1024_o0_0_S512x960 (ix2 j n) (ix2 j (⟨n.val, by omega⟩ : Fin 1024))
    (fun c => match c with | ⟨0, _⟩ => (Nat.zero_add _).symm | ⟨1, _⟩ => (Nat.zero_add _).symm)
  exact e.trans (transpose_ix2_apply (a := 1024) (b := 512) (three a b) _ j (⟨n.val, by omega⟩ : Fin 1024))

theorem pay2_key (a b : FVec Ideal S480x512 .f32) (j : Fin 512) (n : Fin 480) :
    k0_pay2 (F := Ideal) a b (ix2 j (⟨n.val, by omega⟩ : Fin 960)) = a (ix2 n j) := by
  refine (pay2_three a b j _).trans ?_
  unfold three
  exact concatenate_apply_piece (t := S1024x512) 0 _ _ (ix2 (⟨n.val, by omega⟩ : Fin 1024) j) 0 (by exact Nat.succ_pos _) S480x512 _ rfl rfl 0 rfl (ix2 n j)
    (fun c => match c with | ⟨0, _⟩ => fun h => absurd rfl h | ⟨1, _⟩ => fun _ => rfl) (Nat.zero_add _)

theorem pay2_value (a b : FVec Ideal S480x512 .f32) (j : Fin 512) (n : Fin 480) :
    k0_pay2 (F := Ideal) a b (ix2 j (⟨480 + n.val, by omega⟩ : Fin 960)) = b (ix2 n j) := by
  refine (pay2_three a b j _).trans ?_
  unfold three
  exact concatenate_apply_piece (t := S1024x512) 0 _ _ (ix2 (⟨480 + n.val, by omega⟩ : Fin 1024) j) 1 (by exact Nat.succ_lt_succ (Nat.succ_pos _)) S480x512 _ rfl rfl 480 rfl (ix2 n j)
    (fun c => match c with | ⟨0, _⟩ => fun h => absurd rfl h | ⟨1, _⟩ => fun _ => rfl) rfl

theorem clamped (n : ℕ) (h : n ≤ 247) : Ideal.fptosi 32 ((((n : ℤ) : ℝ) : ℝ) : EReal) = BitVec.ofNat 32 n := by
  unfold Ideal.fptosi
  have : Ideal.toIntClamped (-(2 ^ (32 - 1) : Nat)) ((2 ^ (32 - 1) : Nat) - 1) ((((n : ℤ) : ℝ) : ℝ) : EReal) = (n : ℤ) := by
    show max _ (min _ (if _ then _ else _)) = _
    rw [Int.floor_intCast, Int.ceil_intCast, ite_self]
    norm_num
    omega
  rw [this]; simp

/-- A small integer converted and converted back. -/
theorem back (n : ℕ) (h : n ≤ 247) : Ideal.fptosi 32 ((((BitVec.ofNat 32 n).toInt : ℝ)) : EReal) = BitVec.ofNat 32 n := by
  have e : (BitVec.ofNat 32 n).toInt = (n : ℤ) := by
    have h2 : (BitVec.ofNat 32 n).toNat = n := by rw [BitVec.toNat_ofNat]; omega
    rw [BitVec.toInt_eq_toNat_of_lt (by rw [h2]; omega), h2]
  rw [e]
  exact clamped n h

theorem back0 : Ideal.fptosi 32 (Ideal.ofBits .f32 0x00000000#32) = 0#32 := by
  have h := clamped 0 (by omega)
  rw [c_zero]
  simpa using h

/-- The scale bytes of keys and of values and 98 rows of zeros, stacked. -/
def threeS (a b : IVec S15x512 32) : FVec Ideal S128x512 .f32 :=
  concatenate S128x512 0 [⟨S15x512, sitofp .f32 a⟩, ⟨S15x512, sitofp .f32 b⟩, ⟨S98x512, broadcast S98x512 (Scalar.ofBits .f32 0x00000000#32)⟩]
    concatenates_S15x512_S15x512_S98x512_S128x512_d0

theorem pay3_three (a b : IVec S15x512 32) (j : Fin 512) (n : Fin 32) :
    k0_pay3 (F := Ideal) a b (ix2 j n) = BitVec.setWidth 8 (Ideal.fptosi 32 (threeS a b (ix2 (⟨n.val, by omega⟩ : Fin 128) j))) := by
  show BitVec.setWidth 8 (extractStridedSlice S512x32 ![0, 0] (fptosi (F := Ideal) 32 (transpose S512x128 [1, 0] (threeS a b) transposes_S128x512_p1_0_S512x128)) slices_S512x128_o0_0_S512x32 (ix2 j n)) = _
  have e := extractStridedSlice_apply ![0, 0] (fptosi (F := Ideal) 32 (transpose S512x128 [1, 0] (threeS a b) transposes_S128x512_p1_0_S512x128)) slices_S512x128_o0_0_S512x32 (ix2 j n) (ix2 j (⟨n.val, by omega⟩ : Fin 128))
    (fun c => match c with | ⟨0, _⟩ => (Nat.zero_add _).symm | ⟨1, _⟩ => (Nat.zero_add _).symm)
  exact congrArg (BitVec.setWidth 8) (e.trans (congrArg (Ideal.fptosi 32) (transpose_ix2_apply (a := 128) (b := 512) (threeS a b) _ j (⟨n.val, by omega⟩ : Fin 128))))

theorem pay3_key (a b : IVec S15x512 32) (j : Fin 512) (n : Fin 15) (s : ℕ) (hs : s ≤ 247) (h : a (ix2 n j) = BitVec.ofNat 32 s) :
    k0_pay3 (F := Ideal) a b (ix2 j (⟨n.val, by omega⟩ : Fin 32)) = BitVec.ofNat 8 s := by
  have e : threeS a b (ix2 (⟨n.val, by omega⟩ : Fin 128) j) = (sitofp .f32 a : FVec Ideal S15x512 .f32) (ix2 n j) := by
    unfold threeS
    exact concatenate_apply_piece (t := S128x512) 0 _ _ (ix2 (⟨n.val, by omega⟩ : Fin 128) j) 0 (by exact Nat.succ_pos _) S15x512 _ rfl rfl 0 rfl (ix2 n j)
      (fun c => match c with | ⟨0, _⟩ => fun h => absurd rfl h | ⟨1, _⟩ => fun _ => rfl) (Nat.zero_add _)
  refine (pay3_three a b j _).trans ?_
  rw [e]
  show BitVec.setWidth 8 (Ideal.fptosi 32 (((a (ix2 n j)).toInt : ℝ) : EReal)) = _
  rw [h, back s hs]
  exact Cert.ReferenceIdeal.Gen.Ref.byte_of_word s

theorem pay3_value (a b : IVec S15x512 32) (j : Fin 512) (n : Fin 15) (s : ℕ) (hs : s ≤ 247) (h : b (ix2 n j) = BitVec.ofNat 32 s) :
    k0_pay3 (F := Ideal) a b (ix2 j (⟨15 + n.val, by omega⟩ : Fin 32)) = BitVec.ofNat 8 s := by
  have e : threeS a b (ix2 (⟨15 + n.val, by omega⟩ : Fin 128) j) = (sitofp .f32 b : FVec Ideal S15x512 .f32) (ix2 n j) := by
    unfold threeS
    exact concatenate_apply_piece (t := S128x512) 0 _ _ (ix2 (⟨15 + n.val, by omega⟩ : Fin 128) j) 1 (by exact Nat.succ_lt_succ (Nat.succ_pos _)) S15x512 _ rfl rfl 15 rfl (ix2 n j)
      (fun c => match c with | ⟨0, _⟩ => fun h => absurd rfl h | ⟨1, _⟩ => fun _ => rfl) rfl
  refine (pay3_three a b j _).trans ?_
  rw [e]
  show BitVec.setWidth 8 (Ideal.fptosi 32 (((b (ix2 n j)).toInt : ℝ) : EReal)) = _
  rw [h, back s hs]
  exact Cert.ReferenceIdeal.Gen.Ref.byte_of_word s

theorem pay3_zero (a b : IVec S15x512 32) (j : Fin 512) (n : Fin 2) :
    k0_pay3 (F := Ideal) a b (ix2 j (⟨30 + n.val, by omega⟩ : Fin 32)) = 0#8 := by
  have e : threeS a b (ix2 (⟨30 + n.val, by omega⟩ : Fin 128) j) = (broadcast S98x512 (Scalar.ofBits .f32 0x00000000#32) : FVec Ideal S98x512 .f32) (ix2 (⟨n.val, by omega⟩ : Fin 98) j) := by
    unfold threeS
    exact concatenate_apply_piece (t := S128x512) 0 _ _ (ix2 (⟨30 + n.val, by omega⟩ : Fin 128) j) 2 (by exact Nat.succ_lt_succ (Nat.succ_lt_succ (Nat.succ_pos _))) S98x512 _ rfl rfl 30 rfl (ix2 (⟨n.val, by omega⟩ : Fin 98) j)
      (fun c => match c with | ⟨0, _⟩ => fun h => absurd rfl h | ⟨1, _⟩ => fun _ => rfl) rfl
  refine (pay3_three a b j _).trans ?_
  rw [e]
  show BitVec.setWidth 8 (Ideal.fptosi 32 (Ideal.ofBits .f32 0x00000000#32)) = _
  rw [back0]
  rfl

theorem qh0_apply (w : FVec Ideal S384x2048 .bf16) (v : FVec Ideal S512x2048 .bf16) (c s : FVec Ideal S48x512 .f32) (f : Fin 2880 → EReal) (j : Fin 512) (g : Fin 5)
    (hf : ∀ n : Fin 384, mmq w v (ix2 n j) = f ⟨384 * g.val + n.val, by omega⟩) (d : Fin 96) :
    qh0 w v c s (ix2 d j) = rot f (fun e => c (ix2 e j)) (fun e => s (ix2 e j)) ⟨96 * (4 * g.val + 0) + d.val, by omega⟩ := by
  unfold qh0
  refine rope_rot _ c s f j (⟨4 * g.val + 0, by omega⟩ : Fin 25) (fun d => ?_) d
  refine (extractStridedSlice_apply _ _ _ _ (ix2 (⟨0 + d.val, by omega⟩ : Fin 384) j) fun c => match c with | ⟨0, _⟩ => rfl | ⟨1, _⟩ => (Nat.zero_add _).symm).trans ?_
  refine (hf _).trans (congrArg f (Fin.ext ?_))
  show 384 * g.val + (0 + d.val) = 96 * (4 * g.val + 0) + d.val
  omega

theorem qh1_apply (w : FVec Ideal S384x2048 .bf16) (v : FVec Ideal S512x2048 .bf16) (c s : FVec Ideal S48x512 .f32) (f : Fin 2880 → EReal) (j : Fin 512) (g : Fin 5)
    (hf : ∀ n : Fin 384, mmq w v (ix2 n j) = f ⟨384 * g.val + n.val, by omega⟩) (d : Fin 96) :
    qh1 w v c s (ix2 d j) = rot f (fun e => c (ix2 e j)) (fun e => s (ix2 e j)) ⟨96 * (4 * g.val + 1) + d.val, by omega⟩ := by
  unfold qh1
  refine rope_rot _ c s f j (⟨4 * g.val + 1, by omega⟩ : Fin 25) (fun d => ?_) d
  refine (extractStridedSlice_apply _ _ _ _ (ix2 (⟨96 + d.val, by omega⟩ : Fin 384) j) fun c => match c with | ⟨0, _⟩ => rfl | ⟨1, _⟩ => (Nat.zero_add _).symm).trans ?_
  refine (hf _).trans (congrArg f (Fin.ext ?_))
  show 384 * g.val + (96 + d.val) = 96 * (4 * g.val + 1) + d.val
  omega

theorem qh2_apply (w : FVec Ideal S384x2048 .bf16) (v : FVec Ideal S512x2048 .bf16) (c s : FVec Ideal S48x512 .f32) (f : Fin 2880 → EReal) (j : Fin 512) (g : Fin 5)
    (hf : ∀ n : Fin 384, mmq w v (ix2 n j) = f ⟨384 * g.val + n.val, by omega⟩) (d : Fin 96) :
    qh2 w v c s (ix2 d j) = rot f (fun e => c (ix2 e j)) (fun e => s (ix2 e j)) ⟨96 * (4 * g.val + 2) + d.val, by omega⟩ := by
  unfold qh2
  refine rope_rot _ c s f j (⟨4 * g.val + 2, by omega⟩ : Fin 25) (fun d => ?_) d
  refine (extractStridedSlice_apply _ _ _ _ (ix2 (⟨192 + d.val, by omega⟩ : Fin 384) j) fun c => match c with | ⟨0, _⟩ => rfl | ⟨1, _⟩ => (Nat.zero_add _).symm).trans ?_
  refine (hf _).trans (congrArg f (Fin.ext ?_))
  show 384 * g.val + (192 + d.val) = 96 * (4 * g.val + 2) + d.val
  omega

theorem qh3_apply (w : FVec Ideal S384x2048 .bf16) (v : FVec Ideal S512x2048 .bf16) (c s : FVec Ideal S48x512 .f32) (f : Fin 2880 → EReal) (j : Fin 512) (g : Fin 5)
    (hf : ∀ n : Fin 384, mmq w v (ix2 n j) = f ⟨384 * g.val + n.val, by omega⟩) (d : Fin 96) :
    qh3 w v c s (ix2 d j) = rot f (fun e => c (ix2 e j)) (fun e => s (ix2 e j)) ⟨96 * (4 * g.val + 3) + d.val, by omega⟩ := by
  unfold qh3
  refine rope_rot _ c s f j (⟨4 * g.val + 3, by omega⟩ : Fin 25) (fun d => ?_) d
  refine (extractStridedSlice_apply _ _ _ _ (ix2 (⟨288 + d.val, by omega⟩ : Fin 384) j) fun c => match c with | ⟨0, _⟩ => rfl | ⟨1, _⟩ => (Nat.zero_add _).symm).trans ?_
  refine (hf _).trans (congrArg f (Fin.ext ?_))
  show 384 * g.val + (288 + d.val) = 96 * (4 * g.val + 3) + d.val
  omega

theorem khead0 (t : FVec Ideal S480x512 .f32) (d : Fin 96) (j : Fin 512) :
    extractStridedSlice S96x512 ![0, 0] t slices_S480x512_o0_0_S96x512 (ix2 d j) = t (ix2 (⟨96 * 0 + d.val, by omega⟩ : Fin 480) j) :=
  extractStridedSlice_apply _ t _ _ _ fun a => match a with | ⟨0, _⟩ => rfl | ⟨1, _⟩ => (Nat.zero_add _).symm

theorem khead1 (t : FVec Ideal S480x512 .f32) (d : Fin 96) (j : Fin 512) :
    extractStridedSlice S96x512 ![96, 0] t slices_S480x512_o96_0_S96x512 (ix2 d j) = t (ix2 (⟨96 * 1 + d.val, by omega⟩ : Fin 480) j) :=
  extractStridedSlice_apply _ t _ _ _ fun a => match a with | ⟨0, _⟩ => rfl | ⟨1, _⟩ => (Nat.zero_add _).symm

theorem khead2 (t : FVec Ideal S480x512 .f32) (d : Fin 96) (j : Fin 512) :
    extractStridedSlice S96x512 ![192, 0] t slices_S480x512_o192_0_S96x512 (ix2 d j) = t (ix2 (⟨96 * 2 + d.val, by omega⟩ : Fin 480) j) :=
  extractStridedSlice_apply _ t _ _ _ fun a => match a with | ⟨0, _⟩ => rfl | ⟨1, _⟩ => (Nat.zero_add _).symm

theorem khead3 (t : FVec Ideal S480x512 .f32) (d : Fin 96) (j : Fin 512) :
    extractStridedSlice S96x512 ![288, 0] t slices_S480x512_o288_0_S96x512 (ix2 d j) = t (ix2 (⟨96 * 3 + d.val, by omega⟩ : Fin 480) j) :=
  extractStridedSlice_apply _ t _ _ _ fun a => match a with | ⟨0, _⟩ => rfl | ⟨1, _⟩ => (Nat.zero_add _).symm

theorem khead4 (t : FVec Ideal S480x512 .f32) (d : Fin 96) (j : Fin 512) :
    extractStridedSlice S96x512 ![384, 0] t slices_S480x512_o384_0_S96x512 (ix2 d j) = t (ix2 (⟨96 * 4 + d.val, by omega⟩ : Fin 480) j) :=
  extractStridedSlice_apply _ t _ _ _ fun a => match a with | ⟨0, _⟩ => rfl | ⟨1, _⟩ => (Nat.zero_add _).symm

/-! ## A block's model -/

section Block

variable (x0 : Vec Ideal S512x2048 .bf16) (x1 : Vec Ideal S1x2048 .f32) (x2 : Vec Ideal S48x512 .f32) (x3 : Vec Ideal S48x512 .f32) (x4 : Vec Ideal S2880x2048 .bf16)

/-- Entry `n` of the projection of the block's token `j`. -/
def pj (j : Fin 512) (n : Fin 2880) : EReal := ∑ k : Fin 2048, x4 (ix2 n k) * valB x0 x1 (ix2 j k)

/-- The rotated queries and keys of the block's token `j`. -/
def qkb (j : Fin 512) (n : Fin 2400) : EReal := rot (pj x0 x1 x4 j) (fun e => x2 (ix2 e j)) (fun e => x3 (ix2 e j)) n

/-- The block's queries. -/
def qB : Vec Ideal S1920x512 .bf16 := fun y => qkb x0 x1 x2 x3 x4 (y 1) ⟨(y 0).val, by have h : (y 0).val < 1920 := (y 0).isLt; omega⟩

/-- The block's keys, by head, padded. -/
def kB : Vec Ideal S5x512x128 .bf16 := fun y =>
  if h : (y 2).val < 96 then qkb x0 x1 x2 x3 x4 (y 1) ⟨1920 + (96 * (y 0).val + (y 2).val), by have h : (y 0).val < 5 := (y 0).isLt; omega⟩ else 0

theorem kB_apply (H : Fin 5) (j : Fin 512) (d : Fin 128) :
    kB x0 x1 x2 x3 x4 (ix3 H j d) = if h : d.val < 96 then qkb x0 x1 x2 x3 x4 j ⟨1920 + (96 * H.val + d.val), by omega⟩ else 0 := rfl

theorem ldq (arg5 : Memref sig .tc .vmem S2880x2048 .bf16) (harg5 : arg5.IsWhole) (g : Fin 5) (off : Fin S2880x2048.rank → ℕ) (inb : ∀ a, off a + S384x2048.size a ≤ S2880x2048.size a)
    (h : off = ![384 * g.val, 0]) (n : Fin 384) (k : Fin 2048) :
    (View.readAt (Elt Ideal) arg5.view (Rect.unit (s := S2880x2048) off S384x2048.size inb).toLoadRect (harg5.unread x4) : FVec Ideal S384x2048 .bf16) (ix2 n k)
      = x4 (ix2 (⟨384 * g.val + n.val, by omega⟩ : Fin 2880) k) := by
  subst h
  rw [View.readAt_eq_ld, harg5.read_unread]
  refine congrArg x4 (funext fun a => ?_)
  match a with
  | ⟨0, _⟩ => exact Fin.ext (show 384 * g.val + 1 * n.val = 384 * g.val + n.val by omega)
  | ⟨1, _⟩ => exact Fin.ext (show 0 + 1 * k.val = k.val by omega)

theorem ldk (arg5 : Memref sig .tc .vmem S2880x2048 .bf16) (harg5 : arg5.IsWhole) (b : ℕ) (hb : b + 480 ≤ 2880) (off : Fin S2880x2048.rank → ℕ) (inb : ∀ a, off a + S480x2048.size a ≤ S2880x2048.size a)
    (h : off = ![b, 0]) (n : Fin 480) (k : Fin 2048) :
    (View.readAt (Elt Ideal) arg5.view (Rect.unit (s := S2880x2048) off S480x2048.size inb).toLoadRect (harg5.unread x4) : FVec Ideal S480x2048 .bf16) (ix2 n k)
      = x4 (ix2 (⟨b + n.val, by omega⟩ : Fin 2880) k) := by
  subst h
  rw [View.readAt_eq_ld, harg5.read_unread]
  refine congrArg x4 (funext fun a => ?_)
  match a with
  | ⟨0, _⟩ => exact Fin.ext (show b + 1 * n.val = b + n.val by omega)
  | ⟨1, _⟩ => exact Fin.ext (show 0 + 1 * k.val = k.val by omega)

theorem emb_q (J : Fin 20) (off : Fin S1920x512.rank → ℕ) (inb : ∀ a, off a + S96x512.size a ≤ S1920x512.size a) (h : off = ![96 * J.val, 0]) (d : Fin 96) (j : Fin 512) :
    (Rect.unit (s := S1920x512) off S96x512.size inb).emb (ix2 d j) = ix2 (⟨96 * J.val + d.val, by omega⟩ : Fin 1920) j := by
  subst h
  funext a
  match a with
  | ⟨0, _⟩ => exact Fin.ext (show 96 * J.val + 1 * d.val = 96 * J.val + d.val by omega)
  | ⟨1, _⟩ => exact Fin.ext (show 0 + 1 * j.val = j.val by omega)

theorem emb_k (J : Fin 5) (off : Fin S5x512x128.rank → ℕ) (inb : ∀ a, off a + S1x512x128.size a ≤ S5x512x128.size a) (h : off = ![J.val, 0, 0]) (j : Fin 512) (d : Fin 128) :
    (Rect.unit (s := S5x512x128) off S1x512x128.size inb).emb (ix3 (0 : Fin 1) j d) = ix3 J j d := by
  subst h
  funext a
  match a with
  | ⟨0, _⟩ => exact Fin.ext (show J.val + 1 * 0 = J.val by omega)
  | ⟨1, _⟩ => exact Fin.ext (show 0 + 1 * j.val = j.val by omega)
  | ⟨2, _⟩ => exact Fin.ext (show 0 + 1 * d.val = d.val by omega)

theorem q_piece0 (arg5 : Memref sig .tc .vmem S2880x2048 .bf16) (harg5 : arg5.IsWhole) (g : Fin 5) (woff : Fin S2880x2048.rank → ℕ) (winb : ∀ a, woff a + S384x2048.size a ≤ S2880x2048.size a)
    (hwo : woff = ![384 * g.val, 0]) (off : Fin S1920x512.rank → ℕ) (inb : ∀ a, off a + S96x512.size a ≤ S1920x512.size a) (ho : off = ![96 * (4 * g.val + 0), 0]) (y : S96x512.Idx) :
    qh0 (View.readAt (Elt Ideal) arg5.view (Rect.unit (s := S2880x2048) woff S384x2048.size winb).toLoadRect (harg5.unread x4) : FVec Ideal S384x2048 .bf16) (valB x0 x1) x2 x3 y
      = qB x0 x1 x2 x3 x4 ((Rect.unit (s := S1920x512) off S96x512.size inb).emb y) := by
  obtain ⟨d, j, rfl⟩ : ∃ (d : Fin 96) (j : Fin 512), y = ix2 d j := ⟨y 0, y 1, eq_ix2 y⟩
  refine (qh0_apply _ _ x2 x3 (pj x0 x1 x4 j) j g (fun n => (mmq_apply _ _ n j).trans (Finset.sum_congr rfl fun k _ => congrArg (· * valB x0 x1 (ix2 j k)) (ldq x4 arg5 harg5 g woff winb hwo n k))) d).trans ?_
  rw [emb_q (⟨4 * g.val + 0, by omega⟩ : Fin 20) off inb ho]
  rfl

theorem q_piece1 (arg5 : Memref sig .tc .vmem S2880x2048 .bf16) (harg5 : arg5.IsWhole) (g : Fin 5) (woff : Fin S2880x2048.rank → ℕ) (winb : ∀ a, woff a + S384x2048.size a ≤ S2880x2048.size a)
    (hwo : woff = ![384 * g.val, 0]) (off : Fin S1920x512.rank → ℕ) (inb : ∀ a, off a + S96x512.size a ≤ S1920x512.size a) (ho : off = ![96 * (4 * g.val + 1), 0]) (y : S96x512.Idx) :
    qh1 (View.readAt (Elt Ideal) arg5.view (Rect.unit (s := S2880x2048) woff S384x2048.size winb).toLoadRect (harg5.unread x4) : FVec Ideal S384x2048 .bf16) (valB x0 x1) x2 x3 y
      = qB x0 x1 x2 x3 x4 ((Rect.unit (s := S1920x512) off S96x512.size inb).emb y) := by
  obtain ⟨d, j, rfl⟩ : ∃ (d : Fin 96) (j : Fin 512), y = ix2 d j := ⟨y 0, y 1, eq_ix2 y⟩
  refine (qh1_apply _ _ x2 x3 (pj x0 x1 x4 j) j g (fun n => (mmq_apply _ _ n j).trans (Finset.sum_congr rfl fun k _ => congrArg (· * valB x0 x1 (ix2 j k)) (ldq x4 arg5 harg5 g woff winb hwo n k))) d).trans ?_
  rw [emb_q (⟨4 * g.val + 1, by omega⟩ : Fin 20) off inb ho]
  rfl

theorem q_piece2 (arg5 : Memref sig .tc .vmem S2880x2048 .bf16) (harg5 : arg5.IsWhole) (g : Fin 5) (woff : Fin S2880x2048.rank → ℕ) (winb : ∀ a, woff a + S384x2048.size a ≤ S2880x2048.size a)
    (hwo : woff = ![384 * g.val, 0]) (off : Fin S1920x512.rank → ℕ) (inb : ∀ a, off a + S96x512.size a ≤ S1920x512.size a) (ho : off = ![96 * (4 * g.val + 2), 0]) (y : S96x512.Idx) :
    qh2 (View.readAt (Elt Ideal) arg5.view (Rect.unit (s := S2880x2048) woff S384x2048.size winb).toLoadRect (harg5.unread x4) : FVec Ideal S384x2048 .bf16) (valB x0 x1) x2 x3 y
      = qB x0 x1 x2 x3 x4 ((Rect.unit (s := S1920x512) off S96x512.size inb).emb y) := by
  obtain ⟨d, j, rfl⟩ : ∃ (d : Fin 96) (j : Fin 512), y = ix2 d j := ⟨y 0, y 1, eq_ix2 y⟩
  refine (qh2_apply _ _ x2 x3 (pj x0 x1 x4 j) j g (fun n => (mmq_apply _ _ n j).trans (Finset.sum_congr rfl fun k _ => congrArg (· * valB x0 x1 (ix2 j k)) (ldq x4 arg5 harg5 g woff winb hwo n k))) d).trans ?_
  rw [emb_q (⟨4 * g.val + 2, by omega⟩ : Fin 20) off inb ho]
  rfl

theorem q_piece3 (arg5 : Memref sig .tc .vmem S2880x2048 .bf16) (harg5 : arg5.IsWhole) (g : Fin 5) (woff : Fin S2880x2048.rank → ℕ) (winb : ∀ a, woff a + S384x2048.size a ≤ S2880x2048.size a)
    (hwo : woff = ![384 * g.val, 0]) (off : Fin S1920x512.rank → ℕ) (inb : ∀ a, off a + S96x512.size a ≤ S1920x512.size a) (ho : off = ![96 * (4 * g.val + 3), 0]) (y : S96x512.Idx) :
    qh3 (View.readAt (Elt Ideal) arg5.view (Rect.unit (s := S2880x2048) woff S384x2048.size winb).toLoadRect (harg5.unread x4) : FVec Ideal S384x2048 .bf16) (valB x0 x1) x2 x3 y
      = qB x0 x1 x2 x3 x4 ((Rect.unit (s := S1920x512) off S96x512.size inb).emb y) := by
  obtain ⟨d, j, rfl⟩ : ∃ (d : Fin 96) (j : Fin 512), y = ix2 d j := ⟨y 0, y 1, eq_ix2 y⟩
  refine (qh3_apply _ _ x2 x3 (pj x0 x1 x4 j) j g (fun n => (mmq_apply _ _ n j).trans (Finset.sum_congr rfl fun k _ => congrArg (· * valB x0 x1 (ix2 j k)) (ldq x4 arg5 harg5 g woff winb hwo n k))) d).trans ?_
  rw [emb_q (⟨4 * g.val + 3, by omega⟩ : Fin 20) off inb ho]
  rfl

end Block

variable (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S48x512 .f32) (harg3 : arg3.IsWhole) (arg4 : Memref sig .tc .vmem S48x512 .f32) (harg4 : arg4.IsWhole) (arg5 : Memref sig .tc .vmem S2880x2048 .bf16) (harg5 : arg5.IsWhole) (arg6 : Memref sig .tc .vmem S512x2048 .fp8e4m3) (harg6 : arg6.IsWhole) (arg7 : Memref sig .tc .vmem S512x64 .i8) (harg7 : arg7.IsWhole) (arg8 : Memref sig .tc .vmem S1920x512 .bf16) (harg8 : arg8.IsWhole) (arg9 : Memref sig .tc .vmem S5x512x128 .bf16) (harg9 : arg9.IsWhole) (arg10 : Memref sig .tc .vmem S480x512 .bf16) (harg10 : arg10.IsWhole) (arg11 : Memref sig .tc .vmem S512x960 .fp8e4m3) (harg11 : arg11.IsWhole) (arg12 : Memref sig .tc .vmem S512x32 .i8) (harg12 : arg12.IsWhole) (arg13 : Memref sig .tc .vmem S512x2048 .bf16) (harg13 : arg13.IsWhole) (x0 : Vec Ideal S512x2048 .bf16) (x1 : Vec Ideal S1x2048 .f32) (x2 : Vec Ideal S48x512 .f32) (x3 : Vec Ideal S48x512 .f32) (x4 : Vec Ideal S2880x2048 .bf16)

/-- The decoded values the loop leaves in scratch. -/
theorem vals_r : (kernelRun0_A.sl.r (F := Ideal) c i arg1 harg1 arg2 harg2 arg3 harg3 arg4 harg4 arg5 harg5 arg6 harg6 arg7 harg7 arg8 harg8 arg9 harg9 arg10 harg10 arg11 harg11 arg12 harg12 arg13 harg13 x0 x1) = valB x0 x1 := by
  unfold kernelRun0_A.sl.r View.readCov
  refine funext fun y => ?_
  refine (congrFun (View.readAt_eq_ld (Val := Elt Ideal) ..) y).trans ?_
  refine (congrFun (View.ld_unit_zero (S := S512x2048) z2 _ _) y).trans ?_
  exact (congrFun (View.read_writes_junk_eq_canon _ _) y).trans (congrFun (loop_vals x0 x1 Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg2.read_unread x1) (harg1.read_unread x0)) y)

theorem cos_r : (kernelRun0_A.sl.r_1 (F := Ideal) c arg3 harg3 x2) = x2 := rd arg3 harg3 x2 z2 _

theorem sin_r : (kernelRun0_A.sl.r_2 (F := Ideal) c arg4 harg4 x3) = x3 := rd arg4 harg4 x3 z2 _

/-- A point's codes. -/
theorem codes_A : out0_A_5 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 = codeB x0 x1 :=
  (View.read_writes_junk_eq_canon _ _).trans (loop_codes x0 x1 Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg2.read_unread x1) (harg1.read_unread x0))

/-- A point's scale bytes. -/
theorem scales_A : out0_A_6 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 = scaleB x0 x1 :=
  (View.read_writes_junk_eq_canon _ _).trans (loop_scales x0 x1 Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg2.read_unread x1) (harg1.read_unread x0))

/-- A point's queries. -/
theorem q_A : out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 = qB x0 x1 x2 x3 x4 := by
  refine (View.read_writes_junk_eq_canon _ _).trans (funext fun y => View.canon_apply_of_pieces (qB x0 x1 x2 x3 x4) _ ?_ y (cover0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 y))
  intro p hp
  rw [pieces7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r] at hp
  simp only [List.mem_cons, List.not_mem_nil, or_false] at hp
  rcases hp with rfl | rfl | rfl | rfl | rfl | rfl | rfl | rfl | rfl | rfl | rfl | rfl | rfl | rfl | rfl | rfl | rfl | rfl | rfl | rfl
  · exact fun y => q_piece3 x0 x1 x2 x3 x4 arg5 harg5 4 _ inb_S2880x2048_S384x2048_1536_0 rfl _ inb_S1920x512_S96x512_1824_0 rfl y
  · exact fun y => q_piece2 x0 x1 x2 x3 x4 arg5 harg5 4 _ inb_S2880x2048_S384x2048_1536_0 rfl _ inb_S1920x512_S96x512_1728_0 rfl y
  · exact fun y => q_piece1 x0 x1 x2 x3 x4 arg5 harg5 4 _ inb_S2880x2048_S384x2048_1536_0 rfl _ inb_S1920x512_S96x512_1632_0 rfl y
  · exact fun y => q_piece0 x0 x1 x2 x3 x4 arg5 harg5 4 _ inb_S2880x2048_S384x2048_1536_0 rfl _ inb_S1920x512_S96x512_1536_0 rfl y
  · exact fun y => q_piece3 x0 x1 x2 x3 x4 arg5 harg5 3 _ inb_S2880x2048_S384x2048_1152_0 rfl _ inb_S1920x512_S96x512_1440_0 rfl y
  · exact fun y => q_piece2 x0 x1 x2 x3 x4 arg5 harg5 3 _ inb_S2880x2048_S384x2048_1152_0 rfl _ inb_S1920x512_S96x512_1344_0 rfl y
  · exact fun y => q_piece1 x0 x1 x2 x3 x4 arg5 harg5 3 _ inb_S2880x2048_S384x2048_1152_0 rfl _ inb_S1920x512_S96x512_1248_0 rfl y
  · exact fun y => q_piece0 x0 x1 x2 x3 x4 arg5 harg5 3 _ inb_S2880x2048_S384x2048_1152_0 rfl _ inb_S1920x512_S96x512_1152_0 rfl y
  · exact fun y => q_piece3 x0 x1 x2 x3 x4 arg5 harg5 2 _ inb_S2880x2048_S384x2048_768_0 rfl _ inb_S1920x512_S96x512_1056_0 rfl y
  · exact fun y => q_piece2 x0 x1 x2 x3 x4 arg5 harg5 2 _ inb_S2880x2048_S384x2048_768_0 rfl _ inb_S1920x512_S96x512_960_0 rfl y
  · exact fun y => q_piece1 x0 x1 x2 x3 x4 arg5 harg5 2 _ inb_S2880x2048_S384x2048_768_0 rfl _ inb_S1920x512_S96x512_864_0 rfl y
  · exact fun y => q_piece0 x0 x1 x2 x3 x4 arg5 harg5 2 _ inb_S2880x2048_S384x2048_768_0 rfl _ inb_S1920x512_S96x512_768_0 rfl y
  · exact fun y => q_piece3 x0 x1 x2 x3 x4 arg5 harg5 1 _ inb_S2880x2048_S384x2048_384_0 rfl _ inb_S1920x512_S96x512_672_0 rfl y
  · exact fun y => q_piece2 x0 x1 x2 x3 x4 arg5 harg5 1 _ inb_S2880x2048_S384x2048_384_0 rfl _ inb_S1920x512_S96x512_576_0 rfl y
  · exact fun y => q_piece1 x0 x1 x2 x3 x4 arg5 harg5 1 _ inb_S2880x2048_S384x2048_384_0 rfl _ inb_S1920x512_S96x512_480_0 rfl y
  · exact fun y => q_piece0 x0 x1 x2 x3 x4 arg5 harg5 1 _ inb_S2880x2048_S384x2048_384_0 rfl _ inb_S1920x512_S96x512_384_0 rfl y
  · exact fun y => q_piece3 x0 x1 x2 x3 x4 arg5 harg5 0 _ inb_S2880x2048_S384x2048_0_0 rfl _ inb_S1920x512_S96x512_288_0 rfl y
  · exact fun y => q_piece2 x0 x1 x2 x3 x4 arg5 harg5 0 _ inb_S2880x2048_S384x2048_0_0 rfl _ inb_S1920x512_S96x512_192_0 rfl y
  · exact fun y => q_piece1 x0 x1 x2 x3 x4 arg5 harg5 0 _ inb_S2880x2048_S384x2048_0_0 rfl _ inb_S1920x512_S96x512_96_0 rfl y
  · exact fun y => q_piece0 x0 x1 x2 x3 x4 arg5 harg5 0 _ inb_S2880x2048_S384x2048_0_0 rfl _ inb_S1920x512_S96x512_0_0 rfl y

/-- A point's keys before rotation, or its values. -/
theorem mm_r (b : ℕ) (hb : b + 480 ≤ 2880) (off : Fin S2880x2048.rank → ℕ) (inb : ∀ a, off a + S480x2048.size a ≤ S2880x2048.size a) (h : off = ![b, 0]) (n : Fin 480) (j : Fin 512) :
    mmk (View.readAt (Elt Ideal) arg5.view (Rect.unit (s := S2880x2048) off S480x2048.size inb).toLoadRect (harg5.unread x4) : FVec Ideal S480x2048 .bf16) (valB x0 x1) (ix2 n j)
      = pj x0 x1 x4 j ⟨b + n.val, by omega⟩ :=
  (mmk_apply _ _ n j).trans (Finset.sum_congr rfl fun k _ => congrArg (· * valB x0 x1 (ix2 j k)) (ldk x4 arg5 harg5 b hb off inb h n k))

/-- A point's keys. -/
theorem keys_r (n : Fin 480) (j : Fin 512) :
    keys (mmk (View.readAt (Elt Ideal) arg5.view (Rect.unit (s := S2880x2048) ![1920, 0] S480x2048.size inb_S2880x2048_S480x2048_1920_0).toLoadRect (harg5.unread x4)) (valB x0 x1)) x2 x3 (ix2 n j) = qkb x0 x1 x2 x3 x4 j ⟨1920 + n.val, by omega⟩ :=
  keys_apply _ x2 x3 (pj x0 x1 x4 j) j (fun n => mm_r arg5 harg5 x0 x1 x4 1920 (by omega) _ inb_S2880x2048_S480x2048_1920_0 rfl n j) n

/-- A point's keys by head. -/
theorem k_A : out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 = kB x0 x1 x2 x3 x4 := by
  refine (View.read_writes_junk_eq_canon _ _).trans (funext fun y => View.canon_apply_of_pieces (kB x0 x1 x2 x3 x4) _ ?_ y (cover0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 y))
  intro p hp
  rw [pieces8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r] at hp
  have key : ∀ (H : Fin 5) (t : FVec Ideal S96x512 .f32) (ht : ∀ (d : Fin 96) (j : Fin 512), t (ix2 d j) = qkb x0 x1 x2 x3 x4 j ⟨1920 + (96 * H.val + d.val), by omega⟩)
      (off : Fin S5x512x128.rank → ℕ) (inb : ∀ a, off a + S1x512x128.size a ≤ S5x512x128.size a) (ho : off = ![H.val, 0, 0]) (y : S1x512x128.Idx),
      padded t y = kB x0 x1 x2 x3 x4 ((Rect.unit (s := S5x512x128) off S1x512x128.size inb).emb y) := by
    intro H t ht off inb ho y
    obtain ⟨j, d, rfl⟩ : ∃ (j : Fin 512) (d : Fin 128), y = ix3 (0 : Fin 1) j d := ⟨y 1, y 2, (eq_ix3 y).trans (congrArg (fun z : Fin 1 => ix3 z (y 1) (y 2)) (Subsingleton.elim (α := Fin 1) (y 0) 0))⟩
    refine (padded_apply t j d).trans ?_
    rw [emb_k H off inb ho]
    by_cases hd : d.val < 96
    · rw [dif_pos hd, ht, kB_apply, dif_pos hd]
    · rw [dif_neg hd, kB_apply, dif_neg hd]
  simp only [List.mem_cons, List.not_mem_nil, or_false] at hp
  rcases hp with rfl | rfl | rfl | rfl | rfl
  · exact fun y => key 4 _ (fun d j => (khead4 _ d j).trans (keys_r arg5 harg5 x0 x1 x2 x3 x4 _ j)) _ inb_S5x512x128_S1x512x128_4_0_0 rfl y
  · exact fun y => key 3 _ (fun d j => (khead3 _ d j).trans (keys_r arg5 harg5 x0 x1 x2 x3 x4 _ j)) _ inb_S5x512x128_S1x512x128_3_0_0 rfl y
  · exact fun y => key 2 _ (fun d j => (khead2 _ d j).trans (keys_r arg5 harg5 x0 x1 x2 x3 x4 _ j)) _ inb_S5x512x128_S1x512x128_2_0_0 rfl y
  · exact fun y => key 1 _ (fun d j => (khead1 _ d j).trans (keys_r arg5 harg5 x0 x1 x2 x3 x4 _ j)) _ inb_S5x512x128_S1x512x128_1_0_0 rfl y
  · exact fun y => key 0 _ (fun d j => (khead0 _ d j).trans (keys_r arg5 harg5 x0 x1 x2 x3 x4 _ j)) _ inb_S5x512x128_S1x512x128_0_0_0 rfl y

/-- A point's values. -/
theorem v_A (n : Fin 480) (j : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 n j) = pj x0 x1 x4 j ⟨2400 + n.val, by omega⟩ := by
  refine (congrFun (View.read_writes_junk_eq_canon _ _) _).trans ?_
  rw [pieces9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1]
  exact (congrFun (View.canon_unit_zero z2 _ _) (ix2 n j)).trans (mm_r arg5 harg5 x0 x1 x4 2400 (by omega) _ inb_S2880x2048_S480x2048_2400_0 rfl n j)

/-- A point's codes of keys. -/
theorem kvc_A_key (j : Fin 512) (n : Fin 480) : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 j (⟨n.val, by omega⟩ : Fin 960))
    = codeOf (fun n => qkb x0 x1 x2 x3 x4 j ⟨1920 + n.val, by omega⟩) n := by
  refine (congrFun (View.read_writes_junk_eq_canon _ _) _).trans ?_
  rw [pieces10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r]
  exact (congrFun (View.canon_unit_zero z2 _ _) _).trans ((pay2_key _ _ j n).trans (kcodes_apply _ _ j (fun n => keys_r arg5 harg5 x0 x1 x2 x3 x4 n j) n))

/-- A point's codes of values. -/
theorem kvc_A_value (j : Fin 512) (n : Fin 480) : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 j (⟨480 + n.val, by omega⟩ : Fin 960))
    = codeOf (fun n => pj x0 x1 x4 j ⟨2400 + n.val, by omega⟩) n := by
  refine (congrFun (View.read_writes_junk_eq_canon _ _) _).trans ?_
  rw [pieces10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r]
  exact (congrFun (View.canon_unit_zero z2 _ _) _).trans ((pay2_value _ _ j n).trans (kcodes_apply _ _ j (fun n => mm_r arg5 harg5 x0 x1 x4 2400 (by omega) _ inb_S2880x2048_S480x2048_2400_0 rfl n j) n))

/-- A point's scale bytes of keys. -/
theorem kvs_A_key (j : Fin 512) (n : Fin 15) : out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 j (⟨n.val, by omega⟩ : Fin 32))
    = BitVec.ofNat 8 (sbOf (fun n => qkb x0 x1 x2 x3 x4 j ⟨1920 + n.val, by omega⟩) n) := by
  refine (congrFun (View.read_writes_junk_eq_canon _ _) _).trans ?_
  rw [pieces11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r]
  exact (congrFun (View.canon_unit_zero z2 _ _) _).trans (pay3_key _ _ j n _ (sbOf_le _ _) (kbytes_apply _ _ j (fun n => keys_r arg5 harg5 x0 x1 x2 x3 x4 n j) n))

/-- A point's scale bytes of values. -/
theorem kvs_A_value (j : Fin 512) (n : Fin 15) : out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 j (⟨15 + n.val, by omega⟩ : Fin 32))
    = BitVec.ofNat 8 (sbOf (fun n => pj x0 x1 x4 j ⟨2400 + n.val, by omega⟩) n) := by
  refine (congrFun (View.read_writes_junk_eq_canon _ _) _).trans ?_
  rw [pieces11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4, vals_r c i arg1 harg1 arg2 harg2 arg3 harg3 arg4 harg4 arg5 harg5 arg6 harg6 arg7 harg7 arg8 harg8 arg9 harg9 arg10 harg10 arg11 harg11 arg12 harg12 arg13 harg13 x0 x1, cos_r, sin_r]
  exact (congrFun (View.canon_unit_zero z2 _ _) _).trans (pay3_value _ _ j n _ (sbOf_le _ _) (kbytes_apply _ _ j (fun n => mm_r arg5 harg5 x0 x1 x4 2400 (by omega) _ inb_S2880x2048_S480x2048_2400_0 rfl n j) n))

/-- The last two scale bytes are zero. -/
theorem kvs_A_zero (j : Fin 512) (n : Fin 2) : out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 j (⟨30 + n.val, by omega⟩ : Fin 32)) = 0#8 := by
  refine (congrFun (View.read_writes_junk_eq_canon _ _) _).trans ?_
  rw [pieces11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4]
  exact (congrFun (View.canon_unit_zero z2 _ _) _).trans (pay3_zero _ _ j n)

end Cert.QkvKernelIdeal.Gen.Proj

end
-- ==== Proof.QkvFold.lean ====
module

public import proofs.«01_k».proof.Proof.QkvPoint
public import proofs.«01_k».proof.Proof.QkvModel
public import proofs.«01_k».proof.Proof.Gen.QkvKernelIdeal.Value

@[expose] public section

set_option maxRecDepth 8192

noncomputable section

/-! The projection's seven result arrays, element by element. -/

namespace Cert.QkvKernelIdeal.Gen.Proj

open Idealize.ShloMosaic Idealize.ShloMosaic.TcCoe Idealize.ShloMosaic.Tactic Idealize.SL.Sem Idealize.ShloMosaic.ValueIdx
open Cert.QkvKernelIdeal.Value
open Cert.KernelIdeal.Gen.Strip (Arr amax amax_congr sbyte qcode qval)
open Cert.OutKernelIdeal.Gen.Wide (codeB scaleB valB nt mx nrm nrm_congr)

variable (m : (ℓ : Loc nD τ sig) → Buf (Elt Ideal) ℓ)

abbrev A0 (c : Dev nD) : Arr 12288 2048 := m ((c : Thread nD τ).loc main_arg0)
abbrev A1 (c : Dev nD) : Arr 1 2048 := m ((c : Thread nD τ).loc main_arg1)
abbrev A2 (c : Dev nD) : Arr 48 12288 := m ((c : Thread nD τ).loc main_arg2)
abbrev A3 (c : Dev nD) : Arr 48 12288 := m ((c : Thread nD τ).loc main_arg3)
abbrev A4 (c : Dev nD) : Arr 2880 2048 := m ((c : Thread nD τ).loc main_arg4)

theorem t_lt (t : Fin cfg0.N) : t.val < 24 := lt_of_lt_of_eq t.isLt N_0

/-- The row of the arrays that row `R` of point `t`'s block is. -/
def row (t : Fin cfg0.N) (R : Fin 512) : Fin 12288 := ⟨512 * t.val + R.val, by have := t_lt t; omega⟩
theorem in0 : ∀ t : Fin cfg0.N, win0_0.index t (0 : Fin 2) = t.val ∧ win0_0.index t (1 : Fin 2) = 0 := (by decide +kernel : ∀ t : Fin grid0.N, _)
theorem in1 : ∀ t : Fin cfg0.N, win0_1.index t (0 : Fin 2) = 0 ∧ win0_1.index t (1 : Fin 2) = 0 := (by decide +kernel : ∀ t : Fin grid0.N, _)
theorem in2 : ∀ t : Fin cfg0.N, win0_2.index t (0 : Fin 2) = 0 ∧ win0_2.index t (1 : Fin 2) = t.val := (by decide +kernel : ∀ t : Fin grid0.N, _)
theorem in3 : ∀ t : Fin cfg0.N, win0_3.index t (0 : Fin 2) = 0 ∧ win0_3.index t (1 : Fin 2) = t.val := (by decide +kernel : ∀ t : Fin grid0.N, _)
theorem in4 : ∀ t : Fin cfg0.N, win0_4.index t (0 : Fin 2) = 0 ∧ win0_4.index t (1 : Fin 2) = 0 := (by decide +kernel : ∀ t : Fin grid0.N, _)
theorem in5 : ∀ t : Fin cfg0.N, win0_5.index t (0 : Fin 2) = t.val ∧ win0_5.index t (1 : Fin 2) = 0 := (by decide +kernel : ∀ t : Fin grid0.N, _)
theorem in6 : ∀ t : Fin cfg0.N, win0_6.index t (0 : Fin 2) = t.val ∧ win0_6.index t (1 : Fin 2) = 0 := (by decide +kernel : ∀ t : Fin grid0.N, _)
theorem in7 : ∀ t : Fin cfg0.N, win0_7.index t (0 : Fin 2) = 0 ∧ win0_7.index t (1 : Fin 2) = t.val := (by decide +kernel : ∀ t : Fin grid0.N, _)
theorem in8 : ∀ t : Fin cfg0.N, win0_8.index t (0 : Fin 3) = 0 ∧ win0_8.index t (1 : Fin 3) = t.val ∧ win0_8.index t (2 : Fin 3) = 0 := (by decide +kernel : ∀ t : Fin grid0.N, _)
theorem in9 : ∀ t : Fin cfg0.N, win0_9.index t (0 : Fin 2) = 0 ∧ win0_9.index t (1 : Fin 2) = t.val := (by decide +kernel : ∀ t : Fin grid0.N, _)
theorem in10 : ∀ t : Fin cfg0.N, win0_10.index t (0 : Fin 2) = t.val ∧ win0_10.index t (1 : Fin 2) = 0 := (by decide +kernel : ∀ t : Fin grid0.N, _)
theorem in11 : ∀ t : Fin cfg0.N, win0_11.index t (0 : Fin 2) = t.val ∧ win0_11.index t (1 : Fin 2) = 0 := (by decide +kernel : ∀ t : Fin grid0.N, _)
theorem fl5 : ∀ t : Fin cfg0.N, (cfg0.win 5).flush t = true := (by decide +kernel : ∀ t : Fin grid0.N, _)
theorem fl6 : ∀ t : Fin cfg0.N, (cfg0.win 6).flush t = true := (by decide +kernel : ∀ t : Fin grid0.N, _)
theorem fl7 : ∀ t : Fin cfg0.N, (cfg0.win 7).flush t = true := (by decide +kernel : ∀ t : Fin grid0.N, _)
theorem fl8 : ∀ t : Fin cfg0.N, (cfg0.win 8).flush t = true := (by decide +kernel : ∀ t : Fin grid0.N, _)
theorem fl9 : ∀ t : Fin cfg0.N, (cfg0.win 9).flush t = true := (by decide +kernel : ∀ t : Fin grid0.N, _)
theorem fl10 : ∀ t : Fin cfg0.N, (cfg0.win 10).flush t = true := (by decide +kernel : ∀ t : Fin grid0.N, _)
theorem fl11 : ∀ t : Fin cfg0.N, (cfg0.win 11).flush t = true := (by decide +kernel : ∀ t : Fin grid0.N, _)

theorem blk0 (c : Dev nD) (t : Fin cfg0.N) (R : Fin 512) (k : Fin 2048) :
    (iblk m c 0 t : Vec Ideal S512x2048 .bf16) (ix2 R k) = A0 m c (ix2 (row t R) k) := by
  obtain ⟨e0, e1⟩ := in0 t
  unfold iblk
  rw [View.read_apply]
  show V m c main_arg0 _ = A0 m c _
  unfold V
  refine congrArg (m ((c : Thread nD τ).loc main_arg0)) ?_
  funext a
  apply Fin.ext
  match a with
  | ⟨0, _⟩ => show win0_0.index t 0 * 512 + 1 * R.val = 512 * t.val + R.val; rw [e0]; omega
  | ⟨1, _⟩ => show win0_0.index t 1 * 2048 + 1 * k.val = k.val; rw [e1]; omega

theorem blk1 (c : Dev nD) (t : Fin cfg0.N) (R : Fin 1) (k : Fin 2048) :
    (iblk m c 1 t : Vec Ideal S1x2048 .f32) (ix2 R k) = A1 m c (ix2 R k) := by
  obtain ⟨e0, e1⟩ := in1 t
  unfold iblk
  rw [View.read_apply]
  show V m c main_arg1 _ = A1 m c _
  unfold V
  refine congrArg (m ((c : Thread nD τ).loc main_arg1)) ?_
  funext a
  apply Fin.ext
  match a with
  | ⟨0, _⟩ => show win0_1.index t 0 * 1 + 1 * R.val = R.val; rw [e0]; omega
  | ⟨1, _⟩ => show win0_1.index t 1 * 2048 + 1 * k.val = k.val; rw [e1]; omega

theorem blk2 (c : Dev nD) (t : Fin cfg0.N) (R : Fin 48) (k : Fin 512) :
    (iblk m c 2 t : Vec Ideal S48x512 .f32) (ix2 R k) = A2 m c (ix2 R (row t k)) := by
  obtain ⟨e0, e1⟩ := in2 t
  unfold iblk
  rw [View.read_apply]
  show V m c main_arg2 _ = A2 m c _
  unfold V
  refine congrArg (m ((c : Thread nD τ).loc main_arg2)) ?_
  funext a
  apply Fin.ext
  match a with
  | ⟨0, _⟩ => show win0_2.index t 0 * 48 + 1 * R.val = R.val; rw [e0]; omega
  | ⟨1, _⟩ => show win0_2.index t 1 * 512 + 1 * k.val = 512 * t.val + k.val; rw [e1]; omega

theorem blk3 (c : Dev nD) (t : Fin cfg0.N) (R : Fin 48) (k : Fin 512) :
    (iblk m c 3 t : Vec Ideal S48x512 .f32) (ix2 R k) = A3 m c (ix2 R (row t k)) := by
  obtain ⟨e0, e1⟩ := in3 t
  unfold iblk
  rw [View.read_apply]
  show V m c main_arg3 _ = A3 m c _
  unfold V
  refine congrArg (m ((c : Thread nD τ).loc main_arg3)) ?_
  funext a
  apply Fin.ext
  match a with
  | ⟨0, _⟩ => show win0_3.index t 0 * 48 + 1 * R.val = R.val; rw [e0]; omega
  | ⟨1, _⟩ => show win0_3.index t 1 * 512 + 1 * k.val = 512 * t.val + k.val; rw [e1]; omega

theorem blk4 (c : Dev nD) (t : Fin cfg0.N) (R : Fin 2880) (k : Fin 2048) :
    (iblk m c 4 t : Vec Ideal S2880x2048 .bf16) (ix2 R k) = A4 m c (ix2 R k) := by
  obtain ⟨e0, e1⟩ := in4 t
  unfold iblk
  rw [View.read_apply]
  show V m c main_arg4 _ = A4 m c _
  unfold V
  refine congrArg (m ((c : Thread nD τ).loc main_arg4)) ?_
  funext a
  apply Fin.ext
  match a with
  | ⟨0, _⟩ => show win0_4.index t 0 * 2880 + 1 * R.val = R.val; rw [e0]; omega
  | ⟨1, _⟩ => show win0_4.index t 1 * 2048 + 1 * k.val = k.val; rw [e1]; omega

/-! ## A point's block in the arrays -/

abbrev B0 (c : Dev nD) (t : Fin cfg0.N) : Vec Ideal S512x2048 .bf16 := iblk m c 0 t
abbrev B1 (c : Dev nD) (t : Fin cfg0.N) : Vec Ideal S1x2048 .f32 := iblk m c 1 t
abbrev B2 (c : Dev nD) (t : Fin cfg0.N) : Vec Ideal S48x512 .f32 := iblk m c 2 t
abbrev B3 (c : Dev nD) (t : Fin cfg0.N) : Vec Ideal S48x512 .f32 := iblk m c 3 t
abbrev B4 (c : Dev nD) (t : Fin cfg0.N) : Vec Ideal S2880x2048 .bf16 := iblk m c 4 t

theorem nt_nact (c : Dev nD) (t : Fin cfg0.N) (R : Fin 512) (C : Fin 2048) :
    nt (B0 m c t) (B1 m c t) R C = nact (A0 m c) (A1 m c) (row t R) C :=
  nrm_congr (fun k => blk0 m c t R k) (blk1 m c t 0 C) C

theorem mx_sb (c : Dev nD) (t : Fin cfg0.N) (R : Fin 512) (C : Fin 2048) (h) :
    sbyte (mx (B0 m c t) (B1 m c t) R C) = sb (A0 m c) (A1 m c) (row t R) ⟨C.val / 32, h⟩ :=
  congrArg sbyte (amax_congr fun i => nt_nact m c t R _)

/-- The codes of point `t`. -/
theorem codeB_code (c : Dev nD) (t : Fin cfg0.N) (R : Fin 512) (C : Fin 2048) :
    codeB (B0 m c t) (B1 m c t) (ix2 R C) = code (A0 m c) (A1 m c) (row t R) C :=
  congrArg₂ qcode (nt_nact m c t R C) (mx_sb m c t R C _)

/-- The decoded values of point `t`. -/
theorem valB_dec (c : Dev nD) (t : Fin cfg0.N) (R : Fin 512) (C : Fin 2048) :
    valB (B0 m c t) (B1 m c t) (ix2 R C) = dec (A0 m c) (A1 m c) (row t R) C :=
  congrArg₂ qval (nt_nact m c t R C) (mx_sb m c t R C _)

/-- The scale bytes of point `t`. -/
theorem scaleB_sb (c : Dev nD) (t : Fin cfg0.N) (R : Fin 512) (l : Fin 64) :
    scaleB (B0 m c t) (B1 m c t) (ix2 R l) = BitVec.ofNat 8 (sb (A0 m c) (A1 m c) (row t R) l) :=
  congrArg (fun z => BitVec.ofNat 8 (sbyte z)) (amax_congr fun i => nt_nact m c t R _)

/-- The projected entries of point `t`. -/
theorem pj_proj (c : Dev nD) (t : Fin cfg0.N) (R : Fin 512) (n : Fin 2880) :
    pj (B0 m c t) (B1 m c t) (B4 m c t) R n = proj (A0 m c) (A1 m c) (A4 m c) (row t R) n :=
  Finset.sum_congr rfl fun k _ => congrArg₂ (· * ·) (blk4 m c t n k) (valB_dec m c t R k)

/-- The rotated entries of point `t`. -/
theorem qkb_qk (c : Dev nD) (t : Fin cfg0.N) (R : Fin 512) (n : Fin 2400) :
    qkb (B0 m c t) (B1 m c t) (B2 m c t) (B3 m c t) (B4 m c t) R n = qk (A0 m c) (A1 m c) (A2 m c) (A3 m c) (A4 m c) (row t R) n := by
  unfold qkb qk
  rw [show pj (B0 m c t) (B1 m c t) (B4 m c t) R = proj (A0 m c) (A1 m c) (A4 m c) (row t R) from funext fun n => pj_proj m c t R n]
  exact congrArg₂ (fun a b => rot (proj (A0 m c) (A1 m c) (A4 m c) (row t R)) a b n) (funext fun e => blk2 m c t e R) (funext fun e => blk3 m c t e R)

/-- The keys of a row of point `t`. -/
theorem keys_row (c : Dev nD) (t : Fin cfg0.N) (R : Fin 512) :
    (fun n : Fin 480 => qkb (B0 m c t) (B1 m c t) (B2 m c t) (B3 m c t) (B4 m c t) R ⟨1920 + n.val, by omega⟩) = keyE (A0 m c) (A1 m c) (A2 m c) (A3 m c) (A4 m c) (row t R) :=
  funext fun n => qkb_qk m c t R _

/-- The values of a row of point `t`. -/
theorem values_row (c : Dev nD) (t : Fin cfg0.N) (R : Fin 512) :
    (fun n : Fin 480 => pj (B0 m c t) (B1 m c t) (B4 m c t) R ⟨2400 + n.val, by omega⟩) = valE (A0 m c) (A1 m c) (A4 m c) (row t R) :=
  funext fun n => pj_proj m c t R _

/-! ## The seven arrays -/

/-- The point that row `r` belongs to. -/
def pt (r : Fin 12288) : Fin cfg0.N := ⟨r.val / 512, lt_of_lt_of_eq (by omega) N_0.symm⟩

/-- The row within its point's block. -/
def lo (r : Fin 12288) : Fin 512 := ⟨r.val % 512, by omega⟩

theorem row_pt (r : Fin 12288) : row (pt r) (lo r) = r := Fin.ext (show 512 * (r.val / 512) + r.val % 512 = r.val by omega)

theorem at5 (r : Fin 12288) (d : Fin 2048) : ((cfg0.win 5).blk (pt r)).view.emb (ix2 (lo r) d) = ix2 r d := by
  obtain ⟨e0, e1⟩ := in5 (pt r)
  funext a
  apply Fin.ext
  match a with
  | ⟨0, _⟩ => show win0_5.index (pt r) 0 * 512 + 1 * (r.val % 512) = r.val; rw [e0]; show r.val / 512 * 512 + 1 * (r.val % 512) = r.val; omega
  | ⟨1, _⟩ => show win0_5.index (pt r) 1 * 2048 + 1 * d.val = d.val; rw [e1]; omega

theorem end5 (c : Dev nD) (r : Fin 12288) (d : Fin 2048) :
    ((dats m 0 c).arrAt 5 cfg0.N : Vec Ideal S12288x2048 .fp8e4m3) (ix2 r d) = ((dats m 0 c).flushed 5 (pt r) : Vec Ideal S512x2048 .fp8e4m3) (ix2 (lo r) d) := by
  have h := congrFun (blocks5 m c (pt r) (fl5 (pt r))) (ix2 (lo r) d)
  rw [View.read_apply, at5] at h
  exact h

theorem at6 (r : Fin 12288) (d : Fin 64) : ((cfg0.win 6).blk (pt r)).view.emb (ix2 (lo r) d) = ix2 r d := by
  obtain ⟨e0, e1⟩ := in6 (pt r)
  funext a
  apply Fin.ext
  match a with
  | ⟨0, _⟩ => show win0_6.index (pt r) 0 * 512 + 1 * (r.val % 512) = r.val; rw [e0]; show r.val / 512 * 512 + 1 * (r.val % 512) = r.val; omega
  | ⟨1, _⟩ => show win0_6.index (pt r) 1 * 64 + 1 * d.val = d.val; rw [e1]; omega

theorem end6 (c : Dev nD) (r : Fin 12288) (d : Fin 64) :
    ((dats m 0 c).arrAt 6 cfg0.N : Vec Ideal S12288x64 .i8) (ix2 r d) = ((dats m 0 c).flushed 6 (pt r) : Vec Ideal S512x64 .i8) (ix2 (lo r) d) := by
  have h := congrFun (blocks6 m c (pt r) (fl6 (pt r))) (ix2 (lo r) d)
  rw [View.read_apply, at6] at h
  exact h

theorem at7 (n : Fin 1920) (r : Fin 12288) : ((cfg0.win 7).blk (pt r)).view.emb (ix2 n (lo r)) = ix2 n r := by
  obtain ⟨e0, e1⟩ := in7 (pt r)
  funext a
  apply Fin.ext
  match a with
  | ⟨0, _⟩ => show win0_7.index (pt r) 0 * 1920 + 1 * n.val = n.val; rw [e0]; omega
  | ⟨1, _⟩ => show win0_7.index (pt r) 1 * 512 + 1 * (r.val % 512) = r.val; rw [e1]; show r.val / 512 * 512 + 1 * (r.val % 512) = r.val; omega

theorem end7 (c : Dev nD) (n : Fin 1920) (r : Fin 12288) :
    ((dats m 0 c).arrAt 7 cfg0.N : Vec Ideal S1920x12288 .bf16) (ix2 n r) = ((dats m 0 c).flushed 7 (pt r) : Vec Ideal S1920x512 .bf16) (ix2 n (lo r)) := by
  have h := congrFun (blocks7 m c (pt r) (fl7 (pt r))) (ix2 n (lo r))
  rw [View.read_apply, at7] at h
  exact h

theorem at8 (h : Fin 5) (r : Fin 12288) (d : Fin 128) : ((cfg0.win 8).blk (pt r)).view.emb (ix3 h (lo r) d) = ix3 h r d := by
  obtain ⟨e0, e1, e2⟩ := in8 (pt r)
  funext a
  apply Fin.ext
  match a with
  | ⟨0, _⟩ => show win0_8.index (pt r) 0 * 5 + 1 * h.val = h.val; rw [e0]; omega
  | ⟨1, _⟩ => show win0_8.index (pt r) 1 * 512 + 1 * (r.val % 512) = r.val; rw [e1]; show r.val / 512 * 512 + 1 * (r.val % 512) = r.val; omega
  | ⟨2, _⟩ => show win0_8.index (pt r) 2 * 128 + 1 * d.val = d.val; rw [e2]; omega

theorem end8 (c : Dev nD) (h : Fin 5) (r : Fin 12288) (d : Fin 128) :
    ((dats m 0 c).arrAt 8 cfg0.N : Vec Ideal S5x12288x128 .bf16) (ix3 h r d) = ((dats m 0 c).flushed 8 (pt r) : Vec Ideal S5x512x128 .bf16) (ix3 h (lo r) d) := by
  have h := congrFun (blocks8 m c (pt r) (fl8 (pt r))) (ix3 h (lo r) d)
  rw [View.read_apply, at8] at h
  exact h

theorem at9 (n : Fin 480) (r : Fin 12288) : ((cfg0.win 9).blk (pt r)).view.emb (ix2 n (lo r)) = ix2 n r := by
  obtain ⟨e0, e1⟩ := in9 (pt r)
  funext a
  apply Fin.ext
  match a with
  | ⟨0, _⟩ => show win0_9.index (pt r) 0 * 480 + 1 * n.val = n.val; rw [e0]; omega
  | ⟨1, _⟩ => show win0_9.index (pt r) 1 * 512 + 1 * (r.val % 512) = r.val; rw [e1]; show r.val / 512 * 512 + 1 * (r.val % 512) = r.val; omega

theorem end9 (c : Dev nD) (n : Fin 480) (r : Fin 12288) :
    ((dats m 0 c).arrAt 9 cfg0.N : Vec Ideal S480x12288 .bf16) (ix2 n r) = ((dats m 0 c).flushed 9 (pt r) : Vec Ideal S480x512 .bf16) (ix2 n (lo r)) := by
  have h := congrFun (blocks9 m c (pt r) (fl9 (pt r))) (ix2 n (lo r))
  rw [View.read_apply, at9] at h
  exact h

theorem at10 (r : Fin 12288) (d : Fin 960) : ((cfg0.win 10).blk (pt r)).view.emb (ix2 (lo r) d) = ix2 r d := by
  obtain ⟨e0, e1⟩ := in10 (pt r)
  funext a
  apply Fin.ext
  match a with
  | ⟨0, _⟩ => show win0_10.index (pt r) 0 * 512 + 1 * (r.val % 512) = r.val; rw [e0]; show r.val / 512 * 512 + 1 * (r.val % 512) = r.val; omega
  | ⟨1, _⟩ => show win0_10.index (pt r) 1 * 960 + 1 * d.val = d.val; rw [e1]; omega

theorem end10 (c : Dev nD) (r : Fin 12288) (d : Fin 960) :
    ((dats m 0 c).arrAt 10 cfg0.N : Vec Ideal S12288x960 .fp8e4m3) (ix2 r d) = ((dats m 0 c).flushed 10 (pt r) : Vec Ideal S512x960 .fp8e4m3) (ix2 (lo r) d) := by
  have h := congrFun (blocks10 m c (pt r) (fl10 (pt r))) (ix2 (lo r) d)
  rw [View.read_apply, at10] at h
  exact h

theorem at11 (r : Fin 12288) (d : Fin 32) : ((cfg0.win 11).blk (pt r)).view.emb (ix2 (lo r) d) = ix2 r d := by
  obtain ⟨e0, e1⟩ := in11 (pt r)
  funext a
  apply Fin.ext
  match a with
  | ⟨0, _⟩ => show win0_11.index (pt r) 0 * 512 + 1 * (r.val % 512) = r.val; rw [e0]; show r.val / 512 * 512 + 1 * (r.val % 512) = r.val; omega
  | ⟨1, _⟩ => show win0_11.index (pt r) 1 * 32 + 1 * d.val = d.val; rw [e1]; omega

theorem end11 (c : Dev nD) (r : Fin 12288) (d : Fin 32) :
    ((dats m 0 c).arrAt 11 cfg0.N : Vec Ideal S12288x32 .i8) (ix2 r d) = ((dats m 0 c).flushed 11 (pt r) : Vec Ideal S512x32 .i8) (ix2 (lo r) d) := by
  have h := congrFun (blocks11 m c (pt r) (fl11 (pt r))) (ix2 (lo r) d)
  rw [View.read_apply, at11] at h
  exact h

/-- The codes. -/
theorem kernel_codes (c : Dev nD) (r : Fin 12288) (d : Fin 2048) :
    ((dats m 0 c).arrAt 5 cfg0.N : Vec Ideal S12288x2048 .fp8e4m3) (ix2 r d) = code (A0 m c) (A1 m c) r d := by
  refine (end5 m c r d).trans ((congrFun (flushed5_A m c (pt r)) _).trans ((congrFun (codes_A ..) (ix2 (lo r) d)).trans ((codeB_code m c _ _ _).trans ?_)))
  rw [row_pt]

/-- The scale bytes. -/
theorem kernel_scales (c : Dev nD) (r : Fin 12288) (d : Fin 64) :
    ((dats m 0 c).arrAt 6 cfg0.N : Vec Ideal S12288x64 .i8) (ix2 r d) = BitVec.ofNat 8 (sb (A0 m c) (A1 m c) r d) := by
  refine (end6 m c r d).trans ((congrFun (flushed6_A m c (pt r)) _).trans ((congrFun (scales_A ..) (ix2 (lo r) d)).trans ((scaleB_sb m c _ _ _).trans ?_)))
  rw [row_pt]

/-- The queries. -/
theorem kernel_q (c : Dev nD) (n : Fin 1920) (r : Fin 12288) :
    ((dats m 0 c).arrAt 7 cfg0.N : Vec Ideal S1920x12288 .bf16) (ix2 n r) = qk (A0 m c) (A1 m c) (A2 m c) (A3 m c) (A4 m c) r ⟨n.val, by omega⟩ := by
  refine (end7 m c n r).trans ((congrFun (flushed7_A m c (pt r)) _).trans ((congrFun (q_A ..) (ix2 n (lo r))).trans ((qkb_qk m c (pt r) (lo r) ⟨n.val, by omega⟩).trans ?_)))
  rw [row_pt]

/-- The keys by head. -/
theorem kernel_k (c : Dev nD) (h : Fin 5) (r : Fin 12288) (d : Fin 128) :
    ((dats m 0 c).arrAt 8 cfg0.N : Vec Ideal S5x12288x128 .bf16) (ix3 h r d) = keyP (A0 m c) (A1 m c) (A2 m c) (A3 m c) (A4 m c) h r d := by
  refine (end8 m c h r d).trans ((congrFun (flushed8_A m c (pt r)) _).trans ((congrFun (k_A ..) (ix3 h (lo r) d)).trans ((kB_apply (B0 m c (pt r)) (B1 m c (pt r)) (B2 m c (pt r)) (B3 m c (pt r)) (B4 m c (pt r)) h (lo r) d).trans ?_)))
  unfold keyP
  by_cases hd : d.val < 96
  · rw [dif_pos hd, dif_pos hd, qkb_qk, row_pt]
    rfl
  · rw [dif_neg hd, dif_neg hd]

/-- The values. -/
theorem kernel_v (c : Dev nD) (n : Fin 480) (r : Fin 12288) :
    ((dats m 0 c).arrAt 9 cfg0.N : Vec Ideal S480x12288 .bf16) (ix2 n r) = valE (A0 m c) (A1 m c) (A4 m c) r n := by
  refine (end9 m c n r).trans ((congrFun (flushed9_A m c (pt r)) _).trans ((v_A (n := n) (j := lo r) ..).trans ((pj_proj m c (pt r) (lo r) ⟨2400 + n.val, by omega⟩).trans ?_)))
  rw [row_pt]
  rfl

/-- The codes of keys and values. -/
theorem kernel_kvc (c : Dev nD) (r : Fin 12288) (n : Fin 960) :
    ((dats m 0 c).arrAt 10 cfg0.N : Vec Ideal S12288x960 .fp8e4m3) (ix2 r n) = kvc (A0 m c) (A1 m c) (A2 m c) (A3 m c) (A4 m c) r n := by
  refine (end10 m c r n).trans ((congrFun (flushed10_A m c (pt r)) _).trans ?_)
  by_cases h : n.val < 480
  · obtain ⟨n, rfl⟩ : ∃ k : Fin 480, n = ⟨k.val, lt_of_lt_of_le k.isLt (by decide : 480 ≤ 960)⟩ := ⟨⟨n.val, h⟩, rfl⟩
    refine (kvc_A_key (j := lo r) (n := n) ..).trans ((congrArg (fun f => codeOf f n) (keys_row m c (pt r) (lo r))).trans ?_)
    rw [row_pt]
    unfold kvc
    rw [dif_pos h]
  · obtain ⟨n, rfl⟩ : ∃ k : Fin 480, n = ⟨480 + k.val, lt_of_lt_of_le (Nat.add_lt_add_left k.isLt 480) (by decide : 480 + 480 ≤ 960)⟩ := ⟨⟨n.val - 480, by omega⟩, Fin.ext (show n.val = 480 + (n.val - 480) by omega)⟩
    refine (kvc_A_value (j := lo r) (n := n) ..).trans ((congrArg (fun f => codeOf f n) (values_row m c (pt r) (lo r))).trans ?_)
    rw [row_pt]
    unfold kvc
    rw [dif_neg h]
    exact congrArg (codeOf _) (Fin.ext (show n.val = 480 + n.val - 480 by omega))

/-- The scale bytes of keys and values. -/
theorem kernel_kvs (c : Dev nD) (r : Fin 12288) (b : Fin 32) :
    ((dats m 0 c).arrAt 11 cfg0.N : Vec Ideal S12288x32 .i8) (ix2 r b) = kvs (A0 m c) (A1 m c) (A2 m c) (A3 m c) (A4 m c) r b := by
  refine (end11 m c r b).trans ((congrFun (flushed11_A m c (pt r)) _).trans ?_)
  by_cases h : b.val < 15
  · obtain ⟨n, rfl⟩ : ∃ n : Fin 15, b = ⟨n.val, lt_of_lt_of_le n.isLt (by decide : 15 ≤ 32)⟩ := ⟨⟨b.val, h⟩, rfl⟩
    refine (kvs_A_key (j := lo r) (n := n) ..).trans ((congrArg (fun f => BitVec.ofNat 8 (sbOf f n)) (keys_row m c (pt r) (lo r))).trans ?_)
    rw [row_pt]
    unfold kvs
    rw [dif_pos h]
  · by_cases h' : b.val < 30
    · obtain ⟨n, rfl⟩ : ∃ n : Fin 15, b = ⟨15 + n.val, lt_of_lt_of_le (Nat.add_lt_add_left n.isLt 15) (by decide : 15 + 15 ≤ 32)⟩ := ⟨⟨b.val - 15, by omega⟩, Fin.ext (show b.val = 15 + (b.val - 15) by omega)⟩
      refine (kvs_A_value (j := lo r) (n := n) ..).trans ((congrArg (fun f => BitVec.ofNat 8 (sbOf f n)) (values_row m c (pt r) (lo r))).trans ?_)
      rw [row_pt]
      unfold kvs
      rw [dif_neg h, dif_pos h']
      exact congrArg (fun z => BitVec.ofNat 8 (sbOf _ z)) (Fin.ext (show n.val = 15 + n.val - 15 by omega))
    · obtain ⟨n, rfl⟩ : ∃ n : Fin 2, b = ⟨30 + n.val, lt_of_lt_of_le (Nat.add_lt_add_left n.isLt 30) (by decide : 30 + 2 ≤ 32)⟩ := ⟨⟨b.val - 30, by omega⟩, Fin.ext (show b.val = 30 + (b.val - 30) by omega)⟩
      refine (kvs_A_zero (j := lo r) (n := n) ..).trans ?_
      unfold kvs
      rw [dif_neg h, dif_neg h']

end Cert.QkvKernelIdeal.Gen.Proj

end
-- ==== Proof.QkvRefValue.lean ====
module

public import proofs.«01_k».proof.Proof.QkvModel
public import proofs.«01_k».proof.Proof.OutRefValue
public import proofs.«01_k».proof.Proof.Gen.QkvReferenceIdeal.Value
public import Idealize.ShloMosaic.Lib.MatmulPlain
public import Idealize.ShloMosaic.Lib.ValueLayout

@[expose] public section

set_option maxRecDepth 8192

noncomputable section

/-! The values the projection's reference computes, element by element: normed rows and their block codes, the projected
rows, the rotated heads, and the block codes of keys and values. -/

namespace Cert.QkvReferenceIdeal.Gen.Ref

open Idealize.ShloMosaic Idealize.ShloMosaic.TcCoe Idealize.ShloMosaic.ValueIdx
open Cert.QkvReferenceIdeal Cert.QkvReferenceIdeal.Gen
open Cert.KernelIdeal.Gen.Strip (Arr amax amax_congr amax_nonneg sbyte thr qcode qval refX ref_mult ref_scale ref_byte c_zero c_bot c_448 c_neg448)
open Cert.OutKernelIdeal.Gen.Wide (nrm)
open Cert.QkvKernelIdeal.Gen.Proj (nact sb code dec proj rot qk keyE valE sbOf codeOf)
open Cert.ReferenceIdeal.Gen.Ref (log_i floor_i exp2_i cmpf_i bits_i sub_i mul_i max_i min_i div_i sel_i spl_i byte_of_word)
open Cert.OutReferenceIdeal.Gen.Ref (div_2048 add_i rsqrt_i)

variable (x : FVec Ideal S12288x2048 .bf16) (g : FVec Ideal S1x2048 .f32) (cs sn : FVec Ideal S48x12288 .f32) (w : FVec Ideal S2880x2048 .bf16)

/-- The sum of the squares of a row. -/
theorem squares_apply (p : FVec Ideal S12288x2048 .f32) (hh) (hφ) (hacc) (r : Fin 12288) :
    multiReduction (F := Ideal) .add [1] S12288 (mulf p p) 0x00000000#32 hh hφ hacc (ix1 r) = ∑ k : Fin 2048, p (ix2 r k) * p (ix2 r k) := by
  refine (Ideal.multiReduction_add_single (mulf p p) 0x00000000#32 hh hφ hacc (ix1 r)).trans ?_
  refine Finset.sum_congr rfl fun k _ => ?_
  have hl : hh.lift (ix1 r) k = ix2 r k := by
    funext a
    match a with
    | ⟨0, _⟩ => rfl
    | ⟨1, _⟩ => rfl
  exact congrArg (fun k => p k * p k) hl

theorem colcast_apply (v : FVec Ideal S12288 .f32) (r : Fin 12288) :
    shapeCast S12288x1 v shapeCasts_S12288_S12288x1 (ix2 r (0 : Fin 1)) = v (ix1 r) := by
  refine shapeCast_apply _ _ _ (ix1 r) ?_
  rw [Shape.rowMajor_val_one, Shape.rowMajor_val_two]
  show r.val = r.val * 1 + 0
  omega

theorem colspread_apply (v : FVec Ideal S12288x1 .f32) (r : Fin 12288) (c : Fin 2048) :
    broadcastTo S12288x2048 v broadcasts_S12288x1_S12288x2048 (ix2 r c) = v (ix2 r (0 : Fin 1)) := broadcastTo_apply _ _ _ _ fun a => by
  match a with
  | ⟨0, _⟩ => rfl
  | ⟨1, _⟩ => rfl

theorem rowspread_apply (v : FVec Ideal S1x2048 .f32) (r : Fin 12288) (c : Fin 2048) :
    broadcastTo S12288x2048 v broadcasts_S1x2048_S12288x2048 (ix2 r c) = v (ix2 (0 : Fin 1) c) := broadcastTo_apply _ _ _ _ fun a => by
  match a with
  | ⟨0, _⟩ => rfl
  | ⟨1, _⟩ => rfl

theorem cut_apply (v : FVec Ideal S12288x2048 .f32) (r : Fin 12288) (b : Fin 64) (i : Fin 32) :
    shapeCast S12288x64x32 v shapeCasts_S12288x2048_S12288x64x32 (ix3 r b i) = v (ix2 r (⟨32 * b.val + i.val, by omega⟩ : Fin 2048)) := by
  refine shapeCast_apply _ _ _ _ ?_
  rw [Shape.rowMajor_val_two, Shape.rowMajor_val_three]
  show r.val * 2048 + (32 * b.val + i.val) = (r.val * 64 + b.val) * 32 + i.val
  omega

theorem cut15_apply (v : FVec Ideal S12288x480 .f32) (r : Fin 12288) (b : Fin 15) (i : Fin 32) :
    shapeCast S12288x15x32 v shapeCasts_S12288x480_S12288x15x32 (ix3 r b i) = v (ix2 r (⟨32 * b.val + i.val, by omega⟩ : Fin 480)) := by
  refine shapeCast_apply _ _ _ _ ?_
  rw [Shape.rowMajor_val_two, Shape.rowMajor_val_three]
  show r.val * 480 + (32 * b.val + i.val) = (r.val * 15 + b.val) * 32 + i.val
  omega

/-- The normed rows by block. -/
theorem pay1_apply (r : Fin 12288) (b : Fin 64) (i : Fin 32) :
    k0_pay1 (F := Ideal) x g (ix3 r b i) = nact x g r ⟨32 * b.val + i.val, by omega⟩ := by
  unfold k0_pay1
  have hp : ∀ j, (extf .f32 x bitsLt_bf16_f32 : FVec Ideal S12288x2048 .f32) j = x j := fun _ => rfl
  generalize (extf .f32 x bitsLt_bf16_f32 : FVec Ideal S12288x2048 .f32) = p at hp ⊢
  dsimp only
  rw [cut_apply, mul_i, mul_i, colspread_apply, rowspread_apply, rsqrt_i, add_i, div_i, colcast_apply]
  refine (congrArg (fun z => p (ix2 r (⟨32 * b.val + i.val, by omega⟩ : Fin 2048)) * Ideal.rsqrt (Ideal.div z (Ideal.ofBits .f32 0x45000000#32) + Ideal.ofBits .f32 0x358637BD#32)
    * g (ix2 (0 : Fin 1) (⟨32 * b.val + i.val, by omega⟩ : Fin 2048))) (squares_apply p _ _ _ r)).trans ?_
  simp only [div_2048, hp]
  rfl

/-- The largest magnitude of block `b` of row `r`. -/
def mag (r : Fin 12288) (b : Fin 64) : EReal := amax fun i : Fin 32 => nact x g r ⟨32 * b.val + i.val, by omega⟩

theorem mag_nonneg (r : Fin 12288) (b : Fin 64) : 0 ≤ mag x g r b := amax_nonneg _

/-- A reduction over the last axis is the largest magnitude of the 32 entries. -/
theorem max_point (p : FVec Ideal S12288x64x32 .f32) (hh) (hφ) (hacc) (r : Fin 12288) (b : Fin 64) :
    multiReduction (F := Ideal) .maximumf [2] S12288x64 (absf p) 0xFF800000#32 hh hφ hacc (ix2 r b) = amax fun i => p (ix3 r b i) := by
  refine (Ideal.multiReduction_maximumf_single (absf p) 0xFF800000#32 hh hφ hacc (ix2 r b)).trans ?_
  show (Finset.univ : Finset (Fin 32)).fold max (Ideal.ofBits .f32 0xFF800000#32) _ = _
  rw [c_bot]
  unfold amax Finset.sup
  refine Finset.fold_congr fun i _ => ?_
  have hl : hh.lift (ix2 r b) i = ix3 r b i := by
    funext a
    match a with
    | ⟨0, _⟩ => rfl
    | ⟨1, _⟩ => rfl
    | ⟨2, _⟩ => rfl
  exact congrArg (fun k => max (p k) (-p k)) hl

/-- A row of blocks' numbers spread over the blocks. -/
theorem spread_apply {φ : FTy} (v : FVec Ideal S12288x64 φ) (r : Fin 12288) (b : Fin 64) (i : Fin 32) :
    broadcastTo S12288x64x32 (shapeCast S12288x64x1 v shapeCasts_S12288x64_S12288x64x1) broadcasts_S12288x64x1_S12288x64x32 (ix3 r b i) = v (ix2 r b) := by
  refine (broadcastTo_apply _ _ _ (ix3 r b (0 : Fin 1)) fun a => ?_).trans (shapeCast_apply _ _ _ (ix2 r b) ?_)
  · match a with
    | ⟨0, _⟩ => rfl
    | ⟨1, _⟩ => rfl
    | ⟨2, _⟩ => rfl
  · rw [Shape.rowMajor_val_two, Shape.rowMajor_val_three]
    show r.val * 64 + b.val = (r.val * 64 + b.val) * 1 + 0
    omega

/-- Blocks laid end to end. -/
theorem flat_apply {α : Type} (v : S12288x64x32.Idx → α) (r : Fin 12288) (c : Fin 2048) :
    shapeCast S12288x2048 v shapeCasts_S12288x64x32_S12288x2048 (ix2 r c) = v (ix3 r (⟨c.val / 32, by omega⟩ : Fin 64) (⟨c.val % 32, by omega⟩ : Fin 32)) := by
  refine shapeCast_apply _ _ _ _ ?_
  rw [Shape.rowMajor_val_two, Shape.rowMajor_val_three]
  show (r.val * 64 + c.val / 32) * 32 + c.val % 32 = r.val * 2048 + c.val
  omega

/-- A clamped value. -/
theorem clamp_point (q : FVec Ideal S12288x64x32 .f32) (j : S12288x64x32.Idx) :
    truncf (F := Ideal) .fp8e4m3 (minimumf (broadcast S12288x64x32 (Scalar.ofBits .f32 0x43E00000#32)) (maximumf (broadcast S12288x64x32 (Scalar.ofBits .f32 0xC3E00000#32)) q)) bitsLt_fp8e4m3_f32 j
      = min ((448 : ℝ) : EReal) (max ((-448 : ℝ) : EReal) (q j)) := by
  show min (Ideal.ofBits .f32 0x43E00000#32) (max (Ideal.ofBits .f32 0xC3E00000#32) (q j)) = _
  rw [c_448, c_neg448]

/-- A reduction over the last axis is the largest magnitude of the 32 entries. -/
theorem max15_point (p : FVec Ideal S12288x15x32 .f32) (hh) (hφ) (hacc) (r : Fin 12288) (b : Fin 15) :
    multiReduction (F := Ideal) .maximumf [2] S12288x15 (absf p) 0xFF800000#32 hh hφ hacc (ix2 r b) = amax fun i => p (ix3 r b i) := by
  refine (Ideal.multiReduction_maximumf_single (absf p) 0xFF800000#32 hh hφ hacc (ix2 r b)).trans ?_
  show (Finset.univ : Finset (Fin 32)).fold max (Ideal.ofBits .f32 0xFF800000#32) _ = _
  rw [c_bot]
  unfold amax Finset.sup
  refine Finset.fold_congr fun i _ => ?_
  have hl : hh.lift (ix2 r b) i = ix3 r b i := by
    funext a
    match a with
    | ⟨0, _⟩ => rfl
    | ⟨1, _⟩ => rfl
    | ⟨2, _⟩ => rfl
  exact congrArg (fun k => max (p k) (-p k)) hl

/-- A row of blocks' numbers spread over the blocks. -/
theorem spread15_apply {φ : FTy} (v : FVec Ideal S12288x15 φ) (r : Fin 12288) (b : Fin 15) (i : Fin 32) :
    broadcastTo S12288x15x32 (shapeCast S12288x15x1 v shapeCasts_S12288x15_S12288x15x1) broadcasts_S12288x15x1_S12288x15x32 (ix3 r b i) = v (ix2 r b) := by
  refine (broadcastTo_apply _ _ _ (ix3 r b (0 : Fin 1)) fun a => ?_).trans (shapeCast_apply _ _ _ (ix2 r b) ?_)
  · match a with
    | ⟨0, _⟩ => rfl
    | ⟨1, _⟩ => rfl
    | ⟨2, _⟩ => rfl
  · rw [Shape.rowMajor_val_two, Shape.rowMajor_val_three]
    show r.val * 15 + b.val = (r.val * 15 + b.val) * 1 + 0
    omega

/-- Blocks laid end to end. -/
theorem flat15_apply {α : Type} (v : S12288x15x32.Idx → α) (r : Fin 12288) (c : Fin 480) :
    shapeCast S12288x480 v shapeCasts_S12288x15x32_S12288x480 (ix2 r c) = v (ix3 r (⟨c.val / 32, by omega⟩ : Fin 15) (⟨c.val % 32, by omega⟩ : Fin 32)) := by
  refine shapeCast_apply _ _ _ _ ?_
  rw [Shape.rowMajor_val_two, Shape.rowMajor_val_three]
  show (r.val * 15 + c.val / 32) * 32 + c.val % 32 = r.val * 480 + c.val
  omega

/-- A clamped value. -/
theorem clamp15_point (q : FVec Ideal S12288x15x32 .f32) (j : S12288x15x32.Idx) :
    truncf (F := Ideal) .fp8e4m3 (minimumf (broadcast S12288x15x32 (Scalar.ofBits .f32 0x43E00000#32)) (maximumf (broadcast S12288x15x32 (Scalar.ofBits .f32 0xC3E00000#32)) q)) bitsLt_fp8e4m3_f32 j
      = min ((448 : ℝ) : EReal) (max ((-448 : ℝ) : EReal) (q j)) := by
  show min (Ideal.ofBits .f32 0x43E00000#32) (max (Ideal.ofBits .f32 0xC3E00000#32) (q j)) = _
  rw [c_448, c_neg448]

/-- The shared exponent of block `b` of row `r`. -/
theorem pay2_apply (r : Fin 12288) (b : Fin 64) : k0_pay2 (F := Ideal) x g (ix2 r b) = refX (mag x g r b) := by
  have h8 : multiReduction (F := Ideal) .maximumf [2] S12288x64 (absf (k0_pay1 (F := Ideal) x g)) 0xFF800000#32 reduces_S12288x64x32_S12288x64 (.inl rfl) rfl (ix2 r b) = mag x g r b :=
    (max_point (k0_pay1 (F := Ideal) x g) reduces_S12288x64x32_S12288x64 (.inl rfl) rfl r b).trans (amax_congr fun i => pay1_apply x g r b i)
  unfold k0_pay2
  generalize multiReduction (F := Ideal) .maximumf [2] S12288x64 (absf (k0_pay1 (F := Ideal) x g)) 0xFF800000#32 reduces_S12288x64x32_S12288x64 (.inl rfl) rfl = p at h8 ⊢
  rw [sel_i, cmpf_i, h8, min_i, max_i, sub_i, sel_i, cmpf_i, h8, min_i, floor_i, div_i, log_i, log_i, h8]
  simp only [spl_i, bits_i]
  unfold refX
  rfl

theorem nact_back (r : Fin 12288) (c : Fin 2048) (hc) : nact x g r ⟨32 * (c.val / 32) + c.val % 32, hc⟩ = nact x g r c :=
  congrArg (nact x g r) (Fin.ext (show 32 * (c.val / 32) + c.val % 32 = c.val by omega))

/-- The codes by block. -/
theorem pay4_apply (r : Fin 12288) (b : Fin 64) (i : Fin 32) :
    k0_pay4 (F := Ideal) (k0_pay1 x g) (k0_pay3 x g) (ix3 r b i) = qcode (nact x g r ⟨32 * b.val + i.val, by omega⟩) (sb x g r b) := by
  have h7 := pay1_apply x g r b i
  have he := pay2_apply x g r b
  unfold k0_pay4 k0_pay3
  generalize k0_pay2 (F := Ideal) x g = e at he ⊢
  generalize k0_pay1 (F := Ideal) x g = p at h7 ⊢
  rw [clamp_point, mul_i, spread_apply, exp2_i, sub_i, spl_i, bits_i, h7, he, ref_mult _ (mag_nonneg x g r b)]
  rfl

/-- The codes. -/
theorem pay13_apply (r : Fin 12288) (c : Fin 2048) :
    k0_pay13 (F := Ideal) (k0_pay4 (k0_pay1 x g) (k0_pay3 x g)) (ix2 r c) = code x g r c := by
  unfold k0_pay13
  refine (flat_apply _ r c).trans ((pay4_apply x g r _ _).trans ?_)
  unfold code
  exact congrArg (fun z => qcode z _) (nact_back x g r c _)

theorem bytes_point (e : FVec Ideal S12288x64 .f32) (j : S12288x64.Idx) :
    k0_pay5 (F := Ideal) e j = (Ideal.fptosi 32 (e j + Ideal.ofBits .f32 0x42FE0000#32)).setWidth 8 := by
  unfold k0_pay5
  rfl

/-- The scale bytes. -/
theorem pay5_apply (r : Fin 12288) (b : Fin 64) : k0_pay5 (F := Ideal) (k0_pay2 x g) (ix2 r b) = BitVec.ofNat 8 (sb x g r b) := by
  rw [bytes_point, pay2_apply, ref_byte _ (mag_nonneg x g r b), byte_of_word]
  unfold sb mag
  rfl

/-- The decoded rows. -/
def vals (q : FVec Ideal S12288x64x32 .fp8e4m3) (e : FVec Ideal S12288x64 .f32) : FVec Ideal S12288x2048 .bf16 :=
  shapeCast S12288x2048 (mulf (extf .bf16 q bitsLt_fp8e4m3_bf16) (broadcastTo S12288x64x32 (shapeCast S12288x64x1
    (truncf .bf16 (select (cmpf .oeq e (broadcast S12288x64 (Scalar.ofBits .f32 0xC2FE0000#32))) (broadcast S12288x64 (Scalar.ofBits .f32 0x00000000#32)) (exp2 e)) bitsLt_bf16_f32)
    shapeCasts_S12288x64_S12288x64x1) broadcasts_S12288x64x1_S12288x64x32)) shapeCasts_S12288x64x32_S12288x2048

theorem vals_point (q : FVec Ideal S12288x64x32 .fp8e4m3) (e : FVec Ideal S12288x64 .f32) (r : Fin 12288) (c : Fin 2048) :
    vals q e (ix2 r c) = q (ix3 r (⟨c.val / 32, by omega⟩ : Fin 64) (⟨c.val % 32, by omega⟩ : Fin 32))
      * Scalar.select (Ideal.cmp .oeq (e (ix2 r (⟨c.val / 32, by omega⟩ : Fin 64))) (Ideal.ofBits .f32 0xC2FE0000#32))
          (Ideal.ofBits .f32 0x00000000#32) (Ideal.exp2 (e (ix2 r (⟨c.val / 32, by omega⟩ : Fin 64)))) := by
  unfold vals
  refine (flat_apply _ r c).trans ?_
  exact congrArg (q _ * ·) (spread_apply _ r _ _)

theorem vals_apply (r : Fin 12288) (c : Fin 2048) : vals (k0_pay4 (F := Ideal) (k0_pay1 x g) (k0_pay3 x g)) (k0_pay2 (F := Ideal) x g) (ix2 r c) = dec x g r c := by
  rw [vals_point, pay4_apply, pay2_apply, ref_scale _ (mag_nonneg x g r _), nact_back]
  unfold dec qval sb mag
  rfl

/-- The projected rows. -/
theorem pay6_apply (r : Fin 12288) (j : Fin 2880) : k0_pay6 (F := Ideal) (k0_pay1 x g) (k0_pay2 x g) (k0_pay3 x g) w (ix2 r j) = proj x g w r j := by
  have hv := fun c => vals_apply x g r c
  have e : k0_pay6 (F := Ideal) (k0_pay1 x g) (k0_pay2 x g) (k0_pay3 x g) w
      = matmul dot_S12288x2048_S2880x2048_S12288x2880_1_1_0_0_n_n none (vals (k0_pay4 (F := Ideal) (k0_pay1 x g) (k0_pay3 x g)) (k0_pay2 (F := Ideal) x g)) w (constant S12288x2880 .f32 0x00000000#32) := by
    unfold k0_pay6 vals
    rfl
  rw [e]
  generalize vals (k0_pay4 (F := Ideal) (k0_pay1 x g) (k0_pay3 x g)) (k0_pay2 (F := Ideal) x g) = v at hv ⊢
  refine (Ideal.matmul_transposedRhs_apply (M := 12288) (K := 2048) (N := 2880) none v w _ r j).trans ?_
  show Ideal.ofBits .f32 0x00000000#32 + _ = _
  rw [c_zero, zero_add]
  unfold proj
  exact Finset.sum_congr rfl fun k _ => (congrArg (· * w (ix2 j k)) (hv k)).trans (mul_comm _ _)

theorem pay7_apply (r : Fin 12288) (e : Fin 48) : k0_pay7 (F := Ideal) cs (ix3 r (0 : Fin 1) e) = cs (ix2 e r) := by
  unfold k0_pay7
  refine (shapeCast_apply _ _ _ (ix2 r e) ?_).trans (transpose_ix2_apply (a := 48) (b := 12288) cs _ r e)
  rw [Shape.rowMajor_val_two, Shape.rowMajor_val_three]
  show r.val * 48 + e.val = (r.val * 1 + 0) * 48 + e.val
  omega

theorem pay8_apply (r : Fin 12288) (e : Fin 48) : k0_pay8 (F := Ideal) sn (ix3 r (0 : Fin 1) e) = sn (ix2 e r) := pay7_apply sn r e

/-- Rows rotated head by head. -/
def rope20 (v : FVec Ideal S12288x1920 .f32) (c s : FVec Ideal S12288x1x48 .f32) : FVec Ideal S12288x1920 .f32 :=
  shapeCast S12288x1920 (concatenate S12288x20x96 2
    [⟨S12288x20x48, subf (mulf (extractStridedSlice S12288x20x48 ![0, 0, 0] (shapeCast S12288x20x96 v shapeCasts_S12288x1920_S12288x20x96) slices_S12288x20x96_o0_0_0_S12288x20x48) (broadcastTo S12288x20x48 c broadcasts_S12288x1x48_S12288x20x48))
        (mulf (extractStridedSlice S12288x20x48 ![0, 0, 48] (shapeCast S12288x20x96 v shapeCasts_S12288x1920_S12288x20x96) slices_S12288x20x96_o0_0_48_S12288x20x48) (broadcastTo S12288x20x48 s broadcasts_S12288x1x48_S12288x20x48))⟩,
     ⟨S12288x20x48, addf (mulf (extractStridedSlice S12288x20x48 ![0, 0, 48] (shapeCast S12288x20x96 v shapeCasts_S12288x1920_S12288x20x96) slices_S12288x20x96_o0_0_48_S12288x20x48) (broadcastTo S12288x20x48 c broadcasts_S12288x1x48_S12288x20x48))
        (mulf (extractStridedSlice S12288x20x48 ![0, 0, 0] (shapeCast S12288x20x96 v shapeCasts_S12288x1920_S12288x20x96) slices_S12288x20x96_o0_0_0_S12288x20x48) (broadcastTo S12288x20x48 s broadcasts_S12288x1x48_S12288x20x48))⟩]
    concatenates_S12288x20x48_S12288x20x48_S12288x20x96_d2) shapeCasts_S12288x20x96_S12288x1920

theorem heads20_apply {φ : FTy} (v : FVec Ideal S12288x1920 φ) (r : Fin 12288) (h : Fin 20) (d : Fin 96) :
    shapeCast S12288x20x96 v shapeCasts_S12288x1920_S12288x20x96 (ix3 r h d) = v (ix2 r (⟨96 * h.val + d.val, by omega⟩ : Fin 1920)) := by
  refine shapeCast_apply _ _ _ _ ?_
  rw [Shape.rowMajor_val_two, Shape.rowMajor_val_three]
  show r.val * 1920 + (96 * h.val + d.val) = (r.val * 20 + h.val) * 96 + d.val
  omega

theorem lo20_apply (v : FVec Ideal S12288x1920 .f32) (r : Fin 12288) (h : Fin 20) (e : Fin 48) :
    extractStridedSlice S12288x20x48 ![0, 0, 0] (shapeCast S12288x20x96 v shapeCasts_S12288x1920_S12288x20x96) slices_S12288x20x96_o0_0_0_S12288x20x48 (ix3 r h e) = v (ix2 r (⟨96 * h.val + e.val, by omega⟩ : Fin 1920)) :=
  (extractStridedSlice_apply ![0, 0, 0] (shapeCast S12288x20x96 v shapeCasts_S12288x1920_S12288x20x96) slices_S12288x20x96_o0_0_0_S12288x20x48 (ix3 r h e) (ix3 r h (⟨e.val, by omega⟩ : Fin 96))
    (fun a => match a with | ⟨0, _⟩ => (Nat.zero_add _).symm | ⟨1, _⟩ => (Nat.zero_add _).symm | ⟨2, _⟩ => (Nat.zero_add _).symm)).trans (heads20_apply v r h _)

theorem hi20_apply (v : FVec Ideal S12288x1920 .f32) (r : Fin 12288) (h : Fin 20) (e : Fin 48) :
    extractStridedSlice S12288x20x48 ![0, 0, 48] (shapeCast S12288x20x96 v shapeCasts_S12288x1920_S12288x20x96) slices_S12288x20x96_o0_0_48_S12288x20x48 (ix3 r h e) = v (ix2 r (⟨96 * h.val + (48 + e.val), by omega⟩ : Fin 1920)) :=
  (extractStridedSlice_apply ![0, 0, 48] (shapeCast S12288x20x96 v shapeCasts_S12288x1920_S12288x20x96) slices_S12288x20x96_o0_0_48_S12288x20x48 (ix3 r h e) (ix3 r h (⟨48 + e.val, by omega⟩ : Fin 96))
    (fun a => match a with | ⟨0, _⟩ => (Nat.zero_add _).symm | ⟨1, _⟩ => (Nat.zero_add _).symm | ⟨2, _⟩ => rfl)).trans (heads20_apply v r h _)

theorem turn20_apply (c : FVec Ideal S12288x1x48 .f32) (r : Fin 12288) (h : Fin 20) (e : Fin 48) :
    broadcastTo S12288x20x48 c broadcasts_S12288x1x48_S12288x20x48 (ix3 r h e) = c (ix3 r (0 : Fin 1) e) := broadcastTo_apply _ _ _ _ fun a => by
  match a with
  | ⟨0, _⟩ => rfl
  | ⟨1, _⟩ => rfl
  | ⟨2, _⟩ => rfl

theorem rope20_apply (v : FVec Ideal S12288x1920 .f32) (c s : FVec Ideal S12288x1x48 .f32) (f : Fin 2880 → EReal) (r : Fin 12288) (o : ℕ) (ho : 96 * o + 1920 ≤ 2400)
    (hv : ∀ n : Fin 1920, v (ix2 r n) = f ⟨96 * o + n.val, by omega⟩) (n : Fin 1920) :
    rope20 v c s (ix2 r n) = rot f (fun e => c (ix3 r (0 : Fin 1) e)) (fun e => s (ix3 r (0 : Fin 1) e)) ⟨96 * o + n.val, by omega⟩ := by
  have hm : (96 * o + n.val) % 96 = n.val % 96 := by omega
  unfold rope20
  refine (shapeCast_apply _ _ _ (ix3 r (⟨n.val / 96, by omega⟩ : Fin 20) (⟨n.val % 96, by omega⟩ : Fin 96)) ?_).trans ?_
  · rw [Shape.rowMajor_val_two, Shape.rowMajor_val_three]
    show (r.val * 20 + n.val / 96) * 96 + n.val % 96 = r.val * 1920 + n.val
    omega
  unfold rot
  by_cases h : n.val % 96 < 48
  · rw [dif_pos (show (96 * o + n.val) % 96 < 48 by rw [hm]; exact h)]
    refine (concatenate_pair_apply_left (t := S12288x20x96) 2 _ _ concatenates_S12288x20x48_S12288x20x48_S12288x20x96_d2 (ix3 r (⟨n.val / 96, by omega⟩ : Fin 20) (⟨n.val % 96, by omega⟩ : Fin 96)) rfl
      (ix3 r (⟨n.val / 96, by omega⟩ : Fin 20) (⟨n.val % 96, h⟩ : Fin 48)) fun b => match b with | ⟨0, _⟩ => rfl | ⟨1, _⟩ => rfl | ⟨2, _⟩ => rfl).trans ?_
    rw [sub_i, mul_i, mul_i, lo20_apply, hi20_apply, turn20_apply, turn20_apply, hv, hv]
    refine congrArg₂ (· - ·) (congrArg₂ (· * ·) (congrArg f (Fin.ext ?_)) (congrArg (fun e => c (ix3 r (0 : Fin 1) e)) (Fin.ext hm.symm)))
      (congrArg₂ (· * ·) (congrArg f (Fin.ext ?_)) (congrArg (fun e => s (ix3 r (0 : Fin 1) e)) (Fin.ext hm.symm)))
    · show 96 * o + (96 * (n.val / 96) + n.val % 96) = 96 * o + n.val
      omega
    · show 96 * o + (96 * (n.val / 96) + (48 + n.val % 96)) = 96 * o + n.val + 48
      omega
  · rw [dif_neg (show ¬ (96 * o + n.val) % 96 < 48 by rw [hm]; exact h)]
    refine (concatenate_pair_apply_right (t := S12288x20x96) 2 _ _ concatenates_S12288x20x48_S12288x20x48_S12288x20x96_d2 (ix3 r (⟨n.val / 96, by omega⟩ : Fin 20) (⟨n.val % 96, by omega⟩ : Fin 96)) rfl rfl
      (ix3 r (⟨n.val / 96, by omega⟩ : Fin 20) (⟨n.val % 96 - 48, by omega⟩ : Fin 48))
      (fun b => match b with | ⟨0, _⟩ => fun _ => rfl | ⟨1, _⟩ => fun _ => rfl | ⟨2, _⟩ => fun h => absurd rfl h) (Nat.sub_add_cancel (Nat.le_of_not_lt h))).trans ?_
    rw [add_i, mul_i, mul_i, lo20_apply, hi20_apply, turn20_apply, turn20_apply, hv, hv]
    refine congrArg₂ (· + ·) (congrArg₂ (· * ·) (congrArg f (Fin.ext ?_)) (congrArg (fun e => c (ix3 r (0 : Fin 1) e)) (Fin.ext ?_)))
      (congrArg₂ (· * ·) (congrArg f (Fin.ext ?_)) (congrArg (fun e => s (ix3 r (0 : Fin 1) e)) (Fin.ext ?_)))
    · show 96 * o + (96 * (n.val / 96) + (48 + (n.val % 96 - 48))) = 96 * o + n.val
      omega
    · show n.val % 96 - 48 = (96 * o + n.val) % 96 - 48
      omega
    · show 96 * o + (96 * (n.val / 96) + (n.val % 96 - 48)) = 96 * o + n.val - 48
      omega
    · show n.val % 96 - 48 = (96 * o + n.val) % 96 - 48
      omega

/-- Rows rotated head by head. -/
def rope5 (v : FVec Ideal S12288x480 .f32) (c s : FVec Ideal S12288x1x48 .f32) : FVec Ideal S12288x480 .f32 :=
  shapeCast S12288x480 (concatenate S12288x5x96 2
    [⟨S12288x5x48, subf (mulf (extractStridedSlice S12288x5x48 ![0, 0, 0] (shapeCast S12288x5x96 v shapeCasts_S12288x480_S12288x5x96) slices_S12288x5x96_o0_0_0_S12288x5x48) (broadcastTo S12288x5x48 c broadcasts_S12288x1x48_S12288x5x48))
        (mulf (extractStridedSlice S12288x5x48 ![0, 0, 48] (shapeCast S12288x5x96 v shapeCasts_S12288x480_S12288x5x96) slices_S12288x5x96_o0_0_48_S12288x5x48) (broadcastTo S12288x5x48 s broadcasts_S12288x1x48_S12288x5x48))⟩,
     ⟨S12288x5x48, addf (mulf (extractStridedSlice S12288x5x48 ![0, 0, 48] (shapeCast S12288x5x96 v shapeCasts_S12288x480_S12288x5x96) slices_S12288x5x96_o0_0_48_S12288x5x48) (broadcastTo S12288x5x48 c broadcasts_S12288x1x48_S12288x5x48))
        (mulf (extractStridedSlice S12288x5x48 ![0, 0, 0] (shapeCast S12288x5x96 v shapeCasts_S12288x480_S12288x5x96) slices_S12288x5x96_o0_0_0_S12288x5x48) (broadcastTo S12288x5x48 s broadcasts_S12288x1x48_S12288x5x48))⟩]
    concatenates_S12288x5x48_S12288x5x48_S12288x5x96_d2) shapeCasts_S12288x5x96_S12288x480

theorem heads5_apply {φ : FTy} (v : FVec Ideal S12288x480 φ) (r : Fin 12288) (h : Fin 5) (d : Fin 96) :
    shapeCast S12288x5x96 v shapeCasts_S12288x480_S12288x5x96 (ix3 r h d) = v (ix2 r (⟨96 * h.val + d.val, by omega⟩ : Fin 480)) := by
  refine shapeCast_apply _ _ _ _ ?_
  rw [Shape.rowMajor_val_two, Shape.rowMajor_val_three]
  show r.val * 480 + (96 * h.val + d.val) = (r.val * 5 + h.val) * 96 + d.val
  omega

theorem lo5_apply (v : FVec Ideal S12288x480 .f32) (r : Fin 12288) (h : Fin 5) (e : Fin 48) :
    extractStridedSlice S12288x5x48 ![0, 0, 0] (shapeCast S12288x5x96 v shapeCasts_S12288x480_S12288x5x96) slices_S12288x5x96_o0_0_0_S12288x5x48 (ix3 r h e) = v (ix2 r (⟨96 * h.val + e.val, by omega⟩ : Fin 480)) :=
  (extractStridedSlice_apply ![0, 0, 0] (shapeCast S12288x5x96 v shapeCasts_S12288x480_S12288x5x96) slices_S12288x5x96_o0_0_0_S12288x5x48 (ix3 r h e) (ix3 r h (⟨e.val, by omega⟩ : Fin 96))
    (fun a => match a with | ⟨0, _⟩ => (Nat.zero_add _).symm | ⟨1, _⟩ => (Nat.zero_add _).symm | ⟨2, _⟩ => (Nat.zero_add _).symm)).trans (heads5_apply v r h _)

theorem hi5_apply (v : FVec Ideal S12288x480 .f32) (r : Fin 12288) (h : Fin 5) (e : Fin 48) :
    extractStridedSlice S12288x5x48 ![0, 0, 48] (shapeCast S12288x5x96 v shapeCasts_S12288x480_S12288x5x96) slices_S12288x5x96_o0_0_48_S12288x5x48 (ix3 r h e) = v (ix2 r (⟨96 * h.val + (48 + e.val), by omega⟩ : Fin 480)) :=
  (extractStridedSlice_apply ![0, 0, 48] (shapeCast S12288x5x96 v shapeCasts_S12288x480_S12288x5x96) slices_S12288x5x96_o0_0_48_S12288x5x48 (ix3 r h e) (ix3 r h (⟨48 + e.val, by omega⟩ : Fin 96))
    (fun a => match a with | ⟨0, _⟩ => (Nat.zero_add _).symm | ⟨1, _⟩ => (Nat.zero_add _).symm | ⟨2, _⟩ => rfl)).trans (heads5_apply v r h _)

theorem turn5_apply (c : FVec Ideal S12288x1x48 .f32) (r : Fin 12288) (h : Fin 5) (e : Fin 48) :
    broadcastTo S12288x5x48 c broadcasts_S12288x1x48_S12288x5x48 (ix3 r h e) = c (ix3 r (0 : Fin 1) e) := broadcastTo_apply _ _ _ _ fun a => by
  match a with
  | ⟨0, _⟩ => rfl
  | ⟨1, _⟩ => rfl
  | ⟨2, _⟩ => rfl

theorem rope5_apply (v : FVec Ideal S12288x480 .f32) (c s : FVec Ideal S12288x1x48 .f32) (f : Fin 2880 → EReal) (r : Fin 12288) (o : ℕ) (ho : 96 * o + 480 ≤ 2400)
    (hv : ∀ n : Fin 480, v (ix2 r n) = f ⟨96 * o + n.val, by omega⟩) (n : Fin 480) :
    rope5 v c s (ix2 r n) = rot f (fun e => c (ix3 r (0 : Fin 1) e)) (fun e => s (ix3 r (0 : Fin 1) e)) ⟨96 * o + n.val, by omega⟩ := by
  have hm : (96 * o + n.val) % 96 = n.val % 96 := by omega
  unfold rope5
  refine (shapeCast_apply _ _ _ (ix3 r (⟨n.val / 96, by omega⟩ : Fin 5) (⟨n.val % 96, by omega⟩ : Fin 96)) ?_).trans ?_
  · rw [Shape.rowMajor_val_two, Shape.rowMajor_val_three]
    show (r.val * 5 + n.val / 96) * 96 + n.val % 96 = r.val * 480 + n.val
    omega
  unfold rot
  by_cases h : n.val % 96 < 48
  · rw [dif_pos (show (96 * o + n.val) % 96 < 48 by rw [hm]; exact h)]
    refine (concatenate_pair_apply_left (t := S12288x5x96) 2 _ _ concatenates_S12288x5x48_S12288x5x48_S12288x5x96_d2 (ix3 r (⟨n.val / 96, by omega⟩ : Fin 5) (⟨n.val % 96, by omega⟩ : Fin 96)) rfl
      (ix3 r (⟨n.val / 96, by omega⟩ : Fin 5) (⟨n.val % 96, h⟩ : Fin 48)) fun b => match b with | ⟨0, _⟩ => rfl | ⟨1, _⟩ => rfl | ⟨2, _⟩ => rfl).trans ?_
    rw [sub_i, mul_i, mul_i, lo5_apply, hi5_apply, turn5_apply, turn5_apply, hv, hv]
    refine congrArg₂ (· - ·) (congrArg₂ (· * ·) (congrArg f (Fin.ext ?_)) (congrArg (fun e => c (ix3 r (0 : Fin 1) e)) (Fin.ext hm.symm)))
      (congrArg₂ (· * ·) (congrArg f (Fin.ext ?_)) (congrArg (fun e => s (ix3 r (0 : Fin 1) e)) (Fin.ext hm.symm)))
    · show 96 * o + (96 * (n.val / 96) + n.val % 96) = 96 * o + n.val
      omega
    · show 96 * o + (96 * (n.val / 96) + (48 + n.val % 96)) = 96 * o + n.val + 48
      omega
  · rw [dif_neg (show ¬ (96 * o + n.val) % 96 < 48 by rw [hm]; exact h)]
    refine (concatenate_pair_apply_right (t := S12288x5x96) 2 _ _ concatenates_S12288x5x48_S12288x5x48_S12288x5x96_d2 (ix3 r (⟨n.val / 96, by omega⟩ : Fin 5) (⟨n.val % 96, by omega⟩ : Fin 96)) rfl rfl
      (ix3 r (⟨n.val / 96, by omega⟩ : Fin 5) (⟨n.val % 96 - 48, by omega⟩ : Fin 48))
      (fun b => match b with | ⟨0, _⟩ => fun _ => rfl | ⟨1, _⟩ => fun _ => rfl | ⟨2, _⟩ => fun h => absurd rfl h) (Nat.sub_add_cancel (Nat.le_of_not_lt h))).trans ?_
    rw [add_i, mul_i, mul_i, lo5_apply, hi5_apply, turn5_apply, turn5_apply, hv, hv]
    refine congrArg₂ (· + ·) (congrArg₂ (· * ·) (congrArg f (Fin.ext ?_)) (congrArg (fun e => c (ix3 r (0 : Fin 1) e)) (Fin.ext ?_)))
      (congrArg₂ (· * ·) (congrArg f (Fin.ext ?_)) (congrArg (fun e => s (ix3 r (0 : Fin 1) e)) (Fin.ext ?_)))
    · show 96 * o + (96 * (n.val / 96) + (48 + (n.val % 96 - 48))) = 96 * o + n.val
      omega
    · show n.val % 96 - 48 = (96 * o + n.val) % 96 - 48
      omega
    · show 96 * o + (96 * (n.val / 96) + (n.val % 96 - 48)) = 96 * o + n.val - 48
      omega
    · show n.val % 96 - 48 = (96 * o + n.val) % 96 - 48
      omega

/-- The rotation of a row in the model. -/
theorem rot_qk (r : Fin 12288) (n : Fin 2400) :
    rot (proj x g w r) (fun e => k0_pay7 (F := Ideal) cs (ix3 r (0 : Fin 1) e)) (fun e => k0_pay8 (F := Ideal) sn (ix3 r (0 : Fin 1) e)) n = qk x g cs sn w r n := by
  unfold qk
  exact congrArg₂ (fun a b => rot (proj x g w r) a b n) (funext fun e => pay7_apply cs r e) (funext fun e => pay8_apply sn r e)

/-- The rotated queries. -/
theorem pay9_apply (r : Fin 12288) (n : Fin 1920) :
    k0_pay9 (F := Ideal) (k0_pay1 x g) (k0_pay2 x g) (k0_pay3 x g) w cs sn (ix2 r n) = qk x g cs sn w r ⟨n.val, by omega⟩ := by
  have hp := fun j => pay6_apply x g w r j
  have e : k0_pay9 (F := Ideal) (k0_pay1 x g) (k0_pay2 x g) (k0_pay3 x g) w cs sn
      = rope20 (extractStridedSlice S12288x1920 ![0, 0] (k0_pay6 (F := Ideal) (k0_pay1 x g) (k0_pay2 x g) (k0_pay3 x g) w) slices_S12288x2880_o0_0_S12288x1920) (k0_pay7 cs) (k0_pay8 sn) := by
    unfold k0_pay9 rope20
    rfl
  rw [e]
  generalize k0_pay6 (F := Ideal) (k0_pay1 x g) (k0_pay2 x g) (k0_pay3 x g) w = p at hp ⊢
  refine (rope20_apply _ _ _ (proj x g w r) r 0 (by omega) (fun n => ?_) n).trans ((rot_qk x g cs sn w r _).trans (congrArg (qk x g cs sn w r) (Fin.ext (by show 96 * 0 + n.val = n.val; omega))))
  exact (extractStridedSlice_apply ![0, 0] p slices_S12288x2880_o0_0_S12288x1920 (ix2 r n) (ix2 r (⟨96 * 0 + n.val, by omega⟩ : Fin 2880))
    (fun a => match a with | ⟨0, _⟩ => (Nat.zero_add _).symm | ⟨1, _⟩ => rfl)).trans (hp _)

/-- The rotated keys. -/
theorem pay11_apply (r : Fin 12288) (j : Fin 480) :
    k0_pay11 (F := Ideal) (k0_pay7 cs) (k0_pay8 sn) (k0_pay10 (k0_pay1 x g) (k0_pay2 x g) (k0_pay3 x g) w) (ix2 r j) = keyE x g cs sn w r j := by
  have hp := fun j => pay6_apply x g w r j
  have e : k0_pay11 (F := Ideal) (k0_pay7 cs) (k0_pay8 sn) (k0_pay10 (k0_pay1 x g) (k0_pay2 x g) (k0_pay3 x g) w)
      = rope5 (extractStridedSlice S12288x480 ![0, 1920] (k0_pay6 (F := Ideal) (k0_pay1 x g) (k0_pay2 x g) (k0_pay3 x g) w) slices_S12288x2880_o0_1920_S12288x480) (k0_pay7 cs) (k0_pay8 sn) := by
    unfold k0_pay11 k0_pay10 rope5
    rfl
  rw [e]
  generalize k0_pay6 (F := Ideal) (k0_pay1 x g) (k0_pay2 x g) (k0_pay3 x g) w = p at hp ⊢
  refine (rope5_apply _ _ _ (proj x g w r) r 20 (by omega) (fun n => ?_) j).trans (rot_qk x g cs sn w r _)
  exact (extractStridedSlice_apply ![0, 1920] p slices_S12288x2880_o0_1920_S12288x480 (ix2 r n) (ix2 r (⟨96 * 20 + n.val, by omega⟩ : Fin 2880))
    (fun a => match a with | ⟨0, _⟩ => (Nat.zero_add _).symm | ⟨1, _⟩ => rfl)).trans (hp _)

/-- The values. -/
theorem pay12_apply (r : Fin 12288) (j : Fin 480) :
    k0_pay12 (F := Ideal) (k0_pay6 (k0_pay1 x g) (k0_pay2 x g) (k0_pay3 x g) w) (ix2 r j) = valE x g w r j := by
  have hp := fun j => pay6_apply x g w r j
  unfold k0_pay12
  generalize k0_pay6 (F := Ideal) (k0_pay1 x g) (k0_pay2 x g) (k0_pay3 x g) w = p at hp ⊢
  exact (extractStridedSlice_apply ![0, 2400] p slices_S12288x2880_o0_2400_S12288x480 (ix2 r j) (ix2 r (⟨2400 + j.val, by omega⟩ : Fin 2880))
    (fun a => match a with | ⟨0, _⟩ => (Nat.zero_add _).symm | ⟨1, _⟩ => rfl)).trans (hp _)

theorem pay14_apply (v : FVec Ideal S12288x1920 .f32) (r : Fin 12288) (n : Fin 1920) : k0_pay14 (F := Ideal) v (ix2 n r) = v (ix2 r n) := by
  unfold k0_pay14
  exact transpose_ix2_apply (a := 12288) (b := 1920) _ _ n r

theorem pay17_apply (v : FVec Ideal S12288x2880 .f32) (r : Fin 12288) (n : Fin 480) : k0_pay17 (F := Ideal) v (ix2 n r) = k0_pay12 v (ix2 r n) := by
  unfold k0_pay17
  exact transpose_ix2_apply (a := 12288) (b := 480) _ _ n r

theorem pay15_apply (a b : FVec Ideal S12288x1x48 .f32) (v : FVec Ideal S12288x480 .f32) (h : Fin 5) (r : Fin 12288) (d : Fin 96) :
    k0_pay15 (F := Ideal) a b v (ix3 h r d) = k0_pay11 a b v (ix2 r (⟨96 * h.val + d.val, by omega⟩ : Fin 480)) := by
  unfold k0_pay15
  generalize k0_pay11 (F := Ideal) a b v = p
  refine (transpose_apply _ _ _ _ (ix3 r h d) fun c => ?_).trans (heads5_apply (φ := .bf16) p r h d)
  match c with
  | ⟨0, _⟩ => rfl
  | ⟨1, _⟩ => rfl
  | ⟨2, _⟩ => rfl

/-! ## Block codes of 480 columns -/

theorem max_sb (v : FVec Ideal S12288x480 .f32) (f : Fin 480 → EReal) (r : Fin 12288) (hv : ∀ n : Fin 480, v (ix2 r n) = f n) (b : Fin 15) :
    multiReduction (F := Ideal) .maximumf [2] S12288x15 (absf (shapeCast S12288x15x32 v shapeCasts_S12288x480_S12288x15x32)) 0xFF800000#32 reduces_S12288x15x32_S12288x15 (.inl rfl) rfl (ix2 r b)
      = amax fun i : Fin 32 => f ⟨32 * b.val + i.val, by omega⟩ :=
  (max15_point _ reduces_S12288x15x32_S12288x15 (.inl rfl) rfl r b).trans (amax_congr fun i => (cut15_apply v r b i).trans (hv _))

/-- The shared exponents of keys. -/
theorem expoK (p : FVec Ideal S12288x15 .f32) (j : S12288x15.Idx) :
    k0_pay22 (F := Ideal) p (cmpf .oeq p (broadcast S12288x15 (Scalar.ofBits .f32 0x7F800000#32))) (log p) j = refX (p j) := by
  unfold k0_pay22
  rw [sel_i, cmpf_i, min_i, max_i, sub_i, sel_i, cmpf_i, min_i, floor_i, div_i, log_i, log_i]
  simp only [spl_i, bits_i]
  unfold refX
  rfl

/-- The shared exponents of values. -/
theorem expoV (p : FVec Ideal S12288x15 .f32) (j : S12288x15.Idx) :
    k0_pay30 (F := Ideal) p (cmpf .oeq p (broadcast S12288x15 (Scalar.ofBits .f32 0x7F800000#32))) (floor (divf (log p) (log (broadcast S12288x15 (Scalar.ofBits .f32 0x40000000#32))))) k0_pay29 j = refX (p j) := by
  unfold k0_pay30 k0_pay29
  dsimp only
  rw [sel_i, cmpf_i, min_i, max_i, sub_i, sel_i, cmpf_i, min_i, floor_i, div_i, log_i, log_i]
  simp only [spl_i, bits_i]
  unfold refX
  rfl

/-- Codes by block under shared exponents. -/
def codes15 (v : FVec Ideal S12288x480 .f32) (e : FVec Ideal S12288x15 .f32) : FVec Ideal S12288x15x32 .fp8e4m3 :=
  truncf .fp8e4m3 (minimumf (broadcast S12288x15x32 (Scalar.ofBits .f32 0x43E00000#32)) (maximumf (broadcast S12288x15x32 (Scalar.ofBits .f32 0xC3E00000#32))
    (mulf (shapeCast S12288x15x32 v shapeCasts_S12288x480_S12288x15x32) (broadcastTo S12288x15x32 (shapeCast S12288x15x1 (exp2 (subf (broadcast S12288x15 (Scalar.ofBits .f32 0x00000000#32)) e))
      shapeCasts_S12288x15_S12288x15x1) broadcasts_S12288x15x1_S12288x15x32)))) bitsLt_fp8e4m3_f32

theorem codes15_apply (v : FVec Ideal S12288x480 .f32) (e : FVec Ideal S12288x15 .f32) (f : Fin 480 → EReal) (r : Fin 12288) (hv : ∀ n : Fin 480, v (ix2 r n) = f n)
    (he : ∀ b : Fin 15, e (ix2 r b) = refX (amax fun i : Fin 32 => f ⟨32 * b.val + i.val, by omega⟩)) (n : Fin 480) :
    shapeCast S12288x480 (codes15 v e) shapeCasts_S12288x15x32_S12288x480 (ix2 r n) = codeOf f n := by
  refine (flat15_apply _ r n).trans ?_
  unfold codes15
  rw [clamp15_point, mul_i, spread15_apply, exp2_i, sub_i, spl_i, bits_i, cut15_apply, hv, he, ref_mult _ (amax_nonneg _)]
  rw [show (⟨32 * (n.val / 32) + n.val % 32, by omega⟩ : Fin 480) = n from Fin.ext (show 32 * (n.val / 32) + n.val % 32 = n.val by omega)]
  rfl

theorem bytes15_apply (e : FVec Ideal S12288x15 .f32) (f : Fin 480 → EReal) (r : Fin 12288)
    (he : ∀ b : Fin 15, e (ix2 r b) = refX (amax fun i : Fin 32 => f ⟨32 * b.val + i.val, by omega⟩)) (b : Fin 15) :
    (trunci 8 (fptosi (F := Ideal) 32 (addf e (broadcast S12288x15 (Scalar.ofBits .f32 0x42FE0000#32)))) natLt_8_32 : IVec S12288x15 8) (ix2 r b) = BitVec.ofNat 8 (sbOf f b) := by
  show (Ideal.fptosi 32 (e (ix2 r b) + Ideal.ofBits .f32 0x42FE0000#32)).setWidth 8 = _
  rw [he, ref_byte _ (amax_nonneg _), byte_of_word]
  rfl

section Keys

variable (a b : FVec Ideal S12288x1x48 .f32) (v : FVec Ideal S12288x480 .f32) (f : Fin 480 → EReal) (r : Fin 12288) (hv : ∀ n : Fin 480, k0_pay11 (F := Ideal) a b v (ix2 r n) = f n)

include hv in
theorem expo_keys (B : Fin 15) : k0_pay22 (F := Ideal) (k0_pay19 a b v) (k0_pay20 a b v) (k0_pay21 a b v) (ix2 r B) = refX (amax fun i : Fin 32 => f ⟨32 * B.val + i.val, by omega⟩) := by
  refine (expoK (k0_pay19 (F := Ideal) a b v) (ix2 r B)).trans (congrArg refX ?_)
  exact max_sb (k0_pay11 (F := Ideal) a b v) f r hv B

include hv in
/-- The codes of keys. -/
theorem codes_keys (n : Fin 480) : k0_pay32 (F := Ideal) (k0_pay23 (k0_pay18 a b v) (k0_pay19 a b v) (k0_pay20 a b v) (k0_pay21 a b v)) (ix2 r n) = codeOf f n :=
  codes15_apply (k0_pay11 (F := Ideal) a b v) _ f r hv (expo_keys a b v f r hv) n

include hv in
/-- The scale bytes of keys. -/
theorem bytes_keys (B : Fin 15) : k0_pay24 (F := Ideal) (k0_pay19 a b v) (k0_pay20 a b v) (k0_pay21 a b v) (ix2 r B) = BitVec.ofNat 8 (sbOf f B) :=
  bytes15_apply _ f r (expo_keys a b v f r hv) B

end Keys

section Values

variable (v : FVec Ideal S12288x480 .f32) (f : Fin 480 → EReal) (r : Fin 12288) (hv : ∀ n : Fin 480, v (ix2 r n) = f n)

include hv in
theorem expo_values (B : Fin 15) : k0_pay30 (F := Ideal) (k0_pay26 v) (k0_pay27 v) (k0_pay28 v) k0_pay29 (ix2 r B) = refX (amax fun i : Fin 32 => f ⟨32 * B.val + i.val, by omega⟩) := by
  refine (expoV (k0_pay26 (F := Ideal) v) (ix2 r B)).trans (congrArg refX ?_)
  exact max_sb v f r hv B

include hv in
/-- The codes of values. -/
theorem codes_values (n : Fin 480) : k0_pay33 (F := Ideal) (k0_pay25 v) (k0_pay26 v) (k0_pay27 v) (k0_pay28 v) k0_pay29 (ix2 r n) = codeOf f n :=
  codes15_apply v _ f r hv (expo_values v f r hv) n

include hv in
/-- The scale bytes of values. -/
theorem bytes_values (B : Fin 15) : k0_pay31 (F := Ideal) (k0_pay26 v) (k0_pay27 v) (k0_pay28 v) k0_pay29 (ix2 r B) = BitVec.ofNat 8 (sbOf f B) :=
  bytes15_apply _ f r (expo_values v f r hv) B

end Values

end Cert.QkvReferenceIdeal.Gen.Ref

end
-- ==== Proof.QkvRefPieces.lean ====
module

public import proofs.«01_k».proof.Proof.QkvRefValue

@[expose] public section

set_option maxRecDepth 65536

noncomputable section

/-! The stores of the projection's reference. -/

namespace Cert.QkvReferenceIdeal.Gen.Ref

open Idealize.ShloMosaic Idealize.ShloMosaic.TcCoe Idealize.ShloMosaic.Tactic Idealize.SL.Sem Idealize.ShloMosaic.ValueIdx
open Cert.QkvReferenceIdeal Cert.QkvReferenceIdeal.Gen

variable {F : FTy → Type} [FloatOps F]
variable (c : Dev nD) (arg0 : Memref sig .tc .vmem S12288x2048 .bf16) (harg0 : arg0.IsWhole) (arg1 : Memref sig .tc .vmem S1x2048 .f32) (harg1 : arg1.IsWhole) (arg2 : Memref sig .tc .vmem S48x12288 .f32) (harg2 : arg2.IsWhole) (arg3 : Memref sig .tc .vmem S48x12288 .f32) (harg3 : arg3.IsWhole) (arg4 : Memref sig .tc .vmem S2880x2048 .bf16) (harg4 : arg4.IsWhole) (arg5 : Memref sig .tc .vmem S12288x2048 .fp8e4m3) (harg5 : arg5.IsWhole) (arg6 : Memref sig .tc .vmem S12288x64 .i8) (harg6 : arg6.IsWhole) (arg7 : Memref sig .tc .vmem S1920x12288 .bf16) (harg7 : arg7.IsWhole) (arg8 : Memref sig .tc .vmem S5x12288x128 .bf16) (harg8 : arg8.IsWhole) (arg9 : Memref sig .tc .vmem S480x12288 .bf16) (harg9 : arg9.IsWhole) (arg10 : Memref sig .tc .vmem S12288x960 .fp8e4m3) (harg10 : arg10.IsWhole) (arg11 : Memref sig .tc .vmem S12288x32 .i8) (harg11 : arg11.IsWhole) (x0 : Vec F S12288x2048 .bf16) (x1 : Vec F S1x2048 .f32) (x2 : Vec F S48x12288 .f32) (x3 : Vec F S48x12288 .f32) (x4 : Vec F S2880x2048 .bf16)

theorem pieces5 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).1 =
    [⟨Rect.unit (s := S12288x2048) ![0, 0] S12288x2048.size inb_S12288x2048_S12288x2048_0_0, (k0_pay13 (F := F) (k0_pay4 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1)))))⟩] := by
  sl_kernel_rfl

theorem pieces6 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.1 =
    [⟨Rect.unit (s := S12288x64) ![0, 0] S12288x64.size inb_S12288x64_S12288x64_0_0, (k0_pay5 (F := F) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))))⟩] := by
  sl_kernel_rfl

theorem pieces7 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.2.1 =
    [⟨Rect.unit (s := S1920x12288) ![0, 0] S1920x12288.size inb_S1920x12288_S1920x12288_0_0, (k0_pay14 (F := F) (k0_pay9 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)) (View.readAt (Elt F) arg2.view (Rect.unit (s := S48x12288) ![0, 0] S48x12288.size inb_S48x12288_S48x12288_0_0).toLoadRect (harg2.unread x2)) (View.readAt (Elt F) arg3.view (Rect.unit (s := S48x12288) ![0, 0] S48x12288.size inb_S48x12288_S48x12288_0_0).toLoadRect (harg3.unread x3))))⟩] := by
  sl_kernel_rfl

theorem pieces8 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.2.2.1 =
    [⟨Rect.unit (s := S5x12288x128) ![0, 0, 96] S5x12288x32.size inb_S5x12288x128_S5x12288x32_0_0_96, (k0_pay16 (F := F))⟩, ⟨Rect.unit (s := S5x12288x128) ![0, 0, 0] S5x12288x96.size inb_S5x12288x128_S5x12288x96_0_0_0, (k0_pay15 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))⟩] := by
  sl_kernel_rfl

theorem pieces9 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.2.2.2.1 =
    [⟨Rect.unit (s := S480x12288) ![0, 0] S480x12288.size inb_S480x12288_S480x12288_0_0, (k0_pay17 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))⟩] := by
  sl_kernel_rfl

theorem pieces10 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.2.2.2.2.1 =
    [⟨Rect.unit (s := S12288x960) ![0, 480] S12288x480.size inb_S12288x960_S12288x480_0_480, (k0_pay33 (F := F) (k0_pay25 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay26 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay27 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay28 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay29 (F := F)))⟩, ⟨Rect.unit (s := S12288x960) ![0, 0] S12288x480.size inb_S12288x960_S12288x480_0_0, (k0_pay32 (F := F) (k0_pay23 (F := F) (k0_pay18 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))) (k0_pay19 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))) (k0_pay20 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))) (k0_pay21 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))))⟩] := by
  sl_kernel_rfl

theorem pieces11 : (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4).2.2.2.2.2.2.1 =
    [⟨Rect.unit (s := S12288x32) ![0, 30] S12288x2.size inb_S12288x32_S12288x2_0_30, k0_pay34⟩, ⟨Rect.unit (s := S12288x32) ![0, 15] S12288x15.size inb_S12288x32_S12288x15_0_15, (k0_pay31 (F := F) (k0_pay26 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay27 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay28 (F := F) (k0_pay12 (F := F) (k0_pay6 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4))))) (k0_pay29 (F := F)))⟩, ⟨Rect.unit (s := S12288x32) ![0, 0] S12288x15.size inb_S12288x32_S12288x15_0_0, (k0_pay24 (F := F) (k0_pay19 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))) (k0_pay20 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))) (k0_pay21 (F := F) (k0_pay7 (F := F) (View.readAt (Elt F) arg2.view (Rect.unit (s := S48x12288) ![0, 0] S48x12288.size inb_S48x12288_S48x12288_0_0).toLoadRect (harg2.unread x2))) (k0_pay8 (F := F) (View.readAt (Elt F) arg3.view (Rect.unit (s := S48x12288) ![0, 0] S48x12288.size inb_S48x12288_S48x12288_0_0).toLoadRect (harg3.unread x3))) (k0_pay10 (F := F) (k0_pay1 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay2 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (k0_pay3 (F := F) (View.readAt (Elt F) arg0.view (Rect.unit (s := S12288x2048) ![0, 0] S12288x2048.size inb_S12288x2048_S12288x2048_0_0).toLoadRect (harg0.unread x0)) (View.readAt (Elt F) arg1.view (Rect.unit (s := S1x2048) ![0, 0] S1x2048.size inb_S1x2048_S1x2048_0_0).toLoadRect (harg1.unread x1))) (View.readAt (Elt F) arg4.view (Rect.unit (s := S2880x2048) ![0, 0] S2880x2048.size inb_S2880x2048_S2880x2048_0_0).toLoadRect (harg4.unread x4)))))⟩] := by
  sl_kernel_rfl

end Cert.QkvReferenceIdeal.Gen.Ref

end
-- ==== Proof.QkvRefArr.lean ====
module

public import proofs.«01_k».proof.Proof.QkvRefPieces

@[expose] public section

set_option maxRecDepth 65536

noncomputable section

/-! The seven arrays of the projection's reference, element by element. -/

namespace Cert.QkvReferenceIdeal.Gen.Ref

open Idealize.ShloMosaic Idealize.ShloMosaic.TcCoe Idealize.ShloMosaic.Tactic Idealize.SL.Sem Idealize.ShloMosaic.ValueIdx
open Cert.QkvReferenceIdeal Cert.QkvReferenceIdeal.Gen Cert.QkvReferenceIdeal.Value
open Cert.KernelIdeal.Gen.Strip (Arr)
open Cert.OutReferenceIdeal.Gen.Ref (z2)
open Cert.QkvKernelIdeal.Gen.Proj (nact sb code dec proj rot qk keyE valE keyP kvc kvs sbOf codeOf)

/-- A load of a whole memref holding `x` reads `x`. -/
theorem rd {sp : Space} {s : Shape} {e : EltTy} (M : Memref sig .tc sp s e) (h : M.IsWhole) (x : Vec Ideal s e) {off : Fin s.rank → ℕ} (hz : off = fun _ => 0)
    (inb : ∀ a, off a + s.size a ≤ s.size a) : View.readAt (Elt Ideal) M.view (Rect.unit off s.size inb).toLoadRect (h.unread x) = x := by
  rw [View.readAt_eq_ld, h.read_unread, View.ld_unit_zero hz]

section Pieces

variable (x0 : Vec Ideal S12288x2048 .bf16) (x1 : Vec Ideal S1x2048 .f32) (x2 : Vec Ideal S48x12288 .f32) (x3 : Vec Ideal S48x12288 .f32) (x4 : Vec Ideal S2880x2048 .bf16)

def G8 : Vec Ideal S5x12288x128 .bf16 := fun y => keyP x0 x1 x2 x3 x4 (y 0) (y 1) (y 2)
def G10 : Vec Ideal S12288x960 .fp8e4m3 := fun y => kvc x0 x1 x2 x3 x4 (y 0) (y 1)
def G11 : Vec Ideal S12288x32 .i8 := fun y => kvs x0 x1 x2 x3 x4 (y 0) (y 1)

theorem emb_hi : ∀ (h : Fin 5) (r : Fin 12288) (d : Fin 32), (Rect.unit (s := S5x12288x128) ![0, 0, 96] S5x12288x32.size inb_S5x12288x128_S5x12288x32_0_0_96).emb (ix3 h r d) = ix3 h r (⟨96 + d.val, by omega⟩ : Fin 128) := by
  intro h r d
  funext a
  apply Fin.ext
  match a with
  | ⟨0, _⟩ => show 0 + 1 * h.val = h.val; omega
  | ⟨1, _⟩ => show 0 + 1 * r.val = r.val; omega
  | ⟨2, _⟩ => show 96 + 1 * d.val = 96 + d.val; omega

theorem emb_lo : ∀ (h : Fin 5) (r : Fin 12288) (d : Fin 96), (Rect.unit (s := S5x12288x128) ![0, 0, 0] S5x12288x96.size inb_S5x12288x128_S5x12288x96_0_0_0).emb (ix3 h r d) = ix3 h r (⟨d.val, by omega⟩ : Fin 128) := by
  intro h r d
  funext a
  apply Fin.ext
  match a with
  | ⟨0, _⟩ => show 0 + 1 * h.val = h.val; omega
  | ⟨1, _⟩ => show 0 + 1 * r.val = r.val; omega
  | ⟨2, _⟩ => show 0 + 1 * d.val = d.val; omega

theorem k_hi (y : S5x12288x32.Idx) : k0_pay16 (F := Ideal) y = G8 x0 x1 x2 x3 x4 ((Rect.unit (s := S5x12288x128) ![0, 0, 96] S5x12288x32.size inb_S5x12288x128_S5x12288x32_0_0_96).emb y) := by
  obtain ⟨h, r, d, rfl⟩ : ∃ (h : Fin 5) (r : Fin 12288) (d : Fin 32), y = ix3 h r d := ⟨y 0, y 1, y 2, eq_ix3 y⟩
  rw [emb_hi]
  show Ideal.ofBits .bf16 0x0000#16 = keyP x0 x1 x2 x3 x4 h r (⟨96 + d.val, by omega⟩ : Fin 128)
  unfold keyP
  rw [dif_neg (show ¬ 96 + d.val < 96 by omega)]
  simp [Ideal.ofBits, Ideal.ieee]

theorem k_lo (y : S5x12288x96.Idx) : (k0_pay15 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) y = G8 x0 x1 x2 x3 x4 ((Rect.unit (s := S5x12288x128) ![0, 0, 0] S5x12288x96.size inb_S5x12288x128_S5x12288x96_0_0_0).emb y) := by
  obtain ⟨h, r, d, rfl⟩ : ∃ (h : Fin 5) (r : Fin 12288) (d : Fin 96), y = ix3 h r d := ⟨y 0, y 1, y 2, eq_ix3 y⟩
  rw [emb_lo]
  refine (pay15_apply _ _ _ h r d).trans ((pay11_apply x0 x1 x2 x3 x4 r _).trans ?_)
  show _ = keyP x0 x1 x2 x3 x4 h r (⟨d.val, by omega⟩ : Fin 128)
  unfold keyP
  rw [dif_pos (show d.val < 96 from d.isLt)]

theorem emb_kc : ∀ (r : Fin 12288) (n : Fin 480), (Rect.unit (s := S12288x960) ![0, 0] S12288x480.size inb_S12288x960_S12288x480_0_0).emb (ix2 r n) = ix2 r (⟨0 + n.val, by omega⟩ : Fin 960) := by
  intro r n
  funext a
  apply Fin.ext
  match a with
  | ⟨0, _⟩ => show 0 + 1 * r.val = r.val; omega
  | ⟨1, _⟩ => show 0 + 1 * n.val = 0 + n.val; omega

theorem emb_vc : ∀ (r : Fin 12288) (n : Fin 480), (Rect.unit (s := S12288x960) ![0, 480] S12288x480.size inb_S12288x960_S12288x480_0_480).emb (ix2 r n) = ix2 r (⟨480 + n.val, by omega⟩ : Fin 960) := by
  intro r n
  funext a
  apply Fin.ext
  match a with
  | ⟨0, _⟩ => show 0 + 1 * r.val = r.val; omega
  | ⟨1, _⟩ => show 480 + 1 * n.val = 480 + n.val; omega

theorem emb_ks : ∀ (r : Fin 12288) (n : Fin 15), (Rect.unit (s := S12288x32) ![0, 0] S12288x15.size inb_S12288x32_S12288x15_0_0).emb (ix2 r n) = ix2 r (⟨0 + n.val, by omega⟩ : Fin 32) := by
  intro r n
  funext a
  apply Fin.ext
  match a with
  | ⟨0, _⟩ => show 0 + 1 * r.val = r.val; omega
  | ⟨1, _⟩ => show 0 + 1 * n.val = 0 + n.val; omega

theorem emb_vs : ∀ (r : Fin 12288) (n : Fin 15), (Rect.unit (s := S12288x32) ![0, 15] S12288x15.size inb_S12288x32_S12288x15_0_15).emb (ix2 r n) = ix2 r (⟨15 + n.val, by omega⟩ : Fin 32) := by
  intro r n
  funext a
  apply Fin.ext
  match a with
  | ⟨0, _⟩ => show 0 + 1 * r.val = r.val; omega
  | ⟨1, _⟩ => show 15 + 1 * n.val = 15 + n.val; omega

theorem emb_zs : ∀ (r : Fin 12288) (n : Fin 2), (Rect.unit (s := S12288x32) ![0, 30] S12288x2.size inb_S12288x32_S12288x2_0_30).emb (ix2 r n) = ix2 r (⟨30 + n.val, by omega⟩ : Fin 32) := by
  intro r n
  funext a
  apply Fin.ext
  match a with
  | ⟨0, _⟩ => show 0 + 1 * r.val = r.val; omega
  | ⟨1, _⟩ => show 30 + 1 * n.val = 30 + n.val; omega

theorem kvc_hi (y : S12288x480.Idx) : (k0_pay33 (F := Ideal) (k0_pay25 (F := Ideal) (k0_pay12 (F := Ideal) (k0_pay6 (F := Ideal) (k0_pay1 (F := Ideal) x0 x1) (k0_pay2 (F := Ideal) x0 x1) (k0_pay3 (F := Ideal) x0 x1) x4))) (k0_pay26 (F := Ideal) (k0_pay12 (F := Ideal) (k0_pay6 (F := Ideal) (k0_pay1 (F := Ideal) x0 x1) (k0_pay2 (F := Ideal) x0 x1) (k0_pay3 (F := Ideal) x0 x1) x4))) (k0_pay27 (F := Ideal) (k0_pay12 (F := Ideal) (k0_pay6 (F := Ideal) (k0_pay1 (F := Ideal) x0 x1) (k0_pay2 (F := Ideal) x0 x1) (k0_pay3 (F := Ideal) x0 x1) x4))) (k0_pay28 (F := Ideal) (k0_pay12 (F := Ideal) (k0_pay6 (F := Ideal) (k0_pay1 (F := Ideal) x0 x1) (k0_pay2 (F := Ideal) x0 x1) (k0_pay3 (F := Ideal) x0 x1) x4))) (k0_pay29 (F := Ideal))) y = G10 x0 x1 x2 x3 x4 ((Rect.unit (s := S12288x960) ![0, 480] S12288x480.size inb_S12288x960_S12288x480_0_480).emb y) := by
  obtain ⟨r, n, rfl⟩ : ∃ (r : Fin 12288) (n : Fin 480), y = ix2 r n := ⟨y 0, y 1, eq_ix2 y⟩
  rw [emb_vc]
  refine (codes_values _ (valE x0 x1 x4 r) r (fun n => pay12_apply x0 x1 x4 r n) n).trans ?_
  show _ = kvc x0 x1 x2 x3 x4 r (⟨480 + n.val, by omega⟩ : Fin 960)
  unfold kvc
  rw [dif_neg (show ¬ 480 + n.val < 480 by omega)]
  exact congrArg (codeOf _) (Fin.ext (show n.val = 480 + n.val - 480 by omega))

theorem kvc_lo (y : S12288x480.Idx) : (k0_pay32 (F := Ideal) (k0_pay23 (F := Ideal) (k0_pay18 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) (k0_pay19 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) (k0_pay20 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) (k0_pay21 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)))) y = G10 x0 x1 x2 x3 x4 ((Rect.unit (s := S12288x960) ![0, 0] S12288x480.size inb_S12288x960_S12288x480_0_0).emb y) := by
  obtain ⟨r, n, rfl⟩ : ∃ (r : Fin 12288) (n : Fin 480), y = ix2 r n := ⟨y 0, y 1, eq_ix2 y⟩
  rw [emb_kc]
  refine (codes_keys _ _ _ (keyE x0 x1 x2 x3 x4 r) r (fun n => pay11_apply x0 x1 x2 x3 x4 r n) n).trans ?_
  show _ = kvc x0 x1 x2 x3 x4 r (⟨0 + n.val, by omega⟩ : Fin 960)
  unfold kvc
  rw [dif_pos (show 0 + n.val < 480 by omega)]
  exact congrArg (codeOf _) (Fin.ext (show n.val = 0 + n.val by omega))

theorem kvs_pad (y : S12288x2.Idx) : k0_pay34 y = G11 x0 x1 x2 x3 x4 ((Rect.unit (s := S12288x32) ![0, 30] S12288x2.size inb_S12288x32_S12288x2_0_30).emb y) := by
  obtain ⟨r, n, rfl⟩ : ∃ (r : Fin 12288) (n : Fin 2), y = ix2 r n := ⟨y 0, y 1, eq_ix2 y⟩
  rw [emb_zs]
  show 0#8 = kvs x0 x1 x2 x3 x4 r (⟨30 + n.val, by omega⟩ : Fin 32)
  unfold kvs
  rw [dif_neg (show ¬ 30 + n.val < 15 by omega), dif_neg (show ¬ 30 + n.val < 30 by omega)]

theorem kvs_hi (y : S12288x15.Idx) : (k0_pay31 (F := Ideal) (k0_pay26 (F := Ideal) (k0_pay12 (F := Ideal) (k0_pay6 (F := Ideal) (k0_pay1 (F := Ideal) x0 x1) (k0_pay2 (F := Ideal) x0 x1) (k0_pay3 (F := Ideal) x0 x1) x4))) (k0_pay27 (F := Ideal) (k0_pay12 (F := Ideal) (k0_pay6 (F := Ideal) (k0_pay1 (F := Ideal) x0 x1) (k0_pay2 (F := Ideal) x0 x1) (k0_pay3 (F := Ideal) x0 x1) x4))) (k0_pay28 (F := Ideal) (k0_pay12 (F := Ideal) (k0_pay6 (F := Ideal) (k0_pay1 (F := Ideal) x0 x1) (k0_pay2 (F := Ideal) x0 x1) (k0_pay3 (F := Ideal) x0 x1) x4))) (k0_pay29 (F := Ideal))) y = G11 x0 x1 x2 x3 x4 ((Rect.unit (s := S12288x32) ![0, 15] S12288x15.size inb_S12288x32_S12288x15_0_15).emb y) := by
  obtain ⟨r, n, rfl⟩ : ∃ (r : Fin 12288) (n : Fin 15), y = ix2 r n := ⟨y 0, y 1, eq_ix2 y⟩
  rw [emb_vs]
  refine (bytes_values _ (valE x0 x1 x4 r) r (fun n => pay12_apply x0 x1 x4 r n) n).trans ?_
  show _ = kvs x0 x1 x2 x3 x4 r (⟨15 + n.val, by omega⟩ : Fin 32)
  unfold kvs
  rw [dif_neg (show ¬ 15 + n.val < 15 by omega), dif_pos (show 15 + n.val < 30 by omega)]
  exact congrArg (fun z => BitVec.ofNat 8 (sbOf _ z)) (Fin.ext (show n.val = 15 + n.val - 15 by omega))

theorem kvs_lo (y : S12288x15.Idx) : (k0_pay24 (F := Ideal) (k0_pay19 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) (k0_pay20 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4)) (k0_pay21 (F := Ideal) (k0_pay7 (F := Ideal) x2) (k0_pay8 (F := Ideal) x3) (k0_pay10 (F := Ideal) (k0_pay1 (F := Ideal) x0 x1) (k0_pay2 (F := Ideal) x0 x1) (k0_pay3 (F := Ideal) x0 x1) x4))) y = G11 x0 x1 x2 x3 x4 ((Rect.unit (s := S12288x32) ![0, 0] S12288x15.size inb_S12288x32_S12288x15_0_0).emb y) := by
  obtain ⟨r, n, rfl⟩ : ∃ (r : Fin 12288) (n : Fin 15), y = ix2 r n := ⟨y 0, y 1, eq_ix2 y⟩
  rw [emb_ks]
  refine (bytes_keys _ _ _ (keyE x0 x1 x2 x3 x4 r) r (fun n => pay11_apply x0 x1 x2 x3 x4 r n) n).trans ?_
  show _ = kvs x0 x1 x2 x3 x4 r (⟨0 + n.val, by omega⟩ : Fin 32)
  unfold kvs
  rw [dif_pos (show 0 + n.val < 15 by omega)]
  exact congrArg (fun z => BitVec.ofNat 8 (sbOf _ z)) (Fin.ext (show n.val = 0 + n.val by omega))

end Pieces

section Point

variable (c : Dev nD) (arg0 : Memref sig .tc .vmem S12288x2048 .bf16) (harg0 : arg0.IsWhole) (arg1 : Memref sig .tc .vmem S1x2048 .f32) (harg1 : arg1.IsWhole) (arg2 : Memref sig .tc .vmem S48x12288 .f32) (harg2 : arg2.IsWhole) (arg3 : Memref sig .tc .vmem S48x12288 .f32) (harg3 : arg3.IsWhole) (arg4 : Memref sig .tc .vmem S2880x2048 .bf16) (harg4 : arg4.IsWhole) (arg5 : Memref sig .tc .vmem S12288x2048 .fp8e4m3) (harg5 : arg5.IsWhole) (arg6 : Memref sig .tc .vmem S12288x64 .i8) (harg6 : arg6.IsWhole) (arg7 : Memref sig .tc .vmem S1920x12288 .bf16) (harg7 : arg7.IsWhole) (arg8 : Memref sig .tc .vmem S5x12288x128 .bf16) (harg8 : arg8.IsWhole) (arg9 : Memref sig .tc .vmem S480x12288 .bf16) (harg9 : arg9.IsWhole) (arg10 : Memref sig .tc .vmem S12288x960 .fp8e4m3) (harg10 : arg10.IsWhole) (arg11 : Memref sig .tc .vmem S12288x32 .i8) (harg11 : arg11.IsWhole) (x0 : Vec Ideal S12288x2048 .bf16) (x1 : Vec Ideal S1x2048 .f32) (x2 : Vec Ideal S48x12288 .f32) (x3 : Vec Ideal S48x12288 .f32) (x4 : Vec Ideal S2880x2048 .bf16)

theorem codes_R (r : Fin 12288) (d : Fin 2048) : out0_A_5 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r d) = code x0 x1 r d := by
  refine (congrFun (View.read_writes_junk_eq_canon _ _) _).trans ?_
  rw [pieces5 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2]
  exact (congrFun (View.canon_unit_zero z2 _ _) _).trans (pay13_apply x0 x1 r d)

theorem scales_R (r : Fin 12288) (b : Fin 64) : out0_A_6 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r b) = BitVec.ofNat 8 (sb x0 x1 r b) := by
  refine (congrFun (View.read_writes_junk_eq_canon _ _) _).trans ?_
  rw [pieces6 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2]
  exact (congrFun (View.canon_unit_zero z2 _ _) _).trans (pay5_apply x0 x1 r b)

theorem q_R (n : Fin 1920) (r : Fin 12288) : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 n r) = qk x0 x1 x2 x3 x4 r ⟨n.val, by omega⟩ := by
  refine (congrFun (View.read_writes_junk_eq_canon _ _) _).trans ?_
  rw [pieces7 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2, rd arg2 harg2 x2 z2, rd arg3 harg3 x3 z2, rd arg4 harg4 x4 z2]
  exact (congrFun (View.canon_unit_zero z2 _ _) _).trans ((pay14_apply _ r n).trans (pay9_apply x0 x1 x2 x3 x4 r n))

theorem v_R (n : Fin 480) (r : Fin 12288) : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 n r) = valE x0 x1 x4 r n := by
  refine (congrFun (View.read_writes_junk_eq_canon _ _) _).trans ?_
  rw [pieces9 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2, rd arg4 harg4 x4 z2]
  exact (congrFun (View.canon_unit_zero z2 _ _) _).trans ((pay17_apply _ r n).trans (pay12_apply x0 x1 x4 r n))

/-- The reference's keys by head. -/
theorem k_R (h : Fin 5) (r : Fin 12288) (d : Fin 128) : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 (ix3 h r d) = keyP x0 x1 x2 x3 x4 h r d := by
  refine (congrFun (View.read_writes_junk_eq_canon _ _) _).trans
    (View.canon_apply_of_pieces (G8 x0 x1 x2 x3 x4) _ ?_ (ix3 h r d) (cover0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 (ix3 h r d)))
  intro p hp
  rw [pieces8 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2, rd arg2 harg2 x2 z2, rd arg3 harg3 x3 z2, rd arg4 harg4 x4 z2] at hp
  simp only [List.mem_cons, List.not_mem_nil, or_false] at hp
  rcases hp with rfl | rfl
  · exact fun y => k_hi x0 x1 x2 x3 x4 y
  · exact fun y => k_lo x0 x1 x2 x3 x4 y

/-- The reference's codes of keys and values. -/
theorem kvc_R (r : Fin 12288) (n : Fin 960) : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r n) = kvc x0 x1 x2 x3 x4 r n := by
  refine (congrFun (View.read_writes_junk_eq_canon _ _) _).trans
    (View.canon_apply_of_pieces (G10 x0 x1 x2 x3 x4) _ ?_ (ix2 r n) (cover0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r n)))
  intro p hp
  rw [pieces10 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2, rd arg2 harg2 x2 z2, rd arg3 harg3 x3 z2, rd arg4 harg4 x4 z2] at hp
  simp only [List.mem_cons, List.not_mem_nil, or_false] at hp
  rcases hp with rfl | rfl
  · exact fun y => kvc_hi x0 x1 x2 x3 x4 y
  · exact fun y => kvc_lo x0 x1 x2 x3 x4 y

/-- The reference's scale bytes of keys and values. -/
theorem kvs_R (r : Fin 12288) (b : Fin 32) : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r b) = kvs x0 x1 x2 x3 x4 r b := by
  refine (congrFun (View.read_writes_junk_eq_canon _ _) _).trans
    (View.canon_apply_of_pieces (G11 x0 x1 x2 x3 x4) _ ?_ (ix2 r b) (cover0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 (ix2 r b)))
  intro p hp
  rw [pieces11 (F := Ideal) c arg0 harg0 arg1 harg1 arg2 harg2 arg3 harg3 arg4 harg4 arg5 harg5 arg6 harg6 arg7 harg7 arg8 harg8 arg9 harg9 arg10 harg10 arg11 harg11 x0 x1 x2 x3 x4, rd arg0 harg0 x0 z2, rd arg1 harg1 x1 z2, rd arg2 harg2 x2 z2, rd arg3 harg3 x3 z2, rd arg4 harg4 x4 z2] at hp
  simp only [List.mem_cons, List.not_mem_nil, or_false] at hp
  rcases hp with rfl | rfl | rfl
  · exact fun y => kvs_pad x0 x1 x2 x3 x4 y
  · exact fun y => kvs_hi x0 x1 x2 x3 x4 y
  · exact fun y => kvs_lo x0 x1 x2 x3 x4 y

end Point

/-! ## The arrays -/

variable (m : (ℓ : Loc nD τ sig) → Buf (Elt Ideal) ℓ)

abbrev A0 (c : Dev nD) : Arr 12288 2048 := m ((c : Thread nD τ).loc main_arg0)
abbrev A1 (c : Dev nD) : Arr 1 2048 := m ((c : Thread nD τ).loc main_arg1)
abbrev A2 (c : Dev nD) : Arr 48 12288 := m ((c : Thread nD τ).loc main_arg2)
abbrev A3 (c : Dev nD) : Arr 48 12288 := m ((c : Thread nD τ).loc main_arg3)
abbrev A4 (c : Dev nD) : Arr 2880 2048 := m ((c : Thread nD τ).loc main_arg4)

/-- The one point. -/
def t0 : Fin cfg0.N := ⟨0, by decide⟩

theorem idx_zero0 : ∀ t : Fin cfg0.N, win0_0.index t (0 : Fin 2) = 0 ∧ win0_0.index t (1 : Fin 2) = 0 := (by decide +kernel : ∀ t : Fin grid0.N, _)

theorem emb0 (t : Fin cfg0.N) (j : S12288x2048.Idx) : ((cfg0.win 0).blk t).view.emb j = j := by
  obtain ⟨e0, e1⟩ := idx_zero0 t
  funext a
  apply Fin.ext
  match a with
  | ⟨0, _⟩ => show win0_0.index t (0 : Fin 2) * 12288 + 1 * (j 0).val = (j 0).val; omega
  | ⟨1, _⟩ => show win0_0.index t (1 : Fin 2) * 2048 + 1 * (j 1).val = (j 1).val; omega

theorem iblk0_eq (c : Dev nD) (t : Fin cfg0.N) : (iblk m c 0 t : Vec Ideal S12288x2048 .bf16) = A0 m c := by
  funext j
  show V m c main_arg0 (((cfg0.win 0).blk t).view.emb j) = A0 m c j
  rw [emb0, V_main_arg0]

theorem idx_zero1 : ∀ t : Fin cfg0.N, win0_1.index t (0 : Fin 2) = 0 ∧ win0_1.index t (1 : Fin 2) = 0 := (by decide +kernel : ∀ t : Fin grid0.N, _)

theorem emb1 (t : Fin cfg0.N) (j : S1x2048.Idx) : ((cfg0.win 1).blk t).view.emb j = j := by
  obtain ⟨e0, e1⟩ := idx_zero1 t
  funext a
  apply Fin.ext
  match a with
  | ⟨0, _⟩ => show win0_1.index t (0 : Fin 2) * 1 + 1 * (j 0).val = (j 0).val; omega
  | ⟨1, _⟩ => show win0_1.index t (1 : Fin 2) * 2048 + 1 * (j 1).val = (j 1).val; omega

theorem iblk1_eq (c : Dev nD) (t : Fin cfg0.N) : (iblk m c 1 t : Vec Ideal S1x2048 .f32) = A1 m c := by
  funext j
  show V m c main_arg1 (((cfg0.win 1).blk t).view.emb j) = A1 m c j
  rw [emb1, V_main_arg1]

theorem idx_zero2 : ∀ t : Fin cfg0.N, win0_2.index t (0 : Fin 2) = 0 ∧ win0_2.index t (1 : Fin 2) = 0 := (by decide +kernel : ∀ t : Fin grid0.N, _)

theorem emb2 (t : Fin cfg0.N) (j : S48x12288.Idx) : ((cfg0.win 2).blk t).view.emb j = j := by
  obtain ⟨e0, e1⟩ := idx_zero2 t
  funext a
  apply Fin.ext
  match a with
  | ⟨0, _⟩ => show win0_2.index t (0 : Fin 2) * 48 + 1 * (j 0).val = (j 0).val; omega
  | ⟨1, _⟩ => show win0_2.index t (1 : Fin 2) * 12288 + 1 * (j 1).val = (j 1).val; omega

theorem iblk2_eq (c : Dev nD) (t : Fin cfg0.N) : (iblk m c 2 t : Vec Ideal S48x12288 .f32) = A2 m c := by
  funext j
  show V m c main_arg2 (((cfg0.win 2).blk t).view.emb j) = A2 m c j
  rw [emb2, V_main_arg2]

theorem idx_zero3 : ∀ t : Fin cfg0.N, win0_3.index t (0 : Fin 2) = 0 ∧ win0_3.index t (1 : Fin 2) = 0 := (by decide +kernel : ∀ t : Fin grid0.N, _)

theorem emb3 (t : Fin cfg0.N) (j : S48x12288.Idx) : ((cfg0.win 3).blk t).view.emb j = j := by
  obtain ⟨e0, e1⟩ := idx_zero3 t
  funext a
  apply Fin.ext
  match a with
  | ⟨0, _⟩ => show win0_3.index t (0 : Fin 2) * 48 + 1 * (j 0).val = (j 0).val; omega
  | ⟨1, _⟩ => show win0_3.index t (1 : Fin 2) * 12288 + 1 * (j 1).val = (j 1).val; omega

theorem iblk3_eq (c : Dev nD) (t : Fin cfg0.N) : (iblk m c 3 t : Vec Ideal S48x12288 .f32) = A3 m c := by
  funext j
  show V m c main_arg3 (((cfg0.win 3).blk t).view.emb j) = A3 m c j
  rw [emb3, V_main_arg3]

theorem idx_zero4 : ∀ t : Fin cfg0.N, win0_4.index t (0 : Fin 2) = 0 ∧ win0_4.index t (1 : Fin 2) = 0 := (by decide +kernel : ∀ t : Fin grid0.N, _)

theorem emb4 (t : Fin cfg0.N) (j : S2880x2048.Idx) : ((cfg0.win 4).blk t).view.emb j = j := by
  obtain ⟨e0, e1⟩ := idx_zero4 t
  funext a
  apply Fin.ext
  match a with
  | ⟨0, _⟩ => show win0_4.index t (0 : Fin 2) * 2880 + 1 * (j 0).val = (j 0).val; omega
  | ⟨1, _⟩ => show win0_4.index t (1 : Fin 2) * 2048 + 1 * (j 1).val = (j 1).val; omega

theorem iblk4_eq (c : Dev nD) (t : Fin cfg0.N) : (iblk m c 4 t : Vec Ideal S2880x2048 .bf16) = A4 m c := by
  funext j
  show V m c main_arg4 (((cfg0.win 4).blk t).view.emb j) = A4 m c j
  rw [emb4, V_main_arg4]

theorem idx_zero5 : ∀ t : Fin cfg0.N, win0_5.index t (0 : Fin 2) = 0 ∧ win0_5.index t (1 : Fin 2) = 0 := (by decide +kernel : ∀ t : Fin grid0.N, _)

theorem emb5 (t : Fin cfg0.N) (j : S12288x2048.Idx) : ((cfg0.win 5).blk t).view.emb j = j := by
  obtain ⟨e0, e1⟩ := idx_zero5 t
  funext a
  apply Fin.ext
  match a with
  | ⟨0, _⟩ => show win0_5.index t (0 : Fin 2) * 12288 + 1 * (j 0).val = (j 0).val; omega
  | ⟨1, _⟩ => show win0_5.index t (1 : Fin 2) * 2048 + 1 * (j 1).val = (j 1).val; omega

theorem end5 (c : Dev nD) (j : S12288x2048.Idx) :
    ((dats m 0 c).arrAt 5 cfg0.N : Vec Ideal S12288x2048 .fp8e4m3) j = ((dats m 0 c).flushed 5 t0 : Vec Ideal S12288x2048 .fp8e4m3) j := by
  have h := congrFun (blocks5 m c t0 (flush0_5 t0)) j
  rw [View.read_apply, emb5] at h
  exact h

theorem idx_zero6 : ∀ t : Fin cfg0.N, win0_6.index t (0 : Fin 2) = 0 ∧ win0_6.index t (1 : Fin 2) = 0 := (by decide +kernel : ∀ t : Fin grid0.N, _)

theorem emb6 (t : Fin cfg0.N) (j : S12288x64.Idx) : ((cfg0.win 6).blk t).view.emb j = j := by
  obtain ⟨e0, e1⟩ := idx_zero6 t
  funext a
  apply Fin.ext
  match a with
  | ⟨0, _⟩ => show win0_6.index t (0 : Fin 2) * 12288 + 1 * (j 0).val = (j 0).val; omega
  | ⟨1, _⟩ => show win0_6.index t (1 : Fin 2) * 64 + 1 * (j 1).val = (j 1).val; omega

theorem end6 (c : Dev nD) (j : S12288x64.Idx) :
    ((dats m 0 c).arrAt 6 cfg0.N : Vec Ideal S12288x64 .i8) j = ((dats m 0 c).flushed 6 t0 : Vec Ideal S12288x64 .i8) j := by
  have h := congrFun (blocks6 m c t0 (flush0_6 t0)) j
  rw [View.read_apply, emb6] at h
  exact h

theorem idx_zero7 : ∀ t : Fin cfg0.N, win0_7.index t (0 : Fin 2) = 0 ∧ win0_7.index t (1 : Fin 2) = 0 := (by decide +kernel : ∀ t : Fin grid0.N, _)

theorem emb7 (t : Fin cfg0.N) (j : S1920x12288.Idx) : ((cfg0.win 7).blk t).view.emb j = j := by
  obtain ⟨e0, e1⟩ := idx_zero7 t
  funext a
  apply Fin.ext
  match a with
  | ⟨0, _⟩ => show win0_7.index t (0 : Fin 2) * 1920 + 1 * (j 0).val = (j 0).val; omega
  | ⟨1, _⟩ => show win0_7.index t (1 : Fin 2) * 12288 + 1 * (j 1).val = (j 1).val; omega

theorem end7 (c : Dev nD) (j : S1920x12288.Idx) :
    ((dats m 0 c).arrAt 7 cfg0.N : Vec Ideal S1920x12288 .bf16) j = ((dats m 0 c).flushed 7 t0 : Vec Ideal S1920x12288 .bf16) j := by
  have h := congrFun (blocks7 m c t0 (flush0_7 t0)) j
  rw [View.read_apply, emb7] at h
  exact h

theorem idx_zero8 : ∀ t : Fin cfg0.N, win0_8.index t (0 : Fin 3) = 0 ∧ win0_8.index t (1 : Fin 3) = 0 ∧ win0_8.index t (2 : Fin 3) = 0 := (by decide +kernel : ∀ t : Fin grid0.N, _)

theorem emb8 (t : Fin cfg0.N) (j : S5x12288x128.Idx) : ((cfg0.win 8).blk t).view.emb j = j := by
  obtain ⟨e0, e1, e2⟩ := idx_zero8 t
  funext a
  apply Fin.ext
  match a with
  | ⟨0, _⟩ => show win0_8.index t (0 : Fin 3) * 5 + 1 * (j 0).val = (j 0).val; omega
  | ⟨1, _⟩ => show win0_8.index t (1 : Fin 3) * 12288 + 1 * (j 1).val = (j 1).val; omega
  | ⟨2, _⟩ => show win0_8.index t (2 : Fin 3) * 128 + 1 * (j 2).val = (j 2).val; omega

theorem end8 (c : Dev nD) (j : S5x12288x128.Idx) :
    ((dats m 0 c).arrAt 8 cfg0.N : Vec Ideal S5x12288x128 .bf16) j = ((dats m 0 c).flushed 8 t0 : Vec Ideal S5x12288x128 .bf16) j := by
  have h := congrFun (blocks8 m c t0 (flush0_8 t0)) j
  rw [View.read_apply, emb8] at h
  exact h

theorem idx_zero9 : ∀ t : Fin cfg0.N, win0_9.index t (0 : Fin 2) = 0 ∧ win0_9.index t (1 : Fin 2) = 0 := (by decide +kernel : ∀ t : Fin grid0.N, _)

theorem emb9 (t : Fin cfg0.N) (j : S480x12288.Idx) : ((cfg0.win 9).blk t).view.emb j = j := by
  obtain ⟨e0, e1⟩ := idx_zero9 t
  funext a
  apply Fin.ext
  match a with
  | ⟨0, _⟩ => show win0_9.index t (0 : Fin 2) * 480 + 1 * (j 0).val = (j 0).val; omega
  | ⟨1, _⟩ => show win0_9.index t (1 : Fin 2) * 12288 + 1 * (j 1).val = (j 1).val; omega

theorem end9 (c : Dev nD) (j : S480x12288.Idx) :
    ((dats m 0 c).arrAt 9 cfg0.N : Vec Ideal S480x12288 .bf16) j = ((dats m 0 c).flushed 9 t0 : Vec Ideal S480x12288 .bf16) j := by
  have h := congrFun (blocks9 m c t0 (flush0_9 t0)) j
  rw [View.read_apply, emb9] at h
  exact h

theorem idx_zero10 : ∀ t : Fin cfg0.N, win0_10.index t (0 : Fin 2) = 0 ∧ win0_10.index t (1 : Fin 2) = 0 := (by decide +kernel : ∀ t : Fin grid0.N, _)

theorem emb10 (t : Fin cfg0.N) (j : S12288x960.Idx) : ((cfg0.win 10).blk t).view.emb j = j := by
  obtain ⟨e0, e1⟩ := idx_zero10 t
  funext a
  apply Fin.ext
  match a with
  | ⟨0, _⟩ => show win0_10.index t (0 : Fin 2) * 12288 + 1 * (j 0).val = (j 0).val; omega
  | ⟨1, _⟩ => show win0_10.index t (1 : Fin 2) * 960 + 1 * (j 1).val = (j 1).val; omega

theorem end10 (c : Dev nD) (j : S12288x960.Idx) :
    ((dats m 0 c).arrAt 10 cfg0.N : Vec Ideal S12288x960 .fp8e4m3) j = ((dats m 0 c).flushed 10 t0 : Vec Ideal S12288x960 .fp8e4m3) j := by
  have h := congrFun (blocks10 m c t0 (flush0_10 t0)) j
  rw [View.read_apply, emb10] at h
  exact h

theorem idx_zero11 : ∀ t : Fin cfg0.N, win0_11.index t (0 : Fin 2) = 0 ∧ win0_11.index t (1 : Fin 2) = 0 := (by decide +kernel : ∀ t : Fin grid0.N, _)

theorem emb11 (t : Fin cfg0.N) (j : S12288x32.Idx) : ((cfg0.win 11).blk t).view.emb j = j := by
  obtain ⟨e0, e1⟩ := idx_zero11 t
  funext a
  apply Fin.ext
  match a with
  | ⟨0, _⟩ => show win0_11.index t (0 : Fin 2) * 12288 + 1 * (j 0).val = (j 0).val; omega
  | ⟨1, _⟩ => show win0_11.index t (1 : Fin 2) * 32 + 1 * (j 1).val = (j 1).val; omega

theorem end11 (c : Dev nD) (j : S12288x32.Idx) :
    ((dats m 0 c).arrAt 11 cfg0.N : Vec Ideal S12288x32 .i8) j = ((dats m 0 c).flushed 11 t0 : Vec Ideal S12288x32 .i8) j := by
  have h := congrFun (blocks11 m c t0 (flush0_11 t0)) j
  rw [View.read_apply, emb11] at h
  exact h

/-- The codes. -/
theorem ref_codes (c : Dev nD) (r : Fin 12288) (d : Fin 2048) : ((dats m 0 c).arrAt 5 cfg0.N : Vec Ideal S12288x2048 .fp8e4m3) (ix2 r d) = code (A0 m c) (A1 m c) r d := by
  refine (end5 m c _).trans ((congrFun (flushed5_A m c t0) _).trans ((codes_R (r := r) (d := d) ..).trans ?_))
  rw [iblk0_eq m c t0, iblk1_eq m c t0]

/-- The scale bytes. -/
theorem ref_scales (c : Dev nD) (r : Fin 12288) (b : Fin 64) : ((dats m 0 c).arrAt 6 cfg0.N : Vec Ideal S12288x64 .i8) (ix2 r b) = BitVec.ofNat 8 (sb (A0 m c) (A1 m c) r b) := by
  refine (end6 m c _).trans ((congrFun (flushed6_A m c t0) _).trans ((scales_R (r := r) (b := b) ..).trans ?_))
  rw [iblk0_eq m c t0, iblk1_eq m c t0]

/-- The queries. -/
theorem ref_q (c : Dev nD) (n : Fin 1920) (r : Fin 12288) : ((dats m 0 c).arrAt 7 cfg0.N : Vec Ideal S1920x12288 .bf16) (ix2 n r) = qk (A0 m c) (A1 m c) (A2 m c) (A3 m c) (A4 m c) r ⟨n.val, by omega⟩ := by
  refine (end7 m c _).trans ((congrFun (flushed7_A m c t0) _).trans ((q_R (n := n) (r := r) ..).trans ?_))
  rw [iblk0_eq m c t0, iblk1_eq m c t0, iblk2_eq m c t0, iblk3_eq m c t0, iblk4_eq m c t0]

/-- The keys by head. -/
theorem ref_k (c : Dev nD) (h : Fin 5) (r : Fin 12288) (d : Fin 128) : ((dats m 0 c).arrAt 8 cfg0.N : Vec Ideal S5x12288x128 .bf16) (ix3 h r d) = keyP (A0 m c) (A1 m c) (A2 m c) (A3 m c) (A4 m c) h r d := by
  refine (end8 m c _).trans ((congrFun (flushed8_A m c t0) _).trans ((k_R (h := h) (r := r) (d := d) ..).trans ?_))
  rw [iblk0_eq m c t0, iblk1_eq m c t0, iblk2_eq m c t0, iblk3_eq m c t0, iblk4_eq m c t0]

/-- The values. -/
theorem ref_v (c : Dev nD) (n : Fin 480) (r : Fin 12288) : ((dats m 0 c).arrAt 9 cfg0.N : Vec Ideal S480x12288 .bf16) (ix2 n r) = valE (A0 m c) (A1 m c) (A4 m c) r n := by
  refine (end9 m c _).trans ((congrFun (flushed9_A m c t0) _).trans ((v_R (n := n) (r := r) ..).trans ?_))
  rw [iblk0_eq m c t0, iblk1_eq m c t0, iblk4_eq m c t0]

/-- The codes of keys and values. -/
theorem ref_kvc (c : Dev nD) (r : Fin 12288) (n : Fin 960) : ((dats m 0 c).arrAt 10 cfg0.N : Vec Ideal S12288x960 .fp8e4m3) (ix2 r n) = kvc (A0 m c) (A1 m c) (A2 m c) (A3 m c) (A4 m c) r n := by
  refine (end10 m c _).trans ((congrFun (flushed10_A m c t0) _).trans ((kvc_R (r := r) (n := n) ..).trans ?_))
  rw [iblk0_eq m c t0, iblk1_eq m c t0, iblk2_eq m c t0, iblk3_eq m c t0, iblk4_eq m c t0]

/-- The scale bytes of keys and values. -/
theorem ref_kvs (c : Dev nD) (r : Fin 12288) (b : Fin 32) : ((dats m 0 c).arrAt 11 cfg0.N : Vec Ideal S12288x32 .i8) (ix2 r b) = kvs (A0 m c) (A1 m c) (A2 m c) (A3 m c) (A4 m c) r b := by
  refine (end11 m c _).trans ((congrFun (flushed11_A m c t0) _).trans ((kvs_R (r := r) (b := b) ..).trans ?_))
  rw [iblk0_eq m c t0, iblk1_eq m c t0, iblk2_eq m c t0, iblk3_eq m c t0, iblk4_eq m c t0]

end Cert.QkvReferenceIdeal.Gen.Ref

end
-- ==== Proof.QkvSame.lean ====
module

public import proofs.«01_k».proof.Proof.QkvFold
public import proofs.«01_k».proof.Proof.QkvRefArr
public import proofs.«01_k».proof.Defs

@[expose] public section

noncomputable section

/-! The projection and its reference end with equal results. -/

namespace Cert.QkvKernelIdeal.Gen.Proj

open Idealize.ShloMosaic Idealize.SL.Sem Idealize.ShloMosaic.ValueIdx Idealize.ShloMosaic.TcCoe

variable (m : (ℓ : Loc Cert.QkvKernelIdeal.nD Cert.QkvKernelIdeal.τ Cert.QkvKernelIdeal.sig) → Buf (Elt Ideal) ℓ)
variable (m' : (ℓ : Loc Cert.QkvReferenceIdeal.nD Cert.QkvReferenceIdeal.τ Cert.QkvReferenceIdeal.sig) → Buf (Elt Ideal) ℓ)

/-- The reference's arguments are the kernel's. -/
def Agree (c : Dev Cert.QkvKernelIdeal.nD) : Prop :=
  Cert.QkvReferenceIdeal.Gen.Ref.A0 m' c = A0 m c ∧ Cert.QkvReferenceIdeal.Gen.Ref.A1 m' c = A1 m c ∧ Cert.QkvReferenceIdeal.Gen.Ref.A2 m' c = A2 m c
    ∧ Cert.QkvReferenceIdeal.Gen.Ref.A3 m' c = A3 m c ∧ Cert.QkvReferenceIdeal.Gen.Ref.A4 m' c = A4 m c

/-- The codes of the projection's reference are the kernel's. -/
theorem qkv_same_codes (c : Dev Cert.QkvKernelIdeal.nD) (h : Agree m m' c) :
    (Cert.QkvReferenceIdeal.Gen.dats m' 0 c).arrAt 5 Cert.QkvReferenceIdeal.cfg0.N = (dats m 0 c).arrAt 5 cfg0.N := by
  obtain ⟨e0, e1, e2, e3, e4⟩ := h
  funext j
  rw [eq_ix2 j]
  refine (Cert.QkvReferenceIdeal.Gen.Ref.ref_codes m' c _ _).trans (Eq.trans ?_ (kernel_codes m c _ _).symm)
  rw [e0, e1]

/-- The scale bytes of the projection's reference are the kernel's. -/
theorem qkv_same_scales (c : Dev Cert.QkvKernelIdeal.nD) (h : Agree m m' c) :
    (Cert.QkvReferenceIdeal.Gen.dats m' 0 c).arrAt 6 Cert.QkvReferenceIdeal.cfg0.N = (dats m 0 c).arrAt 6 cfg0.N := by
  obtain ⟨e0, e1, e2, e3, e4⟩ := h
  funext j
  rw [eq_ix2 j]
  refine (Cert.QkvReferenceIdeal.Gen.Ref.ref_scales m' c _ _).trans (Eq.trans ?_ (kernel_scales m c _ _).symm)
  rw [e0, e1]

/-- The queries of the projection's reference are the kernel's. -/
theorem qkv_same_q (c : Dev Cert.QkvKernelIdeal.nD) (h : Agree m m' c) :
    (Cert.QkvReferenceIdeal.Gen.dats m' 0 c).arrAt 7 Cert.QkvReferenceIdeal.cfg0.N = (dats m 0 c).arrAt 7 cfg0.N := by
  obtain ⟨e0, e1, e2, e3, e4⟩ := h
  funext j
  rw [eq_ix2 j]
  refine (Cert.QkvReferenceIdeal.Gen.Ref.ref_q m' c _ _).trans (Eq.trans ?_ (kernel_q m c _ _).symm)
  rw [e0, e1, e2, e3, e4]

/-- The keys by head of the projection's reference are the kernel's. -/
theorem qkv_same_k (c : Dev Cert.QkvKernelIdeal.nD) (h : Agree m m' c) :
    (Cert.QkvReferenceIdeal.Gen.dats m' 0 c).arrAt 8 Cert.QkvReferenceIdeal.cfg0.N = (dats m 0 c).arrAt 8 cfg0.N := by
  obtain ⟨e0, e1, e2, e3, e4⟩ := h
  funext j
  rw [eq_ix3 j]
  refine (Cert.QkvReferenceIdeal.Gen.Ref.ref_k m' c _ _ _).trans (Eq.trans ?_ (kernel_k m c _ _ _).symm)
  rw [e0, e1, e2, e3, e4]

/-- The values of the projection's reference are the kernel's. -/
theorem qkv_same_v (c : Dev Cert.QkvKernelIdeal.nD) (h : Agree m m' c) :
    (Cert.QkvReferenceIdeal.Gen.dats m' 0 c).arrAt 9 Cert.QkvReferenceIdeal.cfg0.N = (dats m 0 c).arrAt 9 cfg0.N := by
  obtain ⟨e0, e1, e2, e3, e4⟩ := h
  funext j
  rw [eq_ix2 j]
  refine (Cert.QkvReferenceIdeal.Gen.Ref.ref_v m' c _ _).trans (Eq.trans ?_ (kernel_v m c _ _).symm)
  rw [e0, e1, e4]

/-- The codes of keys and values of the projection's reference are the kernel's. -/
theorem qkv_same_kvc (c : Dev Cert.QkvKernelIdeal.nD) (h : Agree m m' c) :
    (Cert.QkvReferenceIdeal.Gen.dats m' 0 c).arrAt 10 Cert.QkvReferenceIdeal.cfg0.N = (dats m 0 c).arrAt 10 cfg0.N := by
  obtain ⟨e0, e1, e2, e3, e4⟩ := h
  funext j
  rw [eq_ix2 j]
  refine (Cert.QkvReferenceIdeal.Gen.Ref.ref_kvc m' c _ _).trans (Eq.trans ?_ (kernel_kvc m c _ _).symm)
  rw [e0, e1, e2, e3, e4]

/-- The scale bytes of keys and values of the projection's reference are the kernel's. -/
theorem qkv_same_kvs (c : Dev Cert.QkvKernelIdeal.nD) (h : Agree m m' c) :
    (Cert.QkvReferenceIdeal.Gen.dats m' 0 c).arrAt 11 Cert.QkvReferenceIdeal.cfg0.N = (dats m 0 c).arrAt 11 cfg0.N := by
  obtain ⟨e0, e1, e2, e3, e4⟩ := h
  funext j
  rw [eq_ix2 j]
  refine (Cert.QkvReferenceIdeal.Gen.Ref.ref_kvs m' c _ _).trans (Eq.trans ?_ (kernel_kvs m c _ _).symm)
  rw [e0, e1, e2, e3, e4]

/-- The projection and its reference, run from equal arguments, end with equal results. -/
theorem qkv_algebraic : Cert.algebraic_QkvKernelIdeal_QkvReferenceIdeal (hQkvKernelIdeal := Cert.QkvKernelIdeal.Gen.facts) (hQkvReferenceIdeal := Cert.QkvReferenceIdeal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, Cert.QkvKernelIdeal.Value.run_blocks m g, ?_⟩
  refine (θ_run _ _ _).mono (fun r h c => ?_) (Cert.QkvReferenceIdeal.Value.run_blocks m' g')
  obtain ⟨h5, h6, h7, h8, h9, h10, h11, hk⟩ := h c
  have ha : Agree m m' c := hagree c
  exact ⟨h5.trans (qkv_same_codes m m' c ha), h6.trans (qkv_same_scales m m' c ha), h7.trans (qkv_same_q m m' c ha), h8.trans (qkv_same_k m m' c ha), h9.trans (qkv_same_v m m' c ha), h10.trans (qkv_same_kvc m m' c ha), h11.trans (qkv_same_kvs m m' c ha), hk⟩

end Cert.QkvKernelIdeal.Gen.Proj

end
-- ==== Proof.lean ====
module

public import proofs.«01_k».proof.Proof.Gen.KernelIdeal.Value
public import proofs.«01_k».proof.Proof.Fold
public import proofs.«01_k».proof.Proof.RefValue
public import proofs.«01_k».proof.Proof.OutSame
public import proofs.«01_k».proof.Proof.QkvSame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.QkvKernel
public import proofs.«01_k».proof.Proof.Gen.QkvKernel.Frame
public import proofs.«01_k».proof.Proof.Gen.QkvKernelIdeal
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Frame
public import proofs.«01_k».proof.Proof.Gen.QkvReferenceIdeal.Value
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Frame
public import proofs.«01_k».proof.Proof.Gen.OutReferenceIdeal.Value
public import Idealize.ShloMosaic.Adequacy
public import Idealize.ShloMosaic.Init

@[expose] public section

noncomputable section

namespace Cert.Proof

open Idealize.ShloMosaic Idealize.SL.Sem Cert.Kernel

open Cert.KernelIdeal.Gen.Strip Cert.ReferenceIdeal.Gen Idealize.ShloMosaic.ValueIdx Idealize.ShloMosaic.TcCoe

variable (m : (ℓ : Loc Cert.KernelIdeal.nD Cert.KernelIdeal.τ Cert.KernelIdeal.sig) → Buf (Elt Ideal) ℓ)

/-- The reference's result rows are the kernel's, as functions of the same arguments. -/
theorem same_y (c : Dev Cert.KernelIdeal.nD) :
    Cert.ReferenceIdeal.RefRun.G5 (F := Ideal) (A0 m c) (A1 m c) (A2 m c) (A3 m c) (A4 m c) = Cert.KernelIdeal.Value.G5 m c := by
  funext j
  rw [eq_ix2 j]
  exact (Ref.ref_y _ _ _ _ _ _ _).trans (kernel_y m c _ _).symm

/-- The reference's codes are the kernel's. -/
theorem same_codes (c : Dev Cert.KernelIdeal.nD) :
    Cert.ReferenceIdeal.RefRun.G6 (F := Ideal) (A0 m c) (A1 m c) (A2 m c) (A3 m c) (A4 m c) = Cert.KernelIdeal.Value.G6 m c := by
  funext j
  rw [eq_ix2 j]
  exact (Ref.ref_codes _ _ _ _ _ _ _).trans (kernel_codes m c _ _).symm

/-- The reference's scale bytes are the kernel's. -/
theorem same_scales (c : Dev Cert.KernelIdeal.nD) :
    Cert.ReferenceIdeal.RefRun.G7 (F := Ideal) (A0 m c) (A1 m c) (A2 m c) (A3 m c) (A4 m c) = Cert.KernelIdeal.Value.G7 m c := by
  funext j
  rw [eq_ix3 j]
  exact (Ref.ref_scales _ _ _ _ _ _ _ _).trans (kernel_scales m c _ _ _).symm

/-- At the ideal instance kernel and reference, run from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Value.G5 m c, fun c => Cert.KernelIdeal.Value.G6 m c, fun c => Cert.KernelIdeal.Value.G7 m c,
    Cert.KernelIdeal.Value.run m g, (θ_run _ _ _).mono (fun r h c => ?_) (Cert.ReferenceIdeal.RefRun.run m' g')⟩
  obtain ⟨h5, h6, h7, hk⟩ := h c
  obtain ⟨e0, e1, e2, e3, e4⟩ := hagree c
  refine ⟨h5.trans ?_, h6.trans ?_, h7.trans ?_, hk⟩
  · rw [e0, e1, e2, e3, e4]; exact same_y m c
  · rw [e0, e1, e2, e3, e4]; exact same_codes m c
  · rw [e0, e1, e2, e3, e4]; exact same_scales m c

/-- The claim. -/
theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.QkvKernel.Gen.facts, Cert.QkvKernelIdeal.Gen.facts, Cert.QkvReferenceIdeal.Gen.facts,
  fun m g _ => Cert.Kernel.Gen.frame m g,
  fun m g _ => Cert.KernelIdeal.Gen.frame m g,
  fun m g _ => Cert.ReferenceIdeal.Gen.frame m g,
  fun m g _ => Cert.OutKernel.Gen.frame m g,
  fun m g _ => Cert.OutKernelIdeal.Gen.frame m g,
  fun m g _ => Cert.OutReferenceIdeal.Gen.frame m g,
  fun m g _ => Cert.QkvKernel.Gen.frame m g,
  fun m g _ => Cert.QkvKernelIdeal.Gen.frame m g,
  fun m g _ => Cert.QkvReferenceIdeal.Gen.frame m g,
  trivial,
  algebraic,
  trivial,
  Cert.OutKernelIdeal.Gen.Wide.out_algebraic,
  trivial,
  Cert.QkvKernelIdeal.Gen.Proj.qkv_algebraic⟩

end Cert.Proof

end
